-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_ResidMatmul (m : (ℓ : Loc Cert.ResidMatmul.nD Cert.ResidMatmul.τ Cert.ResidMatmul.sig) → Buf (Elt Bits) ℓ) : Prop :=
  True

def Pre_ResidMatmulIdeal (m : (ℓ : Loc Cert.ResidMatmulIdeal.nD Cert.ResidMatmulIdeal.τ Cert.ResidMatmulIdeal.sig) → Buf (Elt Ideal) ℓ) : Prop :=
  True

def Pre_ResidMatmulReferenceIdeal (m : (ℓ : Loc Cert.ResidMatmulReferenceIdeal.nD Cert.ResidMatmulReferenceIdeal.τ Cert.ResidMatmulReferenceIdeal.sig) → Buf (Elt Ideal) ℓ) : Prop :=
  True

def Pre_NormMatmul (m : (ℓ : Loc Cert.NormMatmul.nD Cert.NormMatmul.τ Cert.NormMatmul.sig) → Buf (Elt Bits) ℓ) : Prop :=
  True

def Pre_NormMatmulIdeal (m : (ℓ : Loc Cert.NormMatmulIdeal.nD Cert.NormMatmulIdeal.τ Cert.NormMatmulIdeal.sig) → Buf (Elt Ideal) ℓ) : Prop :=
  True

def Pre_NormMatmulReferenceIdeal (m : (ℓ : Loc Cert.NormMatmulReferenceIdeal.nD Cert.NormMatmulReferenceIdeal.τ Cert.NormMatmulReferenceIdeal.sig) → Buf (Elt Ideal) ℓ) : Prop :=
  True

def Pre_ResidLast (m : (ℓ : Loc Cert.ResidLast.nD Cert.ResidLast.τ Cert.ResidLast.sig) → Buf (Elt Bits) ℓ) : Prop :=
  True

def Pre_ResidLastIdeal (m : (ℓ : Loc Cert.ResidLastIdeal.nD Cert.ResidLastIdeal.τ Cert.ResidLastIdeal.sig) → Buf (Elt Ideal) ℓ) : Prop :=
  True

def Pre_ResidLastReferenceIdeal (m : (ℓ : Loc Cert.ResidLastReferenceIdeal.nD Cert.ResidLastReferenceIdeal.τ Cert.ResidLastReferenceIdeal.sig) → Buf (Elt Ideal) ℓ) : Prop :=
  True

def Pre_NormNarrow (m : (ℓ : Loc Cert.NormNarrow.nD Cert.NormNarrow.τ Cert.NormNarrow.sig) → Buf (Elt Bits) ℓ) : Prop :=
  True

def Pre_NormNarrowIdeal (m : (ℓ : Loc Cert.NormNarrowIdeal.nD Cert.NormNarrowIdeal.τ Cert.NormNarrowIdeal.sig) → Buf (Elt Ideal) ℓ) : Prop :=
  True

def Pre_NormNarrowReferenceIdeal (m : (ℓ : Loc Cert.NormNarrowReferenceIdeal.nD Cert.NormNarrowReferenceIdeal.τ Cert.NormNarrowReferenceIdeal.sig) → Buf (Elt Ideal) ℓ) : Prop :=
  True

def Pre_AttnQkv (m : (ℓ : Loc Cert.AttnQkv.nD Cert.AttnQkv.τ Cert.AttnQkv.sig) → Buf (Elt Bits) ℓ) : Prop :=
  True

def Pre_AttnQkvIdeal (m : (ℓ : Loc Cert.AttnQkvIdeal.nD Cert.AttnQkvIdeal.τ Cert.AttnQkvIdeal.sig) → Buf (Elt Ideal) ℓ) : Prop :=
  True

def Pre_AttnQkvReferenceIdeal (m : (ℓ : Loc Cert.AttnQkvReferenceIdeal.nD Cert.AttnQkvReferenceIdeal.τ Cert.AttnQkvReferenceIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutReferenceIdeal (m : (ℓ : Loc Cert.LruOutReferenceIdeal.nD Cert.LruOutReferenceIdeal.τ Cert.LruOutReferenceIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutReferenceIdeal (m : (ℓ : Loc Cert.S5OutReferenceIdeal.nD Cert.S5OutReferenceIdeal.τ Cert.S5OutReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_LruCoef (m : (ℓ : Loc Cert.LruCoef.nD Cert.LruCoef.τ Cert.LruCoef.sig) → Buf (Elt Bits) ℓ) : Prop :=
  True

def Pre_LruCoefIdeal (m : (ℓ : Loc Cert.LruCoefIdeal.nD Cert.LruCoefIdeal.τ Cert.LruCoefIdeal.sig) → Buf (Elt Ideal) ℓ) : Prop :=
  True

def Pre_LruCoefReferenceIdeal (m : (ℓ : Loc Cert.LruCoefReferenceIdeal.nD Cert.LruCoefReferenceIdeal.τ Cert.LruCoefReferenceIdeal.sig) → Buf (Elt Ideal) ℓ) : Prop :=
  True

def Pre_FlashCtx (m : (ℓ : Loc Cert.FlashCtx.nD Cert.FlashCtx.τ Cert.FlashCtx.sig) → Buf (Elt Bits) ℓ) : Prop :=
  True

def Pre_FlashCtxIdeal (m : (ℓ : Loc Cert.FlashCtxIdeal.nD Cert.FlashCtxIdeal.τ Cert.FlashCtxIdeal.sig) → Buf (Elt Ideal) ℓ) : Prop :=
  True

def Pre_FlashCtxIdeal_finite_ctx [hPre_finite_ctx : Cert.Pre_finite_ctx.Facts] (m : (ℓ : Loc Cert.FlashCtxIdeal.nD Cert.FlashCtxIdeal.τ Cert.FlashCtxIdeal.sig) → Buf (Elt Ideal) ℓ) : Prop :=
  ∀ c : Dev Cert.FlashCtxIdeal.nD,
    (Cert.Pre_finite_ctx.fn (F := Ideal) (m ((c.tc : Thread Cert.FlashCtxIdeal.nD Cert.FlashCtxIdeal.τ).loc Cert.FlashCtxIdeal.main_arg0)) (m ((c.tc : Thread Cert.FlashCtxIdeal.nD Cert.FlashCtxIdeal.τ).loc Cert.FlashCtxIdeal.main_arg1)) (m ((c.tc : Thread Cert.FlashCtxIdeal.nD Cert.FlashCtxIdeal.τ).loc Cert.FlashCtxIdeal.main_arg2))) = (fun _ => 1#1)

def Pre_FlashCtxReferenceIdeal (m : (ℓ : Loc Cert.FlashCtxReferenceIdeal.nD Cert.FlashCtxReferenceIdeal.τ Cert.FlashCtxReferenceIdeal.sig) → Buf (Elt Ideal) ℓ) : Prop :=
  True

def Pre_FlashCtxReferenceIdeal_finite_ctx [hPre_finite_ctx : Cert.Pre_finite_ctx.Facts] (m : (ℓ : Loc Cert.FlashCtxReferenceIdeal.nD Cert.FlashCtxReferenceIdeal.τ Cert.FlashCtxReferenceIdeal.sig) → Buf (Elt Ideal) ℓ) : Prop :=
  ∀ c : Dev Cert.FlashCtxReferenceIdeal.nD,
    (Cert.Pre_finite_ctx.fn (F := Ideal) (m ((c.tc : Thread Cert.FlashCtxReferenceIdeal.nD Cert.FlashCtxReferenceIdeal.τ).loc Cert.FlashCtxReferenceIdeal.main_arg0)) (m ((c.tc : Thread Cert.FlashCtxReferenceIdeal.nD Cert.FlashCtxReferenceIdeal.τ).loc Cert.FlashCtxReferenceIdeal.main_arg1)) (m ((c.tc : Thread Cert.FlashCtxReferenceIdeal.nD Cert.FlashCtxReferenceIdeal.τ).loc Cert.FlashCtxReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def quiescent_ResidMatmul [hResidMatmul : Cert.ResidMatmul.Facts] : Prop :=
  ∀ (m : (ℓ : Loc Cert.ResidMatmul.nD Cert.ResidMatmul.τ Cert.ResidMatmul.sig) → Buf (Elt Bits) ℓ) (g : Dev Cert.ResidMatmul.nD → PrngReg), Pre_ResidMatmul m →
    θ_run (Cert.ResidMatmul.defs (F := Bits)) (onTc (τ := Cert.ResidMatmul.τ) (Cert.ResidMatmul.main (F := Bits))) ⟨m, fun _ => 0, g⟩ (fun r => (∀ c : Dev Cert.ResidMatmul.nD,
      r.2.mem ((c.tc : Thread Cert.ResidMatmul.nD Cert.ResidMatmul.τ).loc Cert.ResidMatmul.main_arg0) = m ((c.tc : Thread Cert.ResidMatmul.nD Cert.ResidMatmul.τ).loc Cert.ResidMatmul.main_arg0)
      ∧ r.2.mem ((c.tc : Thread Cert.ResidMatmul.nD Cert.ResidMatmul.τ).loc Cert.ResidMatmul.main_arg1) = m ((c.tc : Thread Cert.ResidMatmul.nD Cert.ResidMatmul.τ).loc Cert.ResidMatmul.main_arg1)
      ∧ r.2.mem ((c.tc : Thread Cert.ResidMatmul.nD Cert.ResidMatmul.τ).loc Cert.ResidMatmul.main_arg2) = m ((c.tc : Thread Cert.ResidMatmul.nD Cert.ResidMatmul.τ).loc Cert.ResidMatmul.main_arg2)
      ∧ r.2.mem ((c.tc : Thread Cert.ResidMatmul.nD Cert.ResidMatmul.τ).loc Cert.ResidMatmul.main_arg3) = m ((c.tc : Thread Cert.ResidMatmul.nD Cert.ResidMatmul.τ).loc Cert.ResidMatmul.main_arg3))
      ∧ r.2.sem = fun _ => 0)

def quiescent_ResidMatmulIdeal [hResidMatmulIdeal : Cert.ResidMatmulIdeal.Facts] : Prop :=
  ∀ (m : (ℓ : Loc Cert.ResidMatmulIdeal.nD Cert.ResidMatmulIdeal.τ Cert.ResidMatmulIdeal.sig) → Buf (Elt Ideal) ℓ) (g : Dev Cert.ResidMatmulIdeal.nD → PrngReg), Pre_ResidMatmulIdeal m →
    θ_run (Cert.ResidMatmulIdeal.defs (F := Ideal)) (onTc (τ := Cert.ResidMatmulIdeal.τ) (Cert.ResidMatmulIdeal.main (F := Ideal))) ⟨m, fun _ => 0, g⟩ (fun r => (∀ c : Dev Cert.ResidMatmulIdeal.nD,
      r.2.mem ((c.tc : Thread Cert.ResidMatmulIdeal.nD Cert.ResidMatmulIdeal.τ).loc Cert.ResidMatmulIdeal.main_arg0) = m ((c.tc : Thread Cert.ResidMatmulIdeal.nD Cert.ResidMatmulIdeal.τ).loc Cert.ResidMatmulIdeal.main_arg0)
      ∧ r.2.mem ((c.tc : Thread Cert.ResidMatmulIdeal.nD Cert.ResidMatmulIdeal.τ).loc Cert.ResidMatmulIdeal.main_arg1) = m ((c.tc : Thread Cert.ResidMatmulIdeal.nD Cert.ResidMatmulIdeal.τ).loc Cert.ResidMatmulIdeal.main_arg1)
      ∧ r.2.mem ((c.tc : Thread Cert.ResidMatmulIdeal.nD Cert.ResidMatmulIdeal.τ).loc Cert.ResidMatmulIdeal.main_arg2) = m ((c.tc : Thread Cert.ResidMatmulIdeal.nD Cert.ResidMatmulIdeal.τ).loc Cert.ResidMatmulIdeal.main_arg2)
      ∧ r.2.mem ((c.tc : Thread Cert.ResidMatmulIdeal.nD Cert.ResidMatmulIdeal.τ).loc Cert.ResidMatmulIdeal.main_arg3) = m ((c.tc : Thread Cert.ResidMatmulIdeal.nD Cert.ResidMatmulIdeal.τ).loc Cert.ResidMatmulIdeal.main_arg3))
      ∧ r.2.sem = fun _ => 0)

def quiescent_ResidMatmulReferenceIdeal [hResidMatmulReferenceIdeal : Cert.ResidMatmulReferenceIdeal.Facts] : Prop :=
  ∀ (m : (ℓ : Loc Cert.ResidMatmulReferenceIdeal.nD Cert.ResidMatmulReferenceIdeal.τ Cert.ResidMatmulReferenceIdeal.sig) → Buf (Elt Ideal) ℓ) (g : Dev Cert.ResidMatmulReferenceIdeal.nD → PrngReg), Pre_ResidMatmulReferenceIdeal m →
    θ_run (Cert.ResidMatmulReferenceIdeal.defs (F := Ideal)) (onTc (τ := Cert.ResidMatmulReferenceIdeal.τ) (Cert.ResidMatmulReferenceIdeal.main (F := Ideal))) ⟨m, fun _ => 0, g⟩ (fun r => (∀ c : Dev Cert.ResidMatmulReferenceIdeal.nD,
      r.2.mem ((c.tc : Thread Cert.ResidMatmulReferenceIdeal.nD Cert.ResidMatmulReferenceIdeal.τ).loc Cert.ResidMatmulReferenceIdeal.main_arg0) = m ((c.tc : Thread Cert.ResidMatmulReferenceIdeal.nD Cert.ResidMatmulReferenceIdeal.τ).loc Cert.ResidMatmulReferenceIdeal.main_arg0)
      ∧ r.2.mem ((c.tc : Thread Cert.ResidMatmulReferenceIdeal.nD Cert.ResidMatmulReferenceIdeal.τ).loc Cert.ResidMatmulReferenceIdeal.main_arg1) = m ((c.tc : Thread Cert.ResidMatmulReferenceIdeal.nD Cert.ResidMatmulReferenceIdeal.τ).loc Cert.ResidMatmulReferenceIdeal.main_arg1)
      ∧ r.2.mem ((c.tc : Thread Cert.ResidMatmulReferenceIdeal.nD Cert.ResidMatmulReferenceIdeal.τ).loc Cert.ResidMatmulReferenceIdeal.main_arg2) = m ((c.tc : Thread Cert.ResidMatmulReferenceIdeal.nD Cert.ResidMatmulReferenceIdeal.τ).loc Cert.ResidMatmulReferenceIdeal.main_arg2)
      ∧ r.2.mem ((c.tc : Thread Cert.ResidMatmulReferenceIdeal.nD Cert.ResidMatmulReferenceIdeal.τ).loc Cert.ResidMatmulReferenceIdeal.main_arg3) = m ((c.tc : Thread Cert.ResidMatmulReferenceIdeal.nD Cert.ResidMatmulReferenceIdeal.τ).loc Cert.ResidMatmulReferenceIdeal.main_arg3))
      ∧ r.2.sem = fun _ => 0)

def quiescent_NormMatmul [hNormMatmul : Cert.NormMatmul.Facts] : Prop :=
  ∀ (m : (ℓ : Loc Cert.NormMatmul.nD Cert.NormMatmul.τ Cert.NormMatmul.sig) → Buf (Elt Bits) ℓ) (g : Dev Cert.NormMatmul.nD → PrngReg), Pre_NormMatmul m →
    θ_run (Cert.NormMatmul.defs (F := Bits)) (onTc (τ := Cert.NormMatmul.τ) (Cert.NormMatmul.main (F := Bits))) ⟨m, fun _ => 0, g⟩ (fun r => (∀ c : Dev Cert.NormMatmul.nD,
      r.2.mem ((c.tc : Thread Cert.NormMatmul.nD Cert.NormMatmul.τ).loc Cert.NormMatmul.main_arg0) = m ((c.tc : Thread Cert.NormMatmul.nD Cert.NormMatmul.τ).loc Cert.NormMatmul.main_arg0)
      ∧ r.2.mem ((c.tc : Thread Cert.NormMatmul.nD Cert.NormMatmul.τ).loc Cert.NormMatmul.main_arg1) = m ((c.tc : Thread Cert.NormMatmul.nD Cert.NormMatmul.τ).loc Cert.NormMatmul.main_arg1)
      ∧ r.2.mem ((c.tc : Thread Cert.NormMatmul.nD Cert.NormMatmul.τ).loc Cert.NormMatmul.main_arg2) = m ((c.tc : Thread Cert.NormMatmul.nD Cert.NormMatmul.τ).loc Cert.NormMatmul.main_arg2)
      ∧ r.2.mem ((c.tc : Thread Cert.NormMatmul.nD Cert.NormMatmul.τ).loc Cert.NormMatmul.main_arg3) = m ((c.tc : Thread Cert.NormMatmul.nD Cert.NormMatmul.τ).loc Cert.NormMatmul.main_arg3))
      ∧ r.2.sem = fun _ => 0)

def quiescent_NormMatmulIdeal [hNormMatmulIdeal : Cert.NormMatmulIdeal.Facts] : Prop :=
  ∀ (m : (ℓ : Loc Cert.NormMatmulIdeal.nD Cert.NormMatmulIdeal.τ Cert.NormMatmulIdeal.sig) → Buf (Elt Ideal) ℓ) (g : Dev Cert.NormMatmulIdeal.nD → PrngReg), Pre_NormMatmulIdeal m →
    θ_run (Cert.NormMatmulIdeal.defs (F := Ideal)) (onTc (τ := Cert.NormMatmulIdeal.τ) (Cert.NormMatmulIdeal.main (F := Ideal))) ⟨m, fun _ => 0, g⟩ (fun r => (∀ c : Dev Cert.NormMatmulIdeal.nD,
      r.2.mem ((c.tc : Thread Cert.NormMatmulIdeal.nD Cert.NormMatmulIdeal.τ).loc Cert.NormMatmulIdeal.main_arg0) = m ((c.tc : Thread Cert.NormMatmulIdeal.nD Cert.NormMatmulIdeal.τ).loc Cert.NormMatmulIdeal.main_arg0)
      ∧ r.2.mem ((c.tc : Thread Cert.NormMatmulIdeal.nD Cert.NormMatmulIdeal.τ).loc Cert.NormMatmulIdeal.main_arg1) = m ((c.tc : Thread Cert.NormMatmulIdeal.nD Cert.NormMatmulIdeal.τ).loc Cert.NormMatmulIdeal.main_arg1)
      ∧ r.2.mem ((c.tc : Thread Cert.NormMatmulIdeal.nD Cert.NormMatmulIdeal.τ).loc Cert.NormMatmulIdeal.main_arg2) = m ((c.tc : Thread Cert.NormMatmulIdeal.nD Cert.NormMatmulIdeal.τ).loc Cert.NormMatmulIdeal.main_arg2)
      ∧ r.2.mem ((c.tc : Thread Cert.NormMatmulIdeal.nD Cert.NormMatmulIdeal.τ).loc Cert.NormMatmulIdeal.main_arg3) = m ((c.tc : Thread Cert.NormMatmulIdeal.nD Cert.NormMatmulIdeal.τ).loc Cert.NormMatmulIdeal.main_arg3))
      ∧ r.2.sem = fun _ => 0)

def quiescent_NormMatmulReferenceIdeal [hNormMatmulReferenceIdeal : Cert.NormMatmulReferenceIdeal.Facts] : Prop :=
  ∀ (m : (ℓ : Loc Cert.NormMatmulReferenceIdeal.nD Cert.NormMatmulReferenceIdeal.τ Cert.NormMatmulReferenceIdeal.sig) → Buf (Elt Ideal) ℓ) (g : Dev Cert.NormMatmulReferenceIdeal.nD → PrngReg), Pre_NormMatmulReferenceIdeal m →
    θ_run (Cert.NormMatmulReferenceIdeal.defs (F := Ideal)) (onTc (τ := Cert.NormMatmulReferenceIdeal.τ) (Cert.NormMatmulReferenceIdeal.main (F := Ideal))) ⟨m, fun _ => 0, g⟩ (fun r => (∀ c : Dev Cert.NormMatmulReferenceIdeal.nD,
      r.2.mem ((c.tc : Thread Cert.NormMatmulReferenceIdeal.nD Cert.NormMatmulReferenceIdeal.τ).loc Cert.NormMatmulReferenceIdeal.main_arg0) = m ((c.tc : Thread Cert.NormMatmulReferenceIdeal.nD Cert.NormMatmulReferenceIdeal.τ).loc Cert.NormMatmulReferenceIdeal.main_arg0)
      ∧ r.2.mem ((c.tc : Thread Cert.NormMatmulReferenceIdeal.nD Cert.NormMatmulReferenceIdeal.τ).loc Cert.NormMatmulReferenceIdeal.main_arg1) = m ((c.tc : Thread Cert.NormMatmulReferenceIdeal.nD Cert.NormMatmulReferenceIdeal.τ).loc Cert.NormMatmulReferenceIdeal.main_arg1)
      ∧ r.2.mem ((c.tc : Thread Cert.NormMatmulReferenceIdeal.nD Cert.NormMatmulReferenceIdeal.τ).loc Cert.NormMatmulReferenceIdeal.main_arg2) = m ((c.tc : Thread Cert.NormMatmulReferenceIdeal.nD Cert.NormMatmulReferenceIdeal.τ).loc Cert.NormMatmulReferenceIdeal.main_arg2)
      ∧ r.2.mem ((c.tc : Thread Cert.NormMatmulReferenceIdeal.nD Cert.NormMatmulReferenceIdeal.τ).loc Cert.NormMatmulReferenceIdeal.main_arg3) = m ((c.tc : Thread Cert.NormMatmulReferenceIdeal.nD Cert.NormMatmulReferenceIdeal.τ).loc Cert.NormMatmulReferenceIdeal.main_arg3))
      ∧ r.2.sem = fun _ => 0)

def quiescent_ResidLast [hResidLast : Cert.ResidLast.Facts] : Prop :=
  ∀ (m : (ℓ : Loc Cert.ResidLast.nD Cert.ResidLast.τ Cert.ResidLast.sig) → Buf (Elt Bits) ℓ) (g : Dev Cert.ResidLast.nD → PrngReg), Pre_ResidLast m →
    θ_run (Cert.ResidLast.defs (F := Bits)) (onTc (τ := Cert.ResidLast.τ) (Cert.ResidLast.main (F := Bits))) ⟨m, fun _ => 0, g⟩ (fun r => (∀ c : Dev Cert.ResidLast.nD,
      r.2.mem ((c.tc : Thread Cert.ResidLast.nD Cert.ResidLast.τ).loc Cert.ResidLast.main_arg0) = m ((c.tc : Thread Cert.ResidLast.nD Cert.ResidLast.τ).loc Cert.ResidLast.main_arg0)
      ∧ r.2.mem ((c.tc : Thread Cert.ResidLast.nD Cert.ResidLast.τ).loc Cert.ResidLast.main_arg1) = m ((c.tc : Thread Cert.ResidLast.nD Cert.ResidLast.τ).loc Cert.ResidLast.main_arg1)
      ∧ r.2.mem ((c.tc : Thread Cert.ResidLast.nD Cert.ResidLast.τ).loc Cert.ResidLast.main_arg2) = m ((c.tc : Thread Cert.ResidLast.nD Cert.ResidLast.τ).loc Cert.ResidLast.main_arg2)
      ∧ r.2.mem ((c.tc : Thread Cert.ResidLast.nD Cert.ResidLast.τ).loc Cert.ResidLast.main_arg3) = m ((c.tc : Thread Cert.ResidLast.nD Cert.ResidLast.τ).loc Cert.ResidLast.main_arg3))
      ∧ r.2.sem = fun _ => 0)

def quiescent_ResidLastIdeal [hResidLastIdeal : Cert.ResidLastIdeal.Facts] : Prop :=
  ∀ (m : (ℓ : Loc Cert.ResidLastIdeal.nD Cert.ResidLastIdeal.τ Cert.ResidLastIdeal.sig) → Buf (Elt Ideal) ℓ) (g : Dev Cert.ResidLastIdeal.nD → PrngReg), Pre_ResidLastIdeal m →
    θ_run (Cert.ResidLastIdeal.defs (F := Ideal)) (onTc (τ := Cert.ResidLastIdeal.τ) (Cert.ResidLastIdeal.main (F := Ideal))) ⟨m, fun _ => 0, g⟩ (fun r => (∀ c : Dev Cert.ResidLastIdeal.nD,
      r.2.mem ((c.tc : Thread Cert.ResidLastIdeal.nD Cert.ResidLastIdeal.τ).loc Cert.ResidLastIdeal.main_arg0) = m ((c.tc : Thread Cert.ResidLastIdeal.nD Cert.ResidLastIdeal.τ).loc Cert.ResidLastIdeal.main_arg0)
      ∧ r.2.mem ((c.tc : Thread Cert.ResidLastIdeal.nD Cert.ResidLastIdeal.τ).loc Cert.ResidLastIdeal.main_arg1) = m ((c.tc : Thread Cert.ResidLastIdeal.nD Cert.ResidLastIdeal.τ).loc Cert.ResidLastIdeal.main_arg1)
      ∧ r.2.mem ((c.tc : Thread Cert.ResidLastIdeal.nD Cert.ResidLastIdeal.τ).loc Cert.ResidLastIdeal.main_arg2) = m ((c.tc : Thread Cert.ResidLastIdeal.nD Cert.ResidLastIdeal.τ).loc Cert.ResidLastIdeal.main_arg2)
      ∧ r.2.mem ((c.tc : Thread Cert.ResidLastIdeal.nD Cert.ResidLastIdeal.τ).loc Cert.ResidLastIdeal.main_arg3) = m ((c.tc : Thread Cert.ResidLastIdeal.nD Cert.ResidLastIdeal.τ).loc Cert.ResidLastIdeal.main_arg3))
      ∧ r.2.sem = fun _ => 0)

def quiescent_ResidLastReferenceIdeal [hResidLastReferenceIdeal : Cert.ResidLastReferenceIdeal.Facts] : Prop :=
  ∀ (m : (ℓ : Loc Cert.ResidLastReferenceIdeal.nD Cert.ResidLastReferenceIdeal.τ Cert.ResidLastReferenceIdeal.sig) → Buf (Elt Ideal) ℓ) (g : Dev Cert.ResidLastReferenceIdeal.nD → PrngReg), Pre_ResidLastReferenceIdeal m →
    θ_run (Cert.ResidLastReferenceIdeal.defs (F := Ideal)) (onTc (τ := Cert.ResidLastReferenceIdeal.τ) (Cert.ResidLastReferenceIdeal.main (F := Ideal))) ⟨m, fun _ => 0, g⟩ (fun r => (∀ c : Dev Cert.ResidLastReferenceIdeal.nD,
      r.2.mem ((c.tc : Thread Cert.ResidLastReferenceIdeal.nD Cert.ResidLastReferenceIdeal.τ).loc Cert.ResidLastReferenceIdeal.main_arg0) = m ((c.tc : Thread Cert.ResidLastReferenceIdeal.nD Cert.ResidLastReferenceIdeal.τ).loc Cert.ResidLastReferenceIdeal.main_arg0)
      ∧ r.2.mem ((c.tc : Thread Cert.ResidLastReferenceIdeal.nD Cert.ResidLastReferenceIdeal.τ).loc Cert.ResidLastReferenceIdeal.main_arg1) = m ((c.tc : Thread Cert.ResidLastReferenceIdeal.nD Cert.ResidLastReferenceIdeal.τ).loc Cert.ResidLastReferenceIdeal.main_arg1)
      ∧ r.2.mem ((c.tc : Thread Cert.ResidLastReferenceIdeal.nD Cert.ResidLastReferenceIdeal.τ).loc Cert.ResidLastReferenceIdeal.main_arg2) = m ((c.tc : Thread Cert.ResidLastReferenceIdeal.nD Cert.ResidLastReferenceIdeal.τ).loc Cert.ResidLastReferenceIdeal.main_arg2)
      ∧ r.2.mem ((c.tc : Thread Cert.ResidLastReferenceIdeal.nD Cert.ResidLastReferenceIdeal.τ).loc Cert.ResidLastReferenceIdeal.main_arg3) = m ((c.tc : Thread Cert.ResidLastReferenceIdeal.nD Cert.ResidLastReferenceIdeal.τ).loc Cert.ResidLastReferenceIdeal.main_arg3))
      ∧ r.2.sem = fun _ => 0)

def quiescent_NormNarrow [hNormNarrow : Cert.NormNarrow.Facts] : Prop :=
  ∀ (m : (ℓ : Loc Cert.NormNarrow.nD Cert.NormNarrow.τ Cert.NormNarrow.sig) → Buf (Elt Bits) ℓ) (g : Dev Cert.NormNarrow.nD → PrngReg), Pre_NormNarrow m →
    θ_run (Cert.NormNarrow.defs (F := Bits)) (onTc (τ := Cert.NormNarrow.τ) (Cert.NormNarrow.main (F := Bits))) ⟨m, fun _ => 0, g⟩ (fun r => (∀ c : Dev Cert.NormNarrow.nD,
      r.2.mem ((c.tc : Thread Cert.NormNarrow.nD Cert.NormNarrow.τ).loc Cert.NormNarrow.main_arg0) = m ((c.tc : Thread Cert.NormNarrow.nD Cert.NormNarrow.τ).loc Cert.NormNarrow.main_arg0)
      ∧ r.2.mem ((c.tc : Thread Cert.NormNarrow.nD Cert.NormNarrow.τ).loc Cert.NormNarrow.main_arg1) = m ((c.tc : Thread Cert.NormNarrow.nD Cert.NormNarrow.τ).loc Cert.NormNarrow.main_arg1)
      ∧ r.2.mem ((c.tc : Thread Cert.NormNarrow.nD Cert.NormNarrow.τ).loc Cert.NormNarrow.main_arg2) = m ((c.tc : Thread Cert.NormNarrow.nD Cert.NormNarrow.τ).loc Cert.NormNarrow.main_arg2)
      ∧ r.2.mem ((c.tc : Thread Cert.NormNarrow.nD Cert.NormNarrow.τ).loc Cert.NormNarrow.main_arg3) = m ((c.tc : Thread Cert.NormNarrow.nD Cert.NormNarrow.τ).loc Cert.NormNarrow.main_arg3))
      ∧ r.2.sem = fun _ => 0)

def quiescent_NormNarrowIdeal [hNormNarrowIdeal : Cert.NormNarrowIdeal.Facts] : Prop :=
  ∀ (m : (ℓ : Loc Cert.NormNarrowIdeal.nD Cert.NormNarrowIdeal.τ Cert.NormNarrowIdeal.sig) → Buf (Elt Ideal) ℓ) (g : Dev Cert.NormNarrowIdeal.nD → PrngReg), Pre_NormNarrowIdeal m →
    θ_run (Cert.NormNarrowIdeal.defs (F := Ideal)) (onTc (τ := Cert.NormNarrowIdeal.τ) (Cert.NormNarrowIdeal.main (F := Ideal))) ⟨m, fun _ => 0, g⟩ (fun r => (∀ c : Dev Cert.NormNarrowIdeal.nD,
      r.2.mem ((c.tc : Thread Cert.NormNarrowIdeal.nD Cert.NormNarrowIdeal.τ).loc Cert.NormNarrowIdeal.main_arg0) = m ((c.tc : Thread Cert.NormNarrowIdeal.nD Cert.NormNarrowIdeal.τ).loc Cert.NormNarrowIdeal.main_arg0)
      ∧ r.2.mem ((c.tc : Thread Cert.NormNarrowIdeal.nD Cert.NormNarrowIdeal.τ).loc Cert.NormNarrowIdeal.main_arg1) = m ((c.tc : Thread Cert.NormNarrowIdeal.nD Cert.NormNarrowIdeal.τ).loc Cert.NormNarrowIdeal.main_arg1)
      ∧ r.2.mem ((c.tc : Thread Cert.NormNarrowIdeal.nD Cert.NormNarrowIdeal.τ).loc Cert.NormNarrowIdeal.main_arg2) = m ((c.tc : Thread Cert.NormNarrowIdeal.nD Cert.NormNarrowIdeal.τ).loc Cert.NormNarrowIdeal.main_arg2)
      ∧ r.2.mem ((c.tc : Thread Cert.NormNarrowIdeal.nD Cert.NormNarrowIdeal.τ).loc Cert.NormNarrowIdeal.main_arg3) = m ((c.tc : Thread Cert.NormNarrowIdeal.nD Cert.NormNarrowIdeal.τ).loc Cert.NormNarrowIdeal.main_arg3))
      ∧ r.2.sem = fun _ => 0)

def quiescent_NormNarrowReferenceIdeal [hNormNarrowReferenceIdeal : Cert.NormNarrowReferenceIdeal.Facts] : Prop :=
  ∀ (m : (ℓ : Loc Cert.NormNarrowReferenceIdeal.nD Cert.NormNarrowReferenceIdeal.τ Cert.NormNarrowReferenceIdeal.sig) → Buf (Elt Ideal) ℓ) (g : Dev Cert.NormNarrowReferenceIdeal.nD → PrngReg), Pre_NormNarrowReferenceIdeal m →
    θ_run (Cert.NormNarrowReferenceIdeal.defs (F := Ideal)) (onTc (τ := Cert.NormNarrowReferenceIdeal.τ) (Cert.NormNarrowReferenceIdeal.main (F := Ideal))) ⟨m, fun _ => 0, g⟩ (fun r => (∀ c : Dev Cert.NormNarrowReferenceIdeal.nD,
      r.2.mem ((c.tc : Thread Cert.NormNarrowReferenceIdeal.nD Cert.NormNarrowReferenceIdeal.τ).loc Cert.NormNarrowReferenceIdeal.main_arg0) = m ((c.tc : Thread Cert.NormNarrowReferenceIdeal.nD Cert.NormNarrowReferenceIdeal.τ).loc Cert.NormNarrowReferenceIdeal.main_arg0)
      ∧ r.2.mem ((c.tc : Thread Cert.NormNarrowReferenceIdeal.nD Cert.NormNarrowReferenceIdeal.τ).loc Cert.NormNarrowReferenceIdeal.main_arg1) = m ((c.tc : Thread Cert.NormNarrowReferenceIdeal.nD Cert.NormNarrowReferenceIdeal.τ).loc Cert.NormNarrowReferenceIdeal.main_arg1)
      ∧ r.2.mem ((c.tc : Thread Cert.NormNarrowReferenceIdeal.nD Cert.NormNarrowReferenceIdeal.τ).loc Cert.NormNarrowReferenceIdeal.main_arg2) = m ((c.tc : Thread Cert.NormNarrowReferenceIdeal.nD Cert.NormNarrowReferenceIdeal.τ).loc Cert.NormNarrowReferenceIdeal.main_arg2)
      ∧ r.2.mem ((c.tc : Thread Cert.NormNarrowReferenceIdeal.nD Cert.NormNarrowReferenceIdeal.τ).loc Cert.NormNarrowReferenceIdeal.main_arg3) = m ((c.tc : Thread Cert.NormNarrowReferenceIdeal.nD Cert.NormNarrowReferenceIdeal.τ).loc Cert.NormNarrowReferenceIdeal.main_arg3))
      ∧ r.2.sem = fun _ => 0)

def quiescent_AttnQkv [hAttnQkv : Cert.AttnQkv.Facts] : Prop :=
  ∀ (m : (ℓ : Loc Cert.AttnQkv.nD Cert.AttnQkv.τ Cert.AttnQkv.sig) → Buf (Elt Bits) ℓ) (g : Dev Cert.AttnQkv.nD → PrngReg), Pre_AttnQkv m →
    θ_run (Cert.AttnQkv.defs (F := Bits)) (onTc (τ := Cert.AttnQkv.τ) (Cert.AttnQkv.main (F := Bits))) ⟨m, fun _ => 0, g⟩ (fun r => (∀ c : Dev Cert.AttnQkv.nD,
      r.2.mem ((c.tc : Thread Cert.AttnQkv.nD Cert.AttnQkv.τ).loc Cert.AttnQkv.main_arg0) = m ((c.tc : Thread Cert.AttnQkv.nD Cert.AttnQkv.τ).loc Cert.AttnQkv.main_arg0)
      ∧ r.2.mem ((c.tc : Thread Cert.AttnQkv.nD Cert.AttnQkv.τ).loc Cert.AttnQkv.main_arg1) = m ((c.tc : Thread Cert.AttnQkv.nD Cert.AttnQkv.τ).loc Cert.AttnQkv.main_arg1)
      ∧ r.2.mem ((c.tc : Thread Cert.AttnQkv.nD Cert.AttnQkv.τ).loc Cert.AttnQkv.main_arg2) = m ((c.tc : Thread Cert.AttnQkv.nD Cert.AttnQkv.τ).loc Cert.AttnQkv.main_arg2)
      ∧ r.2.mem ((c.tc : Thread Cert.AttnQkv.nD Cert.AttnQkv.τ).loc Cert.AttnQkv.main_arg3) = m ((c.tc : Thread Cert.AttnQkv.nD Cert.AttnQkv.τ).loc Cert.AttnQkv.main_arg3)
      ∧ r.2.mem ((c.tc : Thread Cert.AttnQkv.nD Cert.AttnQkv.τ).loc Cert.AttnQkv.main_arg4) = m ((c.tc : Thread Cert.AttnQkv.nD Cert.AttnQkv.τ).loc Cert.AttnQkv.main_arg4)
      ∧ r.2.mem ((c.tc : Thread Cert.AttnQkv.nD Cert.AttnQkv.τ).loc Cert.AttnQkv.main_arg5) = m ((c.tc : Thread Cert.AttnQkv.nD Cert.AttnQkv.τ).loc Cert.AttnQkv.main_arg5)
      ∧ r.2.mem ((c.tc : Thread Cert.AttnQkv.nD Cert.AttnQkv.τ).loc Cert.AttnQkv.main_arg6) = m ((c.tc : Thread Cert.AttnQkv.nD Cert.AttnQkv.τ).loc Cert.AttnQkv.main_arg6)
      ∧ r.2.mem ((c.tc : Thread Cert.AttnQkv.nD Cert.AttnQkv.τ).loc Cert.AttnQkv.main_arg7) = m ((c.tc : Thread Cert.AttnQkv.nD Cert.AttnQkv.τ).loc Cert.AttnQkv.main_arg7))
      ∧ r.2.sem = fun _ => 0)

def quiescent_AttnQkvIdeal [hAttnQkvIdeal : Cert.AttnQkvIdeal.Facts] : Prop :=
  ∀ (m : (ℓ : Loc Cert.AttnQkvIdeal.nD Cert.AttnQkvIdeal.τ Cert.AttnQkvIdeal.sig) → Buf (Elt Ideal) ℓ) (g : Dev Cert.AttnQkvIdeal.nD → PrngReg), Pre_AttnQkvIdeal m →
    θ_run (Cert.AttnQkvIdeal.defs (F := Ideal)) (onTc (τ := Cert.AttnQkvIdeal.τ) (Cert.AttnQkvIdeal.main (F := Ideal))) ⟨m, fun _ => 0, g⟩ (fun r => (∀ c : Dev Cert.AttnQkvIdeal.nD,
      r.2.mem ((c.tc : Thread Cert.AttnQkvIdeal.nD Cert.AttnQkvIdeal.τ).loc Cert.AttnQkvIdeal.main_arg0) = m ((c.tc : Thread Cert.AttnQkvIdeal.nD Cert.AttnQkvIdeal.τ).loc Cert.AttnQkvIdeal.main_arg0)
      ∧ r.2.mem ((c.tc : Thread Cert.AttnQkvIdeal.nD Cert.AttnQkvIdeal.τ).loc Cert.AttnQkvIdeal.main_arg1) = m ((c.tc : Thread Cert.AttnQkvIdeal.nD Cert.AttnQkvIdeal.τ).loc Cert.AttnQkvIdeal.main_arg1)
      ∧ r.2.mem ((c.tc : Thread Cert.AttnQkvIdeal.nD Cert.AttnQkvIdeal.τ).loc Cert.AttnQkvIdeal.main_arg2) = m ((c.tc : Thread Cert.AttnQkvIdeal.nD Cert.AttnQkvIdeal.τ).loc Cert.AttnQkvIdeal.main_arg2)
      ∧ r.2.mem ((c.tc : Thread Cert.AttnQkvIdeal.nD Cert.AttnQkvIdeal.τ).loc Cert.AttnQkvIdeal.main_arg3) = m ((c.tc : Thread Cert.AttnQkvIdeal.nD Cert.AttnQkvIdeal.τ).loc Cert.AttnQkvIdeal.main_arg3)
      ∧ r.2.mem ((c.tc : Thread Cert.AttnQkvIdeal.nD Cert.AttnQkvIdeal.τ).loc Cert.AttnQkvIdeal.main_arg4) = m ((c.tc : Thread Cert.AttnQkvIdeal.nD Cert.AttnQkvIdeal.τ).loc Cert.AttnQkvIdeal.main_arg4)
      ∧ r.2.mem ((c.tc : Thread Cert.AttnQkvIdeal.nD Cert.AttnQkvIdeal.τ).loc Cert.AttnQkvIdeal.main_arg5) = m ((c.tc : Thread Cert.AttnQkvIdeal.nD Cert.AttnQkvIdeal.τ).loc Cert.AttnQkvIdeal.main_arg5)
      ∧ r.2.mem ((c.tc : Thread Cert.AttnQkvIdeal.nD Cert.AttnQkvIdeal.τ).loc Cert.AttnQkvIdeal.main_arg6) = m ((c.tc : Thread Cert.AttnQkvIdeal.nD Cert.AttnQkvIdeal.τ).loc Cert.AttnQkvIdeal.main_arg6)
      ∧ r.2.mem ((c.tc : Thread Cert.AttnQkvIdeal.nD Cert.AttnQkvIdeal.τ).loc Cert.AttnQkvIdeal.main_arg7) = m ((c.tc : Thread Cert.AttnQkvIdeal.nD Cert.AttnQkvIdeal.τ).loc Cert.AttnQkvIdeal.main_arg7))
      ∧ r.2.sem = fun _ => 0)

def quiescent_AttnQkvReferenceIdeal [hAttnQkvReferenceIdeal : Cert.AttnQkvReferenceIdeal.Facts] : Prop :=
  ∀ (m : (ℓ : Loc Cert.AttnQkvReferenceIdeal.nD Cert.AttnQkvReferenceIdeal.τ Cert.AttnQkvReferenceIdeal.sig) → Buf (Elt Ideal) ℓ) (g : Dev Cert.AttnQkvReferenceIdeal.nD → PrngReg), Pre_AttnQkvReferenceIdeal m →
    θ_run (Cert.AttnQkvReferenceIdeal.defs (F := Ideal)) (onTc (τ := Cert.AttnQkvReferenceIdeal.τ) (Cert.AttnQkvReferenceIdeal.main (F := Ideal))) ⟨m, fun _ => 0, g⟩ (fun r => (∀ c : Dev Cert.AttnQkvReferenceIdeal.nD,
      r.2.mem ((c.tc : Thread Cert.AttnQkvReferenceIdeal.nD Cert.AttnQkvReferenceIdeal.τ).loc Cert.AttnQkvReferenceIdeal.main_arg0) = m ((c.tc : Thread Cert.AttnQkvReferenceIdeal.nD Cert.AttnQkvReferenceIdeal.τ).loc Cert.AttnQkvReferenceIdeal.main_arg0)
      ∧ r.2.mem ((c.tc : Thread Cert.AttnQkvReferenceIdeal.nD Cert.AttnQkvReferenceIdeal.τ).loc Cert.AttnQkvReferenceIdeal.main_arg1) = m ((c.tc : Thread Cert.AttnQkvReferenceIdeal.nD Cert.AttnQkvReferenceIdeal.τ).loc Cert.AttnQkvReferenceIdeal.main_arg1)
      ∧ r.2.mem ((c.tc : Thread Cert.AttnQkvReferenceIdeal.nD Cert.AttnQkvReferenceIdeal.τ).loc Cert.AttnQkvReferenceIdeal.main_arg2) = m ((c.tc : Thread Cert.AttnQkvReferenceIdeal.nD Cert.AttnQkvReferenceIdeal.τ).loc Cert.AttnQkvReferenceIdeal.main_arg2)
      ∧ r.2.mem ((c.tc : Thread Cert.AttnQkvReferenceIdeal.nD Cert.AttnQkvReferenceIdeal.τ).loc Cert.AttnQkvReferenceIdeal.main_arg3) = m ((c.tc : Thread Cert.AttnQkvReferenceIdeal.nD Cert.AttnQkvReferenceIdeal.τ).loc Cert.AttnQkvReferenceIdeal.main_arg3)
      ∧ r.2.mem ((c.tc : Thread Cert.AttnQkvReferenceIdeal.nD Cert.AttnQkvReferenceIdeal.τ).loc Cert.AttnQkvReferenceIdeal.main_arg4) = m ((c.tc : Thread Cert.AttnQkvReferenceIdeal.nD Cert.AttnQkvReferenceIdeal.τ).loc Cert.AttnQkvReferenceIdeal.main_arg4)
      ∧ r.2.mem ((c.tc : Thread Cert.AttnQkvReferenceIdeal.nD Cert.AttnQkvReferenceIdeal.τ).loc Cert.AttnQkvReferenceIdeal.main_arg5) = m ((c.tc : Thread Cert.AttnQkvReferenceIdeal.nD Cert.AttnQkvReferenceIdeal.τ).loc Cert.AttnQkvReferenceIdeal.main_arg5)
      ∧ r.2.mem ((c.tc : Thread Cert.AttnQkvReferenceIdeal.nD Cert.AttnQkvReferenceIdeal.τ).loc Cert.AttnQkvReferenceIdeal.main_arg6) = m ((c.tc : Thread Cert.AttnQkvReferenceIdeal.nD Cert.AttnQkvReferenceIdeal.τ).loc Cert.AttnQkvReferenceIdeal.main_arg6)
      ∧ r.2.mem ((c.tc : Thread Cert.AttnQkvReferenceIdeal.nD Cert.AttnQkvReferenceIdeal.τ).loc Cert.AttnQkvReferenceIdeal.main_arg7) = m ((c.tc : Thread Cert.AttnQkvReferenceIdeal.nD Cert.AttnQkvReferenceIdeal.τ).loc Cert.AttnQkvReferenceIdeal.main_arg7))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1)
      ∧ r.2.mem ((c.tc : Thread Cert.LruOut.nD Cert.LruOut.τ).loc Cert.LruOut.main_arg2) = m ((c.tc : Thread Cert.LruOut.nD Cert.LruOut.τ).loc Cert.LruOut.main_arg2)
      ∧ r.2.mem ((c.tc : Thread Cert.LruOut.nD Cert.LruOut.τ).loc Cert.LruOut.main_arg3) = m ((c.tc : Thread Cert.LruOut.nD Cert.LruOut.τ).loc Cert.LruOut.main_arg3)
      ∧ r.2.mem ((c.tc : Thread Cert.LruOut.nD Cert.LruOut.τ).loc Cert.LruOut.main_arg4) = m ((c.tc : Thread Cert.LruOut.nD Cert.LruOut.τ).loc Cert.LruOut.main_arg4)
      ∧ r.2.mem ((c.tc : Thread Cert.LruOut.nD Cert.LruOut.τ).loc Cert.LruOut.main_arg5) = m ((c.tc : Thread Cert.LruOut.nD Cert.LruOut.τ).loc Cert.LruOut.main_arg5))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
      ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
      ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3)
      ∧ r.2.mem ((c.tc : Thread Cert.LruOutIdeal.nD Cert.LruOutIdeal.τ).loc Cert.LruOutIdeal.main_arg4) = m ((c.tc : Thread Cert.LruOutIdeal.nD Cert.LruOutIdeal.τ).loc Cert.LruOutIdeal.main_arg4)
      ∧ r.2.mem ((c.tc : Thread Cert.LruOutIdeal.nD Cert.LruOutIdeal.τ).loc Cert.LruOutIdeal.main_arg5) = m ((c.tc : Thread Cert.LruOutIdeal.nD Cert.LruOutIdeal.τ).loc Cert.LruOutIdeal.main_arg5))
      ∧ r.2.sem = fun _ => 0)

def quiescent_LruOutReferenceIdeal [hLruOutReferenceIdeal : Cert.LruOutReferenceIdeal.Facts] : Prop :=
  ∀ (m : (ℓ : Loc Cert.LruOutReferenceIdeal.nD Cert.LruOutReferenceIdeal.τ Cert.LruOutReferenceIdeal.sig) → Buf (Elt Ideal) ℓ) (g : Dev Cert.LruOutReferenceIdeal.nD → PrngReg), Pre_LruOutReferenceIdeal m →
    θ_run (Cert.LruOutReferenceIdeal.defs (F := Ideal)) (onTc (τ := Cert.LruOutReferenceIdeal.τ) (Cert.LruOutReferenceIdeal.main (F := Ideal))) ⟨m, fun _ => 0, g⟩ (fun r => (∀ c : Dev Cert.LruOutReferenceIdeal.nD,
      r.2.mem ((c.tc : Thread Cert.LruOutReferenceIdeal.nD Cert.LruOutReferenceIdeal.τ).loc Cert.LruOutReferenceIdeal.main_arg0) = m ((c.tc : Thread Cert.LruOutReferenceIdeal.nD Cert.LruOutReferenceIdeal.τ).loc Cert.LruOutReferenceIdeal.main_arg0)
      ∧ r.2.mem ((c.tc : Thread Cert.LruOutReferenceIdeal.nD Cert.LruOutReferenceIdeal.τ).loc Cert.LruOutReferenceIdeal.main_arg1) = m ((c.tc : Thread Cert.LruOutReferenceIdeal.nD Cert.LruOutReferenceIdeal.τ).loc Cert.LruOutReferenceIdeal.main_arg1)
      ∧ r.2.mem ((c.tc : Thread Cert.LruOutReferenceIdeal.nD Cert.LruOutReferenceIdeal.τ).loc Cert.LruOutReferenceIdeal.main_arg2) = m ((c.tc : Thread Cert.LruOutReferenceIdeal.nD Cert.LruOutReferenceIdeal.τ).loc Cert.LruOutReferenceIdeal.main_arg2)
      ∧ r.2.mem ((c.tc : Thread Cert.LruOutReferenceIdeal.nD Cert.LruOutReferenceIdeal.τ).loc Cert.LruOutReferenceIdeal.main_arg3) = m ((c.tc : Thread Cert.LruOutReferenceIdeal.nD Cert.LruOutReferenceIdeal.τ).loc Cert.LruOutReferenceIdeal.main_arg3)
      ∧ r.2.mem ((c.tc : Thread Cert.LruOutReferenceIdeal.nD Cert.LruOutReferenceIdeal.τ).loc Cert.LruOutReferenceIdeal.main_arg4) = m ((c.tc : Thread Cert.LruOutReferenceIdeal.nD Cert.LruOutReferenceIdeal.τ).loc Cert.LruOutReferenceIdeal.main_arg4)
      ∧ r.2.mem ((c.tc : Thread Cert.LruOutReferenceIdeal.nD Cert.LruOutReferenceIdeal.τ).loc Cert.LruOutReferenceIdeal.main_arg5) = m ((c.tc : Thread Cert.LruOutReferenceIdeal.nD Cert.LruOutReferenceIdeal.τ).loc Cert.LruOutReferenceIdeal.main_arg5))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3)
      ∧ r.2.mem ((c.tc : Thread Cert.S5Out.nD Cert.S5Out.τ).loc Cert.S5Out.main_arg4) = m ((c.tc : Thread Cert.S5Out.nD Cert.S5Out.τ).loc Cert.S5Out.main_arg4)
      ∧ r.2.mem ((c.tc : Thread Cert.S5Out.nD Cert.S5Out.τ).loc Cert.S5Out.main_arg5) = m ((c.tc : Thread Cert.S5Out.nD Cert.S5Out.τ).loc Cert.S5Out.main_arg5)
      ∧ r.2.mem ((c.tc : Thread Cert.S5Out.nD Cert.S5Out.τ).loc Cert.S5Out.main_arg6) = m ((c.tc : Thread Cert.S5Out.nD Cert.S5Out.τ).loc Cert.S5Out.main_arg6)
      ∧ r.2.mem ((c.tc : Thread Cert.S5Out.nD Cert.S5Out.τ).loc Cert.S5Out.main_arg7) = m ((c.tc : Thread Cert.S5Out.nD Cert.S5Out.τ).loc Cert.S5Out.main_arg7))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
      ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4)
      ∧ r.2.mem ((c.tc : Thread Cert.S5OutIdeal.nD Cert.S5OutIdeal.τ).loc Cert.S5OutIdeal.main_arg5) = m ((c.tc : Thread Cert.S5OutIdeal.nD Cert.S5OutIdeal.τ).loc Cert.S5OutIdeal.main_arg5)
      ∧ r.2.mem ((c.tc : Thread Cert.S5OutIdeal.nD Cert.S5OutIdeal.τ).loc Cert.S5OutIdeal.main_arg6) = m ((c.tc : Thread Cert.S5OutIdeal.nD Cert.S5OutIdeal.τ).loc Cert.S5OutIdeal.main_arg6)
      ∧ r.2.mem ((c.tc : Thread Cert.S5OutIdeal.nD Cert.S5OutIdeal.τ).loc Cert.S5OutIdeal.main_arg7) = m ((c.tc : Thread Cert.S5OutIdeal.nD Cert.S5OutIdeal.τ).loc Cert.S5OutIdeal.main_arg7))
      ∧ r.2.sem = fun _ => 0)

def quiescent_S5OutReferenceIdeal [hS5OutReferenceIdeal : Cert.S5OutReferenceIdeal.Facts] : Prop :=
  ∀ (m : (ℓ : Loc Cert.S5OutReferenceIdeal.nD Cert.S5OutReferenceIdeal.τ Cert.S5OutReferenceIdeal.sig) → Buf (Elt Ideal) ℓ) (g : Dev Cert.S5OutReferenceIdeal.nD → PrngReg), Pre_S5OutReferenceIdeal m →
    θ_run (Cert.S5OutReferenceIdeal.defs (F := Ideal)) (onTc (τ := Cert.S5OutReferenceIdeal.τ) (Cert.S5OutReferenceIdeal.main (F := Ideal))) ⟨m, fun _ => 0, g⟩ (fun r => (∀ c : Dev Cert.S5OutReferenceIdeal.nD,
      r.2.mem ((c.tc : Thread Cert.S5OutReferenceIdeal.nD Cert.S5OutReferenceIdeal.τ).loc Cert.S5OutReferenceIdeal.main_arg0) = m ((c.tc : Thread Cert.S5OutReferenceIdeal.nD Cert.S5OutReferenceIdeal.τ).loc Cert.S5OutReferenceIdeal.main_arg0)
      ∧ r.2.mem ((c.tc : Thread Cert.S5OutReferenceIdeal.nD Cert.S5OutReferenceIdeal.τ).loc Cert.S5OutReferenceIdeal.main_arg1) = m ((c.tc : Thread Cert.S5OutReferenceIdeal.nD Cert.S5OutReferenceIdeal.τ).loc Cert.S5OutReferenceIdeal.main_arg1)
      ∧ r.2.mem ((c.tc : Thread Cert.S5OutReferenceIdeal.nD Cert.S5OutReferenceIdeal.τ).loc Cert.S5OutReferenceIdeal.main_arg2) = m ((c.tc : Thread Cert.S5OutReferenceIdeal.nD Cert.S5OutReferenceIdeal.τ).loc Cert.S5OutReferenceIdeal.main_arg2)
      ∧ r.2.mem ((c.tc : Thread Cert.S5OutReferenceIdeal.nD Cert.S5OutReferenceIdeal.τ).loc Cert.S5OutReferenceIdeal.main_arg3) = m ((c.tc : Thread Cert.S5OutReferenceIdeal.nD Cert.S5OutReferenceIdeal.τ).loc Cert.S5OutReferenceIdeal.main_arg3)
      ∧ r.2.mem ((c.tc : Thread Cert.S5OutReferenceIdeal.nD Cert.S5OutReferenceIdeal.τ).loc Cert.S5OutReferenceIdeal.main_arg4) = m ((c.tc : Thread Cert.S5OutReferenceIdeal.nD Cert.S5OutReferenceIdeal.τ).loc Cert.S5OutReferenceIdeal.main_arg4)
      ∧ r.2.mem ((c.tc : Thread Cert.S5OutReferenceIdeal.nD Cert.S5OutReferenceIdeal.τ).loc Cert.S5OutReferenceIdeal.main_arg5) = m ((c.tc : Thread Cert.S5OutReferenceIdeal.nD Cert.S5OutReferenceIdeal.τ).loc Cert.S5OutReferenceIdeal.main_arg5)
      ∧ r.2.mem ((c.tc : Thread Cert.S5OutReferenceIdeal.nD Cert.S5OutReferenceIdeal.τ).loc Cert.S5OutReferenceIdeal.main_arg6) = m ((c.tc : Thread Cert.S5OutReferenceIdeal.nD Cert.S5OutReferenceIdeal.τ).loc Cert.S5OutReferenceIdeal.main_arg6)
      ∧ r.2.mem ((c.tc : Thread Cert.S5OutReferenceIdeal.nD Cert.S5OutReferenceIdeal.τ).loc Cert.S5OutReferenceIdeal.main_arg7) = m ((c.tc : Thread Cert.S5OutReferenceIdeal.nD Cert.S5OutReferenceIdeal.τ).loc Cert.S5OutReferenceIdeal.main_arg7))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_LruCoef [hLruCoef : Cert.LruCoef.Facts] : Prop :=
  ∀ (m : (ℓ : Loc Cert.LruCoef.nD Cert.LruCoef.τ Cert.LruCoef.sig) → Buf (Elt Bits) ℓ) (g : Dev Cert.LruCoef.nD → PrngReg), Pre_LruCoef m →
    θ_run (Cert.LruCoef.defs (F := Bits)) (onTc (τ := Cert.LruCoef.τ) (Cert.LruCoef.main (F := Bits))) ⟨m, fun _ => 0, g⟩ (fun r => (∀ c : Dev Cert.LruCoef.nD,
      r.2.mem ((c.tc : Thread Cert.LruCoef.nD Cert.LruCoef.τ).loc Cert.LruCoef.main_arg0) = m ((c.tc : Thread Cert.LruCoef.nD Cert.LruCoef.τ).loc Cert.LruCoef.main_arg0)
      ∧ r.2.mem ((c.tc : Thread Cert.LruCoef.nD Cert.LruCoef.τ).loc Cert.LruCoef.main_arg1) = m ((c.tc : Thread Cert.LruCoef.nD Cert.LruCoef.τ).loc Cert.LruCoef.main_arg1)
      ∧ r.2.mem ((c.tc : Thread Cert.LruCoef.nD Cert.LruCoef.τ).loc Cert.LruCoef.main_arg2) = m ((c.tc : Thread Cert.LruCoef.nD Cert.LruCoef.τ).loc Cert.LruCoef.main_arg2)
      ∧ r.2.mem ((c.tc : Thread Cert.LruCoef.nD Cert.LruCoef.τ).loc Cert.LruCoef.main_arg3) = m ((c.tc : Thread Cert.LruCoef.nD Cert.LruCoef.τ).loc Cert.LruCoef.main_arg3)
      ∧ r.2.mem ((c.tc : Thread Cert.LruCoef.nD Cert.LruCoef.τ).loc Cert.LruCoef.main_arg4) = m ((c.tc : Thread Cert.LruCoef.nD Cert.LruCoef.τ).loc Cert.LruCoef.main_arg4)
      ∧ r.2.mem ((c.tc : Thread Cert.LruCoef.nD Cert.LruCoef.τ).loc Cert.LruCoef.main_arg5) = m ((c.tc : Thread Cert.LruCoef.nD Cert.LruCoef.τ).loc Cert.LruCoef.main_arg5)
      ∧ r.2.mem ((c.tc : Thread Cert.LruCoef.nD Cert.LruCoef.τ).loc Cert.LruCoef.main_arg6) = m ((c.tc : Thread Cert.LruCoef.nD Cert.LruCoef.τ).loc Cert.LruCoef.main_arg6)
      ∧ r.2.mem ((c.tc : Thread Cert.LruCoef.nD Cert.LruCoef.τ).loc Cert.LruCoef.main_arg7) = m ((c.tc : Thread Cert.LruCoef.nD Cert.LruCoef.τ).loc Cert.LruCoef.main_arg7))
      ∧ r.2.sem = fun _ => 0)

def quiescent_LruCoefIdeal [hLruCoefIdeal : Cert.LruCoefIdeal.Facts] : Prop :=
  ∀ (m : (ℓ : Loc Cert.LruCoefIdeal.nD Cert.LruCoefIdeal.τ Cert.LruCoefIdeal.sig) → Buf (Elt Ideal) ℓ) (g : Dev Cert.LruCoefIdeal.nD → PrngReg), Pre_LruCoefIdeal m →
    θ_run (Cert.LruCoefIdeal.defs (F := Ideal)) (onTc (τ := Cert.LruCoefIdeal.τ) (Cert.LruCoefIdeal.main (F := Ideal))) ⟨m, fun _ => 0, g⟩ (fun r => (∀ c : Dev Cert.LruCoefIdeal.nD,
      r.2.mem ((c.tc : Thread Cert.LruCoefIdeal.nD Cert.LruCoefIdeal.τ).loc Cert.LruCoefIdeal.main_arg0) = m ((c.tc : Thread Cert.LruCoefIdeal.nD Cert.LruCoefIdeal.τ).loc Cert.LruCoefIdeal.main_arg0)
      ∧ r.2.mem ((c.tc : Thread Cert.LruCoefIdeal.nD Cert.LruCoefIdeal.τ).loc Cert.LruCoefIdeal.main_arg1) = m ((c.tc : Thread Cert.LruCoefIdeal.nD Cert.LruCoefIdeal.τ).loc Cert.LruCoefIdeal.main_arg1)
      ∧ r.2.mem ((c.tc : Thread Cert.LruCoefIdeal.nD Cert.LruCoefIdeal.τ).loc Cert.LruCoefIdeal.main_arg2) = m ((c.tc : Thread Cert.LruCoefIdeal.nD Cert.LruCoefIdeal.τ).loc Cert.LruCoefIdeal.main_arg2)
      ∧ r.2.mem ((c.tc : Thread Cert.LruCoefIdeal.nD Cert.LruCoefIdeal.τ).loc Cert.LruCoefIdeal.main_arg3) = m ((c.tc : Thread Cert.LruCoefIdeal.nD Cert.LruCoefIdeal.τ).loc Cert.LruCoefIdeal.main_arg3)
      ∧ r.2.mem ((c.tc : Thread Cert.LruCoefIdeal.nD Cert.LruCoefIdeal.τ).loc Cert.LruCoefIdeal.main_arg4) = m ((c.tc : Thread Cert.LruCoefIdeal.nD Cert.LruCoefIdeal.τ).loc Cert.LruCoefIdeal.main_arg4)
      ∧ r.2.mem ((c.tc : Thread Cert.LruCoefIdeal.nD Cert.LruCoefIdeal.τ).loc Cert.LruCoefIdeal.main_arg5) = m ((c.tc : Thread Cert.LruCoefIdeal.nD Cert.LruCoefIdeal.τ).loc Cert.LruCoefIdeal.main_arg5)
      ∧ r.2.mem ((c.tc : Thread Cert.LruCoefIdeal.nD Cert.LruCoefIdeal.τ).loc Cert.LruCoefIdeal.main_arg6) = m ((c.tc : Thread Cert.LruCoefIdeal.nD Cert.LruCoefIdeal.τ).loc Cert.LruCoefIdeal.main_arg6)
      ∧ r.2.mem ((c.tc : Thread Cert.LruCoefIdeal.nD Cert.LruCoefIdeal.τ).loc Cert.LruCoefIdeal.main_arg7) = m ((c.tc : Thread Cert.LruCoefIdeal.nD Cert.LruCoefIdeal.τ).loc Cert.LruCoefIdeal.main_arg7))
      ∧ r.2.sem = fun _ => 0)

def quiescent_LruCoefReferenceIdeal [hLruCoefReferenceIdeal : Cert.LruCoefReferenceIdeal.Facts] : Prop :=
  ∀ (m : (ℓ : Loc Cert.LruCoefReferenceIdeal.nD Cert.LruCoefReferenceIdeal.τ Cert.LruCoefReferenceIdeal.sig) → Buf (Elt Ideal) ℓ) (g : Dev Cert.LruCoefReferenceIdeal.nD → PrngReg), Pre_LruCoefReferenceIdeal m →
    θ_run (Cert.LruCoefReferenceIdeal.defs (F := Ideal)) (onTc (τ := Cert.LruCoefReferenceIdeal.τ) (Cert.LruCoefReferenceIdeal.main (F := Ideal))) ⟨m, fun _ => 0, g⟩ (fun r => (∀ c : Dev Cert.LruCoefReferenceIdeal.nD,
      r.2.mem ((c.tc : Thread Cert.LruCoefReferenceIdeal.nD Cert.LruCoefReferenceIdeal.τ).loc Cert.LruCoefReferenceIdeal.main_arg0) = m ((c.tc : Thread Cert.LruCoefReferenceIdeal.nD Cert.LruCoefReferenceIdeal.τ).loc Cert.LruCoefReferenceIdeal.main_arg0)
      ∧ r.2.mem ((c.tc : Thread Cert.LruCoefReferenceIdeal.nD Cert.LruCoefReferenceIdeal.τ).loc Cert.LruCoefReferenceIdeal.main_arg1) = m ((c.tc : Thread Cert.LruCoefReferenceIdeal.nD Cert.LruCoefReferenceIdeal.τ).loc Cert.LruCoefReferenceIdeal.main_arg1)
      ∧ r.2.mem ((c.tc : Thread Cert.LruCoefReferenceIdeal.nD Cert.LruCoefReferenceIdeal.τ).loc Cert.LruCoefReferenceIdeal.main_arg2) = m ((c.tc : Thread Cert.LruCoefReferenceIdeal.nD Cert.LruCoefReferenceIdeal.τ).loc Cert.LruCoefReferenceIdeal.main_arg2)
      ∧ r.2.mem ((c.tc : Thread Cert.LruCoefReferenceIdeal.nD Cert.LruCoefReferenceIdeal.τ).loc Cert.LruCoefReferenceIdeal.main_arg3) = m ((c.tc : Thread Cert.LruCoefReferenceIdeal.nD Cert.LruCoefReferenceIdeal.τ).loc Cert.LruCoefReferenceIdeal.main_arg3)
      ∧ r.2.mem ((c.tc : Thread Cert.LruCoefReferenceIdeal.nD Cert.LruCoefReferenceIdeal.τ).loc Cert.LruCoefReferenceIdeal.main_arg4) = m ((c.tc : Thread Cert.LruCoefReferenceIdeal.nD Cert.LruCoefReferenceIdeal.τ).loc Cert.LruCoefReferenceIdeal.main_arg4)
      ∧ r.2.mem ((c.tc : Thread Cert.LruCoefReferenceIdeal.nD Cert.LruCoefReferenceIdeal.τ).loc Cert.LruCoefReferenceIdeal.main_arg5) = m ((c.tc : Thread Cert.LruCoefReferenceIdeal.nD Cert.LruCoefReferenceIdeal.τ).loc Cert.LruCoefReferenceIdeal.main_arg5)
      ∧ r.2.mem ((c.tc : Thread Cert.LruCoefReferenceIdeal.nD Cert.LruCoefReferenceIdeal.τ).loc Cert.LruCoefReferenceIdeal.main_arg6) = m ((c.tc : Thread Cert.LruCoefReferenceIdeal.nD Cert.LruCoefReferenceIdeal.τ).loc Cert.LruCoefReferenceIdeal.main_arg6)
      ∧ r.2.mem ((c.tc : Thread Cert.LruCoefReferenceIdeal.nD Cert.LruCoefReferenceIdeal.τ).loc Cert.LruCoefReferenceIdeal.main_arg7) = m ((c.tc : Thread Cert.LruCoefReferenceIdeal.nD Cert.LruCoefReferenceIdeal.τ).loc Cert.LruCoefReferenceIdeal.main_arg7))
      ∧ r.2.sem = fun _ => 0)

def quiescent_FlashCtx [hFlashCtx : Cert.FlashCtx.Facts] : Prop :=
  ∀ (m : (ℓ : Loc Cert.FlashCtx.nD Cert.FlashCtx.τ Cert.FlashCtx.sig) → Buf (Elt Bits) ℓ) (g : Dev Cert.FlashCtx.nD → PrngReg), Pre_FlashCtx m →
    θ_run (Cert.FlashCtx.defs (F := Bits)) (onTc (τ := Cert.FlashCtx.τ) (Cert.FlashCtx.main (F := Bits))) ⟨m, fun _ => 0, g⟩ (fun r => (∀ c : Dev Cert.FlashCtx.nD,
      r.2.mem ((c.tc : Thread Cert.FlashCtx.nD Cert.FlashCtx.τ).loc Cert.FlashCtx.main_arg0) = m ((c.tc : Thread Cert.FlashCtx.nD Cert.FlashCtx.τ).loc Cert.FlashCtx.main_arg0)
      ∧ r.2.mem ((c.tc : Thread Cert.FlashCtx.nD Cert.FlashCtx.τ).loc Cert.FlashCtx.main_arg1) = m ((c.tc : Thread Cert.FlashCtx.nD Cert.FlashCtx.τ).loc Cert.FlashCtx.main_arg1)
      ∧ r.2.mem ((c.tc : Thread Cert.FlashCtx.nD Cert.FlashCtx.τ).loc Cert.FlashCtx.main_arg2) = m ((c.tc : Thread Cert.FlashCtx.nD Cert.FlashCtx.τ).loc Cert.FlashCtx.main_arg2))
      ∧ r.2.sem = fun _ => 0)

def quiescent_FlashCtxIdeal [hFlashCtxIdeal : Cert.FlashCtxIdeal.Facts] : Prop :=
  ∀ (m : (ℓ : Loc Cert.FlashCtxIdeal.nD Cert.FlashCtxIdeal.τ Cert.FlashCtxIdeal.sig) → Buf (Elt Ideal) ℓ) (g : Dev Cert.FlashCtxIdeal.nD → PrngReg), Pre_FlashCtxIdeal m →
    θ_run (Cert.FlashCtxIdeal.defs (F := Ideal)) (onTc (τ := Cert.FlashCtxIdeal.τ) (Cert.FlashCtxIdeal.main (F := Ideal))) ⟨m, fun _ => 0, g⟩ (fun r => (∀ c : Dev Cert.FlashCtxIdeal.nD,
      r.2.mem ((c.tc : Thread Cert.FlashCtxIdeal.nD Cert.FlashCtxIdeal.τ).loc Cert.FlashCtxIdeal.main_arg0) = m ((c.tc : Thread Cert.FlashCtxIdeal.nD Cert.FlashCtxIdeal.τ).loc Cert.FlashCtxIdeal.main_arg0)
      ∧ r.2.mem ((c.tc : Thread Cert.FlashCtxIdeal.nD Cert.FlashCtxIdeal.τ).loc Cert.FlashCtxIdeal.main_arg1) = m ((c.tc : Thread Cert.FlashCtxIdeal.nD Cert.FlashCtxIdeal.τ).loc Cert.FlashCtxIdeal.main_arg1)
      ∧ r.2.mem ((c.tc : Thread Cert.FlashCtxIdeal.nD Cert.FlashCtxIdeal.τ).loc Cert.FlashCtxIdeal.main_arg2) = m ((c.tc : Thread Cert.FlashCtxIdeal.nD Cert.FlashCtxIdeal.τ).loc Cert.FlashCtxIdeal.main_arg2))
      ∧ r.2.sem = fun _ => 0)

def quiescent_FlashCtxIdeal_pre_finite_ctx [hFlashCtxIdeal : Cert.FlashCtxIdeal.Facts] [hPre_finite_ctx : Cert.Pre_finite_ctx.Facts] : Prop :=
  ∀ (m : (ℓ : Loc Cert.FlashCtxIdeal.nD Cert.FlashCtxIdeal.τ Cert.FlashCtxIdeal.sig) → Buf (Elt Ideal) ℓ) (g : Dev Cert.FlashCtxIdeal.nD → PrngReg), Pre_FlashCtxIdeal_finite_ctx m →
    θ_run (Cert.FlashCtxIdeal.defs (F := Ideal)) (onTc (τ := Cert.FlashCtxIdeal.τ) (Cert.FlashCtxIdeal.main (F := Ideal))) ⟨m, fun _ => 0, g⟩ (fun r => (∀ c : Dev Cert.FlashCtxIdeal.nD,
      r.2.mem ((c.tc : Thread Cert.FlashCtxIdeal.nD Cert.FlashCtxIdeal.τ).loc Cert.FlashCtxIdeal.main_arg0) = m ((c.tc : Thread Cert.FlashCtxIdeal.nD Cert.FlashCtxIdeal.τ).loc Cert.FlashCtxIdeal.main_arg0)
      ∧ r.2.mem ((c.tc : Thread Cert.FlashCtxIdeal.nD Cert.FlashCtxIdeal.τ).loc Cert.FlashCtxIdeal.main_arg1) = m ((c.tc : Thread Cert.FlashCtxIdeal.nD Cert.FlashCtxIdeal.τ).loc Cert.FlashCtxIdeal.main_arg1)
      ∧ r.2.mem ((c.tc : Thread Cert.FlashCtxIdeal.nD Cert.FlashCtxIdeal.τ).loc Cert.FlashCtxIdeal.main_arg2) = m ((c.tc : Thread Cert.FlashCtxIdeal.nD Cert.FlashCtxIdeal.τ).loc Cert.FlashCtxIdeal.main_arg2))
      ∧ r.2.sem = fun _ => 0)

def quiescent_FlashCtxReferenceIdeal [hFlashCtxReferenceIdeal : Cert.FlashCtxReferenceIdeal.Facts] : Prop :=
  ∀ (m : (ℓ : Loc Cert.FlashCtxReferenceIdeal.nD Cert.FlashCtxReferenceIdeal.τ Cert.FlashCtxReferenceIdeal.sig) → Buf (Elt Ideal) ℓ) (g : Dev Cert.FlashCtxReferenceIdeal.nD → PrngReg), Pre_FlashCtxReferenceIdeal m →
    θ_run (Cert.FlashCtxReferenceIdeal.defs (F := Ideal)) (onTc (τ := Cert.FlashCtxReferenceIdeal.τ) (Cert.FlashCtxReferenceIdeal.main (F := Ideal))) ⟨m, fun _ => 0, g⟩ (fun r => (∀ c : Dev Cert.FlashCtxReferenceIdeal.nD,
      r.2.mem ((c.tc : Thread Cert.FlashCtxReferenceIdeal.nD Cert.FlashCtxReferenceIdeal.τ).loc Cert.FlashCtxReferenceIdeal.main_arg0) = m ((c.tc : Thread Cert.FlashCtxReferenceIdeal.nD Cert.FlashCtxReferenceIdeal.τ).loc Cert.FlashCtxReferenceIdeal.main_arg0)
      ∧ r.2.mem ((c.tc : Thread Cert.FlashCtxReferenceIdeal.nD Cert.FlashCtxReferenceIdeal.τ).loc Cert.FlashCtxReferenceIdeal.main_arg1) = m ((c.tc : Thread Cert.FlashCtxReferenceIdeal.nD Cert.FlashCtxReferenceIdeal.τ).loc Cert.FlashCtxReferenceIdeal.main_arg1)
      ∧ r.2.mem ((c.tc : Thread Cert.FlashCtxReferenceIdeal.nD Cert.FlashCtxReferenceIdeal.τ).loc Cert.FlashCtxReferenceIdeal.main_arg2) = m ((c.tc : Thread Cert.FlashCtxReferenceIdeal.nD Cert.FlashCtxReferenceIdeal.τ).loc Cert.FlashCtxReferenceIdeal.main_arg2))
      ∧ r.2.sem = fun _ => 0)

def quiescent_FlashCtxReferenceIdeal_pre_finite_ctx [hFlashCtxReferenceIdeal : Cert.FlashCtxReferenceIdeal.Facts] [hPre_finite_ctx : Cert.Pre_finite_ctx.Facts] : Prop :=
  ∀ (m : (ℓ : Loc Cert.FlashCtxReferenceIdeal.nD Cert.FlashCtxReferenceIdeal.τ Cert.FlashCtxReferenceIdeal.sig) → Buf (Elt Ideal) ℓ) (g : Dev Cert.FlashCtxReferenceIdeal.nD → PrngReg), Pre_FlashCtxReferenceIdeal_finite_ctx m →
    θ_run (Cert.FlashCtxReferenceIdeal.defs (F := Ideal)) (onTc (τ := Cert.FlashCtxReferenceIdeal.τ) (Cert.FlashCtxReferenceIdeal.main (F := Ideal))) ⟨m, fun _ => 0, g⟩ (fun r => (∀ c : Dev Cert.FlashCtxReferenceIdeal.nD,
      r.2.mem ((c.tc : Thread Cert.FlashCtxReferenceIdeal.nD Cert.FlashCtxReferenceIdeal.τ).loc Cert.FlashCtxReferenceIdeal.main_arg0) = m ((c.tc : Thread Cert.FlashCtxReferenceIdeal.nD Cert.FlashCtxReferenceIdeal.τ).loc Cert.FlashCtxReferenceIdeal.main_arg0)
      ∧ r.2.mem ((c.tc : Thread Cert.FlashCtxReferenceIdeal.nD Cert.FlashCtxReferenceIdeal.τ).loc Cert.FlashCtxReferenceIdeal.main_arg1) = m ((c.tc : Thread Cert.FlashCtxReferenceIdeal.nD Cert.FlashCtxReferenceIdeal.τ).loc Cert.FlashCtxReferenceIdeal.main_arg1)
      ∧ r.2.mem ((c.tc : Thread Cert.FlashCtxReferenceIdeal.nD Cert.FlashCtxReferenceIdeal.τ).loc Cert.FlashCtxReferenceIdeal.main_arg2) = m ((c.tc : Thread Cert.FlashCtxReferenceIdeal.nD Cert.FlashCtxReferenceIdeal.τ).loc Cert.FlashCtxReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v0)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v0) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v12) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def preserves_ResidMatmul_ResidMatmulIdeal : Prop :=
  True

def algebraic_ResidMatmulIdeal_ResidMatmulReferenceIdeal [hResidMatmulIdeal : Cert.ResidMatmulIdeal.Facts] [hResidMatmulReferenceIdeal : Cert.ResidMatmulReferenceIdeal.Facts] : Prop :=
  ∀ (m : (ℓ : Loc Cert.ResidMatmulIdeal.nD Cert.ResidMatmulIdeal.τ Cert.ResidMatmulIdeal.sig) → Buf (Elt Ideal) ℓ) (g : Dev Cert.ResidMatmulIdeal.nD → PrngReg)
    (m' : (ℓ : Loc Cert.ResidMatmulReferenceIdeal.nD Cert.ResidMatmulReferenceIdeal.τ Cert.ResidMatmulReferenceIdeal.sig) → Buf (Elt Ideal) ℓ) (g' : Dev Cert.ResidMatmulReferenceIdeal.nD → PrngReg), Pre_ResidMatmulIdeal m →
    (∀ c : Dev Cert.ResidMatmulIdeal.nD,
      m' ((c.tc : Thread Cert.ResidMatmulReferenceIdeal.nD Cert.ResidMatmulReferenceIdeal.τ).loc Cert.ResidMatmulReferenceIdeal.main_arg0) = m ((c.tc : Thread Cert.ResidMatmulIdeal.nD Cert.ResidMatmulIdeal.τ).loc Cert.ResidMatmulIdeal.main_arg0)
      ∧ m' ((c.tc : Thread Cert.ResidMatmulReferenceIdeal.nD Cert.ResidMatmulReferenceIdeal.τ).loc Cert.ResidMatmulReferenceIdeal.main_arg1) = m ((c.tc : Thread Cert.ResidMatmulIdeal.nD Cert.ResidMatmulIdeal.τ).loc Cert.ResidMatmulIdeal.main_arg1)
      ∧ m' ((c.tc : Thread Cert.ResidMatmulReferenceIdeal.nD Cert.ResidMatmulReferenceIdeal.τ).loc Cert.ResidMatmulReferenceIdeal.main_arg2) = m ((c.tc : Thread Cert.ResidMatmulIdeal.nD Cert.ResidMatmulIdeal.τ).loc Cert.ResidMatmulIdeal.main_arg2)
      ∧ m' ((c.tc : Thread Cert.ResidMatmulReferenceIdeal.nD Cert.ResidMatmulReferenceIdeal.τ).loc Cert.ResidMatmulReferenceIdeal.main_arg3) = m ((c.tc : Thread Cert.ResidMatmulIdeal.nD Cert.ResidMatmulIdeal.τ).loc Cert.ResidMatmulIdeal.main_arg3)) →
    ∃ (v0 : (c : Dev Cert.ResidMatmulIdeal.nD) → Buf (Elt Ideal) ((c.tc : Thread Cert.ResidMatmulIdeal.nD Cert.ResidMatmulIdeal.τ).loc Cert.ResidMatmulIdeal.main_v0)),
      θ_run (Cert.ResidMatmulIdeal.defs (F := Ideal)) (onTc (τ := Cert.ResidMatmulIdeal.τ) (Cert.ResidMatmulIdeal.main (F := Ideal))) ⟨m, fun _ => 0, g⟩ (fun r => ∀ c : Dev Cert.ResidMatmulIdeal.nD,
          r.2.mem ((c.tc : Thread Cert.ResidMatmulIdeal.nD Cert.ResidMatmulIdeal.τ).loc Cert.ResidMatmulIdeal.main_v0) = v0 c
          ∧ r.2.mem ((c.tc : Thread Cert.ResidMatmulIdeal.nD Cert.ResidMatmulIdeal.τ).loc Cert.ResidMatmulIdeal.main_arg0) = m ((c.tc : Thread Cert.ResidMatmulIdeal.nD Cert.ResidMatmulIdeal.τ).loc Cert.ResidMatmulIdeal.main_arg0)
          ∧ r.2.mem ((c.tc : Thread Cert.ResidMatmulIdeal.nD Cert.ResidMatmulIdeal.τ).loc Cert.ResidMatmulIdeal.main_arg1) = m ((c.tc : Thread Cert.ResidMatmulIdeal.nD Cert.ResidMatmulIdeal.τ).loc Cert.ResidMatmulIdeal.main_arg1)
          ∧ r.2.mem ((c.tc : Thread Cert.ResidMatmulIdeal.nD Cert.ResidMatmulIdeal.τ).loc Cert.ResidMatmulIdeal.main_arg2) = m ((c.tc : Thread Cert.ResidMatmulIdeal.nD Cert.ResidMatmulIdeal.τ).loc Cert.ResidMatmulIdeal.main_arg2)
          ∧ r.2.mem ((c.tc : Thread Cert.ResidMatmulIdeal.nD Cert.ResidMatmulIdeal.τ).loc Cert.ResidMatmulIdeal.main_arg3) = m ((c.tc : Thread Cert.ResidMatmulIdeal.nD Cert.ResidMatmulIdeal.τ).loc Cert.ResidMatmulIdeal.main_arg3))
      ∧ θ_run (Cert.ResidMatmulReferenceIdeal.defs (F := Ideal)) (onTc (τ := Cert.ResidMatmulReferenceIdeal.τ) (Cert.ResidMatmulReferenceIdeal.main (F := Ideal))) ⟨m', fun _ => 0, g'⟩ (fun r => ∀ c : Dev Cert.ResidMatmulReferenceIdeal.nD,
          r.2.mem ((c.tc : Thread Cert.ResidMatmulReferenceIdeal.nD Cert.ResidMatmulReferenceIdeal.τ).loc Cert.ResidMatmulReferenceIdeal.main_v12) = v0 c
          ∧ r.2.mem ((c.tc : Thread Cert.ResidMatmulReferenceIdeal.nD Cert.ResidMatmulReferenceIdeal.τ).loc Cert.ResidMatmulReferenceIdeal.main_arg0) = m' ((c.tc : Thread Cert.ResidMatmulReferenceIdeal.nD Cert.ResidMatmulReferenceIdeal.τ).loc Cert.ResidMatmulReferenceIdeal.main_arg0)
          ∧ r.2.mem ((c.tc : Thread Cert.ResidMatmulReferenceIdeal.nD Cert.ResidMatmulReferenceIdeal.τ).loc Cert.ResidMatmulReferenceIdeal.main_arg1) = m' ((c.tc : Thread Cert.ResidMatmulReferenceIdeal.nD Cert.ResidMatmulReferenceIdeal.τ).loc Cert.ResidMatmulReferenceIdeal.main_arg1)
          ∧ r.2.mem ((c.tc : Thread Cert.ResidMatmulReferenceIdeal.nD Cert.ResidMatmulReferenceIdeal.τ).loc Cert.ResidMatmulReferenceIdeal.main_arg2) = m' ((c.tc : Thread Cert.ResidMatmulReferenceIdeal.nD Cert.ResidMatmulReferenceIdeal.τ).loc Cert.ResidMatmulReferenceIdeal.main_arg2)
          ∧ r.2.mem ((c.tc : Thread Cert.ResidMatmulReferenceIdeal.nD Cert.ResidMatmulReferenceIdeal.τ).loc Cert.ResidMatmulReferenceIdeal.main_arg3) = m' ((c.tc : Thread Cert.ResidMatmulReferenceIdeal.nD Cert.ResidMatmulReferenceIdeal.τ).loc Cert.ResidMatmulReferenceIdeal.main_arg3))

def preserves_NormMatmul_NormMatmulIdeal : Prop :=
  True

def algebraic_NormMatmulIdeal_NormMatmulReferenceIdeal [hNormMatmulIdeal : Cert.NormMatmulIdeal.Facts] [hNormMatmulReferenceIdeal : Cert.NormMatmulReferenceIdeal.Facts] : Prop :=
  ∀ (m : (ℓ : Loc Cert.NormMatmulIdeal.nD Cert.NormMatmulIdeal.τ Cert.NormMatmulIdeal.sig) → Buf (Elt Ideal) ℓ) (g : Dev Cert.NormMatmulIdeal.nD → PrngReg)
    (m' : (ℓ : Loc Cert.NormMatmulReferenceIdeal.nD Cert.NormMatmulReferenceIdeal.τ Cert.NormMatmulReferenceIdeal.sig) → Buf (Elt Ideal) ℓ) (g' : Dev Cert.NormMatmulReferenceIdeal.nD → PrngReg), Pre_NormMatmulIdeal m →
    (∀ c : Dev Cert.NormMatmulIdeal.nD,
      m' ((c.tc : Thread Cert.NormMatmulReferenceIdeal.nD Cert.NormMatmulReferenceIdeal.τ).loc Cert.NormMatmulReferenceIdeal.main_arg0) = m ((c.tc : Thread Cert.NormMatmulIdeal.nD Cert.NormMatmulIdeal.τ).loc Cert.NormMatmulIdeal.main_arg0)
      ∧ m' ((c.tc : Thread Cert.NormMatmulReferenceIdeal.nD Cert.NormMatmulReferenceIdeal.τ).loc Cert.NormMatmulReferenceIdeal.main_arg1) = m ((c.tc : Thread Cert.NormMatmulIdeal.nD Cert.NormMatmulIdeal.τ).loc Cert.NormMatmulIdeal.main_arg1)
      ∧ m' ((c.tc : Thread Cert.NormMatmulReferenceIdeal.nD Cert.NormMatmulReferenceIdeal.τ).loc Cert.NormMatmulReferenceIdeal.main_arg2) = m ((c.tc : Thread Cert.NormMatmulIdeal.nD Cert.NormMatmulIdeal.τ).loc Cert.NormMatmulIdeal.main_arg2)
      ∧ m' ((c.tc : Thread Cert.NormMatmulReferenceIdeal.nD Cert.NormMatmulReferenceIdeal.τ).loc Cert.NormMatmulReferenceIdeal.main_arg3) = m ((c.tc : Thread Cert.NormMatmulIdeal.nD Cert.NormMatmulIdeal.τ).loc Cert.NormMatmulIdeal.main_arg3)) →
    ∃ (v0 : (c : Dev Cert.NormMatmulIdeal.nD) → Buf (Elt Ideal) ((c.tc : Thread Cert.NormMatmulIdeal.nD Cert.NormMatmulIdeal.τ).loc Cert.NormMatmulIdeal.main_v0)),
      θ_run (Cert.NormMatmulIdeal.defs (F := Ideal)) (onTc (τ := Cert.NormMatmulIdeal.τ) (Cert.NormMatmulIdeal.main (F := Ideal))) ⟨m, fun _ => 0, g⟩ (fun r => ∀ c : Dev Cert.NormMatmulIdeal.nD,
          r.2.mem ((c.tc : Thread Cert.NormMatmulIdeal.nD Cert.NormMatmulIdeal.τ).loc Cert.NormMatmulIdeal.main_v0) = v0 c
          ∧ r.2.mem ((c.tc : Thread Cert.NormMatmulIdeal.nD Cert.NormMatmulIdeal.τ).loc Cert.NormMatmulIdeal.main_arg0) = m ((c.tc : Thread Cert.NormMatmulIdeal.nD Cert.NormMatmulIdeal.τ).loc Cert.NormMatmulIdeal.main_arg0)
          ∧ r.2.mem ((c.tc : Thread Cert.NormMatmulIdeal.nD Cert.NormMatmulIdeal.τ).loc Cert.NormMatmulIdeal.main_arg1) = m ((c.tc : Thread Cert.NormMatmulIdeal.nD Cert.NormMatmulIdeal.τ).loc Cert.NormMatmulIdeal.main_arg1)
          ∧ r.2.mem ((c.tc : Thread Cert.NormMatmulIdeal.nD Cert.NormMatmulIdeal.τ).loc Cert.NormMatmulIdeal.main_arg2) = m ((c.tc : Thread Cert.NormMatmulIdeal.nD Cert.NormMatmulIdeal.τ).loc Cert.NormMatmulIdeal.main_arg2)
          ∧ r.2.mem ((c.tc : Thread Cert.NormMatmulIdeal.nD Cert.NormMatmulIdeal.τ).loc Cert.NormMatmulIdeal.main_arg3) = m ((c.tc : Thread Cert.NormMatmulIdeal.nD Cert.NormMatmulIdeal.τ).loc Cert.NormMatmulIdeal.main_arg3))
      ∧ θ_run (Cert.NormMatmulReferenceIdeal.defs (F := Ideal)) (onTc (τ := Cert.NormMatmulReferenceIdeal.τ) (Cert.NormMatmulReferenceIdeal.main (F := Ideal))) ⟨m', fun _ => 0, g'⟩ (fun r => ∀ c : Dev Cert.NormMatmulReferenceIdeal.nD,
          r.2.mem ((c.tc : Thread Cert.NormMatmulReferenceIdeal.nD Cert.NormMatmulReferenceIdeal.τ).loc Cert.NormMatmulReferenceIdeal.main_v33) = v0 c
          ∧ r.2.mem ((c.tc : Thread Cert.NormMatmulReferenceIdeal.nD Cert.NormMatmulReferenceIdeal.τ).loc Cert.NormMatmulReferenceIdeal.main_arg0) = m' ((c.tc : Thread Cert.NormMatmulReferenceIdeal.nD Cert.NormMatmulReferenceIdeal.τ).loc Cert.NormMatmulReferenceIdeal.main_arg0)
          ∧ r.2.mem ((c.tc : Thread Cert.NormMatmulReferenceIdeal.nD Cert.NormMatmulReferenceIdeal.τ).loc Cert.NormMatmulReferenceIdeal.main_arg1) = m' ((c.tc : Thread Cert.NormMatmulReferenceIdeal.nD Cert.NormMatmulReferenceIdeal.τ).loc Cert.NormMatmulReferenceIdeal.main_arg1)
          ∧ r.2.mem ((c.tc : Thread Cert.NormMatmulReferenceIdeal.nD Cert.NormMatmulReferenceIdeal.τ).loc Cert.NormMatmulReferenceIdeal.main_arg2) = m' ((c.tc : Thread Cert.NormMatmulReferenceIdeal.nD Cert.NormMatmulReferenceIdeal.τ).loc Cert.NormMatmulReferenceIdeal.main_arg2)
          ∧ r.2.mem ((c.tc : Thread Cert.NormMatmulReferenceIdeal.nD Cert.NormMatmulReferenceIdeal.τ).loc Cert.NormMatmulReferenceIdeal.main_arg3) = m' ((c.tc : Thread Cert.NormMatmulReferenceIdeal.nD Cert.NormMatmulReferenceIdeal.τ).loc Cert.NormMatmulReferenceIdeal.main_arg3))

def preserves_ResidLast_ResidLastIdeal : Prop :=
  True

def algebraic_ResidLastIdeal_ResidLastReferenceIdeal [hResidLastIdeal : Cert.ResidLastIdeal.Facts] [hResidLastReferenceIdeal : Cert.ResidLastReferenceIdeal.Facts] : Prop :=
  ∀ (m : (ℓ : Loc Cert.ResidLastIdeal.nD Cert.ResidLastIdeal.τ Cert.ResidLastIdeal.sig) → Buf (Elt Ideal) ℓ) (g : Dev Cert.ResidLastIdeal.nD → PrngReg)
    (m' : (ℓ : Loc Cert.ResidLastReferenceIdeal.nD Cert.ResidLastReferenceIdeal.τ Cert.ResidLastReferenceIdeal.sig) → Buf (Elt Ideal) ℓ) (g' : Dev Cert.ResidLastReferenceIdeal.nD → PrngReg), Pre_ResidLastIdeal m →
    (∀ c : Dev Cert.ResidLastIdeal.nD,
      m' ((c.tc : Thread Cert.ResidLastReferenceIdeal.nD Cert.ResidLastReferenceIdeal.τ).loc Cert.ResidLastReferenceIdeal.main_arg0) = m ((c.tc : Thread Cert.ResidLastIdeal.nD Cert.ResidLastIdeal.τ).loc Cert.ResidLastIdeal.main_arg0)
      ∧ m' ((c.tc : Thread Cert.ResidLastReferenceIdeal.nD Cert.ResidLastReferenceIdeal.τ).loc Cert.ResidLastReferenceIdeal.main_arg1) = m ((c.tc : Thread Cert.ResidLastIdeal.nD Cert.ResidLastIdeal.τ).loc Cert.ResidLastIdeal.main_arg1)
      ∧ m' ((c.tc : Thread Cert.ResidLastReferenceIdeal.nD Cert.ResidLastReferenceIdeal.τ).loc Cert.ResidLastReferenceIdeal.main_arg2) = m ((c.tc : Thread Cert.ResidLastIdeal.nD Cert.ResidLastIdeal.τ).loc Cert.ResidLastIdeal.main_arg2)
      ∧ m' ((c.tc : Thread Cert.ResidLastReferenceIdeal.nD Cert.ResidLastReferenceIdeal.τ).loc Cert.ResidLastReferenceIdeal.main_arg3) = m ((c.tc : Thread Cert.ResidLastIdeal.nD Cert.ResidLastIdeal.τ).loc Cert.ResidLastIdeal.main_arg3)) →
    ∃ (v0 : (c : Dev Cert.ResidLastIdeal.nD) → Buf (Elt Ideal) ((c.tc : Thread Cert.ResidLastIdeal.nD Cert.ResidLastIdeal.τ).loc Cert.ResidLastIdeal.main_v0)),
      θ_run (Cert.ResidLastIdeal.defs (F := Ideal)) (onTc (τ := Cert.ResidLastIdeal.τ) (Cert.ResidLastIdeal.main (F := Ideal))) ⟨m, fun _ => 0, g⟩ (fun r => ∀ c : Dev Cert.ResidLastIdeal.nD,
          r.2.mem ((c.tc : Thread Cert.ResidLastIdeal.nD Cert.ResidLastIdeal.τ).loc Cert.ResidLastIdeal.main_v0) = v0 c
          ∧ r.2.mem ((c.tc : Thread Cert.ResidLastIdeal.nD Cert.ResidLastIdeal.τ).loc Cert.ResidLastIdeal.main_arg0) = m ((c.tc : Thread Cert.ResidLastIdeal.nD Cert.ResidLastIdeal.τ).loc Cert.ResidLastIdeal.main_arg0)
          ∧ r.2.mem ((c.tc : Thread Cert.ResidLastIdeal.nD Cert.ResidLastIdeal.τ).loc Cert.ResidLastIdeal.main_arg1) = m ((c.tc : Thread Cert.ResidLastIdeal.nD Cert.ResidLastIdeal.τ).loc Cert.ResidLastIdeal.main_arg1)
          ∧ r.2.mem ((c.tc : Thread Cert.ResidLastIdeal.nD Cert.ResidLastIdeal.τ).loc Cert.ResidLastIdeal.main_arg2) = m ((c.tc : Thread Cert.ResidLastIdeal.nD Cert.ResidLastIdeal.τ).loc Cert.ResidLastIdeal.main_arg2)
          ∧ r.2.mem ((c.tc : Thread Cert.ResidLastIdeal.nD Cert.ResidLastIdeal.τ).loc Cert.ResidLastIdeal.main_arg3) = m ((c.tc : Thread Cert.ResidLastIdeal.nD Cert.ResidLastIdeal.τ).loc Cert.ResidLastIdeal.main_arg3))
      ∧ θ_run (Cert.ResidLastReferenceIdeal.defs (F := Ideal)) (onTc (τ := Cert.ResidLastReferenceIdeal.τ) (Cert.ResidLastReferenceIdeal.main (F := Ideal))) ⟨m', fun _ => 0, g'⟩ (fun r => ∀ c : Dev Cert.ResidLastReferenceIdeal.nD,
          r.2.mem ((c.tc : Thread Cert.ResidLastReferenceIdeal.nD Cert.ResidLastReferenceIdeal.τ).loc Cert.ResidLastReferenceIdeal.main_v16) = v0 c
          ∧ r.2.mem ((c.tc : Thread Cert.ResidLastReferenceIdeal.nD Cert.ResidLastReferenceIdeal.τ).loc Cert.ResidLastReferenceIdeal.main_arg0) = m' ((c.tc : Thread Cert.ResidLastReferenceIdeal.nD Cert.ResidLastReferenceIdeal.τ).loc Cert.ResidLastReferenceIdeal.main_arg0)
          ∧ r.2.mem ((c.tc : Thread Cert.ResidLastReferenceIdeal.nD Cert.ResidLastReferenceIdeal.τ).loc Cert.ResidLastReferenceIdeal.main_arg1) = m' ((c.tc : Thread Cert.ResidLastReferenceIdeal.nD Cert.ResidLastReferenceIdeal.τ).loc Cert.ResidLastReferenceIdeal.main_arg1)
          ∧ r.2.mem ((c.tc : Thread Cert.ResidLastReferenceIdeal.nD Cert.ResidLastReferenceIdeal.τ).loc Cert.ResidLastReferenceIdeal.main_arg2) = m' ((c.tc : Thread Cert.ResidLastReferenceIdeal.nD Cert.ResidLastReferenceIdeal.τ).loc Cert.ResidLastReferenceIdeal.main_arg2)
          ∧ r.2.mem ((c.tc : Thread Cert.ResidLastReferenceIdeal.nD Cert.ResidLastReferenceIdeal.τ).loc Cert.ResidLastReferenceIdeal.main_arg3) = m' ((c.tc : Thread Cert.ResidLastReferenceIdeal.nD Cert.ResidLastReferenceIdeal.τ).loc Cert.ResidLastReferenceIdeal.main_arg3))

def preserves_NormNarrow_NormNarrowIdeal : Prop :=
  True

def algebraic_NormNarrowIdeal_NormNarrowReferenceIdeal [hNormNarrowIdeal : Cert.NormNarrowIdeal.Facts] [hNormNarrowReferenceIdeal : Cert.NormNarrowReferenceIdeal.Facts] : Prop :=
  ∀ (m : (ℓ : Loc Cert.NormNarrowIdeal.nD Cert.NormNarrowIdeal.τ Cert.NormNarrowIdeal.sig) → Buf (Elt Ideal) ℓ) (g : Dev Cert.NormNarrowIdeal.nD → PrngReg)
    (m' : (ℓ : Loc Cert.NormNarrowReferenceIdeal.nD Cert.NormNarrowReferenceIdeal.τ Cert.NormNarrowReferenceIdeal.sig) → Buf (Elt Ideal) ℓ) (g' : Dev Cert.NormNarrowReferenceIdeal.nD → PrngReg), Pre_NormNarrowIdeal m →
    (∀ c : Dev Cert.NormNarrowIdeal.nD,
      m' ((c.tc : Thread Cert.NormNarrowReferenceIdeal.nD Cert.NormNarrowReferenceIdeal.τ).loc Cert.NormNarrowReferenceIdeal.main_arg0) = m ((c.tc : Thread Cert.NormNarrowIdeal.nD Cert.NormNarrowIdeal.τ).loc Cert.NormNarrowIdeal.main_arg0)
      ∧ m' ((c.tc : Thread Cert.NormNarrowReferenceIdeal.nD Cert.NormNarrowReferenceIdeal.τ).loc Cert.NormNarrowReferenceIdeal.main_arg1) = m ((c.tc : Thread Cert.NormNarrowIdeal.nD Cert.NormNarrowIdeal.τ).loc Cert.NormNarrowIdeal.main_arg1)
      ∧ m' ((c.tc : Thread Cert.NormNarrowReferenceIdeal.nD Cert.NormNarrowReferenceIdeal.τ).loc Cert.NormNarrowReferenceIdeal.main_arg2) = m ((c.tc : Thread Cert.NormNarrowIdeal.nD Cert.NormNarrowIdeal.τ).loc Cert.NormNarrowIdeal.main_arg2)
      ∧ m' ((c.tc : Thread Cert.NormNarrowReferenceIdeal.nD Cert.NormNarrowReferenceIdeal.τ).loc Cert.NormNarrowReferenceIdeal.main_arg3) = m ((c.tc : Thread Cert.NormNarrowIdeal.nD Cert.NormNarrowIdeal.τ).loc Cert.NormNarrowIdeal.main_arg3)) →
    ∃ (v0 : (c : Dev Cert.NormNarrowIdeal.nD) → Buf (Elt Ideal) ((c.tc : Thread Cert.NormNarrowIdeal.nD Cert.NormNarrowIdeal.τ).loc Cert.NormNarrowIdeal.main_v0)),
      θ_run (Cert.NormNarrowIdeal.defs (F := Ideal)) (onTc (τ := Cert.NormNarrowIdeal.τ) (Cert.NormNarrowIdeal.main (F := Ideal))) ⟨m, fun _ => 0, g⟩ (fun r => ∀ c : Dev Cert.NormNarrowIdeal.nD,
          r.2.mem ((c.tc : Thread Cert.NormNarrowIdeal.nD Cert.NormNarrowIdeal.τ).loc Cert.NormNarrowIdeal.main_v0) = v0 c
          ∧ r.2.mem ((c.tc : Thread Cert.NormNarrowIdeal.nD Cert.NormNarrowIdeal.τ).loc Cert.NormNarrowIdeal.main_arg0) = m ((c.tc : Thread Cert.NormNarrowIdeal.nD Cert.NormNarrowIdeal.τ).loc Cert.NormNarrowIdeal.main_arg0)
          ∧ r.2.mem ((c.tc : Thread Cert.NormNarrowIdeal.nD Cert.NormNarrowIdeal.τ).loc Cert.NormNarrowIdeal.main_arg1) = m ((c.tc : Thread Cert.NormNarrowIdeal.nD Cert.NormNarrowIdeal.τ).loc Cert.NormNarrowIdeal.main_arg1)
          ∧ r.2.mem ((c.tc : Thread Cert.NormNarrowIdeal.nD Cert.NormNarrowIdeal.τ).loc Cert.NormNarrowIdeal.main_arg2) = m ((c.tc : Thread Cert.NormNarrowIdeal.nD Cert.NormNarrowIdeal.τ).loc Cert.NormNarrowIdeal.main_arg2)
          ∧ r.2.mem ((c.tc : Thread Cert.NormNarrowIdeal.nD Cert.NormNarrowIdeal.τ).loc Cert.NormNarrowIdeal.main_arg3) = m ((c.tc : Thread Cert.NormNarrowIdeal.nD Cert.NormNarrowIdeal.τ).loc Cert.NormNarrowIdeal.main_arg3))
      ∧ θ_run (Cert.NormNarrowReferenceIdeal.defs (F := Ideal)) (onTc (τ := Cert.NormNarrowReferenceIdeal.τ) (Cert.NormNarrowReferenceIdeal.main (F := Ideal))) ⟨m', fun _ => 0, g'⟩ (fun r => ∀ c : Dev Cert.NormNarrowReferenceIdeal.nD,
          r.2.mem ((c.tc : Thread Cert.NormNarrowReferenceIdeal.nD Cert.NormNarrowReferenceIdeal.τ).loc Cert.NormNarrowReferenceIdeal.main_v33) = v0 c
          ∧ r.2.mem ((c.tc : Thread Cert.NormNarrowReferenceIdeal.nD Cert.NormNarrowReferenceIdeal.τ).loc Cert.NormNarrowReferenceIdeal.main_arg0) = m' ((c.tc : Thread Cert.NormNarrowReferenceIdeal.nD Cert.NormNarrowReferenceIdeal.τ).loc Cert.NormNarrowReferenceIdeal.main_arg0)
          ∧ r.2.mem ((c.tc : Thread Cert.NormNarrowReferenceIdeal.nD Cert.NormNarrowReferenceIdeal.τ).loc Cert.NormNarrowReferenceIdeal.main_arg1) = m' ((c.tc : Thread Cert.NormNarrowReferenceIdeal.nD Cert.NormNarrowReferenceIdeal.τ).loc Cert.NormNarrowReferenceIdeal.main_arg1)
          ∧ r.2.mem ((c.tc : Thread Cert.NormNarrowReferenceIdeal.nD Cert.NormNarrowReferenceIdeal.τ).loc Cert.NormNarrowReferenceIdeal.main_arg2) = m' ((c.tc : Thread Cert.NormNarrowReferenceIdeal.nD Cert.NormNarrowReferenceIdeal.τ).loc Cert.NormNarrowReferenceIdeal.main_arg2)
          ∧ r.2.mem ((c.tc : Thread Cert.NormNarrowReferenceIdeal.nD Cert.NormNarrowReferenceIdeal.τ).loc Cert.NormNarrowReferenceIdeal.main_arg3) = m' ((c.tc : Thread Cert.NormNarrowReferenceIdeal.nD Cert.NormNarrowReferenceIdeal.τ).loc Cert.NormNarrowReferenceIdeal.main_arg3))

def preserves_AttnQkv_AttnQkvIdeal : Prop :=
  True

def algebraic_AttnQkvIdeal_AttnQkvReferenceIdeal [hAttnQkvIdeal : Cert.AttnQkvIdeal.Facts] [hAttnQkvReferenceIdeal : Cert.AttnQkvReferenceIdeal.Facts] : Prop :=
  ∀ (m : (ℓ : Loc Cert.AttnQkvIdeal.nD Cert.AttnQkvIdeal.τ Cert.AttnQkvIdeal.sig) → Buf (Elt Ideal) ℓ) (g : Dev Cert.AttnQkvIdeal.nD → PrngReg)
    (m' : (ℓ : Loc Cert.AttnQkvReferenceIdeal.nD Cert.AttnQkvReferenceIdeal.τ Cert.AttnQkvReferenceIdeal.sig) → Buf (Elt Ideal) ℓ) (g' : Dev Cert.AttnQkvReferenceIdeal.nD → PrngReg), Pre_AttnQkvIdeal m →
    (∀ c : Dev Cert.AttnQkvIdeal.nD,
      m' ((c.tc : Thread Cert.AttnQkvReferenceIdeal.nD Cert.AttnQkvReferenceIdeal.τ).loc Cert.AttnQkvReferenceIdeal.main_arg0) = m ((c.tc : Thread Cert.AttnQkvIdeal.nD Cert.AttnQkvIdeal.τ).loc Cert.AttnQkvIdeal.main_arg0)
      ∧ m' ((c.tc : Thread Cert.AttnQkvReferenceIdeal.nD Cert.AttnQkvReferenceIdeal.τ).loc Cert.AttnQkvReferenceIdeal.main_arg1) = m ((c.tc : Thread Cert.AttnQkvIdeal.nD Cert.AttnQkvIdeal.τ).loc Cert.AttnQkvIdeal.main_arg1)
      ∧ m' ((c.tc : Thread Cert.AttnQkvReferenceIdeal.nD Cert.AttnQkvReferenceIdeal.τ).loc Cert.AttnQkvReferenceIdeal.main_arg2) = m ((c.tc : Thread Cert.AttnQkvIdeal.nD Cert.AttnQkvIdeal.τ).loc Cert.AttnQkvIdeal.main_arg2)
      ∧ m' ((c.tc : Thread Cert.AttnQkvReferenceIdeal.nD Cert.AttnQkvReferenceIdeal.τ).loc Cert.AttnQkvReferenceIdeal.main_arg3) = m ((c.tc : Thread Cert.AttnQkvIdeal.nD Cert.AttnQkvIdeal.τ).loc Cert.AttnQkvIdeal.main_arg3)
      ∧ m' ((c.tc : Thread Cert.AttnQkvReferenceIdeal.nD Cert.AttnQkvReferenceIdeal.τ).loc Cert.AttnQkvReferenceIdeal.main_arg4) = m ((c.tc : Thread Cert.AttnQkvIdeal.nD Cert.AttnQkvIdeal.τ).loc Cert.AttnQkvIdeal.main_arg4)
      ∧ m' ((c.tc : Thread Cert.AttnQkvReferenceIdeal.nD Cert.AttnQkvReferenceIdeal.τ).loc Cert.AttnQkvReferenceIdeal.main_arg5) = m ((c.tc : Thread Cert.AttnQkvIdeal.nD Cert.AttnQkvIdeal.τ).loc Cert.AttnQkvIdeal.main_arg5)
      ∧ m' ((c.tc : Thread Cert.AttnQkvReferenceIdeal.nD Cert.AttnQkvReferenceIdeal.τ).loc Cert.AttnQkvReferenceIdeal.main_arg6) = m ((c.tc : Thread Cert.AttnQkvIdeal.nD Cert.AttnQkvIdeal.τ).loc Cert.AttnQkvIdeal.main_arg6)
      ∧ m' ((c.tc : Thread Cert.AttnQkvReferenceIdeal.nD Cert.AttnQkvReferenceIdeal.τ).loc Cert.AttnQkvReferenceIdeal.main_arg7) = m ((c.tc : Thread Cert.AttnQkvIdeal.nD Cert.AttnQkvIdeal.τ).loc Cert.AttnQkvIdeal.main_arg7)) →
    ∃ (v0 : (c : Dev Cert.AttnQkvIdeal.nD) → Buf (Elt Ideal) ((c.tc : Thread Cert.AttnQkvIdeal.nD Cert.AttnQkvIdeal.τ).loc Cert.AttnQkvIdeal.main_v7_0)) (v1 : (c : Dev Cert.AttnQkvIdeal.nD) → Buf (Elt Ideal) ((c.tc : Thread Cert.AttnQkvIdeal.nD Cert.AttnQkvIdeal.τ).loc Cert.AttnQkvIdeal.main_v7_1)) (v2 : (c : Dev Cert.AttnQkvIdeal.nD) → Buf (Elt Ideal) ((c.tc : Thread Cert.AttnQkvIdeal.nD Cert.AttnQkvIdeal.τ).loc Cert.AttnQkvIdeal.main_v7_2)),
      θ_run (Cert.AttnQkvIdeal.defs (F := Ideal)) (onTc (τ := Cert.AttnQkvIdeal.τ) (Cert.AttnQkvIdeal.main (F := Ideal))) ⟨m, fun _ => 0, g⟩ (fun r => ∀ c : Dev Cert.AttnQkvIdeal.nD,
          r.2.mem ((c.tc : Thread Cert.AttnQkvIdeal.nD Cert.AttnQkvIdeal.τ).loc Cert.AttnQkvIdeal.main_v7_0) = v0 c
          ∧ r.2.mem ((c.tc : Thread Cert.AttnQkvIdeal.nD Cert.AttnQkvIdeal.τ).loc Cert.AttnQkvIdeal.main_v7_1) = v1 c
          ∧ r.2.mem ((c.tc : Thread Cert.AttnQkvIdeal.nD Cert.AttnQkvIdeal.τ).loc Cert.AttnQkvIdeal.main_v7_2) = v2 c
          ∧ r.2.mem ((c.tc : Thread Cert.AttnQkvIdeal.nD Cert.AttnQkvIdeal.τ).loc Cert.AttnQkvIdeal.main_arg0) = m ((c.tc : Thread Cert.AttnQkvIdeal.nD Cert.AttnQkvIdeal.τ).loc Cert.AttnQkvIdeal.main_arg0)
          ∧ r.2.mem ((c.tc : Thread Cert.AttnQkvIdeal.nD Cert.AttnQkvIdeal.τ).loc Cert.AttnQkvIdeal.main_arg1) = m ((c.tc : Thread Cert.AttnQkvIdeal.nD Cert.AttnQkvIdeal.τ).loc Cert.AttnQkvIdeal.main_arg1)
          ∧ r.2.mem ((c.tc : Thread Cert.AttnQkvIdeal.nD Cert.AttnQkvIdeal.τ).loc Cert.AttnQkvIdeal.main_arg2) = m ((c.tc : Thread Cert.AttnQkvIdeal.nD Cert.AttnQkvIdeal.τ).loc Cert.AttnQkvIdeal.main_arg2)
          ∧ r.2.mem ((c.tc : Thread Cert.AttnQkvIdeal.nD Cert.AttnQkvIdeal.τ).loc Cert.AttnQkvIdeal.main_arg3) = m ((c.tc : Thread Cert.AttnQkvIdeal.nD Cert.AttnQkvIdeal.τ).loc Cert.AttnQkvIdeal.main_arg3)
          ∧ r.2.mem ((c.tc : Thread Cert.AttnQkvIdeal.nD Cert.AttnQkvIdeal.τ).loc Cert.AttnQkvIdeal.main_arg4) = m ((c.tc : Thread Cert.AttnQkvIdeal.nD Cert.AttnQkvIdeal.τ).loc Cert.AttnQkvIdeal.main_arg4)
          ∧ r.2.mem ((c.tc : Thread Cert.AttnQkvIdeal.nD Cert.AttnQkvIdeal.τ).loc Cert.AttnQkvIdeal.main_arg5) = m ((c.tc : Thread Cert.AttnQkvIdeal.nD Cert.AttnQkvIdeal.τ).loc Cert.AttnQkvIdeal.main_arg5)
          ∧ r.2.mem ((c.tc : Thread Cert.AttnQkvIdeal.nD Cert.AttnQkvIdeal.τ).loc Cert.AttnQkvIdeal.main_arg6) = m ((c.tc : Thread Cert.AttnQkvIdeal.nD Cert.AttnQkvIdeal.τ).loc Cert.AttnQkvIdeal.main_arg6)
          ∧ r.2.mem ((c.tc : Thread Cert.AttnQkvIdeal.nD Cert.AttnQkvIdeal.τ).loc Cert.AttnQkvIdeal.main_arg7) = m ((c.tc : Thread Cert.AttnQkvIdeal.nD Cert.AttnQkvIdeal.τ).loc Cert.AttnQkvIdeal.main_arg7))
      ∧ θ_run (Cert.AttnQkvReferenceIdeal.defs (F := Ideal)) (onTc (τ := Cert.AttnQkvReferenceIdeal.τ) (Cert.AttnQkvReferenceIdeal.main (F := Ideal))) ⟨m', fun _ => 0, g'⟩ (fun r => ∀ c : Dev Cert.AttnQkvReferenceIdeal.nD,
          r.2.mem ((c.tc : Thread Cert.AttnQkvReferenceIdeal.nD Cert.AttnQkvReferenceIdeal.τ).loc Cert.AttnQkvReferenceIdeal.main_v108) = v0 c
          ∧ r.2.mem ((c.tc : Thread Cert.AttnQkvReferenceIdeal.nD Cert.AttnQkvReferenceIdeal.τ).loc Cert.AttnQkvReferenceIdeal.main_v109) = v1 c
          ∧ r.2.mem ((c.tc : Thread Cert.AttnQkvReferenceIdeal.nD Cert.AttnQkvReferenceIdeal.τ).loc Cert.AttnQkvReferenceIdeal.main_v111) = v2 c
          ∧ r.2.mem ((c.tc : Thread Cert.AttnQkvReferenceIdeal.nD Cert.AttnQkvReferenceIdeal.τ).loc Cert.AttnQkvReferenceIdeal.main_arg0) = m' ((c.tc : Thread Cert.AttnQkvReferenceIdeal.nD Cert.AttnQkvReferenceIdeal.τ).loc Cert.AttnQkvReferenceIdeal.main_arg0)
          ∧ r.2.mem ((c.tc : Thread Cert.AttnQkvReferenceIdeal.nD Cert.AttnQkvReferenceIdeal.τ).loc Cert.AttnQkvReferenceIdeal.main_arg1) = m' ((c.tc : Thread Cert.AttnQkvReferenceIdeal.nD Cert.AttnQkvReferenceIdeal.τ).loc Cert.AttnQkvReferenceIdeal.main_arg1)
          ∧ r.2.mem ((c.tc : Thread Cert.AttnQkvReferenceIdeal.nD Cert.AttnQkvReferenceIdeal.τ).loc Cert.AttnQkvReferenceIdeal.main_arg2) = m' ((c.tc : Thread Cert.AttnQkvReferenceIdeal.nD Cert.AttnQkvReferenceIdeal.τ).loc Cert.AttnQkvReferenceIdeal.main_arg2)
          ∧ r.2.mem ((c.tc : Thread Cert.AttnQkvReferenceIdeal.nD Cert.AttnQkvReferenceIdeal.τ).loc Cert.AttnQkvReferenceIdeal.main_arg3) = m' ((c.tc : Thread Cert.AttnQkvReferenceIdeal.nD Cert.AttnQkvReferenceIdeal.τ).loc Cert.AttnQkvReferenceIdeal.main_arg3)
          ∧ r.2.mem ((c.tc : Thread Cert.AttnQkvReferenceIdeal.nD Cert.AttnQkvReferenceIdeal.τ).loc Cert.AttnQkvReferenceIdeal.main_arg4) = m' ((c.tc : Thread Cert.AttnQkvReferenceIdeal.nD Cert.AttnQkvReferenceIdeal.τ).loc Cert.AttnQkvReferenceIdeal.main_arg4)
          ∧ r.2.mem ((c.tc : Thread Cert.AttnQkvReferenceIdeal.nD Cert.AttnQkvReferenceIdeal.τ).loc Cert.AttnQkvReferenceIdeal.main_arg5) = m' ((c.tc : Thread Cert.AttnQkvReferenceIdeal.nD Cert.AttnQkvReferenceIdeal.τ).loc Cert.AttnQkvReferenceIdeal.main_arg5)
          ∧ r.2.mem ((c.tc : Thread Cert.AttnQkvReferenceIdeal.nD Cert.AttnQkvReferenceIdeal.τ).loc Cert.AttnQkvReferenceIdeal.main_arg6) = m' ((c.tc : Thread Cert.AttnQkvReferenceIdeal.nD Cert.AttnQkvReferenceIdeal.τ).loc Cert.AttnQkvReferenceIdeal.main_arg6)
          ∧ r.2.mem ((c.tc : Thread Cert.AttnQkvReferenceIdeal.nD Cert.AttnQkvReferenceIdeal.τ).loc Cert.AttnQkvReferenceIdeal.main_arg7) = m' ((c.tc : Thread Cert.AttnQkvReferenceIdeal.nD Cert.AttnQkvReferenceIdeal.τ).loc Cert.AttnQkvReferenceIdeal.main_arg7))

def preserves_LruOut_LruOutIdeal : Prop :=
  True

def algebraic_LruOutIdeal_LruOutReferenceIdeal [hLruOutIdeal : Cert.LruOutIdeal.Facts] [hLruOutReferenceIdeal : Cert.LruOutReferenceIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutReferenceIdeal.nD Cert.LruOutReferenceIdeal.τ Cert.LruOutReferenceIdeal.sig) → Buf (Elt Ideal) ℓ) (g' : Dev Cert.LruOutReferenceIdeal.nD → PrngReg), Pre_LruOutIdeal m →
    (∀ c : Dev Cert.LruOutIdeal.nD,
      m' ((c.tc : Thread Cert.LruOutReferenceIdeal.nD Cert.LruOutReferenceIdeal.τ).loc Cert.LruOutReferenceIdeal.main_arg0) = m ((c.tc : Thread Cert.LruOutIdeal.nD Cert.LruOutIdeal.τ).loc Cert.LruOutIdeal.main_arg0)
      ∧ m' ((c.tc : Thread Cert.LruOutReferenceIdeal.nD Cert.LruOutReferenceIdeal.τ).loc Cert.LruOutReferenceIdeal.main_arg1) = m ((c.tc : Thread Cert.LruOutIdeal.nD Cert.LruOutIdeal.τ).loc Cert.LruOutIdeal.main_arg1)
      ∧ m' ((c.tc : Thread Cert.LruOutReferenceIdeal.nD Cert.LruOutReferenceIdeal.τ).loc Cert.LruOutReferenceIdeal.main_arg2) = m ((c.tc : Thread Cert.LruOutIdeal.nD Cert.LruOutIdeal.τ).loc Cert.LruOutIdeal.main_arg2)
      ∧ m' ((c.tc : Thread Cert.LruOutReferenceIdeal.nD Cert.LruOutReferenceIdeal.τ).loc Cert.LruOutReferenceIdeal.main_arg3) = m ((c.tc : Thread Cert.LruOutIdeal.nD Cert.LruOutIdeal.τ).loc Cert.LruOutIdeal.main_arg3)
      ∧ m' ((c.tc : Thread Cert.LruOutReferenceIdeal.nD Cert.LruOutReferenceIdeal.τ).loc Cert.LruOutReferenceIdeal.main_arg4) = m ((c.tc : Thread Cert.LruOutIdeal.nD Cert.LruOutIdeal.τ).loc Cert.LruOutIdeal.main_arg4)
      ∧ m' ((c.tc : Thread Cert.LruOutReferenceIdeal.nD Cert.LruOutReferenceIdeal.τ).loc Cert.LruOutReferenceIdeal.main_arg5) = m ((c.tc : Thread Cert.LruOutIdeal.nD Cert.LruOutIdeal.τ).loc Cert.LruOutIdeal.main_arg5)) →
    ∃ (v0 : (c : Dev Cert.LruOutIdeal.nD) → Buf (Elt Ideal) ((c.tc : Thread Cert.LruOutIdeal.nD Cert.LruOutIdeal.τ).loc Cert.LruOutIdeal.main_v0)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v0) = v0 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1)
          ∧ r.2.mem ((c.tc : Thread Cert.LruOutIdeal.nD Cert.LruOutIdeal.τ).loc Cert.LruOutIdeal.main_arg2) = m ((c.tc : Thread Cert.LruOutIdeal.nD Cert.LruOutIdeal.τ).loc Cert.LruOutIdeal.main_arg2)
          ∧ r.2.mem ((c.tc : Thread Cert.LruOutIdeal.nD Cert.LruOutIdeal.τ).loc Cert.LruOutIdeal.main_arg3) = m ((c.tc : Thread Cert.LruOutIdeal.nD Cert.LruOutIdeal.τ).loc Cert.LruOutIdeal.main_arg3)
          ∧ r.2.mem ((c.tc : Thread Cert.LruOutIdeal.nD Cert.LruOutIdeal.τ).loc Cert.LruOutIdeal.main_arg4) = m ((c.tc : Thread Cert.LruOutIdeal.nD Cert.LruOutIdeal.τ).loc Cert.LruOutIdeal.main_arg4)
          ∧ r.2.mem ((c.tc : Thread Cert.LruOutIdeal.nD Cert.LruOutIdeal.τ).loc Cert.LruOutIdeal.main_arg5) = m ((c.tc : Thread Cert.LruOutIdeal.nD Cert.LruOutIdeal.τ).loc Cert.LruOutIdeal.main_arg5))
      ∧ θ_run (Cert.LruOutReferenceIdeal.defs (F := Ideal)) (onTc (τ := Cert.LruOutReferenceIdeal.τ) (Cert.LruOutReferenceIdeal.main (F := Ideal))) ⟨m', fun _ => 0, g'⟩ (fun r => ∀ c : Dev Cert.LruOutReferenceIdeal.nD,
          r.2.mem ((c.tc : Thread Cert.LruOutReferenceIdeal.nD Cert.LruOutReferenceIdeal.τ).loc Cert.LruOutReferenceIdeal.main_v21) = v0 c
          ∧ r.2.mem ((c.tc : Thread Cert.LruOutReferenceIdeal.nD Cert.LruOutReferenceIdeal.τ).loc Cert.LruOutReferenceIdeal.main_arg0) = m' ((c.tc : Thread Cert.LruOutReferenceIdeal.nD Cert.LruOutReferenceIdeal.τ).loc Cert.LruOutReferenceIdeal.main_arg0)
          ∧ r.2.mem ((c.tc : Thread Cert.LruOutReferenceIdeal.nD Cert.LruOutReferenceIdeal.τ).loc Cert.LruOutReferenceIdeal.main_arg1) = m' ((c.tc : Thread Cert.LruOutReferenceIdeal.nD Cert.LruOutReferenceIdeal.τ).loc Cert.LruOutReferenceIdeal.main_arg1)
          ∧ r.2.mem ((c.tc : Thread Cert.LruOutReferenceIdeal.nD Cert.LruOutReferenceIdeal.τ).loc Cert.LruOutReferenceIdeal.main_arg2) = m' ((c.tc : Thread Cert.LruOutReferenceIdeal.nD Cert.LruOutReferenceIdeal.τ).loc Cert.LruOutReferenceIdeal.main_arg2)
          ∧ r.2.mem ((c.tc : Thread Cert.LruOutReferenceIdeal.nD Cert.LruOutReferenceIdeal.τ).loc Cert.LruOutReferenceIdeal.main_arg3) = m' ((c.tc : Thread Cert.LruOutReferenceIdeal.nD Cert.LruOutReferenceIdeal.τ).loc Cert.LruOutReferenceIdeal.main_arg3)
          ∧ r.2.mem ((c.tc : Thread Cert.LruOutReferenceIdeal.nD Cert.LruOutReferenceIdeal.τ).loc Cert.LruOutReferenceIdeal.main_arg4) = m' ((c.tc : Thread Cert.LruOutReferenceIdeal.nD Cert.LruOutReferenceIdeal.τ).loc Cert.LruOutReferenceIdeal.main_arg4)
          ∧ r.2.mem ((c.tc : Thread Cert.LruOutReferenceIdeal.nD Cert.LruOutReferenceIdeal.τ).loc Cert.LruOutReferenceIdeal.main_arg5) = m' ((c.tc : Thread Cert.LruOutReferenceIdeal.nD Cert.LruOutReferenceIdeal.τ).loc Cert.LruOutReferenceIdeal.main_arg5))

def preserves_S5Out_S5OutIdeal : Prop :=
  True

def algebraic_S5OutIdeal_S5OutReferenceIdeal [hS5OutIdeal : Cert.S5OutIdeal.Facts] [hS5OutReferenceIdeal : Cert.S5OutReferenceIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutReferenceIdeal.nD Cert.S5OutReferenceIdeal.τ Cert.S5OutReferenceIdeal.sig) → Buf (Elt Ideal) ℓ) (g' : Dev Cert.S5OutReferenceIdeal.nD → PrngReg), Pre_S5OutIdeal m →
    (∀ c : Dev Cert.S5OutIdeal.nD,
      m' ((c.tc : Thread Cert.S5OutReferenceIdeal.nD Cert.S5OutReferenceIdeal.τ).loc Cert.S5OutReferenceIdeal.main_arg0) = m ((c.tc : Thread Cert.S5OutIdeal.nD Cert.S5OutIdeal.τ).loc Cert.S5OutIdeal.main_arg0)
      ∧ m' ((c.tc : Thread Cert.S5OutReferenceIdeal.nD Cert.S5OutReferenceIdeal.τ).loc Cert.S5OutReferenceIdeal.main_arg1) = m ((c.tc : Thread Cert.S5OutIdeal.nD Cert.S5OutIdeal.τ).loc Cert.S5OutIdeal.main_arg1)
      ∧ m' ((c.tc : Thread Cert.S5OutReferenceIdeal.nD Cert.S5OutReferenceIdeal.τ).loc Cert.S5OutReferenceIdeal.main_arg2) = m ((c.tc : Thread Cert.S5OutIdeal.nD Cert.S5OutIdeal.τ).loc Cert.S5OutIdeal.main_arg2)
      ∧ m' ((c.tc : Thread Cert.S5OutReferenceIdeal.nD Cert.S5OutReferenceIdeal.τ).loc Cert.S5OutReferenceIdeal.main_arg3) = m ((c.tc : Thread Cert.S5OutIdeal.nD Cert.S5OutIdeal.τ).loc Cert.S5OutIdeal.main_arg3)
      ∧ m' ((c.tc : Thread Cert.S5OutReferenceIdeal.nD Cert.S5OutReferenceIdeal.τ).loc Cert.S5OutReferenceIdeal.main_arg4) = m ((c.tc : Thread Cert.S5OutIdeal.nD Cert.S5OutIdeal.τ).loc Cert.S5OutIdeal.main_arg4)
      ∧ m' ((c.tc : Thread Cert.S5OutReferenceIdeal.nD Cert.S5OutReferenceIdeal.τ).loc Cert.S5OutReferenceIdeal.main_arg5) = m ((c.tc : Thread Cert.S5OutIdeal.nD Cert.S5OutIdeal.τ).loc Cert.S5OutIdeal.main_arg5)
      ∧ m' ((c.tc : Thread Cert.S5OutReferenceIdeal.nD Cert.S5OutReferenceIdeal.τ).loc Cert.S5OutReferenceIdeal.main_arg6) = m ((c.tc : Thread Cert.S5OutIdeal.nD Cert.S5OutIdeal.τ).loc Cert.S5OutIdeal.main_arg6)
      ∧ m' ((c.tc : Thread Cert.S5OutReferenceIdeal.nD Cert.S5OutReferenceIdeal.τ).loc Cert.S5OutReferenceIdeal.main_arg7) = m ((c.tc : Thread Cert.S5OutIdeal.nD Cert.S5OutIdeal.τ).loc Cert.S5OutIdeal.main_arg7)) →
    ∃ (v0 : (c : Dev Cert.S5OutIdeal.nD) → Buf (Elt Ideal) ((c.tc : Thread Cert.S5OutIdeal.nD Cert.S5OutIdeal.τ).loc Cert.S5OutIdeal.main_v0)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v0) = v0 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
          ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4)
          ∧ r.2.mem ((c.tc : Thread Cert.S5OutIdeal.nD Cert.S5OutIdeal.τ).loc Cert.S5OutIdeal.main_arg5) = m ((c.tc : Thread Cert.S5OutIdeal.nD Cert.S5OutIdeal.τ).loc Cert.S5OutIdeal.main_arg5)
          ∧ r.2.mem ((c.tc : Thread Cert.S5OutIdeal.nD Cert.S5OutIdeal.τ).loc Cert.S5OutIdeal.main_arg6) = m ((c.tc : Thread Cert.S5OutIdeal.nD Cert.S5OutIdeal.τ).loc Cert.S5OutIdeal.main_arg6)
          ∧ r.2.mem ((c.tc : Thread Cert.S5OutIdeal.nD Cert.S5OutIdeal.τ).loc Cert.S5OutIdeal.main_arg7) = m ((c.tc : Thread Cert.S5OutIdeal.nD Cert.S5OutIdeal.τ).loc Cert.S5OutIdeal.main_arg7))
      ∧ θ_run (Cert.S5OutReferenceIdeal.defs (F := Ideal)) (onTc (τ := Cert.S5OutReferenceIdeal.τ) (Cert.S5OutReferenceIdeal.main (F := Ideal))) ⟨m', fun _ => 0, g'⟩ (fun r => ∀ c : Dev Cert.S5OutReferenceIdeal.nD,
          r.2.mem ((c.tc : Thread Cert.S5OutReferenceIdeal.nD Cert.S5OutReferenceIdeal.τ).loc Cert.S5OutReferenceIdeal.main_v31) = v0 c
          ∧ r.2.mem ((c.tc : Thread Cert.S5OutReferenceIdeal.nD Cert.S5OutReferenceIdeal.τ).loc Cert.S5OutReferenceIdeal.main_arg0) = m' ((c.tc : Thread Cert.S5OutReferenceIdeal.nD Cert.S5OutReferenceIdeal.τ).loc Cert.S5OutReferenceIdeal.main_arg0)
          ∧ r.2.mem ((c.tc : Thread Cert.S5OutReferenceIdeal.nD Cert.S5OutReferenceIdeal.τ).loc Cert.S5OutReferenceIdeal.main_arg1) = m' ((c.tc : Thread Cert.S5OutReferenceIdeal.nD Cert.S5OutReferenceIdeal.τ).loc Cert.S5OutReferenceIdeal.main_arg1)
          ∧ r.2.mem ((c.tc : Thread Cert.S5OutReferenceIdeal.nD Cert.S5OutReferenceIdeal.τ).loc Cert.S5OutReferenceIdeal.main_arg2) = m' ((c.tc : Thread Cert.S5OutReferenceIdeal.nD Cert.S5OutReferenceIdeal.τ).loc Cert.S5OutReferenceIdeal.main_arg2)
          ∧ r.2.mem ((c.tc : Thread Cert.S5OutReferenceIdeal.nD Cert.S5OutReferenceIdeal.τ).loc Cert.S5OutReferenceIdeal.main_arg3) = m' ((c.tc : Thread Cert.S5OutReferenceIdeal.nD Cert.S5OutReferenceIdeal.τ).loc Cert.S5OutReferenceIdeal.main_arg3)
          ∧ r.2.mem ((c.tc : Thread Cert.S5OutReferenceIdeal.nD Cert.S5OutReferenceIdeal.τ).loc Cert.S5OutReferenceIdeal.main_arg4) = m' ((c.tc : Thread Cert.S5OutReferenceIdeal.nD Cert.S5OutReferenceIdeal.τ).loc Cert.S5OutReferenceIdeal.main_arg4)
          ∧ r.2.mem ((c.tc : Thread Cert.S5OutReferenceIdeal.nD Cert.S5OutReferenceIdeal.τ).loc Cert.S5OutReferenceIdeal.main_arg5) = m' ((c.tc : Thread Cert.S5OutReferenceIdeal.nD Cert.S5OutReferenceIdeal.τ).loc Cert.S5OutReferenceIdeal.main_arg5)
          ∧ r.2.mem ((c.tc : Thread Cert.S5OutReferenceIdeal.nD Cert.S5OutReferenceIdeal.τ).loc Cert.S5OutReferenceIdeal.main_arg6) = m' ((c.tc : Thread Cert.S5OutReferenceIdeal.nD Cert.S5OutReferenceIdeal.τ).loc Cert.S5OutReferenceIdeal.main_arg6)
          ∧ r.2.mem ((c.tc : Thread Cert.S5OutReferenceIdeal.nD Cert.S5OutReferenceIdeal.τ).loc Cert.S5OutReferenceIdeal.main_arg7) = m' ((c.tc : Thread Cert.S5OutReferenceIdeal.nD Cert.S5OutReferenceIdeal.τ).loc Cert.S5OutReferenceIdeal.main_arg7))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_LruCoef_LruCoefIdeal : Prop :=
  True

def algebraic_LruCoefIdeal_LruCoefReferenceIdeal [hLruCoefIdeal : Cert.LruCoefIdeal.Facts] [hLruCoefReferenceIdeal : Cert.LruCoefReferenceIdeal.Facts] : Prop :=
  ∀ (m : (ℓ : Loc Cert.LruCoefIdeal.nD Cert.LruCoefIdeal.τ Cert.LruCoefIdeal.sig) → Buf (Elt Ideal) ℓ) (g : Dev Cert.LruCoefIdeal.nD → PrngReg)
    (m' : (ℓ : Loc Cert.LruCoefReferenceIdeal.nD Cert.LruCoefReferenceIdeal.τ Cert.LruCoefReferenceIdeal.sig) → Buf (Elt Ideal) ℓ) (g' : Dev Cert.LruCoefReferenceIdeal.nD → PrngReg), Pre_LruCoefIdeal m →
    (∀ c : Dev Cert.LruCoefIdeal.nD,
      m' ((c.tc : Thread Cert.LruCoefReferenceIdeal.nD Cert.LruCoefReferenceIdeal.τ).loc Cert.LruCoefReferenceIdeal.main_arg0) = m ((c.tc : Thread Cert.LruCoefIdeal.nD Cert.LruCoefIdeal.τ).loc Cert.LruCoefIdeal.main_arg0)
      ∧ m' ((c.tc : Thread Cert.LruCoefReferenceIdeal.nD Cert.LruCoefReferenceIdeal.τ).loc Cert.LruCoefReferenceIdeal.main_arg1) = m ((c.tc : Thread Cert.LruCoefIdeal.nD Cert.LruCoefIdeal.τ).loc Cert.LruCoefIdeal.main_arg1)
      ∧ m' ((c.tc : Thread Cert.LruCoefReferenceIdeal.nD Cert.LruCoefReferenceIdeal.τ).loc Cert.LruCoefReferenceIdeal.main_arg2) = m ((c.tc : Thread Cert.LruCoefIdeal.nD Cert.LruCoefIdeal.τ).loc Cert.LruCoefIdeal.main_arg2)
      ∧ m' ((c.tc : Thread Cert.LruCoefReferenceIdeal.nD Cert.LruCoefReferenceIdeal.τ).loc Cert.LruCoefReferenceIdeal.main_arg3) = m ((c.tc : Thread Cert.LruCoefIdeal.nD Cert.LruCoefIdeal.τ).loc Cert.LruCoefIdeal.main_arg3)
      ∧ m' ((c.tc : Thread Cert.LruCoefReferenceIdeal.nD Cert.LruCoefReferenceIdeal.τ).loc Cert.LruCoefReferenceIdeal.main_arg4) = m ((c.tc : Thread Cert.LruCoefIdeal.nD Cert.LruCoefIdeal.τ).loc Cert.LruCoefIdeal.main_arg4)
      ∧ m' ((c.tc : Thread Cert.LruCoefReferenceIdeal.nD Cert.LruCoefReferenceIdeal.τ).loc Cert.LruCoefReferenceIdeal.main_arg5) = m ((c.tc : Thread Cert.LruCoefIdeal.nD Cert.LruCoefIdeal.τ).loc Cert.LruCoefIdeal.main_arg5)
      ∧ m' ((c.tc : Thread Cert.LruCoefReferenceIdeal.nD Cert.LruCoefReferenceIdeal.τ).loc Cert.LruCoefReferenceIdeal.main_arg6) = m ((c.tc : Thread Cert.LruCoefIdeal.nD Cert.LruCoefIdeal.τ).loc Cert.LruCoefIdeal.main_arg6)
      ∧ m' ((c.tc : Thread Cert.LruCoefReferenceIdeal.nD Cert.LruCoefReferenceIdeal.τ).loc Cert.LruCoefReferenceIdeal.main_arg7) = m ((c.tc : Thread Cert.LruCoefIdeal.nD Cert.LruCoefIdeal.τ).loc Cert.LruCoefIdeal.main_arg7)) →
    ∃ (v0 : (c : Dev Cert.LruCoefIdeal.nD) → Buf (Elt Ideal) ((c.tc : Thread Cert.LruCoefIdeal.nD Cert.LruCoefIdeal.τ).loc Cert.LruCoefIdeal.main_v0_0)) (v1 : (c : Dev Cert.LruCoefIdeal.nD) → Buf (Elt Ideal) ((c.tc : Thread Cert.LruCoefIdeal.nD Cert.LruCoefIdeal.τ).loc Cert.LruCoefIdeal.main_v0_1)),
      θ_run (Cert.LruCoefIdeal.defs (F := Ideal)) (onTc (τ := Cert.LruCoefIdeal.τ) (Cert.LruCoefIdeal.main (F := Ideal))) ⟨m, fun _ => 0, g⟩ (fun r => ∀ c : Dev Cert.LruCoefIdeal.nD,
          r.2.mem ((c.tc : Thread Cert.LruCoefIdeal.nD Cert.LruCoefIdeal.τ).loc Cert.LruCoefIdeal.main_v0_0) = v0 c
          ∧ r.2.mem ((c.tc : Thread Cert.LruCoefIdeal.nD Cert.LruCoefIdeal.τ).loc Cert.LruCoefIdeal.main_v0_1) = v1 c
          ∧ r.2.mem ((c.tc : Thread Cert.LruCoefIdeal.nD Cert.LruCoefIdeal.τ).loc Cert.LruCoefIdeal.main_arg0) = m ((c.tc : Thread Cert.LruCoefIdeal.nD Cert.LruCoefIdeal.τ).loc Cert.LruCoefIdeal.main_arg0)
          ∧ r.2.mem ((c.tc : Thread Cert.LruCoefIdeal.nD Cert.LruCoefIdeal.τ).loc Cert.LruCoefIdeal.main_arg1) = m ((c.tc : Thread Cert.LruCoefIdeal.nD Cert.LruCoefIdeal.τ).loc Cert.LruCoefIdeal.main_arg1)
          ∧ r.2.mem ((c.tc : Thread Cert.LruCoefIdeal.nD Cert.LruCoefIdeal.τ).loc Cert.LruCoefIdeal.main_arg2) = m ((c.tc : Thread Cert.LruCoefIdeal.nD Cert.LruCoefIdeal.τ).loc Cert.LruCoefIdeal.main_arg2)
          ∧ r.2.mem ((c.tc : Thread Cert.LruCoefIdeal.nD Cert.LruCoefIdeal.τ).loc Cert.LruCoefIdeal.main_arg3) = m ((c.tc : Thread Cert.LruCoefIdeal.nD Cert.LruCoefIdeal.τ).loc Cert.LruCoefIdeal.main_arg3)
          ∧ r.2.mem ((c.tc : Thread Cert.LruCoefIdeal.nD Cert.LruCoefIdeal.τ).loc Cert.LruCoefIdeal.main_arg4) = m ((c.tc : Thread Cert.LruCoefIdeal.nD Cert.LruCoefIdeal.τ).loc Cert.LruCoefIdeal.main_arg4)
          ∧ r.2.mem ((c.tc : Thread Cert.LruCoefIdeal.nD Cert.LruCoefIdeal.τ).loc Cert.LruCoefIdeal.main_arg5) = m ((c.tc : Thread Cert.LruCoefIdeal.nD Cert.LruCoefIdeal.τ).loc Cert.LruCoefIdeal.main_arg5)
          ∧ r.2.mem ((c.tc : Thread Cert.LruCoefIdeal.nD Cert.LruCoefIdeal.τ).loc Cert.LruCoefIdeal.main_arg6) = m ((c.tc : Thread Cert.LruCoefIdeal.nD Cert.LruCoefIdeal.τ).loc Cert.LruCoefIdeal.main_arg6)
          ∧ r.2.mem ((c.tc : Thread Cert.LruCoefIdeal.nD Cert.LruCoefIdeal.τ).loc Cert.LruCoefIdeal.main_arg7) = m ((c.tc : Thread Cert.LruCoefIdeal.nD Cert.LruCoefIdeal.τ).loc Cert.LruCoefIdeal.main_arg7))
      ∧ θ_run (Cert.LruCoefReferenceIdeal.defs (F := Ideal)) (onTc (τ := Cert.LruCoefReferenceIdeal.τ) (Cert.LruCoefReferenceIdeal.main (F := Ideal))) ⟨m', fun _ => 0, g'⟩ (fun r => ∀ c : Dev Cert.LruCoefReferenceIdeal.nD,
          r.2.mem ((c.tc : Thread Cert.LruCoefReferenceIdeal.nD Cert.LruCoefReferenceIdeal.τ).loc Cert.LruCoefReferenceIdeal.main_v89) = v0 c
          ∧ r.2.mem ((c.tc : Thread Cert.LruCoefReferenceIdeal.nD Cert.LruCoefReferenceIdeal.τ).loc Cert.LruCoefReferenceIdeal.main_v110) = v1 c
          ∧ r.2.mem ((c.tc : Thread Cert.LruCoefReferenceIdeal.nD Cert.LruCoefReferenceIdeal.τ).loc Cert.LruCoefReferenceIdeal.main_arg0) = m' ((c.tc : Thread Cert.LruCoefReferenceIdeal.nD Cert.LruCoefReferenceIdeal.τ).loc Cert.LruCoefReferenceIdeal.main_arg0)
          ∧ r.2.mem ((c.tc : Thread Cert.LruCoefReferenceIdeal.nD Cert.LruCoefReferenceIdeal.τ).loc Cert.LruCoefReferenceIdeal.main_arg1) = m' ((c.tc : Thread Cert.LruCoefReferenceIdeal.nD Cert.LruCoefReferenceIdeal.τ).loc Cert.LruCoefReferenceIdeal.main_arg1)
          ∧ r.2.mem ((c.tc : Thread Cert.LruCoefReferenceIdeal.nD Cert.LruCoefReferenceIdeal.τ).loc Cert.LruCoefReferenceIdeal.main_arg2) = m' ((c.tc : Thread Cert.LruCoefReferenceIdeal.nD Cert.LruCoefReferenceIdeal.τ).loc Cert.LruCoefReferenceIdeal.main_arg2)
          ∧ r.2.mem ((c.tc : Thread Cert.LruCoefReferenceIdeal.nD Cert.LruCoefReferenceIdeal.τ).loc Cert.LruCoefReferenceIdeal.main_arg3) = m' ((c.tc : Thread Cert.LruCoefReferenceIdeal.nD Cert.LruCoefReferenceIdeal.τ).loc Cert.LruCoefReferenceIdeal.main_arg3)
          ∧ r.2.mem ((c.tc : Thread Cert.LruCoefReferenceIdeal.nD Cert.LruCoefReferenceIdeal.τ).loc Cert.LruCoefReferenceIdeal.main_arg4) = m' ((c.tc : Thread Cert.LruCoefReferenceIdeal.nD Cert.LruCoefReferenceIdeal.τ).loc Cert.LruCoefReferenceIdeal.main_arg4)
          ∧ r.2.mem ((c.tc : Thread Cert.LruCoefReferenceIdeal.nD Cert.LruCoefReferenceIdeal.τ).loc Cert.LruCoefReferenceIdeal.main_arg5) = m' ((c.tc : Thread Cert.LruCoefReferenceIdeal.nD Cert.LruCoefReferenceIdeal.τ).loc Cert.LruCoefReferenceIdeal.main_arg5)
          ∧ r.2.mem ((c.tc : Thread Cert.LruCoefReferenceIdeal.nD Cert.LruCoefReferenceIdeal.τ).loc Cert.LruCoefReferenceIdeal.main_arg6) = m' ((c.tc : Thread Cert.LruCoefReferenceIdeal.nD Cert.LruCoefReferenceIdeal.τ).loc Cert.LruCoefReferenceIdeal.main_arg6)
          ∧ r.2.mem ((c.tc : Thread Cert.LruCoefReferenceIdeal.nD Cert.LruCoefReferenceIdeal.τ).loc Cert.LruCoefReferenceIdeal.main_arg7) = m' ((c.tc : Thread Cert.LruCoefReferenceIdeal.nD Cert.LruCoefReferenceIdeal.τ).loc Cert.LruCoefReferenceIdeal.main_arg7))

def preserves_FlashCtx_FlashCtxIdeal : Prop :=
  True

def algebraic_FlashCtxIdeal_FlashCtxReferenceIdeal_pre_finite_ctx [hFlashCtxIdeal : Cert.FlashCtxIdeal.Facts] [hFlashCtxReferenceIdeal : Cert.FlashCtxReferenceIdeal.Facts] [hPre_finite_ctx : Cert.Pre_finite_ctx.Facts] : Prop :=
  ∀ (m : (ℓ : Loc Cert.FlashCtxIdeal.nD Cert.FlashCtxIdeal.τ Cert.FlashCtxIdeal.sig) → Buf (Elt Ideal) ℓ) (g : Dev Cert.FlashCtxIdeal.nD → PrngReg)
    (m' : (ℓ : Loc Cert.FlashCtxReferenceIdeal.nD Cert.FlashCtxReferenceIdeal.τ Cert.FlashCtxReferenceIdeal.sig) → Buf (Elt Ideal) ℓ) (g' : Dev Cert.FlashCtxReferenceIdeal.nD → PrngReg), Pre_FlashCtxIdeal_finite_ctx m →
    (∀ c : Dev Cert.FlashCtxIdeal.nD,
      m' ((c.tc : Thread Cert.FlashCtxReferenceIdeal.nD Cert.FlashCtxReferenceIdeal.τ).loc Cert.FlashCtxReferenceIdeal.main_arg0) = m ((c.tc : Thread Cert.FlashCtxIdeal.nD Cert.FlashCtxIdeal.τ).loc Cert.FlashCtxIdeal.main_arg0)
      ∧ m' ((c.tc : Thread Cert.FlashCtxReferenceIdeal.nD Cert.FlashCtxReferenceIdeal.τ).loc Cert.FlashCtxReferenceIdeal.main_arg1) = m ((c.tc : Thread Cert.FlashCtxIdeal.nD Cert.FlashCtxIdeal.τ).loc Cert.FlashCtxIdeal.main_arg1)
      ∧ m' ((c.tc : Thread Cert.FlashCtxReferenceIdeal.nD Cert.FlashCtxReferenceIdeal.τ).loc Cert.FlashCtxReferenceIdeal.main_arg2) = m ((c.tc : Thread Cert.FlashCtxIdeal.nD Cert.FlashCtxIdeal.τ).loc Cert.FlashCtxIdeal.main_arg2)) →
    ∃ (v0 : (c : Dev Cert.FlashCtxIdeal.nD) → Buf (Elt Ideal) ((c.tc : Thread Cert.FlashCtxIdeal.nD Cert.FlashCtxIdeal.τ).loc Cert.FlashCtxIdeal.main_v0)),
      θ_run (Cert.FlashCtxIdeal.defs (F := Ideal)) (onTc (τ := Cert.FlashCtxIdeal.τ) (Cert.FlashCtxIdeal.main (F := Ideal))) ⟨m, fun _ => 0, g⟩ (fun r => ∀ c : Dev Cert.FlashCtxIdeal.nD,
          r.2.mem ((c.tc : Thread Cert.FlashCtxIdeal.nD Cert.FlashCtxIdeal.τ).loc Cert.FlashCtxIdeal.main_v0) = v0 c
          ∧ r.2.mem ((c.tc : Thread Cert.FlashCtxIdeal.nD Cert.FlashCtxIdeal.τ).loc Cert.FlashCtxIdeal.main_arg0) = m ((c.tc : Thread Cert.FlashCtxIdeal.nD Cert.FlashCtxIdeal.τ).loc Cert.FlashCtxIdeal.main_arg0)
          ∧ r.2.mem ((c.tc : Thread Cert.FlashCtxIdeal.nD Cert.FlashCtxIdeal.τ).loc Cert.FlashCtxIdeal.main_arg1) = m ((c.tc : Thread Cert.FlashCtxIdeal.nD Cert.FlashCtxIdeal.τ).loc Cert.FlashCtxIdeal.main_arg1)
          ∧ r.2.mem ((c.tc : Thread Cert.FlashCtxIdeal.nD Cert.FlashCtxIdeal.τ).loc Cert.FlashCtxIdeal.main_arg2) = m ((c.tc : Thread Cert.FlashCtxIdeal.nD Cert.FlashCtxIdeal.τ).loc Cert.FlashCtxIdeal.main_arg2))
      ∧ θ_run (Cert.FlashCtxReferenceIdeal.defs (F := Ideal)) (onTc (τ := Cert.FlashCtxReferenceIdeal.τ) (Cert.FlashCtxReferenceIdeal.main (F := Ideal))) ⟨m', fun _ => 0, g'⟩ (fun r => ∀ c : Dev Cert.FlashCtxReferenceIdeal.nD,
          r.2.mem ((c.tc : Thread Cert.FlashCtxReferenceIdeal.nD Cert.FlashCtxReferenceIdeal.τ).loc Cert.FlashCtxReferenceIdeal.main_v28) = v0 c
          ∧ r.2.mem ((c.tc : Thread Cert.FlashCtxReferenceIdeal.nD Cert.FlashCtxReferenceIdeal.τ).loc Cert.FlashCtxReferenceIdeal.main_arg0) = m' ((c.tc : Thread Cert.FlashCtxReferenceIdeal.nD Cert.FlashCtxReferenceIdeal.τ).loc Cert.FlashCtxReferenceIdeal.main_arg0)
          ∧ r.2.mem ((c.tc : Thread Cert.FlashCtxReferenceIdeal.nD Cert.FlashCtxReferenceIdeal.τ).loc Cert.FlashCtxReferenceIdeal.main_arg1) = m' ((c.tc : Thread Cert.FlashCtxReferenceIdeal.nD Cert.FlashCtxReferenceIdeal.τ).loc Cert.FlashCtxReferenceIdeal.main_arg1)
          ∧ r.2.mem ((c.tc : Thread Cert.FlashCtxReferenceIdeal.nD Cert.FlashCtxReferenceIdeal.τ).loc Cert.FlashCtxReferenceIdeal.main_arg2) = m' ((c.tc : Thread Cert.FlashCtxReferenceIdeal.nD Cert.FlashCtxReferenceIdeal.τ).loc Cert.FlashCtxReferenceIdeal.main_arg2))

def Claim : Prop :=
  ∃ (hKernel : Cert.Kernel.Facts) (hKernelIdeal : Cert.KernelIdeal.Facts) (hReferenceIdeal : Cert.ReferenceIdeal.Facts) (hFinalNorm : Cert.FinalNorm.Facts) (hFinalNormIdeal : Cert.FinalNormIdeal.Facts) (hFinalNormReferenceIdeal : Cert.FinalNormReferenceIdeal.Facts) (hResidMatmul : Cert.ResidMatmul.Facts) (hResidMatmulIdeal : Cert.ResidMatmulIdeal.Facts) (hResidMatmulReferenceIdeal : Cert.ResidMatmulReferenceIdeal.Facts) (hNormMatmul : Cert.NormMatmul.Facts) (hNormMatmulIdeal : Cert.NormMatmulIdeal.Facts) (hNormMatmulReferenceIdeal : Cert.NormMatmulReferenceIdeal.Facts) (hResidLast : Cert.ResidLast.Facts) (hResidLastIdeal : Cert.ResidLastIdeal.Facts) (hResidLastReferenceIdeal : Cert.ResidLastReferenceIdeal.Facts) (hNormNarrow : Cert.NormNarrow.Facts) (hNormNarrowIdeal : Cert.NormNarrowIdeal.Facts) (hNormNarrowReferenceIdeal : Cert.NormNarrowReferenceIdeal.Facts) (hAttnQkv : Cert.AttnQkv.Facts) (hAttnQkvIdeal : Cert.AttnQkvIdeal.Facts) (hAttnQkvReferenceIdeal : Cert.AttnQkvReferenceIdeal.Facts) (hLruOut : Cert.LruOut.Facts) (hLruOutIdeal : Cert.LruOutIdeal.Facts) (hLruOutReferenceIdeal : Cert.LruOutReferenceIdeal.Facts) (hS5Out : Cert.S5Out.Facts) (hS5OutIdeal : Cert.S5OutIdeal.Facts) (hS5OutReferenceIdeal : Cert.S5OutReferenceIdeal.Facts) (hModulation : Cert.Modulation.Facts) (hModulationIdeal : Cert.ModulationIdeal.Facts) (hModulationReferenceIdeal : Cert.ModulationReferenceIdeal.Facts) (hLruCoef : Cert.LruCoef.Facts) (hLruCoefIdeal : Cert.LruCoefIdeal.Facts) (hLruCoefReferenceIdeal : Cert.LruCoefReferenceIdeal.Facts) (hFlashCtx : Cert.FlashCtx.Facts) (hFlashCtxIdeal : Cert.FlashCtxIdeal.Facts) (hFlashCtxReferenceIdeal : Cert.FlashCtxReferenceIdeal.Facts) (hPre_finite : Cert.Pre_finite.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_ResidMatmul (hResidMatmul := hResidMatmul)
    ∧ quiescent_ResidMatmulIdeal (hResidMatmulIdeal := hResidMatmulIdeal)
    ∧ quiescent_ResidMatmulReferenceIdeal (hResidMatmulReferenceIdeal := hResidMatmulReferenceIdeal)
    ∧ quiescent_NormMatmul (hNormMatmul := hNormMatmul)
    ∧ quiescent_NormMatmulIdeal (hNormMatmulIdeal := hNormMatmulIdeal)
    ∧ quiescent_NormMatmulReferenceIdeal (hNormMatmulReferenceIdeal := hNormMatmulReferenceIdeal)
    ∧ quiescent_ResidLast (hResidLast := hResidLast)
    ∧ quiescent_ResidLastIdeal (hResidLastIdeal := hResidLastIdeal)
    ∧ quiescent_ResidLastReferenceIdeal (hResidLastReferenceIdeal := hResidLastReferenceIdeal)
    ∧ quiescent_NormNarrow (hNormNarrow := hNormNarrow)
    ∧ quiescent_NormNarrowIdeal (hNormNarrowIdeal := hNormNarrowIdeal)
    ∧ quiescent_NormNarrowReferenceIdeal (hNormNarrowReferenceIdeal := hNormNarrowReferenceIdeal)
    ∧ quiescent_AttnQkv (hAttnQkv := hAttnQkv)
    ∧ quiescent_AttnQkvIdeal (hAttnQkvIdeal := hAttnQkvIdeal)
    ∧ quiescent_AttnQkvReferenceIdeal (hAttnQkvReferenceIdeal := hAttnQkvReferenceIdeal)
    ∧ quiescent_LruOut (hLruOut := hLruOut)
    ∧ quiescent_LruOutIdeal (hLruOutIdeal := hLruOutIdeal)
    ∧ quiescent_LruOutReferenceIdeal (hLruOutReferenceIdeal := hLruOutReferenceIdeal)
    ∧ quiescent_S5Out (hS5Out := hS5Out)
    ∧ quiescent_S5OutIdeal (hS5OutIdeal := hS5OutIdeal)
    ∧ quiescent_S5OutReferenceIdeal (hS5OutReferenceIdeal := hS5OutReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_LruCoef (hLruCoef := hLruCoef)
    ∧ quiescent_LruCoefIdeal (hLruCoefIdeal := hLruCoefIdeal)
    ∧ quiescent_LruCoefReferenceIdeal (hLruCoefReferenceIdeal := hLruCoefReferenceIdeal)
    ∧ quiescent_FlashCtx (hFlashCtx := hFlashCtx)
    ∧ quiescent_FlashCtxIdeal (hFlashCtxIdeal := hFlashCtxIdeal)
    ∧ quiescent_FlashCtxIdeal_pre_finite_ctx (hFlashCtxIdeal := hFlashCtxIdeal) (hPre_finite_ctx := hPre_finite_ctx)
    ∧ quiescent_FlashCtxReferenceIdeal (hFlashCtxReferenceIdeal := hFlashCtxReferenceIdeal)
    ∧ quiescent_FlashCtxReferenceIdeal_pre_finite_ctx (hFlashCtxReferenceIdeal := hFlashCtxReferenceIdeal) (hPre_finite_ctx := hPre_finite_ctx)
    ∧ preserves_Kernel_KernelIdeal
    ∧ algebraic_KernelIdeal_ReferenceIdeal_pre_finite (hKernelIdeal := hKernelIdeal) (hReferenceIdeal := hReferenceIdeal) (hPre_finite := hPre_finite)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_ResidMatmul_ResidMatmulIdeal
    ∧ algebraic_ResidMatmulIdeal_ResidMatmulReferenceIdeal (hResidMatmulIdeal := hResidMatmulIdeal) (hResidMatmulReferenceIdeal := hResidMatmulReferenceIdeal)
    ∧ preserves_NormMatmul_NormMatmulIdeal
    ∧ algebraic_NormMatmulIdeal_NormMatmulReferenceIdeal (hNormMatmulIdeal := hNormMatmulIdeal) (hNormMatmulReferenceIdeal := hNormMatmulReferenceIdeal)
    ∧ preserves_ResidLast_ResidLastIdeal
    ∧ algebraic_ResidLastIdeal_ResidLastReferenceIdeal (hResidLastIdeal := hResidLastIdeal) (hResidLastReferenceIdeal := hResidLastReferenceIdeal)
    ∧ preserves_NormNarrow_NormNarrowIdeal
    ∧ algebraic_NormNarrowIdeal_NormNarrowReferenceIdeal (hNormNarrowIdeal := hNormNarrowIdeal) (hNormNarrowReferenceIdeal := hNormNarrowReferenceIdeal)
    ∧ preserves_AttnQkv_AttnQkvIdeal
    ∧ algebraic_AttnQkvIdeal_AttnQkvReferenceIdeal (hAttnQkvIdeal := hAttnQkvIdeal) (hAttnQkvReferenceIdeal := hAttnQkvReferenceIdeal)
    ∧ preserves_LruOut_LruOutIdeal
    ∧ algebraic_LruOutIdeal_LruOutReferenceIdeal (hLruOutIdeal := hLruOutIdeal) (hLruOutReferenceIdeal := hLruOutReferenceIdeal)
    ∧ preserves_S5Out_S5OutIdeal
    ∧ algebraic_S5OutIdeal_S5OutReferenceIdeal (hS5OutIdeal := hS5OutIdeal) (hS5OutReferenceIdeal := hS5OutReferenceIdeal)
    ∧ preserves_Modulation_ModulationIdeal
    ∧ algebraic_ModulationIdeal_ModulationReferenceIdeal (hModulationIdeal := hModulationIdeal) (hModulationReferenceIdeal := hModulationReferenceIdeal)
    ∧ preserves_LruCoef_LruCoefIdeal
    ∧ algebraic_LruCoefIdeal_LruCoefReferenceIdeal (hLruCoefIdeal := hLruCoefIdeal) (hLruCoefReferenceIdeal := hLruCoefReferenceIdeal)
    ∧ preserves_FlashCtx_FlashCtxIdeal
    ∧ algebraic_FlashCtxIdeal_FlashCtxReferenceIdeal_pre_finite_ctx (hFlashCtxIdeal := hFlashCtxIdeal) (hFlashCtxReferenceIdeal := hFlashCtxReferenceIdeal) (hPre_finite_ctx := hPre_finite_ctx)
-- ==== Pre_finite.lean ====
abbrev S33280x1024 : Shape := ⟨2, ![33280, 1024]⟩
abbrev S33280x256 : Shape := ⟨2, ![33280, 256]⟩
abbrev S_ : Shape := ⟨0, ![]⟩

class Facts : Prop where
  bitsLt_bf16_f32 : FTy.bits .bf16 < FTy.bits .f32
  bcast_S_S33280x1024 : S_.BroadcastsInDim S33280x1024 (![] : Fin 0 → Fin S33280x1024.rank)
  reducesTo_S33280x1024_S_d0_1 : S33280x1024.ReducesTo [0, 1] S_
  h_S_ : 0 < S_.numel
  bcast_S_S33280x256 : S_.BroadcastsInDim S33280x256 (![] : Fin 0 → Fin S33280x256.rank)
  reducesTo_S33280x256_S_d0_1 : S33280x256.ReducesTo [0, 1] S_

variable [Facts]

def fn {F : FTy → Type} [FloatOps F] (main_arg0 : FVec F S33280x1024 .bf16) (main_arg1 : FVec F S33280x256 .bf16) (main_arg2 : FVec F S33280x256 .bf16) : IVec S_ 1 :=
  let main_v0 : FVec F S33280x1024 .f32 := (extf .f32 · bitsLt_bf16_f32) main_arg0
  let main_v1 : FVec F S33280x1024 .f32 := Host.absf main_v0
  let main_cst : FVec F S_ .f32 := constant S_ .f32 0x7F800000#32
  let main_v2 : FVec F S33280x1024 .f32 := broadcastInDim S33280x1024 ![] bcast_S_S33280x1024 main_cst
  let main_v3 : IVec S33280x1024 1 := cmpf .olt main_v1 main_v2
  let main_c : IVec S_ 1 := constantI S_ 1 1#1
  let main_v4 : IVec S_ 1 := (fun x v => Host.reduce IntOp.andi x v reducesTo_S33280x1024_S_d0_1 h_S_) main_v3 main_c
  let main_v5 : FVec F S33280x256 .f32 := (extf .f32 · bitsLt_bf16_f32) main_arg1
  let main_v6 : FVec F S33280x256 .f32 := Host.absf main_v5
  let main_cst_0 : FVec F S_ .f32 := constant S_ .f32 0x7F800000#32
  let main_v7 : FVec F S33280x256 .f32 := broadcastInDim S33280x256 ![] bcast_S_S33280x256 main_cst_0
  let main_v8 : IVec S33280x256 1 := cmpf .olt main_v6 main_v7
  let main_c_1 : IVec S_ 1 := constantI S_ 1 1#1
  let main_v9 : IVec S_ 1 := (fun x v => Host.reduce IntOp.andi x v reducesTo_S33280x256_S_d0_1 h_S_) main_v8 main_c_1
  let main_v10 : IVec S_ 1 := andi main_v4 main_v9
  main_v10
-- ==== Pre_finite_ctx.lean ====
abbrev S33280x1024 : Shape := ⟨2, ![33280, 1024]⟩
abbrev S33280x256 : Shape := ⟨2, ![33280, 256]⟩
abbrev S512x1024 : Shape := ⟨2, ![512, 1024]⟩
abbrev S_ : Shape := ⟨0, ![]⟩
abbrev S512x256 : Shape := ⟨2, ![512, 256]⟩

class Facts : Prop where
  slices_S33280x1024_S512x1024_32768_0 : S33280x1024.Slices ![32768, 0] S512x1024
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  h_S_ : 0 < S_.numel
  slices_S33280x256_S512x256_32768_0 : S33280x256.Slices ![32768, 0] S512x256
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S33280x1024 .bf16) (main_arg1 : FVec F S33280x256 .bf16) (main_arg2 : FVec F S33280x256 .bf16) : IVec S_ 1 :=
  let main_v0 : FVec F S512x1024 .bf16 := (extractStridedSlice S512x1024 ![32768, 0] · slices_S33280x1024_S512x1024_32768_0) main_arg0
  let main_v1 : FVec F S512x1024 .f32 := (extf .f32 · bitsLt_bf16_f32) main_v0
  let main_v2 : FVec F S512x1024 .f32 := Host.absf main_v1
  let main_cst : FVec F S_ .f32 := constant S_ .f32 0x7F800000#32
  let main_v3 : FVec F S512x1024 .f32 := broadcastInDim S512x1024 ![] bcast_S_S512x1024 main_cst
  let main_v4 : IVec S512x1024 1 := cmpf .olt main_v2 main_v3
  let main_c : IVec S_ 1 := constantI S_ 1 1#1
  let main_v5 : IVec S_ 1 := (fun x v => Host.reduce IntOp.andi x v reducesTo_S512x1024_S_d0_1 h_S_) main_v4 main_c
  let main_v6 : FVec F S512x256 .bf16 := (extractStridedSlice S512x256 ![32768, 0] · slices_S33280x256_S512x256_32768_0) main_arg1
  let main_v7 : FVec F S512x256 .f32 := (extf .f32 · bitsLt_bf16_f32) main_v6
  let main_v8 : FVec F S512x256 .f32 := Host.absf main_v7
  let main_cst_0 : FVec F S_ .f32 := constant S_ .f32 0x7F800000#32
  let main_v9 : FVec F S512x256 .f32 := broadcastInDim S512x256 ![] bcast_S_S512x256 main_cst_0
  let main_v10 : IVec S512x256 1 := cmpf .olt main_v8 main_v9
  let main_c_1 : IVec S_ 1 := constantI S_ 1 1#1
  let main_v11 : IVec S_ 1 := (fun x v => Host.reduce IntOp.andi x v reducesTo_S512x256_S_d0_1 h_S_) main_v10 main_c_1
  let main_v12 : IVec S_ 1 := andi main_v5 main_v11
  main_v12
-- ==== Kernel.lean ====
abbrev S33280x1024 : Shape := ⟨2, ![33280, 1024]⟩
abbrev S33280x256 : Shape := ⟨2, ![33280, 256]⟩
abbrev S32768x256 : Shape := ⟨2, ![32768, 256]⟩
abbrev S2x16x1024x2x128 : Shape := ⟨5, ![2, 16, 1024, 2, 128]⟩
abbrev S2x2x16x128x1024 : Shape := ⟨5, ![2, 2, 16, 128, 1024]⟩
abbrev S32768x1024 : Shape := ⟨2, ![32768, 1024]⟩
abbrev S256x512 : Shape := ⟨2, ![256, 512]⟩
abbrev S256x128 : Shape := ⟨2, ![256, 128]⟩
abbrev S1x1x16x128x1024 : Shape := ⟨5, ![1, 1, 16, 128, 1024]⟩
abbrev S16384x128 : Shape := ⟨2, ![16384, 128]⟩
abbrev S1024x1024 : Shape := ⟨2, ![1024, 1024]⟩
abbrev S1024x128 : Shape := ⟨2, ![1024, 128]⟩
abbrev S1024x1 : Shape := ⟨2, ![1024, 1]⟩
abbrev S1024x256 : Shape := ⟨2, ![1024, 256]⟩
abbrev S1024 : Shape := ⟨1, ![1024]⟩
abbrev S1x1x1x128x1024 : Shape := ⟨5, ![1, 1, 1, 128, 1024]⟩
abbrev S128x1024 : Shape := ⟨2, ![128, 1024]⟩

abbrev nBuf : Space → Nat
  | .hbm => 7
  | .vmem => 12
  | .smem => 0
  | _ => 0

abbrev bufTy : (tb : Table) → Fin (tcTables nBuf tb) → BufTy
  | .hbm, ⟨0, _⟩ => ⟨S33280x1024, .bf16⟩
  | .hbm, ⟨1, _⟩ => ⟨S33280x256, .bf16⟩
  | .hbm, ⟨2, _⟩ => ⟨S33280x256, .bf16⟩
  | .hbm, ⟨3, _⟩ => ⟨S32768x256, .bf16⟩
  | .hbm, ⟨4, _⟩ => ⟨S2x16x1024x2x128, .bf16⟩
  | .hbm, ⟨5, _⟩ => ⟨S2x2x16x128x1024, .bf16⟩
  | .hbm, ⟨6, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S1x1x16x128x1024, .bf16⟩
  | .local _ .vmem, ⟨7, _⟩ => ⟨S16384x128, .bf16⟩
  | .local _ .vmem, ⟨8, _⟩ => ⟨S256x512, .bf16⟩
  | .local _ .vmem, ⟨9, _⟩ => ⟨S256x512, .bf16⟩
  | .local _ .vmem, ⟨10, _⟩ => ⟨S1024x1024, .f32⟩
  | .local _ .vmem, ⟨11, _⟩ => ⟨S1024x1024, .f32⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 64], ![false, false, false]⟩

def k0_off1 (c0_i32 : BitVec 32) : Fin 5 → Nat :=
  let c0_22 : Index := 0#32
  let c0_23 : Index := 0#32
  let c2_i32 : BitVec 32 := 2#32
  let v38 : BitVec 32 := Scalar.muli c2_i32 c0_i32
  let c1_i32 : BitVec 32 := 1#32
  let v39 : BitVec 32 := Scalar.addi v38 c1_i32
  let v40 : Index := Scalar.indexCast v39
  let c0_24 : Index := 0#32
  let c0_25 : Index := 0#32
  ![0, 0, v40.toNat, 0, 0]
def k0_mult1 : BitVec 32 :=
  let c2_i32 : BitVec 32 := 2#32
  let c0_i32 : BitVec 32 := 0#32
  let v38 : BitVec 32 := Scalar.muli c2_i32 c0_i32
  let c1024_i32 : BitVec 32 := 1024#32
  let v48 : BitVec 32 := Scalar.muli v38 c1024_i32
  v48
def k0_off2 (c0_i32 : BitVec 32) : Fin 2 → Nat :=
  let c2_i32 : BitVec 32 := 2#32
  let v38 : BitVec 32 := Scalar.muli c2_i32 c0_i32
  let c1024_i32 : BitVec 32 := 1024#32
  let v48 : BitVec 32 := Scalar.muli v38 c1024_i32
  let v49 : BitVec 32 := v48
  let v50 : Index := Scalar.indexCast v49
  let c0_31 : Index := 0#32
  ![v50.toNat, 0]
def k0_off3 (c0_i32 : BitVec 32) : Fin 5 → Nat :=
  let c0_36 : Index := 0#32
  let c0_37 : Index := 0#32
  let c2_i32 : BitVec 32 := 2#32
  let v38 : BitVec 32 := Scalar.muli c2_i32 c0_i32
  let c2_i32_35 : BitVec 32 := 2#32
  let v85 : BitVec 32 := Scalar.addi v38 c2_i32_35
  let c15_i32 : BitVec 32 := 15#32
  let v86 : BitVec 32 := Scalar.minsi v85 c15_i32
  let v87 : Index := Scalar.indexCast v86
  let c0_38 : Index := 0#32
  let c0_39 : Index := 0#32
  ![0, 0, v87.toNat, 0, 0]
def k0_mult2 : BitVec 32 :=
  let c2_i32 : BitVec 32 := 2#32
  let c0_i32 : BitVec 32 := 0#32
  let v38 : BitVec 32 := Scalar.muli c2_i32 c0_i32
  let c1_i32_45 : BitVec 32 := 1#32
  let v95 : BitVec 32 := Scalar.addi v38 c1_i32_45
  let c1024_i32_46 : BitVec 32 := 1024#32
  let v96 : BitVec 32 := Scalar.muli v95 c1024_i32_46
  v96
def k0_off4 (c0_i32 : BitVec 32) : Fin 2 → Nat :=
  let c2_i32 : BitVec 32 := 2#32
  let v38 : BitVec 32 := Scalar.muli c2_i32 c0_i32
  let c1_i32_45 : BitVec 32 := 1#32
  let v95 : BitVec 32 := Scalar.addi v38 c1_i32_45
  let c1024_i32_46 : BitVec 32 := 1024#32
  let v96 : BitVec 32 := Scalar.muli v95 c1024_i32_46
  let v97 : BitVec 32 := v96
  let v98 : Index := Scalar.indexCast v97
  let c0_47 : Index := 0#32
  ![v98.toNat, 0]
def k0_mult3 : BitVec 32 :=
  let c2_i32_52 : BitVec 32 := 2#32
  let c1_i32_51 : BitVec 32 := 1#32
  let v133 : BitVec 32 := Scalar.muli c2_i32_52 c1_i32_51
  let c1024_i32_63 : BitVec 32 := 1024#32
  let v143 : BitVec 32 := Scalar.muli v133 c1024_i32_63
  v143
def k0_mult4 : BitVec 32 :=
  let c2_i32_52 : BitVec 32 := 2#32
  let c1_i32_51 : BitVec 32 := 1#32
  let v133 : BitVec 32 := Scalar.muli c2_i32_52 c1_i32_51
  let c1_i32_79 : BitVec 32 := 1#32
  let v190 : BitVec 32 := Scalar.addi v133 c1_i32_79
  let c1024_i32_80 : BitVec 32 := 1024#32
  let v191 : BitVec 32 := Scalar.muli v190 c1024_i32_80
  v191
def k0_mult5 : BitVec 32 :=
  let c2_i32_86 : BitVec 32 := 2#32
  let c2_i32_85 : BitVec 32 := 2#32
  let v228 : BitVec 32 := Scalar.muli c2_i32_86 c2_i32_85
  let c1024_i32_97 : BitVec 32 := 1024#32
  let v238 : BitVec 32 := Scalar.muli v228 c1024_i32_97
  v238
def k0_mult6 : BitVec 32 :=
  let c2_i32_86 : BitVec 32 := 2#32
  let c2_i32_85 : BitVec 32 := 2#32
  let v228 : BitVec 32 := Scalar.muli c2_i32_86 c2_i32_85
  let c1_i32_113 : BitVec 32 := 1#32
  let v285 : BitVec 32 := Scalar.addi v228 c1_i32_113
  let c1024_i32_114 : BitVec 32 := 1024#32
  let v286 : BitVec 32 := Scalar.muli v285 c1024_i32_114
  v286
def k0_mult7 : BitVec 32 :=
  let c2_i32_119 : BitVec 32 := 2#32
  let c3_i32 : BitVec 32 := 3#32
  let v323 : BitVec 32 := Scalar.muli c2_i32_119 c3_i32
  let c1024_i32_130 : BitVec 32 := 1024#32
  let v333 : BitVec 32 := Scalar.muli v323 c1024_i32_130
  v333
def k0_mult8 : BitVec 32 :=
  let c2_i32_119 : BitVec 32 := 2#32
  let c3_i32 : BitVec 32 := 3#32
  let v323 : BitVec 32 := Scalar.muli c2_i32_119 c3_i32
  let c1_i32_146 : BitVec 32 := 1#32
  let v380 : BitVec 32 := Scalar.addi v323 c1_i32_146
  let c1024_i32_147 : BitVec 32 := 1024#32
  let v381 : BitVec 32 := Scalar.muli v380 c1024_i32_147
  v381
def k0_mult9 : BitVec 32 :=
  let c2_i32_152 : BitVec 32 := 2#32
  let c4_i32 : BitVec 32 := 4#32
  let v418 : BitVec 32 := Scalar.muli c2_i32_152 c4_i32
  let c1024_i32_163 : BitVec 32 := 1024#32
  let v428 : BitVec 32 := Scalar.muli v418 c1024_i32_163
  v428
def k0_mult10 : BitVec 32 :=
  let c2_i32_152 : BitVec 32 := 2#32
  let c4_i32 : BitVec 32 := 4#32
  let v418 : BitVec 32 := Scalar.muli c2_i32_152 c4_i32
  let c1_i32_179 : BitVec 32 := 1#32
  let v475 : BitVec 32 := Scalar.addi v418 c1_i32_179
  let c1024_i32_180 : BitVec 32 := 1024#32
  let v476 : BitVec 32 := Scalar.muli v475 c1024_i32_180
  v476
def k0_mult11 : BitVec 32 :=
  let c2_i32_185 : BitVec 32 := 2#32
  let c5_i32 : BitVec 32 := 5#32
  let v513 : BitVec 32 := Scalar.muli c2_i32_185 c5_i32
  let c1024_i32_196 : BitVec 32 := 1024#32
  let v523 : BitVec 32 := Scalar.muli v513 c1024_i32_196
  v523
def k0_mult12 : BitVec 32 :=
  let c2_i32_185 : BitVec 32 := 2#32
  let c5_i32 : BitVec 32 := 5#32
  let v513 : BitVec 32 := Scalar.muli c2_i32_185 c5_i32
  let c1_i32_212 : BitVec 32 := 1#32
  let v570 : BitVec 32 := Scalar.addi v513 c1_i32_212
  let c1024_i32_213 : BitVec 32 := 1024#32
  let v571 : BitVec 32 := Scalar.muli v570 c1024_i32_213
  v571
def k0_mult13 : BitVec 32 :=
  let c2_i32_218 : BitVec 32 := 2#32
  let c6_i32 : BitVec 32 := 6#32
  let v608 : BitVec 32 := Scalar.muli c2_i32_218 c6_i32
  let c1024_i32_229 : BitVec 32 := 1024#32
  let v618 : BitVec 32 := Scalar.muli v608 c1024_i32_229
  v618
def k0_mult14 : BitVec 32 :=
  let c2_i32_218 : BitVec 32 := 2#32
  let c6_i32 : BitVec 32 := 6#32
  let v608 : BitVec 32 := Scalar.muli c2_i32_218 c6_i32
  let c1_i32_245 : BitVec 32 := 1#32
  let v665 : BitVec 32 := Scalar.addi v608 c1_i32_245
  let c1024_i32_246 : BitVec 32 := 1024#32
  let v666 : BitVec 32 := Scalar.muli v665 c1024_i32_246
  v666
def k0_mult15 : BitVec 32 :=
  let c2_i32_251 : BitVec 32 := 2#32
  let c7_i32 : BitVec 32 := 7#32
  let v703 : BitVec 32 := Scalar.muli c2_i32_251 c7_i32
  let c1024_i32_262 : BitVec 32 := 1024#32
  let v713 : BitVec 32 := Scalar.muli v703 c1024_i32_262
  v713
def k0_mult16 : BitVec 32 :=
  let c2_i32_251 : BitVec 32 := 2#32
  let c7_i32 : BitVec 32 := 7#32
  let v703 : BitVec 32 := Scalar.muli c2_i32_251 c7_i32
  let c1_i32_278 : BitVec 32 := 1#32
  let v760 : BitVec 32 := Scalar.addi v703 c1_i32_278
  let c1024_i32_279 : BitVec 32 := 1024#32
  let v761 : BitVec 32 := Scalar.muli v760 c1024_i32_279
  v761
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x16x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S16384x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S33280x1024 : Shape := ⟨2, ![33280, 1024]⟩
abbrev S33280x256 : Shape := ⟨2, ![33280, 256]⟩
abbrev S32768x256 : Shape := ⟨2, ![32768, 256]⟩
abbrev S2x16384x2x128 : Shape := ⟨4, ![2, 16384, 2, 128]⟩
abbrev S512x256 : Shape := ⟨2, ![512, 256]⟩
abbrev S2x256x2x128 : Shape := ⟨4, ![2, 256, 2, 128]⟩
abbrev S2x16640x2x128 : Shape := ⟨4, ![2, 16640, 2, 128]⟩
abbrev S32768x1024 : Shape := ⟨2, ![32768, 1024]⟩
abbrev S2x16384x2x4x128 : Shape := ⟨5, ![2, 16384, 2, 4, 128]⟩
abbrev S2x2x16640x16384x4 : Shape := ⟨5, ![2, 2, 16640, 16384, 4]⟩
abbrev S2x2x4x16384x16640 : Shape := ⟨5, ![2, 2, 4, 16384, 16640]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩

abbrev nBuf : Space → Nat
  | .hbm => 42
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x256, .bf16⟩
  | .hbm, ⟨2, _⟩ => ⟨S33280x256, .bf16⟩
  | .hbm, ⟨3, _⟩ => ⟨S33280x1024, .f32⟩
  | .hbm, ⟨4, _⟩ => ⟨S33280x256, .f32⟩
  | .hbm, ⟨5, _⟩ => ⟨S33280x256, .f32⟩
  | .hbm, ⟨6, _⟩ => ⟨S32768x256, .f32⟩
  | .hbm, ⟨7, _⟩ => ⟨S2x16384x2x128, .f32⟩
  | .hbm, ⟨8, _⟩ => ⟨S512x256, .f32⟩
  | .hbm, ⟨9, _⟩ => ⟨S2x256x2x128, .f32⟩
  | .hbm, ⟨10, _⟩ => ⟨S2x16640x2x128, .f32⟩
  | .hbm, ⟨11, _⟩ => ⟨S32768x256, .f32⟩
  | .hbm, ⟨12, _⟩ => ⟨S2x16384x2x128, .f32⟩
  | .hbm, ⟨13, _⟩ => ⟨S512x256, .f32⟩
  | .hbm, ⟨14, _⟩ => ⟨S2x256x2x128, .f32⟩
  | .hbm, ⟨15, _⟩ => ⟨S2x16640x2x128, .f32⟩
  | .hbm, ⟨16, _⟩ => ⟨S32768x1024, .f32⟩
  | .hbm, ⟨17, _⟩ => ⟨S2x16384x2x4x128, .f32⟩
  | .hbm, ⟨18, _⟩ => ⟨S2x2x16640x16384x4, .f32⟩
  | .hbm, ⟨19, _⟩ => ⟨S2x2x4x16384x16640, .f32⟩
  | .hbm, ⟨20, _⟩ => ⟨S_, .f32⟩
  | .hbm, ⟨21, _⟩ => ⟨S_, .f32⟩
  | .hbm, ⟨22, _⟩ => ⟨S2x2x4x16384x16640, .f32⟩
  | .hbm, ⟨23, _⟩ => ⟨S2x2x4x16384x16640, .f32⟩
  | .hbm, ⟨24, _⟩ => ⟨S_, .f32⟩
  | .hbm, ⟨25, _⟩ => ⟨S2x2x4x16384, .f32⟩
  | .hbm, ⟨26, _⟩ => ⟨S_, .f32⟩
  | .hbm, ⟨27, _⟩ => ⟨S2x2x4x16384, .f32⟩
  | .hbm, ⟨28, _⟩ => ⟨S2x2x4x16384, .f32⟩
  | .hbm, ⟨29, _⟩ => ⟨S2x2x4x16384x1, .f32⟩
  | .hbm, ⟨30, _⟩ => ⟨S2x2x4x16384x16640, .f32⟩
  | .hbm, ⟨31, _⟩ => ⟨S2x2x4x16384x16640, .f32⟩
  | .hbm, ⟨32, _⟩ => ⟨S2x2x4x16384x16640, .f32⟩
  | .hbm, ⟨33, _⟩ => ⟨S_, .f32⟩
  | .hbm, ⟨34, _⟩ => ⟨S2x2x4x16384, .f32⟩
  | .hbm, ⟨35, _⟩ => ⟨S2x2x4x16384x1, .f32⟩
  | .hbm, ⟨36, _⟩ => ⟨S2x2x4x16384x16640, .f32⟩
  | .hbm, ⟨37, _⟩ => ⟨S2x2x4x16384x16640, .f32⟩
  | .hbm, ⟨38, _⟩ => ⟨S2x2x128x4x16384, .f32⟩
  | .hbm, ⟨39, _⟩ => ⟨S2x16384x2x4x128, .f32⟩
  | .hbm, ⟨40, _⟩ => ⟨S32768x1024, .f32⟩
  | .hbm, ⟨41, _⟩ => ⟨S32768x1024, .bf16⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== FinalNorm.lean ====
abbrev S33280x1024 : Shape := ⟨2, ![33280, 1024]⟩
abbrev S1x1024 : Shape := ⟨2, ![1, 1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S33280x1024, .f32⟩
  | .hbm, ⟨1, _⟩ => ⟨S1x1024, .f32⟩
  | .hbm, ⟨2, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S33280x1024 : Shape := ⟨2, ![33280, 1024]⟩
abbrev S1x1024 : Shape := ⟨2, ![1, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩

abbrev nBuf : Space → Nat
  | .hbm => 18
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1x1024, .f32⟩
  | .hbm, ⟨2, _⟩ => ⟨S32768x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ResidMatmul.lean ====
abbrev S33280x1024 : Shape := ⟨2, ![33280, 1024]⟩
abbrev S1024x1024 : Shape := ⟨2, ![1024, 1024]⟩
abbrev S8x6144 : Shape := ⟨2, ![8, 6144]⟩
abbrev S512x1024 : Shape := ⟨2, ![512, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S33280x1024, .f32⟩
  | .hbm, ⟨1, _⟩ => ⟨S33280x1024, .bf16⟩
  | .hbm, ⟨2, _⟩ => ⟨S1024x1024, .bf16⟩
  | .hbm, ⟨3, _⟩ => ⟨S8x6144, .f32⟩
  | .hbm, ⟨4, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S8x6144, .f32⟩
  | .local _ .vmem, ⟨6, _⟩ => ⟨S512x1024, .f32⟩
  | .local _ .vmem, ⟨7, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v22 : Index := Scalar.indexCast v17
  let c2048 : Index := 2048#32
  ![v22.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidMatmulReferenceIdeal.lean ====
abbrev S33280x1024 : Shape := ⟨2, ![33280, 1024]⟩
abbrev S1024x1024 : Shape := ⟨2, ![1024, 1024]⟩
abbrev S8x6144 : Shape := ⟨2, ![8, 6144]⟩
abbrev S8x1024 : Shape := ⟨2, ![8, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S32768x1024 : Shape := ⟨2, ![32768, 1024]⟩
abbrev S1x1024 : Shape := ⟨2, ![1, 1024]⟩
abbrev S512x1024 : Shape := ⟨2, ![512, 1024]⟩

abbrev nBuf : Space → Nat
  | .hbm => 17
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S33280x1024, .bf16⟩
  | .hbm, ⟨2, _⟩ => ⟨S1024x1024, .bf16⟩
  | .hbm, ⟨3, _⟩ => ⟨S8x6144, .f32⟩
  | .hbm, ⟨4, _⟩ => ⟨S8x1024, .f32⟩
  | .hbm, ⟨5, _⟩ => ⟨S2x1024, .f32⟩
  | .hbm, ⟨6, _⟩ => ⟨S2x1x1024, .f32⟩
  | .hbm, ⟨7, _⟩ => ⟨S2x16384x1024, .f32⟩
  | .hbm, ⟨8, _⟩ => ⟨S32768x1024, .f32⟩
  | .hbm, ⟨9, _⟩ => ⟨S1x1024, .f32⟩
  | .hbm, ⟨10, _⟩ => ⟨S512x1024, .f32⟩
  | .hbm, ⟨11, _⟩ => ⟨S33280x1024, .f32⟩
  | .hbm, ⟨12, _⟩ => ⟨S33280x1024, .f32⟩
  | .hbm, ⟨13, _⟩ => ⟨S1024x1024, .f32⟩
  | .hbm, ⟨14, _⟩ => ⟨S33280x1024, .f32⟩
  | .hbm, ⟨15, _⟩ => ⟨S33280x1024, .f32⟩
  | .hbm, ⟨16, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== NormMatmul.lean ====
abbrev S33280x1024 : Shape := ⟨2, ![33280, 1024]⟩
abbrev S8x6144 : Shape := ⟨2, ![8, 6144]⟩
abbrev S1x1024 : Shape := ⟨2, ![1, 1024]⟩
abbrev S1024x2048 : Shape := ⟨2, ![1024, 2048]⟩
abbrev S33280x2048 : Shape := ⟨2, ![33280, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S33280x1024, .f32⟩
  | .hbm, ⟨1, _⟩ => ⟨S8x6144, .f32⟩
  | .hbm, ⟨2, _⟩ => ⟨S1x1024, .f32⟩
  | .hbm, ⟨3, _⟩ => ⟨S1024x2048, .bf16⟩
  | .hbm, ⟨4, _⟩ => ⟨S33280x2048, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x2048, .bf16⟩
  | .local _ .vmem, ⟨5, _⟩ => ⟨S512x2048, .f32⟩
  | .local _ .vmem, ⟨6, _⟩ => ⟨S512x2048, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v20 : Index := Scalar.indexCast v17
  let c0_7 : Index := 0#32
  ![v20.toNat, 0]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v22 : Index := Scalar.indexCast v17
  let c1024 : Index := 1024#32
  ![v22.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormMatmulIdeal.lean ====
abbrev S33280x1024 : Shape := ⟨2, ![33280, 1024]⟩
abbrev S8x6144 : Shape := ⟨2, ![8, 6144]⟩
abbrev S1x1024 : Shape := ⟨2, ![1, 1024]⟩
abbrev S1024x2048 : Shape := ⟨2, ![1024, 2048]⟩
abbrev S33280x2048 : Shape := ⟨2, ![33280, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S33280x1024, .f32⟩
  | .hbm, ⟨1, _⟩ => ⟨S8x6144, .f32⟩
  | .hbm, ⟨2, _⟩ => ⟨S1x1024, .f32⟩
  | .hbm, ⟨3, _⟩ => ⟨S1024x2048, .bf16⟩
  | .hbm, ⟨4, _⟩ => ⟨S33280x2048, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x2048, .bf16⟩
  | .local _ .vmem, ⟨5, _⟩ => ⟨S512x2048, .f32⟩
  | .local _ .vmem, ⟨6, _⟩ => ⟨S512x2048, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v20 : Index := Scalar.indexCast v17
  let c0_7 : Index := 0#32
  ![v20.toNat, 0]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v22 : Index := Scalar.indexCast v17
  let c1024 : Index := 1024#32
  ![v22.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormMatmulReferenceIdeal.lean ====
abbrev S33280x1024 : Shape := ⟨2, ![33280, 1024]⟩
abbrev S8x6144 : Shape := ⟨2, ![8, 6144]⟩
abbrev S1x1024 : Shape := ⟨2, ![1, 1024]⟩
abbrev S1024x2048 : Shape := ⟨2, ![1024, 2048]⟩
abbrev S_ : Shape := ⟨0, ![]⟩
abbrev S33280 : Shape := ⟨1, ![33280]⟩
abbrev S33280x1 : Shape := ⟨2, ![33280, 1]⟩
abbrev S8x1024 : Shape := ⟨2, ![8, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S32768x1024 : Shape := ⟨2, ![32768, 1024]⟩
abbrev S512x1024 : Shape := ⟨2, ![512, 1024]⟩
abbrev S33280x2048 : Shape := ⟨2, ![33280, 2048]⟩

abbrev nBuf : Space → Nat
  | .hbm => 42
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S8x6144, .f32⟩
  | .hbm, ⟨2, _⟩ => ⟨S1x1024, .f32⟩
  | .hbm, ⟨3, _⟩ => ⟨S1024x2048, .bf16⟩
  | .hbm, ⟨4, _⟩ => ⟨S33280x1024, .f32⟩
  | .hbm, ⟨5, _⟩ => ⟨S_, .f32⟩
  | .hbm, ⟨6, _⟩ => ⟨S33280, .f32⟩
  | .hbm, ⟨7, _⟩ => ⟨S33280x1, .f32⟩
  | .hbm, ⟨8, _⟩ => ⟨S_, .f32⟩
  | .hbm, ⟨9, _⟩ => ⟨S33280x1, .f32⟩
  | .hbm, ⟨10, _⟩ => ⟨S33280x1, .f32⟩
  | .hbm, ⟨11, _⟩ => ⟨S_, .f32⟩
  | .hbm, ⟨12, _⟩ => ⟨S33280x1, .f32⟩
  | .hbm, ⟨13, _⟩ => ⟨S33280x1, .f32⟩
  | .hbm, ⟨14, _⟩ => ⟨S33280x1, .f32⟩
  | .hbm, ⟨15, _⟩ => ⟨S33280x1024, .f32⟩
  | .hbm, ⟨16, _⟩ => ⟨S33280x1024, .f32⟩
  | .hbm, ⟨17, _⟩ => ⟨S33280x1024, .f32⟩
  | .hbm, ⟨18, _⟩ => ⟨S33280x1024, .f32⟩
  | .hbm, ⟨19, _⟩ => ⟨S8x1024, .f32⟩
  | .hbm, ⟨20, _⟩ => ⟨S2x1024, .f32⟩
  | .hbm, ⟨21, _⟩ => ⟨S2x1x1024, .f32⟩
  | .hbm, ⟨22, _⟩ => ⟨S2x16384x1024, .f32⟩
  | .hbm, ⟨23, _⟩ => ⟨S32768x1024, .f32⟩
  | .hbm, ⟨24, _⟩ => ⟨S1x1024, .f32⟩
  | .hbm, ⟨25, _⟩ => ⟨S512x1024, .f32⟩
  | .hbm, ⟨26, _⟩ => ⟨S33280x1024, .f32⟩
  | .hbm, ⟨27, _⟩ => ⟨S_, .f32⟩
  | .hbm, ⟨28, _⟩ => ⟨S33280x1024, .f32⟩
  | .hbm, ⟨29, _⟩ => ⟨S33280x1024, .f32⟩
  | .hbm, ⟨30, _⟩ => ⟨S33280x1024, .f32⟩
  | .hbm, ⟨31, _⟩ => ⟨S8x1024, .f32⟩
  | .hbm, ⟨32, _⟩ => ⟨S2x1024, .f32⟩
  | .hbm, ⟨33, _⟩ => ⟨S2x1x1024, .f32⟩
  | .hbm, ⟨34, _⟩ => ⟨S2x16384x1024, .f32⟩
  | .hbm, ⟨35, _⟩ => ⟨S32768x1024, .f32⟩
  | .hbm, ⟨36, _⟩ => ⟨S1x1024, .f32⟩
  | .hbm, ⟨37, _⟩ => ⟨S512x1024, .f32⟩
  | .hbm, ⟨38, _⟩ => ⟨S33280x1024, .f32⟩
  | .hbm, ⟨39, _⟩ => ⟨S33280x1024, .f32⟩
  | .hbm, ⟨40, _⟩ => ⟨S1024x2048, .f32⟩
  | .hbm, ⟨41, _⟩ => ⟨S33280x2048, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== ResidLast.lean ====
abbrev S33280x1024 : Shape := ⟨2, ![33280, 1024]⟩
abbrev S32768x1024 : Shape := ⟨2, ![32768, 1024]⟩
abbrev S1024x1024 : Shape := ⟨2, ![1024, 1024]⟩
abbrev S8x6144 : Shape := ⟨2, ![8, 6144]⟩
abbrev S512x1024 : Shape := ⟨2, ![512, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S33280x1024, .f32⟩
  | .hbm, ⟨1, _⟩ => ⟨S32768x1024, .bf16⟩
  | .hbm, ⟨2, _⟩ => ⟨S1024x1024, .bf16⟩
  | .hbm, ⟨3, _⟩ => ⟨S8x6144, .f32⟩
  | .hbm, ⟨4, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S8x6144, .f32⟩
  | .local _ .vmem, ⟨6, _⟩ => ⟨S512x1024, .f32⟩
  | .local _ .vmem, ⟨7, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v22 : Index := Scalar.indexCast v17
  let c2048 : Index := 2048#32
  ![v22.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidLastReferenceIdeal.lean ====
abbrev S33280x1024 : Shape := ⟨2, ![33280, 1024]⟩
abbrev S32768x1024 : Shape := ⟨2, ![32768, 1024]⟩
abbrev S1024x1024 : Shape := ⟨2, ![1024, 1024]⟩
abbrev S8x6144 : Shape := ⟨2, ![8, 6144]⟩
abbrev S8x1024 : Shape := ⟨2, ![8, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S1x1024 : Shape := ⟨2, ![1, 1024]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S32768x1024, .bf16⟩
  | .hbm, ⟨2, _⟩ => ⟨S1024x1024, .bf16⟩
  | .hbm, ⟨3, _⟩ => ⟨S8x6144, .f32⟩
  | .hbm, ⟨4, _⟩ => ⟨S32768x1024, .f32⟩
  | .hbm, ⟨5, _⟩ => ⟨S8x1024, .f32⟩
  | .hbm, ⟨6, _⟩ => ⟨S2x1024, .f32⟩
  | .hbm, ⟨7, _⟩ => ⟨S2x1x1024, .f32⟩
  | .hbm, ⟨8, _⟩ => ⟨S2x16384x1024, .f32⟩
  | .hbm, ⟨9, _⟩ => ⟨S32768x1024, .f32⟩
  | .hbm, ⟨10, _⟩ => ⟨S1x1024, .f32⟩
  | .hbm, ⟨11, _⟩ => ⟨S512x1024, .f32⟩
  | .hbm, ⟨12, _⟩ => ⟨S33280x1024, .f32⟩
  | .hbm, ⟨13, _⟩ => ⟨S32768x1024, .f32⟩
  | .hbm, ⟨14, _⟩ => ⟨S32768x1024, .f32⟩
  | .hbm, ⟨15, _⟩ => ⟨S1024x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S512x1024, .f32⟩
  | .hbm, ⟨20, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== NormNarrow.lean ====
abbrev S33280x1024 : Shape := ⟨2, ![33280, 1024]⟩
abbrev S8x6144 : Shape := ⟨2, ![8, 6144]⟩
abbrev S1x1024 : Shape := ⟨2, ![1, 1024]⟩
abbrev S1024x512 : Shape := ⟨2, ![1024, 512]⟩
abbrev S33280x512 : Shape := ⟨2, ![33280, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S33280x1024, .f32⟩
  | .hbm, ⟨1, _⟩ => ⟨S8x6144, .f32⟩
  | .hbm, ⟨2, _⟩ => ⟨S1x1024, .f32⟩
  | .hbm, ⟨3, _⟩ => ⟨S1024x512, .bf16⟩
  | .hbm, ⟨4, _⟩ => ⟨S33280x512, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v20 : Index := Scalar.indexCast v17
  let c0_7 : Index := 0#32
  ![v20.toNat, 0]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v22 : Index := Scalar.indexCast v17
  let c1024 : Index := 1024#32
  ![v22.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormNarrowReferenceIdeal.lean ====
abbrev S33280x1024 : Shape := ⟨2, ![33280, 1024]⟩
abbrev S8x6144 : Shape := ⟨2, ![8, 6144]⟩
abbrev S1x1024 : Shape := ⟨2, ![1, 1024]⟩
abbrev S1024x512 : Shape := ⟨2, ![1024, 512]⟩
abbrev S_ : Shape := ⟨0, ![]⟩
abbrev S33280 : Shape := ⟨1, ![33280]⟩
abbrev S33280x1 : Shape := ⟨2, ![33280, 1]⟩
abbrev S8x1024 : Shape := ⟨2, ![8, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S32768x1024 : Shape := ⟨2, ![32768, 1024]⟩
abbrev S512x1024 : Shape := ⟨2, ![512, 1024]⟩
abbrev S33280x512 : Shape := ⟨2, ![33280, 512]⟩

abbrev nBuf : Space → Nat
  | .hbm => 42
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S8x6144, .f32⟩
  | .hbm, ⟨2, _⟩ => ⟨S1x1024, .f32⟩
  | .hbm, ⟨3, _⟩ => ⟨S1024x512, .bf16⟩
  | .hbm, ⟨4, _⟩ => ⟨S33280x1024, .f32⟩
  | .hbm, ⟨5, _⟩ => ⟨S_, .f32⟩
  | .hbm, ⟨6, _⟩ => ⟨S33280, .f32⟩
  | .hbm, ⟨7, _⟩ => ⟨S33280x1, .f32⟩
  | .hbm, ⟨8, _⟩ => ⟨S_, .f32⟩
  | .hbm, ⟨9, _⟩ => ⟨S33280x1, .f32⟩
  | .hbm, ⟨10, _⟩ => ⟨S33280x1, .f32⟩
  | .hbm, ⟨11, _⟩ => ⟨S_, .f32⟩
  | .hbm, ⟨12, _⟩ => ⟨S33280x1, .f32⟩
  | .hbm, ⟨13, _⟩ => ⟨S33280x1, .f32⟩
  | .hbm, ⟨14, _⟩ => ⟨S33280x1, .f32⟩
  | .hbm, ⟨15, _⟩ => ⟨S33280x1024, .f32⟩
  | .hbm, ⟨16, _⟩ => ⟨S33280x1024, .f32⟩
  | .hbm, ⟨17, _⟩ => ⟨S33280x1024, .f32⟩
  | .hbm, ⟨18, _⟩ => ⟨S33280x1024, .f32⟩
  | .hbm, ⟨19, _⟩ => ⟨S8x1024, .f32⟩
  | .hbm, ⟨20, _⟩ => ⟨S2x1024, .f32⟩
  | .hbm, ⟨21, _⟩ => ⟨S2x1x1024, .f32⟩
  | .hbm, ⟨22, _⟩ => ⟨S2x16384x1024, .f32⟩
  | .hbm, ⟨23, _⟩ => ⟨S32768x1024, .f32⟩
  | .hbm, ⟨24, _⟩ => ⟨S1x1024, .f32⟩
  | .hbm, ⟨25, _⟩ => ⟨S512x1024, .f32⟩
  | .hbm, ⟨26, _⟩ => ⟨S33280x1024, .f32⟩
  | .hbm, ⟨27, _⟩ => ⟨S_, .f32⟩
  | .hbm, ⟨28, _⟩ => ⟨S33280x1024, .f32⟩
  | .hbm, ⟨29, _⟩ => ⟨S33280x1024, .f32⟩
  | .hbm, ⟨30, _⟩ => ⟨S33280x1024, .f32⟩
  | .hbm, ⟨31, _⟩ => ⟨S8x1024, .f32⟩
  | .hbm, ⟨32, _⟩ => ⟨S2x1024, .f32⟩
  | .hbm, ⟨33, _⟩ => ⟨S2x1x1024, .f32⟩
  | .hbm, ⟨34, _⟩ => ⟨S2x16384x1024, .f32⟩
  | .hbm, ⟨35, _⟩ => ⟨S32768x1024, .f32⟩
  | .hbm, ⟨36, _⟩ => ⟨S1x1024, .f32⟩
  | .hbm, ⟨37, _⟩ => ⟨S512x1024, .f32⟩
  | .hbm, ⟨38, _⟩ => ⟨S33280x1024, .f32⟩
  | .hbm, ⟨39, _⟩ => ⟨S33280x1024, .f32⟩
  | .hbm, ⟨40, _⟩ => ⟨S1024x512, .f32⟩
  | .hbm, ⟨41, _⟩ => ⟨S33280x512, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== AttnQkv.lean ====
abbrev S33280x1024 : Shape := ⟨2, ![33280, 1024]⟩
abbrev S8x6144 : Shape := ⟨2, ![8, 6144]⟩
abbrev S1x1024 : Shape := ⟨2, ![1, 1024]⟩
abbrev S1024x1536 : Shape := ⟨2, ![1024, 1536]⟩
abbrev S1x128 : Shape := ⟨2, ![1, 128]⟩
abbrev S16384x64 : Shape := ⟨2, ![16384, 64]⟩
abbrev S16384x128 : Shape := ⟨2, ![16384, 128]⟩
abbrev S_ : Shape := ⟨0, ![]⟩
abbrev S512x128 : Shape := ⟨2, ![512, 128]⟩
abbrev S16896x128 : Shape := ⟨2, ![16896, 128]⟩
abbrev S33280x256 : Shape := ⟨2, ![33280, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩

abbrev nBuf : Space → Nat
  | .hbm => 20
  | .vmem => 17
  | .smem => 0
  | _ => 0

abbrev bufTy : (tb : Table) → Fin (tcTables nBuf tb) → BufTy
  | .hbm, ⟨0, _⟩ => ⟨S33280x1024, .f32⟩
  | .hbm, ⟨1, _⟩ => ⟨S8x6144, .f32⟩
  | .hbm, ⟨2, _⟩ => ⟨S1x1024, .f32⟩
  | .hbm, ⟨3, _⟩ => ⟨S1024x1536, .bf16⟩
  | .hbm, ⟨4, _⟩ => ⟨S1x128, .f32⟩
  | .hbm, ⟨5, _⟩ => ⟨S1x128, .f32⟩
  | .hbm, ⟨6, _⟩ => ⟨S16384x64, .f32⟩
  | .hbm, ⟨7, _⟩ => ⟨S16384x64, .f32⟩
  | .hbm, ⟨8, _⟩ => ⟨S16384x128, .f32⟩
  | .hbm, ⟨9, _⟩ => ⟨S16384x64, .f32⟩
  | .hbm, ⟨10, _⟩ => ⟨S16384x128, .f32⟩
  | .hbm, ⟨11, _⟩ => ⟨S_, .f32⟩
  | .hbm, ⟨12, _⟩ => ⟨S512x128, .f32⟩
  | .hbm, ⟨13, _⟩ => ⟨S16896x128, .f32⟩
  | .hbm, ⟨14, _⟩ => ⟨S_, .f32⟩
  | .hbm, ⟨15, _⟩ => ⟨S512x128, .f32⟩
  | .hbm, ⟨16, _⟩ => ⟨S16896x128, .f32⟩
  | .hbm, ⟨17, _⟩ => ⟨S33280x1024, .bf16⟩
  | .hbm, ⟨18, _⟩ => ⟨S33280x256, .bf16⟩
  | .hbm, ⟨19, _⟩ => ⟨S33280x256, .bf16⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x1536, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v20 : Index := Scalar.indexCast v17
  let c0_7 : Index := 0#32
  ![v20.toNat, 0]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v22 : Index := Scalar.indexCast v17
  let c1024 : Index := 1024#32
  ![v22.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnQkvReferenceIdeal.lean ====
abbrev S33280x1024 : Shape := ⟨2, ![33280, 1024]⟩
abbrev S8x6144 : Shape := ⟨2, ![8, 6144]⟩
abbrev S1x1024 : Shape := ⟨2, ![1, 1024]⟩
abbrev S1024x1536 : Shape := ⟨2, ![1024, 1536]⟩
abbrev S1x128 : Shape := ⟨2, ![1, 128]⟩
abbrev S16384x64 : Shape := ⟨2, ![16384, 64]⟩
abbrev S_ : Shape := ⟨0, ![]⟩
abbrev S33280 : Shape := ⟨1, ![33280]⟩
abbrev S33280x1 : Shape := ⟨2, ![33280, 1]⟩
abbrev S8x1024 : Shape := ⟨2, ![8, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S32768x1024 : Shape := ⟨2, ![32768, 1024]⟩
abbrev S512x1024 : Shape := ⟨2, ![512, 1024]⟩
abbrev S33280x1536 : Shape := ⟨2, ![33280, 1536]⟩
abbrev S33280x8x128 : Shape := ⟨3, ![33280, 8, 128]⟩
abbrev S33280x8 : Shape := ⟨2, ![33280, 8]⟩
abbrev S33280x8x1 : Shape := ⟨3, ![33280, 8, 1]⟩
abbrev S1x1x128 : Shape := ⟨3, ![1, 1, 128]⟩
abbrev S32768x8x128 : Shape := ⟨3, ![32768, 8, 128]⟩
abbrev S2x16384x8x128 : Shape := ⟨4, ![2, 16384, 8, 128]⟩
abbrev S2x16384x8x64 : Shape := ⟨4, ![2, 16384, 8, 64]⟩
abbrev S1x16384x1x64 : Shape := ⟨4, ![1, 16384, 1, 64]⟩
abbrev S512x8x128 : Shape := ⟨3, ![512, 8, 128]⟩
abbrev S33280x256 : Shape := ⟨2, ![33280, 256]⟩
abbrev S33280x2x128 : Shape := ⟨3, ![33280, 2, 128]⟩
abbrev S33280x2 : Shape := ⟨2, ![33280, 2]⟩
abbrev S33280x2x1 : Shape := ⟨3, ![33280, 2, 1]⟩
abbrev S32768x2x128 : Shape := ⟨3, ![32768, 2, 128]⟩
abbrev S2x16384x2x128 : Shape := ⟨4, ![2, 16384, 2, 128]⟩
abbrev S2x16384x2x64 : Shape := ⟨4, ![2, 16384, 2, 64]⟩
abbrev S32768x256 : Shape := ⟨2, ![32768, 256]⟩
abbrev S512x2x128 : Shape := ⟨3, ![512, 2, 128]⟩
abbrev S512x256 : Shape := ⟨2, ![512, 256]⟩

abbrev nBuf : Space → Nat
  | .hbm => 131
  | .vmem => 0
  | .smem => 0
  | _ => 0

abbrev hbmTy0_0 (i : Nat) : BufTy := match i % 128 with
  | 0 => ⟨S33280x1024, .f32⟩
  | 1 => ⟨S8x6144, .f32⟩
  | 2 => ⟨S1x1024, .f32⟩
  | 3 => ⟨S1024x1536, .bf16⟩
  | 4 => ⟨S1x128, .f32⟩
  | 5 => ⟨S1x128, .f32⟩
  | 6 => ⟨S16384x64, .f32⟩
  | 7 => ⟨S16384x64, .f32⟩
  | 8 => ⟨S33280x1024, .f32⟩
  | 9 => ⟨S_, .f32⟩
  | 10 => ⟨S33280, .f32⟩
  | 11 => ⟨S33280x1, .f32⟩
  | 12 => ⟨S_, .f32⟩
  | 13 => ⟨S33280x1, .f32⟩
  | 14 => ⟨S33280x1, .f32⟩
  | 15 => ⟨S_, .f32⟩
  | 16 => ⟨S33280x1, .f32⟩
  | 17 => ⟨S33280x1, .f32⟩
  | 18 => ⟨S33280x1, .f32⟩
  | 19 => ⟨S33280x1024, .f32⟩
  | 20 => ⟨S33280x1024, .f32⟩
  | 21 => ⟨S33280x1024, .f32⟩
  | 22 => ⟨S33280x1024, .f32⟩
  | 23 => ⟨S8x1024, .f32⟩
  | 24 => ⟨S2x1024, .f32⟩
  | 25 => ⟨S2x1x1024, .f32⟩
  | 26 => ⟨S2x16384x1024, .f32⟩
  | 27 => ⟨S32768x1024, .f32⟩
  | 28 => ⟨S1x1024, .f32⟩
  | 29 => ⟨S512x1024, .f32⟩
  | 30 => ⟨S33280x1024, .f32⟩
  | 31 => ⟨S_, .f32⟩
  | 32 => ⟨S33280x1024, .f32⟩
  | 33 => ⟨S33280x1024, .f32⟩
  | 34 => ⟨S33280x1024, .f32⟩
  | 35 => ⟨S8x1024, .f32⟩
  | 36 => ⟨S2x1024, .f32⟩
  | 37 => ⟨S2x1x1024, .f32⟩
  | 38 => ⟨S2x16384x1024, .f32⟩
  | 39 => ⟨S32768x1024, .f32⟩
  | 40 => ⟨S1x1024, .f32⟩
  | 41 => ⟨S512x1024, .f32⟩
  | 42 => ⟨S33280x1024, .f32⟩
  | 43 => ⟨S33280x1024, .f32⟩
  | 44 => ⟨S1024x1536, .f32⟩
  | 45 => ⟨S33280x1536, .f32⟩
  | 46 => ⟨S33280x1024, .f32⟩
  | 47 => ⟨S33280x8x128, .f32⟩
  | 48 => ⟨S33280x8x128, .f32⟩
  | 49 => ⟨S_, .f32⟩
  | 50 => ⟨S33280x8, .f32⟩
  | 51 => ⟨S33280x8x1, .f32⟩
  | 52 => ⟨S_, .f32⟩
  | 53 => ⟨S33280x8x1, .f32⟩
  | 54 => ⟨S33280x8x1, .f32⟩
  | 55 => ⟨S_, .f32⟩
  | 56 => ⟨S33280x8x1, .f32⟩
  | 57 => ⟨S33280x8x1, .f32⟩
  | 58 => ⟨S33280x8x1, .f32⟩
  | 59 => ⟨S33280x8x128, .f32⟩
  | 60 => ⟨S33280x8x128, .f32⟩
  | 61 => ⟨S1x1x128, .f32⟩
  | 62 => ⟨S33280x8x128, .f32⟩
  | 63 => ⟨S33280x8x128, .f32⟩
  | 64 => ⟨S32768x8x128, .f32⟩
  | 65 => ⟨S2x16384x8x128, .f32⟩
  | 66 => ⟨S2x16384x8x64, .f32⟩
  | 67 => ⟨S2x16384x8x64, .f32⟩
  | 68 => ⟨S1x16384x1x64, .f32⟩
  | 69 => ⟨S1x16384x1x64, .f32⟩
  | 70 => ⟨S2x16384x8x64, .f32⟩
  | 71 => ⟨S2x16384x8x64, .f32⟩
  | 72 => ⟨S2x16384x8x64, .f32⟩
  | 73 => ⟨S2x16384x8x64, .f32⟩
  | 74 => ⟨S2x16384x8x64, .f32⟩
  | 75 => ⟨S2x16384x8x64, .f32⟩
  | 76 => ⟨S2x16384x8x64, .f32⟩
  | 77 => ⟨S2x16384x8x64, .f32⟩
  | 78 => ⟨S2x16384x8x64, .f32⟩
  | 79 => ⟨S2x16384x8x64, .f32⟩
  | 80 => ⟨S2x16384x8x128, .f32⟩
  | 81 => ⟨S32768x1024, .f32⟩
  | 82 => ⟨S512x8x128, .f32⟩
  | 83 => ⟨S512x1024, .f32⟩
  | 84 => ⟨S33280x1024, .f32⟩
  | 85 => ⟨S_, .f32⟩
  | 86 => ⟨S33280x1024, .f32⟩
  | 87 => ⟨S33280x1024, .f32⟩
  | 88 => ⟨S33280x256, .f32⟩
  | 89 => ⟨S33280x2x128, .f32⟩
  | 90 => ⟨S33280x2x128, .f32⟩
  | 91 => ⟨S_, .f32⟩
  | 92 => ⟨S33280x2, .f32⟩
  | 93 => ⟨S33280x2x1, .f32⟩
  | 94 => ⟨S_, .f32⟩
  | 95 => ⟨S33280x2x1, .f32⟩
  | 96 => ⟨S33280x2x1, .f32⟩
  | 97 => ⟨S_, .f32⟩
  | 98 => ⟨S33280x2x1, .f32⟩
  | 99 => ⟨S33280x2x1, .f32⟩
  | 100 => ⟨S33280x2x1, .f32⟩
  | 101 => ⟨S33280x2x128, .f32⟩
  | 102 => ⟨S33280x2x128, .f32⟩
  | 103 => ⟨S1x1x128, .f32⟩
  | 104 => ⟨S33280x2x128, .f32⟩
  | 105 => ⟨S33280x2x128, .f32⟩
  | 106 => ⟨S32768x2x128, .f32⟩
  | 107 => ⟨S2x16384x2x128, .f32⟩
  | 108 => ⟨S2x16384x2x64, .f32⟩
  | 109 => ⟨S2x16384x2x64, .f32⟩
  | 110 => ⟨S1x16384x1x64, .f32⟩
  | 111 => ⟨S1x16384x1x64, .f32⟩
  | 112 => ⟨S2x16384x2x64, .f32⟩
  | 113 => ⟨S2x16384x2x64, .f32⟩
  | 114 => ⟨S2x16384x2x64, .f32⟩
  | 115 => ⟨S2x16384x2x64, .f32⟩
  | 116 => ⟨S2x16384x2x64, .f32⟩
  | 117 => ⟨S2x16384x2x64, .f32⟩
  | 118 => ⟨S2x16384x2x64, .f32⟩
  | 119 => ⟨S2x16384x2x64, .f32⟩
  | 120 => ⟨S2x16384x2x64, .f32⟩
  | 121 => ⟨S2x16384x2x64, .f32⟩
  | 122 => ⟨S2x16384x2x128, .f32⟩
  | 123 => ⟨S32768x256, .f32⟩
  | 124 => ⟨S512x2x128, .f32⟩
  | 125 => ⟨S512x256, .f32⟩
  | 126 => ⟨S33280x256, .f32⟩
  | 127 => ⟨S33280x1024, .bf16⟩
  | _ => ⟨S33280x1024, .f32⟩

abbrev hbmTy0_1 (i : Nat) : BufTy := match i % 128 with
  | 0 => ⟨S33280x256, .bf16⟩
  | 1 => ⟨S33280x256, .f32⟩
  | 2 => ⟨S33280x256, .bf16⟩
  | _ => ⟨S33280x1024, .f32⟩

abbrev hbmTy (i : Nat) : BufTy := match i / 128 with
  | 0 => hbmTy0_0 i
  | 1 => hbmTy0_1 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_6 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_7 : Ref sig .tc := ⟨.hbm, 91, rfl⟩
abbrev main_v75 : Ref sig .tc := ⟨.hbm, 92, rfl⟩
abbrev main_v76 : Ref sig .tc := ⟨.hbm, 93, rfl⟩
abbrev main_cst_8 : Ref sig .tc := ⟨.hbm, 94, rfl⟩
abbrev main_v77 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩

abbrev nD : Nat := 1
abbrev τ : Topo := Topo.v7x

variable {F : FTy → Type} [FloatOps F]
-- ==== LruOut.lean ====
abbrev S33280x1024 : Shape := ⟨2, ![33280, 1024]⟩
abbrev S33280x2048 : Shape := ⟨2, ![33280, 2048]⟩
abbrev S1024x1024 : Shape := ⟨2, ![1024, 1024]⟩
abbrev S8x6144 : Shape := ⟨2, ![8, 6144]⟩
abbrev S512x1024 : Shape := ⟨2, ![512, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S33280x1024, .f32⟩
  | .hbm, ⟨1, _⟩ => ⟨S33280x2048, .f32⟩
  | .hbm, ⟨2, _⟩ => ⟨S33280x1024, .f32⟩
  | .hbm, ⟨3, _⟩ => ⟨S33280x1024, .f32⟩
  | .hbm, ⟨4, _⟩ => ⟨S1024x1024, .bf16⟩
  | .hbm, ⟨5, _⟩ => ⟨S8x6144, .f32⟩
  | .hbm, ⟨6, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S8x6144, .f32⟩
  | .local _ .vmem, ⟨10, _⟩ => ⟨S512x1024, .f32⟩
  | .local _ .vmem, ⟨11, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v35 : Index := Scalar.indexCast v17
  let c2048 : Index := 2048#32
  ![v35.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LruOutReferenceIdeal.lean ====
abbrev S33280x1024 : Shape := ⟨2, ![33280, 1024]⟩
abbrev S33280x2048 : Shape := ⟨2, ![33280, 2048]⟩
abbrev S1024x1024 : Shape := ⟨2, ![1024, 1024]⟩
abbrev S8x6144 : Shape := ⟨2, ![8, 6144]⟩
abbrev S_ : Shape := ⟨0, ![]⟩
abbrev S8x1024 : Shape := ⟨2, ![8, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S32768x1024 : Shape := ⟨2, ![32768, 1024]⟩
abbrev S1x1024 : Shape := ⟨2, ![1, 1024]⟩
abbrev S512x1024 : Shape := ⟨2, ![512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S33280x2048, .f32⟩
  | .hbm, ⟨2, _⟩ => ⟨S33280x1024, .f32⟩
  | .hbm, ⟨3, _⟩ => ⟨S33280x1024, .f32⟩
  | .hbm, ⟨4, _⟩ => ⟨S1024x1024, .bf16⟩
  | .hbm, ⟨5, _⟩ => ⟨S8x6144, .f32⟩
  | .hbm, ⟨6, _⟩ => ⟨S33280x1024, .f32⟩
  | .hbm, ⟨7, _⟩ => ⟨S33280x1024, .f32⟩
  | .hbm, ⟨8, _⟩ => ⟨S_, .f32⟩
  | .hbm, ⟨9, _⟩ => ⟨S33280x1024, .f32⟩
  | .hbm, ⟨10, _⟩ => ⟨S33280x1024, .f32⟩
  | .hbm, ⟨11, _⟩ => ⟨S33280x1024, .f32⟩
  | .hbm, ⟨12, _⟩ => ⟨S_, .f32⟩
  | .hbm, ⟨13, _⟩ => ⟨S33280x1024, .f32⟩
  | .hbm, ⟨14, _⟩ => ⟨S33280x1024, .f32⟩
  | .hbm, ⟨15, _⟩ => ⟨S33280x1024, .f32⟩
  | .hbm, ⟨16, _⟩ => ⟨S33280x1024, .f32⟩
  | .hbm, ⟨17, _⟩ => ⟨S33280x1024, .f32⟩
  | .hbm, ⟨18, _⟩ => ⟨S8x1024, .f32⟩
  | .hbm, ⟨19, _⟩ => ⟨S2x1024, .f32⟩
  | .hbm, ⟨20, _⟩ => ⟨S2x1x1024, .f32⟩
  | .hbm, ⟨21, _⟩ => ⟨S2x16384x1024, .f32⟩
  | .hbm, ⟨22, _⟩ => ⟨S32768x1024, .f32⟩
  | .hbm, ⟨23, _⟩ => ⟨S1x1024, .f32⟩
  | .hbm, ⟨24, _⟩ => ⟨S512x1024, .f32⟩
  | .hbm, ⟨25, _⟩ => ⟨S33280x1024, .f32⟩
  | .hbm, ⟨26, _⟩ => ⟨S1024x1024, .f32⟩
  | .hbm, ⟨27, _⟩ => ⟨S33280x1024, .f32⟩
  | .hbm, ⟨28, _⟩ => ⟨S33280x1024, .f32⟩
  | .hbm, ⟨29, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== S5Out.lean ====
abbrev S33280x1024 : Shape := ⟨2, ![33280, 1024]⟩
abbrev S33280x512 : Shape := ⟨2, ![33280, 512]⟩
abbrev S1x512 : Shape := ⟨2, ![1, 512]⟩
abbrev S512x512 : Shape := ⟨2, ![512, 512]⟩
abbrev S512x1024 : Shape := ⟨2, ![512, 1024]⟩
abbrev S8x6144 : Shape := ⟨2, ![8, 6144]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S33280x1024, .f32⟩
  | .hbm, ⟨1, _⟩ => ⟨S33280x512, .f32⟩
  | .hbm, ⟨2, _⟩ => ⟨S33280x512, .f32⟩
  | .hbm, ⟨3, _⟩ => ⟨S33280x512, .f32⟩
  | .hbm, ⟨4, _⟩ => ⟨S1x512, .f32⟩
  | .hbm, ⟨5, _⟩ => ⟨S512x512, .bf16⟩
  | .hbm, ⟨6, _⟩ => ⟨S512x1024, .bf16⟩
  | .hbm, ⟨7, _⟩ => ⟨S8x6144, .f32⟩
  | .hbm, ⟨8, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S512x1024, .bf16⟩
  | .local _ .vmem, ⟨11, _⟩ => ⟨S8x6144, .f32⟩
  | .local _ .vmem, ⟨12, _⟩ => ⟨S512x1024, .f32⟩
  | .local _ .vmem, ⟨13, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c32_i32 : BitVec 32 := 32#32
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let v0 : BitVec 32 := Scalar.divsi arg0 c32_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v49 : Index := Scalar.indexCast v17
  let c2048 : Index := 2048#32
  ![v49.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== S5OutReferenceIdeal.lean ====
abbrev S33280x1024 : Shape := ⟨2, ![33280, 1024]⟩
abbrev S33280x512 : Shape := ⟨2, ![33280, 512]⟩
abbrev S1x512 : Shape := ⟨2, ![1, 512]⟩
abbrev S512x512 : Shape := ⟨2, ![512, 512]⟩
abbrev S512x1024 : Shape := ⟨2, ![512, 1024]⟩
abbrev S8x6144 : Shape := ⟨2, ![8, 6144]⟩
abbrev S_ : Shape := ⟨0, ![]⟩
abbrev S8x1024 : Shape := ⟨2, ![8, 1024]⟩
abbrev S2x1024 : Shape := ⟨2, ![2, 1024]⟩
abbrev S2x1x1024 : Shape := ⟨3, ![2, 1, 1024]⟩
abbrev S2x16384x1024 : Shape := ⟨3, ![2, 16384, 1024]⟩
abbrev S32768x1024 : Shape := ⟨2, ![32768, 1024]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S33280x512, .f32⟩
  | .hbm, ⟨2, _⟩ => ⟨S33280x512, .f32⟩
  | .hbm, ⟨3, _⟩ => ⟨S33280x512, .f32⟩
  | .hbm, ⟨4, _⟩ => ⟨S1x512, .f32⟩
  | .hbm, ⟨5, _⟩ => ⟨S512x512, .bf16⟩
  | .hbm, ⟨6, _⟩ => ⟨S512x1024, .bf16⟩
  | .hbm, ⟨7, _⟩ => ⟨S8x6144, .f32⟩
  | .hbm, ⟨8, _⟩ => ⟨S33280x512, .f32⟩
  | .hbm, ⟨9, _⟩ => ⟨S33280x512, .f32⟩
  | .hbm, ⟨10, _⟩ => ⟨S33280x512, .f32⟩
  | .hbm, ⟨11, _⟩ => ⟨S33280x512, .f32⟩
  | .hbm, ⟨12, _⟩ => ⟨S_, .f32⟩
  | .hbm, ⟨13, _⟩ => ⟨S33280x512, .f32⟩
  | .hbm, ⟨14, _⟩ => ⟨S33280x512, .f32⟩
  | .hbm, ⟨15, _⟩ => ⟨S33280x512, .f32⟩
  | .hbm, ⟨16, _⟩ => ⟨S_, .f32⟩
  | .hbm, ⟨17, _⟩ => ⟨S33280x512, .f32⟩
  | .hbm, ⟨18, _⟩ => ⟨S33280x512, .f32⟩
  | .hbm, ⟨19, _⟩ => ⟨S33280x512, .f32⟩
  | .hbm, ⟨20, _⟩ => ⟨S33280x512, .f32⟩
  | .hbm, ⟨21, _⟩ => ⟨S512x512, .f32⟩
  | .hbm, ⟨22, _⟩ => ⟨S33280x512, .f32⟩
  | .hbm, ⟨23, _⟩ => ⟨S33280x512, .f32⟩
  | .hbm, ⟨24, _⟩ => ⟨S33280x512, .f32⟩
  | .hbm, ⟨25, _⟩ => ⟨S_, .f32⟩
  | .hbm, ⟨26, _⟩ => ⟨S33280x512, .f32⟩
  | .hbm, ⟨27, _⟩ => ⟨S33280x512, .f32⟩
  | .hbm, ⟨28, _⟩ => ⟨S_, .f32⟩
  | .hbm, ⟨29, _⟩ => ⟨S33280x512, .f32⟩
  | .hbm, ⟨30, _⟩ => ⟨S33280x512, .f32⟩
  | .hbm, ⟨31, _⟩ => ⟨S33280x512, .f32⟩
  | .hbm, ⟨32, _⟩ => ⟨S8x1024, .f32⟩
  | .hbm, ⟨33, _⟩ => ⟨S2x1024, .f32⟩
  | .hbm, ⟨34, _⟩ => ⟨S2x1x1024, .f32⟩
  | .hbm, ⟨35, _⟩ => ⟨S2x16384x1024, .f32⟩
  | .hbm, ⟨36, _⟩ => ⟨S32768x1024, .f32⟩
  | .hbm, ⟨37, _⟩ => ⟨S1x1024, .f32⟩
  | .hbm, ⟨38, _⟩ => ⟨S512x1024, .f32⟩
  | .hbm, ⟨39, _⟩ => ⟨S33280x1024, .f32⟩
  | .hbm, ⟨40, _⟩ => ⟨S512x1024, .f32⟩
  | .hbm, ⟨41, _⟩ => ⟨S33280x1024, .f32⟩
  | .hbm, ⟨42, _⟩ => ⟨S33280x1024, .f32⟩
  | .hbm, ⟨43, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Modulation.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== LruCoef.lean ====
abbrev S33280x2048 : Shape := ⟨2, ![33280, 2048]⟩
abbrev S4x1024 : Shape := ⟨2, ![4, 1024]⟩
abbrev S1x1024 : Shape := ⟨2, ![1, 1024]⟩
abbrev S2x8x128x128 : Shape := ⟨4, ![2, 8, 128, 128]⟩
abbrev S2x1x1024 : Shape := ⟨3, ![2, 1, 1024]⟩
abbrev S2x33280x1024 : Shape := ⟨3, ![2, 33280, 1024]⟩
abbrev S256x1024 : Shape := ⟨2, ![256, 1024]⟩
abbrev S8x1024 : Shape := ⟨2, ![8, 1024]⟩
abbrev S2x256x1024 : Shape := ⟨3, ![2, 256, 1024]⟩
abbrev S272x1024 : Shape := ⟨2, ![272, 1024]⟩
abbrev S256x128 : Shape := ⟨2, ![256, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S1x256x128 : Shape := ⟨3, ![1, 256, 128]⟩

abbrev nBuf : Space → Nat
  | .hbm => 10
  | .vmem => 18
  | .smem => 0
  | _ => 0

abbrev bufTy : (tb : Table) → Fin (tcTables nBuf tb) → BufTy
  | .hbm, ⟨0, _⟩ => ⟨S33280x2048, .f32⟩
  | .hbm, ⟨1, _⟩ => ⟨S4x1024, .f32⟩
  | .hbm, ⟨2, _⟩ => ⟨S1x1024, .f32⟩
  | .hbm, ⟨3, _⟩ => ⟨S2x8x128x128, .bf16⟩
  | .hbm, ⟨4, _⟩ => ⟨S2x1x1024, .f32⟩
  | .hbm, ⟨5, _⟩ => ⟨S2x8x128x128, .bf16⟩
  | .hbm, ⟨6, _⟩ => ⟨S2x1x1024, .f32⟩
  | .hbm, ⟨7, _⟩ => ⟨S2x1x1024, .f32⟩
  | .hbm, ⟨8, _⟩ => ⟨S2x33280x1024, .f32⟩
  | .hbm, ⟨9, _⟩ => ⟨S2x33280x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S1x1024, .f32⟩
  | .local _ .vmem, ⟨8, _⟩ => ⟨S2x8x128x128, .bf16⟩
  | .local _ .vmem, ⟨9, _⟩ => ⟨S2x1x1024, .f32⟩
  | .local _ .vmem, ⟨10, _⟩ => ⟨S2x8x128x128, .bf16⟩
  | .local _ .vmem, ⟨11, _⟩ => ⟨S2x1x1024, .f32⟩
  | .local _ .vmem, ⟨12, _⟩ => ⟨S2x1x1024, .f32⟩
  | .local _ .vmem, ⟨13, _⟩ => ⟨S2x256x1024, .f32⟩
  | .local _ .vmem, ⟨14, _⟩ => ⟨S2x256x1024, .f32⟩
  | .local _ .vmem, ⟨15, _⟩ => ⟨S2x256x1024, .f32⟩
  | .local _ .vmem, ⟨16, _⟩ => ⟨S2x256x1024, .f32⟩
  | .local _ .vmem, ⟨17, _⟩ => ⟨S272x1024, .f32⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4159_i32 : BitVec 32 := 4159#32
  let v2 : BitVec 32 := Scalar.minsi v1 c4159_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LruCoefReferenceIdeal.lean ====
abbrev S33280x2048 : Shape := ⟨2, ![33280, 2048]⟩
abbrev S4x1024 : Shape := ⟨2, ![4, 1024]⟩
abbrev S1x1024 : Shape := ⟨2, ![1, 1024]⟩
abbrev S2x8x128x128 : Shape := ⟨4, ![2, 8, 128, 128]⟩
abbrev S2x1x1024 : Shape := ⟨3, ![2, 1, 1024]⟩
abbrev S33280x1024 : Shape := ⟨2, ![33280, 1024]⟩
abbrev S32768x1024 : Shape := ⟨2, ![32768, 1024]⟩
abbrev S2x16384x1024 : Shape := ⟨3, ![2, 16384, 1024]⟩
abbrev S_ : Shape := ⟨0, ![]⟩
abbrev S2x16387x1024 : Shape := ⟨3, ![2, 16387, 1024]⟩
abbrev S1024 : Shape := ⟨1, ![1024]⟩
abbrev S1x1x1024 : Shape := ⟨3, ![1, 1, 1024]⟩
abbrev S512x1024 : Shape := ⟨2, ![512, 1024]⟩
abbrev S2x256x1024 : Shape := ⟨3, ![2, 256, 1024]⟩
abbrev S2x259x1024 : Shape := ⟨3, ![2, 259, 1024]⟩
abbrev S33280x8x128 : Shape := ⟨3, ![33280, 8, 128]⟩
abbrev S8x2x128x33280 : Shape := ⟨4, ![8, 2, 128, 33280]⟩
abbrev S2x33280x8x128 : Shape := ⟨4, ![2, 33280, 8, 128]⟩
abbrev S2x33280x1024 : Shape := ⟨3, ![2, 33280, 1024]⟩
abbrev S1x33280x1024 : Shape := ⟨3, ![1, 33280, 1024]⟩

abbrev nBuf : Space → Nat
  | .hbm => 130
  | .vmem => 0
  | .smem => 0
  | _ => 0

abbrev hbmTy0_0 (i : Nat) : BufTy := match i % 128 with
  | 0 => ⟨S33280x2048, .f32⟩
  | 1 => ⟨S4x1024, .f32⟩
  | 2 => ⟨S1x1024, .f32⟩
  | 3 => ⟨S2x8x128x128, .bf16⟩
  | 4 => ⟨S2x1x1024, .f32⟩
  | 5 => ⟨S2x8x128x128, .bf16⟩
  | 6 => ⟨S2x1x1024, .f32⟩
  | 7 => ⟨S2x1x1024, .f32⟩
  | 8 => ⟨S33280x1024, .f32⟩
  | 9 => ⟨S32768x1024, .f32⟩
  | 10 => ⟨S2x16384x1024, .f32⟩
  | 11 => ⟨S_, .i32⟩
  | 12 => ⟨S_, .f32⟩
  | 13 => ⟨S2x16387x1024, .f32⟩
  | 14 => ⟨S1x1024, .f32⟩
  | 15 => ⟨S1024, .f32⟩
  | 16 => ⟨S2x16384x1024, .f32⟩
  | 17 => ⟨S1x1x1024, .f32⟩
  | 18 => ⟨S2x16384x1024, .f32⟩
  | 19 => ⟨S2x16384x1024, .f32⟩
  | 20 => ⟨S_, .f32⟩
  | 21 => ⟨S2x16384x1024, .f32⟩
  | 22 => ⟨S2x16384x1024, .f32⟩
  | 23 => ⟨S1x1024, .f32⟩
  | 24 => ⟨S1024, .f32⟩
  | 25 => ⟨S2x16384x1024, .f32⟩
  | 26 => ⟨S1x1x1024, .f32⟩
  | 27 => ⟨S2x16384x1024, .f32⟩
  | 28 => ⟨S2x16384x1024, .f32⟩
  | 29 => ⟨S2x16384x1024, .f32⟩
  | 30 => ⟨S1x1024, .f32⟩
  | 31 => ⟨S1024, .f32⟩
  | 32 => ⟨S2x16384x1024, .f32⟩
  | 33 => ⟨S1x1x1024, .f32⟩
  | 34 => ⟨S2x16384x1024, .f32⟩
  | 35 => ⟨S2x16384x1024, .f32⟩
  | 36 => ⟨S2x16384x1024, .f32⟩
  | 37 => ⟨S1x1024, .f32⟩
  | 38 => ⟨S1024, .f32⟩
  | 39 => ⟨S2x16384x1024, .f32⟩
  | 40 => ⟨S1x1x1024, .f32⟩
  | 41 => ⟨S2x16384x1024, .f32⟩
  | 42 => ⟨S2x16384x1024, .f32⟩
  | 43 => ⟨S2x16384x1024, .f32⟩
  | 44 => ⟨S1x1x1024, .f32⟩
  | 45 => ⟨S2x16384x1024, .f32⟩
  | 46 => ⟨S2x16384x1024, .f32⟩
  | 47 => ⟨S32768x1024, .f32⟩
  | 48 => ⟨S512x1024, .f32⟩
  | 49 => ⟨S2x256x1024, .f32⟩
  | 50 => ⟨S_, .i32⟩
  | 51 => ⟨S_, .f32⟩
  | 52 => ⟨S2x259x1024, .f32⟩
  | 53 => ⟨S1x1024, .f32⟩
  | 54 => ⟨S1024, .f32⟩
  | 55 => ⟨S2x256x1024, .f32⟩
  | 56 => ⟨S1x1x1024, .f32⟩
  | 57 => ⟨S2x256x1024, .f32⟩
  | 58 => ⟨S2x256x1024, .f32⟩
  | 59 => ⟨S_, .f32⟩
  | 60 => ⟨S2x256x1024, .f32⟩
  | 61 => ⟨S2x256x1024, .f32⟩
  | 62 => ⟨S1x1024, .f32⟩
  | 63 => ⟨S1024, .f32⟩
  | 64 => ⟨S2x256x1024, .f32⟩
  | 65 => ⟨S1x1x1024, .f32⟩
  | 66 => ⟨S2x256x1024, .f32⟩
  | 67 => ⟨S2x256x1024, .f32⟩
  | 68 => ⟨S2x256x1024, .f32⟩
  | 69 => ⟨S1x1024, .f32⟩
  | 70 => ⟨S1024, .f32⟩
  | 71 => ⟨S2x256x1024, .f32⟩
  | 72 => ⟨S1x1x1024, .f32⟩
  | 73 => ⟨S2x256x1024, .f32⟩
  | 74 => ⟨S2x256x1024, .f32⟩
  | 75 => ⟨S2x256x1024, .f32⟩
  | 76 => ⟨S1x1024, .f32⟩
  | 77 => ⟨S1024, .f32⟩
  | 78 => ⟨S2x256x1024, .f32⟩
  | 79 => ⟨S1x1x1024, .f32⟩
  | 80 => ⟨S2x256x1024, .f32⟩
  | 81 => ⟨S2x256x1024, .f32⟩
  | 82 => ⟨S2x256x1024, .f32⟩
  | 83 => ⟨S1x1x1024, .f32⟩
  | 84 => ⟨S2x256x1024, .f32⟩
  | 85 => ⟨S2x256x1024, .f32⟩
  | 86 => ⟨S512x1024, .f32⟩
  | 87 => ⟨S33280x1024, .f32⟩
  | 88 => ⟨S33280x8x128, .f32⟩
  | 89 => ⟨S2x8x128x128, .f32⟩
  | 90 => ⟨S8x2x128x33280, .f32⟩
  | 91 => ⟨S2x33280x8x128, .f32⟩
  | 92 => ⟨S2x33280x1024, .f32⟩
  | 93 => ⟨S2x33280x1024, .f32⟩
  | 94 => ⟨S2x33280x1024, .f32⟩
  | 95 => ⟨S2x33280x1024, .f32⟩
  | 96 => ⟨S2x33280x1024, .f32⟩
  | 97 => ⟨S_, .f32⟩
  | 98 => ⟨S2x33280x1024, .f32⟩
  | 99 => ⟨S2x33280x1024, .f32⟩
  | 100 => ⟨S_, .f32⟩
  | 101 => ⟨S2x33280x1024, .f32⟩
  | 102 => ⟨S2x33280x1024, .f32⟩
  | 103 => ⟨S2x33280x1024, .f32⟩
  | 104 => ⟨S2x33280x1024, .f32⟩
  | 105 => ⟨S2x33280x1024, .f32⟩
  | 106 => ⟨S_, .f32⟩
  | 107 => ⟨S2x33280x1024, .f32⟩
  | 108 => ⟨S2x33280x1024, .f32⟩
  | 109 => ⟨S2x33280x1024, .f32⟩
  | 110 => ⟨S2x33280x1024, .f32⟩
  | 111 => ⟨S2x33280x1024, .f32⟩
  | 112 => ⟨S2x8x128x128, .f32⟩
  | 113 => ⟨S8x2x128x33280, .f32⟩
  | 114 => ⟨S2x33280x8x128, .f32⟩
  | 115 => ⟨S2x33280x1024, .f32⟩
  | 116 => ⟨S2x33280x1024, .f32⟩
  | 117 => ⟨S2x33280x1024, .f32⟩
  | 118 => ⟨S2x33280x1024, .f32⟩
  | 119 => ⟨S2x33280x1024, .f32⟩
  | 120 => ⟨S_, .f32⟩
  | 121 => ⟨S2x33280x1024, .f32⟩
  | 122 => ⟨S2x33280x1024, .f32⟩
  | 123 => ⟨S_, .f32⟩
  | 124 => ⟨S2x33280x1024, .f32⟩
  | 125 => ⟨S2x33280x1024, .f32⟩
  | 126 => ⟨S1x33280x1024, .f32⟩
  | 127 => ⟨S2x33280x1024, .f32⟩
  | _ => ⟨S33280x2048, .f32⟩

abbrev hbmTy0_1 (i : Nat) : BufTy := match i % 128 with
  | 0 => ⟨S2x33280x1024, .f32⟩
  | 1 => ⟨S2x33280x1024, .f32⟩
  | _ => ⟨S33280x2048, .f32⟩

abbrev hbmTy (i : Nat) : BufTy := match i / 128 with
  | 0 => hbmTy0_0 i
  | 1 => hbmTy0_1 i
  | _ => ⟨S33280x2048, .f32⟩

abbrev bufTy : (tb : Table) → Fin (tcTables nBuf tb) → BufTy
  | .hbm, ⟨i, _⟩ => hbmTy i
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_0 : Ref sig .tc := ⟨.hbm, 50, rfl⟩
abbrev main_call1_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_2 : Ref sig .tc := ⟨.hbm, 97, rfl⟩
abbrev main_v83 : Ref sig .tc := ⟨.hbm, 98, rfl⟩
abbrev main_v84 : Ref sig .tc := ⟨.hbm, 99, rfl⟩
abbrev main_cst_3 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_4 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_5 : Ref sig .tc := ⟨.hbm, 120, rfl⟩
abbrev main_v103 : Ref sig .tc := ⟨.hbm, 121, rfl⟩
abbrev main_v104 : Ref sig .tc := ⟨.hbm, 122, rfl⟩
abbrev main_cst_6 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]
-- ==== FlashCtx.lean ====
abbrev S33280x1024 : Shape := ⟨2, ![33280, 1024]⟩
abbrev S33280x256 : Shape := ⟨2, ![33280, 256]⟩
abbrev S512x1024 : Shape := ⟨2, ![512, 1024]⟩
abbrev S256x512 : Shape := ⟨2, ![256, 512]⟩
abbrev S256x128 : Shape := ⟨2, ![256, 128]⟩
abbrev S1024x128 : Shape := ⟨2, ![1024, 128]⟩
abbrev S1024x1 : Shape := ⟨2, ![1024, 1]⟩
abbrev S1024x256 : Shape := ⟨2, ![1024, 256]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S33280x1024, .bf16⟩
  | .hbm, ⟨1, _⟩ => ⟨S33280x256, .bf16⟩
  | .hbm, ⟨2, _⟩ => ⟨S33280x256, .bf16⟩
  | .hbm, ⟨3, _⟩ => ⟨S512x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FlashCtxReferenceIdeal.lean ====
abbrev S33280x1024 : Shape := ⟨2, ![33280, 1024]⟩
abbrev S33280x256 : Shape := ⟨2, ![33280, 256]⟩
abbrev S512x256 : Shape := ⟨2, ![512, 256]⟩
abbrev S2x256x2x128 : Shape := ⟨4, ![2, 256, 2, 128]⟩
abbrev S512x1024 : Shape := ⟨2, ![512, 1024]⟩
abbrev S2x256x2x4x128 : Shape := ⟨5, ![2, 256, 2, 4, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩

abbrev nBuf : Space → Nat
  | .hbm => 36
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x256, .bf16⟩
  | .hbm, ⟨2, _⟩ => ⟨S33280x256, .bf16⟩
  | .hbm, ⟨3, _⟩ => ⟨S512x256, .bf16⟩
  | .hbm, ⟨4, _⟩ => ⟨S512x256, .f32⟩
  | .hbm, ⟨5, _⟩ => ⟨S2x256x2x128, .f32⟩
  | .hbm, ⟨6, _⟩ => ⟨S512x256, .bf16⟩
  | .hbm, ⟨7, _⟩ => ⟨S512x256, .f32⟩
  | .hbm, ⟨8, _⟩ => ⟨S2x256x2x128, .f32⟩
  | .hbm, ⟨9, _⟩ => ⟨S512x1024, .bf16⟩
  | .hbm, ⟨10, _⟩ => ⟨S512x1024, .f32⟩
  | .hbm, ⟨11, _⟩ => ⟨S2x256x2x4x128, .f32⟩
  | .hbm, ⟨12, _⟩ => ⟨S2x2x256x256x4, .f32⟩
  | .hbm, ⟨13, _⟩ => ⟨S2x2x4x256x256, .f32⟩
  | .hbm, ⟨14, _⟩ => ⟨S_, .f32⟩
  | .hbm, ⟨15, _⟩ => ⟨S_, .f32⟩
  | .hbm, ⟨16, _⟩ => ⟨S2x2x4x256x256, .f32⟩
  | .hbm, ⟨17, _⟩ => ⟨S2x2x4x256x256, .f32⟩
  | .hbm, ⟨18, _⟩ => ⟨S_, .f32⟩
  | .hbm, ⟨19, _⟩ => ⟨S2x2x4x256, .f32⟩
  | .hbm, ⟨20, _⟩ => ⟨S_, .f32⟩
  | .hbm, ⟨21, _⟩ => ⟨S2x2x4x256, .f32⟩
  | .hbm, ⟨22, _⟩ => ⟨S2x2x4x256, .f32⟩
  | .hbm, ⟨23, _⟩ => ⟨S2x2x4x256x1, .f32⟩
  | .hbm, ⟨24, _⟩ => ⟨S2x2x4x256x256, .f32⟩
  | .hbm, ⟨25, _⟩ => ⟨S2x2x4x256x256, .f32⟩
  | .hbm, ⟨26, _⟩ => ⟨S2x2x4x256x256, .f32⟩
  | .hbm, ⟨27, _⟩ => ⟨S_, .f32⟩
  | .hbm, ⟨28, _⟩ => ⟨S2x2x4x256, .f32⟩
  | .hbm, ⟨29, _⟩ => ⟨S2x2x4x256x1, .f32⟩
  | .hbm, ⟨30, _⟩ => ⟨S2x2x4x256x256, .f32⟩
  | .hbm, ⟨31, _⟩ => ⟨S2x2x4x256x256, .f32⟩
  | .hbm, ⟨32, _⟩ => ⟨S2x2x128x4x256, .f32⟩
  | .hbm, ⟨33, _⟩ => ⟨S2x256x2x4x128, .f32⟩
  | .hbm, ⟨34, _⟩ => ⟨S512x1024, .f32⟩
  | .hbm, ⟨35, _⟩ => ⟨S512x1024, .bf16⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.Rows.lean ====
/- What the calls on rows compute, element by element: the normalized row, its modulation, and the products. -/
module

public import Idealize.ShloMosaic.Lib.Pipeline.ValueKit
public import Idealize.ShloMosaic.Lib.Pointwise

@[expose] public section

noncomputable section

namespace Cert.Rows

open Idealize.ShloMosaic

/-- The reciprocal root mean square of a row of `d` entries (`d` as a float32 word). -/
def rms {n : ℕ} (d : BitVec 32) (x : Fin n → EReal) : EReal :=
  Ideal.rsqrt (Ideal.div (∑ e, x e * x e) (Ideal.ofBits .f32 d) + Ideal.ofBits .f32 0x358637BD#32)

/-- Which row of modulation vectors a row takes: one per batch for its latent rows, one for the context rows. -/
def modRow (R : ℕ) : Fin 8 := ⟨min (R / 16384) 2, by omega⟩

/-- The column of entry `C` in the `k`-th of the six modulation vectors. -/
def modCol (k : Fin 6) (C : Fin 1024) : Fin 6144 := ⟨k * 1024 + C, by omega⟩

/-- An entry of the normalized row, shifted and scaled. -/
def normed (x g shift scale : Fin 1024 → EReal) (e : Fin 1024) : EReal :=
  x e * rms 0x44800000#32 x * g e * (Ideal.ofBits .f32 0x3F800000#32 + scale e) + shift e

theorem normed_congr {x x' g g' shift shift' scale scale' : Fin 1024 → EReal} (hx : ∀ e, x e = x' e) (hg : ∀ e, g e = g' e)
    (h0 : ∀ e, shift e = shift' e) (h1 : ∀ e, scale e = scale' e) (e : Fin 1024) :
    normed x g shift scale e = normed x' g' shift' scale' e := by
  rw [funext hx, funext hg, funext h0, funext h1]

/-- A vector spread over the rows, batch by batch and then over the context rows. -/
theorem spread_at {α : Type} (f : Fin 8 → α) (R : Fin 33280) :
    (if h : R.val < 32768 then f ⟨R.val / 16384, by omega⟩ else f 2) = f (modRow R) := by
  have hR := R.isLt
  split
  · exact congrArg f (Fin.ext (show R.val / 16384 = min (R.val / 16384) 2 by omega))
  · exact congrArg f (Fin.ext (show 2 = min (R.val / 16384) 2 by omega))

/-- A modulation vector's entry, loaded as a row of the modulation array at column `c`. -/
theorem ld_row (x : (⟨2, ![8, 6144]⟩ : Shape).Idx → Elt Ideal .f32) (off : Fin 2 → ℕ) (r c : ℕ) (ho : off = ![r, c])
    (inb : ∀ a, off a + (![1, 1024] : Fin 2 → ℕ) a ≤ (⟨2, ![8, 6144]⟩ : Shape).size a) (b : Fin 1024) (i : Fin 8) (j : Fin 6144)
    (hi : i.val = r) (hj : j.val = c + b) :
    View.ld (Val := Elt Ideal) (e' := .f32) x (Rect.unit (s := ⟨2, ![8, 6144]⟩) off ![1, 1024] inb) (ix2 0 b) = x (ix2 i j) := by
  subst ho
  refine congrArg x (funext fun a => ?_)
  fin_cases a
  · exact Fin.ext (show r + 1 * 0 = i.val by omega)
  · exact Fin.ext (show c + 1 * b.val = j.val by omega)

end Cert.Rows

end
-- ==== Proof.FinalNorm.lean ====
/- The final normalization: what the call and its reference compute. -/
module

public import proofs.«01_k».proof.Proof.Rows
public import proofs.«01_k».proof.Proof.Gen.FinalNormIdeal.Value
public import proofs.«01_k».proof.Proof.Gen.FinalNormReferenceIdeal.Run

@[expose] public section

set_option maxRecDepth 16384

noncomputable section

namespace Cert.FinalNormIdeal.Rows

open Cert.FinalNormIdeal Cert.FinalNormIdeal.Gen Cert.Rows Idealize.ShloMosaic Idealize.ShloMosaic.TcCoe

local notation "𝕀" => Idealize.ShloMosaic.Ideal

/-- An element of the result: the entry over its row's root mean square, times the gain. -/
def at_ (x : FVec 𝕀 S33280x1024 .f32) (g : FVec 𝕀 S1x1024 .f32) (R : Fin 32768) (C : Fin 1024) : EReal :=
  x (ix2 ⟨R, by omega⟩ C) * rms 0x44800000#32 (fun e => x (ix2 ⟨R, by omega⟩ e)) * g (ix2 0 C)

theorem pay_at (x : FVec 𝕀 S512x1024 .f32) (g : FVec 𝕀 S1x1024 .f32) (a : Fin 512) (b : Fin 1024) :
    k0_pay1 (F := 𝕀) x g (ix2 a b) = x (ix2 a b) * rms 0x44800000#32 (fun e => x (ix2 a e)) * g (ix2 0 b) := by
  pointwise [k0_pay1, rms]

theorem tile (x : FVec 𝕀 S512x1024 .f32) (g : FVec 𝕀 S1x1024 .f32) : out0_2 (F := 𝕀) x g = k0_pay1 (F := 𝕀) x g := by
  unfold out0_2
  rw [View.canon_cons_unit_lit, View.ld_unit_lit, View.ld_unit_lit] <;> decide

variable (m : (ℓ : Loc nD τ sig) → Buf (Elt 𝕀) ℓ)

theorem idx : ∀ t : Fin cfg0.N, win0_0.index t = ![t.val, 0] ∧ win0_1.index t = ![0, 0] ∧ win0_2.index t = ![t.val, 0] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (b : Fin 1024) :
    iblk m c 1 t (ix2 0 b) = m ((c : Thread nD τ).loc main_arg1) (ix2 0 b) := by
  blk_ext [iblk, V, idx t]

/-- What point `t` computes, at the array position it is stored to. -/
theorem point (c : Dev nD) (t : Fin cfg0.N) (a : Fin 512) (b : Fin 1024) (R : Fin 32768) (C : Fin 1024)
    (hR : R.val = t.val * 512 + a) (hC : C.val = b) :
    k0_pay1 (F := 𝕀) (iblk m c 0 t) (iblk m c 1 t) (ix2 a b)
      = at_ (m ((c : Thread nD τ).loc main_arg0)) (m ((c : Thread nD τ).loc main_arg1)) R C := by
  obtain rfl : C = b := Fin.ext hC
  have hx : ∀ e : Fin 1024, iblk m c 0 t (ix2 a e) = m ((c : Thread nD τ).loc main_arg0) (ix2 ⟨R, by omega⟩ e) := fun e =>
    blk0 m c t _ _ _ hR rfl
  rw [pay_at, at_, blk1, hx]
  simp only [hx]

/-- The result array. -/
theorem final (c : Dev nD) : (dats m 0 c).arrAt 2 cfg0.N = fun y : S32768x1024.Idx =>
    at_ (m ((c : Thread nD τ).loc main_arg0)) (m ((c : Thread nD τ).loc main_arg1)) (y 0) (y 1) := by
  refine (dats m 0 c).arrAt_eq_of_covers 2 _ (by decide +kernel) fun t _ y => ?_
  blk_simp
  rw [after0_2, tile]
  exact (congrArg _ (eq_ix2 y)).trans (point m c t _ _ _ _ (by blk_simp [idx t]) (by blk_simp [idx t]))

end Cert.FinalNormIdeal.Rows

namespace Cert.FinalNormReferenceIdeal.Rows

open Cert.FinalNormReferenceIdeal Cert.FinalNormReferenceIdeal.Gen Cert.Rows Idealize.ShloMosaic Idealize.ShloMosaic.TcCoe

local notation "𝕀" => Idealize.ShloMosaic.Ideal

/-- The reference's result, as a function of its arguments. -/
def res (x : FVec 𝕀 S33280x1024 .f32) (g : FVec 𝕀 S1x1024 .f32) : FVec 𝕀 S32768x1024 .f32 :=
  mulf (mulf (extractStridedSlice S32768x1024 ![0, 0] x slices_S33280x1024_S32768x1024_0_0) (broadcastInDim S32768x1024 ![0, 1] bcast_S32768x1_S32768x1024_0_1 (Host.rsqrt (addf (Host.divf (broadcastInDim S32768x1 ![0] bcast_S32768_S32768x1_0 (Host.reduceAdd (mulf (extractStridedSlice S32768x1024 ![0, 0] x slices_S33280x1024_S32768x1024_0_0) (extractStridedSlice S32768x1024 ![0, 0] x slices_S33280x1024_S32768x1024_0_0)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

theorem res_at (x : FVec 𝕀 S33280x1024 .f32) (g : FVec 𝕀 S1x1024 .f32) (R : Fin 32768) (C : Fin 1024) :
    res x g (ix2 R C) = Cert.FinalNormIdeal.Rows.at_ x g R C := by
  pointwise [res, Cert.FinalNormIdeal.Rows.at_, rms]

end Cert.FinalNormReferenceIdeal.Rows

end
-- ==== Proof.FinalNormClaims.lean ====
/- The claims of the final normalization. -/
module

public import proofs.«01_k».proof.Defs
public import proofs.«01_k».proof.Proof.FinalNorm
public import proofs.«01_k».proof.Proof.Gen.FinalNorm.Frame
public import Idealize.ShloMosaic.Lib.Quiescent
public import Idealize.ShloMosaic.Adequacy
public import Idealize.ShloMosaic.Init

@[expose] public section

set_option maxRecDepth 16384

noncomputable section

namespace Cert.FinalNormIdeal.Rows

open Idealize.ShloMosaic Idealize.SL.Sem

/-- The reference leaves its arguments unchanged and its counters at zero (it declares none). -/
theorem frame_reference : Cert.quiescent_FinalNormReferenceIdeal := fun m g _ =>
  (θ_run Cert.FinalNormReferenceIdeal.defs _ _).mono
    (fun r h => ⟨fun c => (h c).2, sem_eq_zero_of_no_sems rfl _⟩) (Cert.FinalNormReferenceIdeal.Value.run m g)

/-- The call and its reference end with the same array. -/
theorem algebraic : Cert.algebraic_FinalNormIdeal_FinalNormReferenceIdeal := fun m g m' g' _ agree => by
  refine ⟨fun c => fun y : Cert.FinalNormIdeal.S32768x1024.Idx => at_ (m ((c.tc : Thread Cert.FinalNormIdeal.nD Cert.FinalNormIdeal.τ).loc Cert.FinalNormIdeal.main_arg0)) (m ((c.tc : Thread Cert.FinalNormIdeal.nD Cert.FinalNormIdeal.τ).loc Cert.FinalNormIdeal.main_arg1)) (y 0) (y 1),
    (θ_run Cert.FinalNormIdeal.defs _ _).mono (fun r h c => ⟨(h c).1.trans (final m c), (h c).2⟩) (Cert.FinalNormIdeal.Value.run_blocks m g),
    (θ_run Cert.FinalNormReferenceIdeal.defs _ _).mono (fun r h c => ⟨(h c).1.trans ?_, (h c).2⟩) (Cert.FinalNormReferenceIdeal.Value.run m' g')⟩
  rw [(agree c).1, (agree c).2]
  refine funext fun y => ?_
  refine (congrArg _ (eq_ix2 y)).trans ?_
  exact Cert.FinalNormReferenceIdeal.Rows.res_at _ _ (y 0) (y 1)

end Cert.FinalNormIdeal.Rows

end
-- ==== Proof.ResidMatmul.lean ====
/- The gated residual product: what the call and its reference compute. -/
module

public import proofs.«01_k».proof.Proof.Rows
public import proofs.«01_k».proof.Proof.Gen.ResidMatmulIdeal.Value
public import proofs.«01_k».proof.Proof.Gen.ResidMatmulReferenceIdeal.Run

@[expose] public section

set_option maxRecDepth 16384

noncomputable section

namespace Cert.ResidMatmulIdeal.Rows

open Cert.ResidMatmulIdeal Cert.ResidMatmulIdeal.Gen Cert.Rows Idealize.ShloMosaic Idealize.ShloMosaic.TcCoe

local notation "𝕀" => Idealize.ShloMosaic.Ideal

/-- An element of the result: the residual, plus its row's gate times the product's entry. -/
def at_ (x : FVec 𝕀 S33280x1024 .f32) (a : FVec 𝕀 S33280x1024 .bf16) (w : FVec 𝕀 S1024x1024 .bf16) (m : FVec 𝕀 S8x6144 .f32)
    (R : Fin 33280) (C : Fin 1024) : EReal :=
  x (ix2 R C) + m (ix2 (modRow R) (modCol 2 C)) * ∑ e : Fin 1024, a (ix2 R e) * w (ix2 e C)

theorem pay_at (a : FVec 𝕀 S512x1024 .bf16) (w : FVec 𝕀 S1024x1024 .bf16) (x : FVec 𝕀 S512x1024 .f32) (g : FVec 𝕀 S1x1024 .f32)
    (i : Fin 512) (j : Fin 1024) :
    k0_pay1 (F := 𝕀) a w x g (ix2 i j) = x (ix2 i j) + g (ix2 0 j) * ∑ e : Fin 1024, a (ix2 i e) * w (ix2 e j) := by
  pointwise [k0_pay1]

variable (m : (ℓ : Loc nD τ sig) → Buf (Elt 𝕀) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The row of modulation vectors a point takes. -/
theorem off : ∀ t : Fin cfg0.N, k0_off1 (grid0.coords t) = ![min (t.val / 32) 2, 2048] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (a : Fin 512) (b : Fin 1024) (j : S33280x1024.Idx)
    (h0 : (j 0).val = t.val * 512 + a) (h1 : (j 1).val = b) :
    iblk m c 1 t (ix2 a b) = m ((c : Thread nD τ).loc main_arg1) j := by
  blk_ext [iblk, V, idx t]

theorem blk2 (c : Dev nD) (t : Fin cfg0.N) (a b : Fin 1024) :
    iblk m c 2 t (ix2 a b) = m ((c : Thread nD τ).loc main_arg2) (ix2 a b) := by
  blk_ext [iblk, V, idx t]

theorem blk3 (c : Dev nD) (t : Fin cfg0.N) (a : Fin 8) (b : Fin 6144) :
    iblk m c 3 t (ix2 a b) = m ((c : Thread nD τ).loc main_arg3) (ix2 a b) := by
  blk_ext [iblk, V, idx t]

/-- What point `t` computes, at the array position it is stored to. -/
theorem point (c : Dev nD) (t : Fin cfg0.N) (a : Fin 512) (b : Fin 1024) (R : Fin 33280) (C : Fin 1024)
    (hR : R.val = t.val * 512 + a) (hC : C.val = b) :
    outsAt0 m c t (ix2 a b)
      = at_ (m ((c : Thread nD τ).loc main_arg0)) (m ((c : Thread nD τ).loc main_arg1)) (m ((c : Thread nD τ).loc main_arg2))
          (m ((c : Thread nD τ).loc main_arg3)) R C := by
  obtain rfl : C = b := Fin.ext hC
  have ha := a.isLt
  unfold outsAt0
  frame_out
  refine (pay_at _ _ _ _ _ _).trans ?_
  refine congrArg₂ (fun a b : EReal => a + b) (blk0 m c t _ _ _ hR rfl) (congrArg₂ (fun a b : EReal => a * b) ?_
    (Finset.sum_congr rfl fun e _ => congrArg₂ (fun a b : EReal => a * b) (blk1 m c t _ _ _ hR rfl) (blk2 m c t _ _)))
  refine (ld_row _ _ _ _ (off t) _ _ (modRow R) (modCol 2 C) ?_ rfl).trans (blk3 m c t _ _)
  show min (R.val / 16384) 2 = _; omega

/-- The result array. -/
theorem final (c : Dev nD) : (dats m 0 c).arrAt 4 cfg0.N = fun y : S33280x1024.Idx =>
    at_ (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 4 _ (by decide +kernel) fun t _ y => ?_
  blk_simp
  rw [after0_4]
  exact (congrArg _ (eq_ix2 y)).trans (point m c t _ _ _ _ (by blk_simp [idx t]) (by blk_simp [idx t]))

end Cert.ResidMatmulIdeal.Rows

namespace Cert.ResidMatmulReferenceIdeal.Rows

open Cert.ResidMatmulReferenceIdeal Cert.ResidMatmulReferenceIdeal.Gen Cert.Rows Idealize.ShloMosaic Idealize.ShloMosaic.TcCoe

local notation "𝕀" => Idealize.ShloMosaic.Ideal

/-- The reference's gate, spread over the rows. -/
def gate (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 2048] m slices_S8x6144_S8x1024_0_2048) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 2048] m slices_S8x6144_S8x1024_0_2048) slices_S8x1024_S1x1024_2_0))⟩] concatenates_S32768x1024_S512x1024_S33280x1024_d0

theorem gate_at (m : FVec 𝕀 S8x6144 .f32) (R : Fin 33280) (C : Fin 1024) : gate m (ix2 R C) = m (ix2 (modRow R) (modCol 2 C)) := by
  refine Eq.trans ?_ (spread_at (fun a => m (ix2 a (modCol 2 C))) R)
  pointwise [gate, modCol]

/-- The reference's result, as a function of its arguments. -/
def res (x : FVec 𝕀 S33280x1024 .f32) (a : FVec 𝕀 S33280x1024 .bf16) (w : FVec 𝕀 S1024x1024 .bf16) (m : FVec 𝕀 S8x6144 .f32) :
    FVec 𝕀 S33280x1024 .f32 :=
  addf x (mulf (gate m) (Host.dotGeneral dot_S33280x1024_S1024x1024_S33280x1024_1_0_0_1_n_n none (extf .f32 a bitsLt_bf16_f32) (extf .f32 w bitsLt_bf16_f32)))

theorem res_at (x : FVec 𝕀 S33280x1024 .f32) (a : FVec 𝕀 S33280x1024 .bf16) (w : FVec 𝕀 S1024x1024 .bf16) (m : FVec 𝕀 S8x6144 .f32)
    (R : Fin 33280) (C : Fin 1024) : res x a w m (ix2 R C) = Cert.ResidMatmulIdeal.Rows.at_ x a w m R C := by
  pointwise [res, Cert.ResidMatmulIdeal.Rows.at_, gate_at]

end Cert.ResidMatmulReferenceIdeal.Rows

end
-- ==== Proof.ResidMatmulClaims.lean ====
/- The claims of the gated residual product. -/
module

public import proofs.«01_k».proof.Defs
public import proofs.«01_k».proof.Proof.ResidMatmul
public import proofs.«01_k».proof.Proof.Gen.ResidMatmul.Frame
public import Idealize.ShloMosaic.Lib.Quiescent
public import Idealize.ShloMosaic.Adequacy
public import Idealize.ShloMosaic.Init

@[expose] public section

set_option maxRecDepth 16384

noncomputable section

namespace Cert.ResidMatmulIdeal.Rows

open Idealize.ShloMosaic Idealize.SL.Sem

/-- The reference leaves its arguments unchanged and its counters at zero (it declares none). -/
theorem frame_reference : Cert.quiescent_ResidMatmulReferenceIdeal := fun m g _ =>
  (θ_run Cert.ResidMatmulReferenceIdeal.defs _ _).mono
    (fun r h => ⟨fun c => (h c).2, sem_eq_zero_of_no_sems rfl _⟩) (Cert.ResidMatmulReferenceIdeal.Value.run m g)

/-- The call and its reference end with the same array. -/
theorem algebraic : Cert.algebraic_ResidMatmulIdeal_ResidMatmulReferenceIdeal := fun m g m' g' _ agree => by
  refine ⟨fun c => fun y : Cert.ResidMatmulIdeal.S33280x1024.Idx => at_ (m ((c.tc : Thread Cert.ResidMatmulIdeal.nD Cert.ResidMatmulIdeal.τ).loc Cert.ResidMatmulIdeal.main_arg0)) (m ((c.tc : Thread Cert.ResidMatmulIdeal.nD Cert.ResidMatmulIdeal.τ).loc Cert.ResidMatmulIdeal.main_arg1)) (m ((c.tc : Thread Cert.ResidMatmulIdeal.nD Cert.ResidMatmulIdeal.τ).loc Cert.ResidMatmulIdeal.main_arg2)) (m ((c.tc : Thread Cert.ResidMatmulIdeal.nD Cert.ResidMatmulIdeal.τ).loc Cert.ResidMatmulIdeal.main_arg3)) (y 0) (y 1),
    (θ_run Cert.ResidMatmulIdeal.defs _ _).mono (fun r h c => ⟨(h c).1.trans (final m c), (h c).2⟩) (Cert.ResidMatmulIdeal.Value.run_blocks m g),
    (θ_run Cert.ResidMatmulReferenceIdeal.defs _ _).mono (fun r h c => ⟨(h c).1.trans ?_, (h c).2⟩) (Cert.ResidMatmulReferenceIdeal.Value.run m' g')⟩
  rw [(agree c).1, (agree c).2.1, (agree c).2.2.1, (agree c).2.2.2]
  refine funext fun y => ?_
  refine (congrArg _ (eq_ix2 y)).trans ?_
  exact Cert.ResidMatmulReferenceIdeal.Rows.res_at _ _ _ _ (y 0) (y 1)

end Cert.ResidMatmulIdeal.Rows

end
-- ==== Proof.NormMatmul.lean ====
/- The product of the modulated norm: what the call and its reference compute. -/
module

public import proofs.«01_k».proof.Proof.Rows
public import proofs.«01_k».proof.Proof.Gen.NormMatmulIdeal.Value
public import proofs.«01_k».proof.Proof.Gen.NormMatmulReferenceIdeal.Run

@[expose] public section

set_option maxRecDepth 16384

noncomputable section

namespace Cert.NormMatmulIdeal.Rows

open Cert.NormMatmulIdeal Cert.NormMatmulIdeal.Gen Cert.Rows Idealize.ShloMosaic Idealize.ShloMosaic.TcCoe

local notation "𝕀" => Idealize.ShloMosaic.Ideal

/-- An element of the result: the product of the modulated, normalized row with a column of the weights. -/
def at_ (x : FVec 𝕀 S33280x1024 .f32) (m : FVec 𝕀 S8x6144 .f32) (g : FVec 𝕀 S1x1024 .f32) (w : FVec 𝕀 S1024x2048 .bf16)
    (R : Fin 33280) (C : Fin 2048) : EReal :=
  ∑ e : Fin 1024, normed (fun d => x (ix2 R d)) (fun d => g (ix2 0 d)) (fun d => m (ix2 (modRow R) (modCol 0 d)))
    (fun d => m (ix2 (modRow R) (modCol 1 d))) e * w (ix2 e C)

theorem pay_at (x : FVec 𝕀 S512x1024 .f32) (g shift scale : FVec 𝕀 S1x1024 .f32) (w : FVec 𝕀 S1024x2048 .bf16)
    (i : Fin 512) (j : Fin 2048) :
    k0_pay1 (F := 𝕀) (k0_pay2 (F := 𝕀) x g scale) (k0_pay3 (F := 𝕀) shift) w (ix2 i j)
      = ∑ e : Fin 1024, normed (fun d => x (ix2 i d)) (fun d => g (ix2 0 d)) (fun d => shift (ix2 0 d))
          (fun d => scale (ix2 0 d)) e * w (ix2 e j) := by
  pointwise [k0_pay1, k0_pay2, k0_pay3, normed, rms]

variable (m : (ℓ : Loc nD τ sig) → Buf (Elt 𝕀) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The rows of modulation vectors a point takes. -/
theorem off : ∀ t : Fin cfg0.N, k0_off1 (grid0.coords t) = ![min (t.val / 32) 2, 0]
    ∧ k0_off2 (grid0.coords t) = ![min (t.val / 32) 2, 1024] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (a : Fin 8) (b : Fin 6144) :
    iblk m c 1 t (ix2 a b) = m ((c : Thread nD τ).loc main_arg1) (ix2 a b) := by
  blk_ext [iblk, V, idx t]

theorem blk2 (c : Dev nD) (t : Fin cfg0.N) (b : Fin 1024) :
    iblk m c 2 t (ix2 0 b) = m ((c : Thread nD τ).loc main_arg2) (ix2 0 b) := by
  blk_ext [iblk, V, idx t]

theorem blk3 (c : Dev nD) (t : Fin cfg0.N) (a : Fin 1024) (b : Fin 2048) :
    iblk m c 3 t (ix2 a b) = m ((c : Thread nD τ).loc main_arg3) (ix2 a b) := by
  blk_ext [iblk, V, idx t]

/-- What point `t` computes, at the array position it is stored to. -/
theorem point (c : Dev nD) (t : Fin cfg0.N) (a : Fin 512) (b : Fin 2048) (R : Fin 33280) (C : Fin 2048)
    (hR : R.val = t.val * 512 + a) (hC : C.val = b) :
    outsAt0 m c t (ix2 a b)
      = at_ (m ((c : Thread nD τ).loc main_arg0)) (m ((c : Thread nD τ).loc main_arg1)) (m ((c : Thread nD τ).loc main_arg2))
          (m ((c : Thread nD τ).loc main_arg3)) R C := by
  obtain rfl : C = b := Fin.ext hC
  have ha := a.isLt
  have hr : (modRow R).val = min (t.val / 32) 2 := by show min (R.val / 16384) 2 = _; omega
  unfold outsAt0
  frame_out
  rw [pay_at, at_]
  have hx : ∀ d : Fin 1024, iblk m c 0 t (ix2 a d) = m ((c : Thread nD τ).loc main_arg0) (ix2 R d) := fun d =>
    blk0 m c t _ _ _ hR rfl
  have h0 : ∀ d : Fin 1024, View.ld (iblk m c 1 t) (Rect.unit (k0_off1 (grid0.coords t)) S1x1024.size (k0_off1_inb _)) (ix2 0 d)
      = m ((c : Thread nD τ).loc main_arg1) (ix2 (modRow R) (modCol 0 d)) := fun d =>
    (ld_row _ _ _ _ (off t).1 _ _ (modRow R) (modCol 0 d) hr rfl).trans (blk1 m c t _ _)
  have h1 : ∀ d : Fin 1024, View.ld (iblk m c 1 t) (Rect.unit (k0_off2 (grid0.coords t)) S1x1024.size (k0_off2_inb _)) (ix2 0 d)
      = m ((c : Thread nD τ).loc main_arg1) (ix2 (modRow R) (modCol 1 d)) := fun d =>
    (ld_row _ _ _ _ (off t).2 _ _ (modRow R) (modCol 1 d) hr rfl).trans (blk1 m c t _ _)
  have hn := fun e => normed_congr hx (blk2 m c t) h0 h1 e
  have hw := fun e => blk3 m c t e C
  refine Finset.sum_congr rfl fun e _ => ?_
  rw [hw]
  exact congrArg (fun a : EReal => a * _) (hn e)

/-- The result array. -/
theorem final (c : Dev nD) : (dats m 0 c).arrAt 4 cfg0.N = fun y : S33280x2048.Idx =>
    at_ (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 4 _ (by decide +kernel) fun t _ y => ?_
  blk_simp
  rw [after0_4]
  exact (congrArg _ (eq_ix2 y)).trans (point m c t _ _ _ _ (by blk_simp [idx t]) (by blk_simp [idx t]))

end Cert.NormMatmulIdeal.Rows

namespace Cert.NormMatmulReferenceIdeal.Rows

open Cert.NormMatmulReferenceIdeal Cert.NormMatmulReferenceIdeal.Gen Cert.Rows Idealize.ShloMosaic Idealize.ShloMosaic.TcCoe

local notation "𝕀" => Idealize.ShloMosaic.Ideal

/-- The reference's shift, spread over the rows. -/
def row0 (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 0] m slices_S8x6144_S8x1024_0_0) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 0] m slices_S8x6144_S8x1024_0_0) slices_S8x1024_S1x1024_2_0))⟩] concatenates_S32768x1024_S512x1024_S33280x1024_d0

/-- The reference's scale, spread over the rows. -/
def row1 (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 1024] m slices_S8x6144_S8x1024_0_1024) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 1024] m slices_S8x6144_S8x1024_0_1024) slices_S8x1024_S1x1024_2_0))⟩] concatenates_S32768x1024_S512x1024_S33280x1024_d0

theorem row0_at (m : FVec 𝕀 S8x6144 .f32) (R : Fin 33280) (C : Fin 1024) : row0 m (ix2 R C) = m (ix2 (modRow R) (modCol 0 C)) := by
  refine Eq.trans ?_ (spread_at (fun a => m (ix2 a (modCol 0 C))) R)
  pointwise [row0, modCol]

theorem row1_at (m : FVec 𝕀 S8x6144 .f32) (R : Fin 33280) (C : Fin 1024) : row1 m (ix2 R C) = m (ix2 (modRow R) (modCol 1 C)) := by
  refine Eq.trans ?_ (spread_at (fun a => m (ix2 a (modCol 1 C))) R)
  pointwise [row1, modCol]

/-- The reference's modulated, normalized rows. -/
def norm (x : FVec 𝕀 S33280x1024 .f32) (m : FVec 𝕀 S8x6144 .f32) (g : FVec 𝕀 S1x1024 .f32) : FVec 𝕀 S33280x1024 .f32 :=
  addf (mulf (mulf (mulf x (broadcastInDim S33280x1024 ![0, 1] bcast_S33280x1_S33280x1024_0_1 (Host.rsqrt (addf (Host.divf (broadcastInDim S33280x1 ![0] bcast_S33280_S33280x1_0 (Host.reduceAdd (mulf x x) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x358637BD#32)))))) (broadcastInDim S33280x1024 ![0, 1] bcast_S1x1024_S33280x1024_0_1 g)) (addf (broadcastInDim S33280x1024 ![] bcast_S_S33280x1024 (constant S_ .f32 0x3F800000#32)) (row1 m))) (row0 m)

theorem norm_at (x : FVec 𝕀 S33280x1024 .f32) (m : FVec 𝕀 S8x6144 .f32) (g : FVec 𝕀 S1x1024 .f32) (R : Fin 33280) (e : Fin 1024) :
    norm x m g (ix2 R e) = normed (fun d => x (ix2 R d)) (fun d => g (ix2 0 d)) (fun d => m (ix2 (modRow R) (modCol 0 d)))
      (fun d => m (ix2 (modRow R) (modCol 1 d))) e := by
  pointwise [norm, normed, rms, row0_at, row1_at]

/-- The reference's result, as a function of its arguments. -/
def res (x : FVec 𝕀 S33280x1024 .f32) (m : FVec 𝕀 S8x6144 .f32) (g : FVec 𝕀 S1x1024 .f32) (w : FVec 𝕀 S1024x2048 .bf16) :
    FVec 𝕀 S33280x2048 .f32 :=
  Host.dotGeneral dot_S33280x1024_S1024x2048_S33280x2048_1_0_0_1_n_n none (norm x m g) (extf .f32 w bitsLt_bf16_f32)

theorem res_at (x : FVec 𝕀 S33280x1024 .f32) (m : FVec 𝕀 S8x6144 .f32) (g : FVec 𝕀 S1x1024 .f32) (w : FVec 𝕀 S1024x2048 .bf16)
    (R : Fin 33280) (C : Fin 2048) : res x m g w (ix2 R C) = Cert.NormMatmulIdeal.Rows.at_ x m g w R C := by
  pointwise [res, Cert.NormMatmulIdeal.Rows.at_, norm_at]

end Cert.NormMatmulReferenceIdeal.Rows

end
-- ==== Proof.NormMatmulClaims.lean ====
/- The claims of the product of the modulated norm. -/
module

public import proofs.«01_k».proof.Defs
public import proofs.«01_k».proof.Proof.NormMatmul
public import proofs.«01_k».proof.Proof.Gen.NormMatmul.Frame
public import Idealize.ShloMosaic.Lib.Quiescent
public import Idealize.ShloMosaic.Adequacy
public import Idealize.ShloMosaic.Init

@[expose] public section

set_option maxRecDepth 16384

noncomputable section

namespace Cert.NormMatmulIdeal.Rows

open Idealize.ShloMosaic Idealize.SL.Sem

/-- The reference leaves its arguments unchanged and its counters at zero (it declares none). -/
theorem frame_reference : Cert.quiescent_NormMatmulReferenceIdeal := fun m g _ =>
  (θ_run Cert.NormMatmulReferenceIdeal.defs _ _).mono
    (fun r h => ⟨fun c => (h c).2, sem_eq_zero_of_no_sems rfl _⟩) (Cert.NormMatmulReferenceIdeal.Value.run m g)

/-- The call and its reference end with the same array. -/
theorem algebraic : Cert.algebraic_NormMatmulIdeal_NormMatmulReferenceIdeal := fun m g m' g' _ agree => by
  refine ⟨fun c => fun y : Cert.NormMatmulIdeal.S33280x2048.Idx => at_ (m ((c.tc : Thread Cert.NormMatmulIdeal.nD Cert.NormMatmulIdeal.τ).loc Cert.NormMatmulIdeal.main_arg0)) (m ((c.tc : Thread Cert.NormMatmulIdeal.nD Cert.NormMatmulIdeal.τ).loc Cert.NormMatmulIdeal.main_arg1)) (m ((c.tc : Thread Cert.NormMatmulIdeal.nD Cert.NormMatmulIdeal.τ).loc Cert.NormMatmulIdeal.main_arg2)) (m ((c.tc : Thread Cert.NormMatmulIdeal.nD Cert.NormMatmulIdeal.τ).loc Cert.NormMatmulIdeal.main_arg3)) (y 0) (y 1),
    (θ_run Cert.NormMatmulIdeal.defs _ _).mono (fun r h c => ⟨(h c).1.trans (final m c), (h c).2⟩) (Cert.NormMatmulIdeal.Value.run_blocks m g),
    (θ_run Cert.NormMatmulReferenceIdeal.defs _ _).mono (fun r h c => ⟨(h c).1.trans ?_, (h c).2⟩) (Cert.NormMatmulReferenceIdeal.Value.run m' g')⟩
  rw [(agree c).1, (agree c).2.1, (agree c).2.2.1, (agree c).2.2.2]
  refine funext fun y => ?_
  refine (congrArg _ (eq_ix2 y)).trans ?_
  exact Cert.NormMatmulReferenceIdeal.Rows.res_at _ _ _ _ (y 0) (y 1)

end Cert.NormMatmulIdeal.Rows

end
-- ==== Proof.ResidLast.lean ====
/- The gated residual product of the last layer: what the call and its reference compute. -/
module

public import proofs.«01_k».proof.Proof.Rows
public import proofs.«01_k».proof.Proof.Gen.ResidLastIdeal.Value
public import proofs.«01_k».proof.Proof.Gen.ResidLastReferenceIdeal.Run

@[expose] public section

set_option maxRecDepth 16384

noncomputable section

namespace Cert.ResidLastIdeal.Rows

open Cert.ResidLastIdeal Cert.ResidLastIdeal.Gen Cert.Rows Idealize.ShloMosaic Idealize.ShloMosaic.TcCoe

local notation "𝕀" => Idealize.ShloMosaic.Ideal

/-- An element of the result: on a latent row the residual plus the row's gate times the product's entry, on a context
    row the residual as it came. -/
def at_ (x : FVec 𝕀 S33280x1024 .f32) (a : FVec 𝕀 S32768x1024 .bf16) (w : FVec 𝕀 S1024x1024 .bf16) (m : FVec 𝕀 S8x6144 .f32)
    (R : Fin 33280) (C : Fin 1024) : EReal :=
  if h : R.val < 32768 then
    x (ix2 R C) + m (ix2 (modRow R) (modCol 2 C)) * ∑ e : Fin 1024, a (ix2 ⟨R.val, h⟩ e) * w (ix2 e C)
  else x (ix2 R C)

theorem pay_at (a : FVec 𝕀 S512x1024 .bf16) (w : FVec 𝕀 S1024x1024 .bf16) (x : FVec 𝕀 S512x1024 .f32) (g : FVec 𝕀 S1x1024 .f32)
    (i : Fin 512) (j : Fin 1024) :
    k0_pay1 (F := 𝕀) a w x g (ix2 i j) = x (ix2 i j) + g (ix2 0 j) * ∑ e : Fin 1024, a (ix2 i e) * w (ix2 e j) := by
  pointwise [k0_pay1]

variable (m : (ℓ : Loc nD τ sig) → Buf (Elt 𝕀) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The row of modulation vectors a point takes. -/
theorem off : ∀ t : Fin cfg0.N, k0_off1 (grid0.coords t) = ![min (t.val / 32) 2, 2048] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (a : Fin 512) (b : Fin 1024) (j : S32768x1024.Idx)
    (h0 : (j 0).val = t.val * 512 + a) (h1 : (j 1).val = b) :
    iblk m c 1 t (ix2 a b) = m ((c : Thread nD τ).loc main_arg1) j := by
  blk_ext [iblk, V, idx t]

theorem blk2 (c : Dev nD) (t : Fin cfg0.N) (a b : Fin 1024) :
    iblk m c 2 t (ix2 a b) = m ((c : Thread nD τ).loc main_arg2) (ix2 a b) := by
  blk_ext [iblk, V, idx t]

theorem blk3 (c : Dev nD) (t : Fin cfg0.N) (a : Fin 8) (b : Fin 6144) :
    iblk m c 3 t (ix2 a b) = m ((c : Thread nD τ).loc main_arg3) (ix2 a b) := by
  blk_ext [iblk, V, idx t]

/-- What point `t` computes, at the array position it is stored to. -/
theorem point (c : Dev nD) (t : Fin cfg0.N) (a : Fin 512) (b : Fin 1024) (R : Fin 33280) (C : Fin 1024)
    (hR : R.val = t.val * 512 + a) (hC : C.val = b) :
    outsAt0 m c t (ix2 a b)
      = at_ (m ((c : Thread nD τ).loc main_arg0)) (m ((c : Thread nD τ).loc main_arg1)) (m ((c : Thread nD τ).loc main_arg2))
          (m ((c : Thread nD τ).loc main_arg3)) R C := by
  obtain rfl : C = b := Fin.ext hC
  have ha := a.isLt
  have ht : t.val < 64 := t.isLt
  have hlt : R.val < 32768 := by omega
  unfold at_
  rw [dif_pos hlt]
  unfold outsAt0
  frame_out
  refine (pay_at _ _ _ _ _ _).trans ?_
  refine congrArg₂ (fun a b : EReal => a + b) (blk0 m c t _ _ _ hR rfl) (congrArg₂ (fun a b : EReal => a * b) ?_
    (Finset.sum_congr rfl fun e _ => congrArg₂ (fun a b : EReal => a * b) (blk1 m c t _ _ _ hR rfl) (blk2 m c t _ _)))
  refine (ld_row _ _ _ _ (off t) _ _ (modRow R) (modCol 2 C) ?_ rfl).trans (blk3 m c t _ _)
  show min (R.val / 16384) 2 = _; omega

/-- The result array: the grid writes the latent rows' blocks, and the others keep what the array held before. -/
theorem final (c : Dev nD) : (dats m 0 c).arrAt 4 cfg0.N = fun y : S33280x1024.Idx =>
    at_ (m ((c : Thread nD τ).loc main_arg0)) (m ((c : Thread nD τ).loc main_arg1)) (m ((c : Thread nD τ).loc main_arg2))
      (m ((c : Thread nD τ).loc main_arg3)) (y 0) (y 1) := by
  have e : (dats m 0 c).arrAt 4 cfg0.N = fun y : S33280x1024.Idx => if (y 0).val / 512 < 64 then
      at_ (m ((c : Thread nD τ).loc main_arg0)) (m ((c : Thread nD τ).loc main_arg1)) (m ((c : Thread nD τ).loc main_arg2))
        (m ((c : Thread nD τ).loc main_arg3)) (y 0) (y 1)
      else V m c main_v0 y := by
    refine (dats m 0 c).arrAt_eq_of_coversWhere 4 (fun y : S33280x1024.Idx =>
      at_ (m ((c : Thread nD τ).loc main_arg0)) (m ((c : Thread nD τ).loc main_arg1)) (m ((c : Thread nD τ).loc main_arg2))
        (m ((c : Thread nD τ).loc main_arg3)) (y 0) (y 1)) (fun β => β (0 : Fin 2) < 64) (by decide +kernel)
      (fun t _ y => ?_) (fun j => Iff.rfl)
    blk_simp
    rw [after0_4]
    exact (congrArg _ (eq_ix2 y)).trans (point m c t _ _ _ _ (by blk_simp [idx t]) (by blk_simp [idx t]))
  rw [e]
  refine funext fun y => ?_
  by_cases h : (y 0).val / 512 < 64
  · exact if_pos h
  · refine (if_neg h).trans ?_
    have hn : ¬ (y 0).val < 32768 := by omega
    unfold at_
    rw [dif_neg hn]
    entry_read
    exact congrArg _ (eq_ix2 y)

end Cert.ResidLastIdeal.Rows

namespace Cert.ResidLastReferenceIdeal.Rows

open Cert.ResidLastReferenceIdeal Cert.ResidLastReferenceIdeal.Gen Cert.Rows Idealize.ShloMosaic Idealize.ShloMosaic.TcCoe

local notation "𝕀" => Idealize.ShloMosaic.Ideal

/-- The reference's gate, spread over the rows. -/
def gate (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 2048] m slices_S8x6144_S8x1024_0_2048) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 2048] m slices_S8x6144_S8x1024_0_2048) slices_S8x1024_S1x1024_2_0))⟩] concatenates_S32768x1024_S512x1024_S33280x1024_d0

theorem gate_at (m : FVec 𝕀 S8x6144 .f32) (R : Fin 33280) (C : Fin 1024) : gate m (ix2 R C) = m (ix2 (modRow R) (modCol 2 C)) := by
  refine Eq.trans ?_ (spread_at (fun a => m (ix2 a (modCol 2 C))) R)
  pointwise [gate, modCol]

/-- The reference's latent rows. -/
def latent (x : FVec 𝕀 S33280x1024 .f32) (a : FVec 𝕀 S32768x1024 .bf16) (w : FVec 𝕀 S1024x1024 .bf16) (m : FVec 𝕀 S8x6144 .f32) :
    FVec 𝕀 S32768x1024 .f32 :=
  addf (extractStridedSlice S32768x1024 ![0, 0] x slices_S33280x1024_S32768x1024_0_0)
    (mulf (extractStridedSlice S32768x1024 ![0, 0] (gate m) slices_S33280x1024_S32768x1024_0_0)
      (Host.dotGeneral dot_S32768x1024_S1024x1024_S32768x1024_1_0_0_1_n_n none (extf .f32 a bitsLt_bf16_f32) (extf .f32 w bitsLt_bf16_f32)))

theorem latent_at (x : FVec 𝕀 S33280x1024 .f32) (a : FVec 𝕀 S32768x1024 .bf16) (w : FVec 𝕀 S1024x1024 .bf16) (m : FVec 𝕀 S8x6144 .f32)
    (r : Fin 32768) (R : Fin 33280) (C : Fin 1024) (hR : R.val = r) :
    latent x a w m (ix2 r C) = x (ix2 R C) + m (ix2 (modRow R) (modCol 2 C)) * ∑ e : Fin 1024, a (ix2 r e) * w (ix2 e C) := by
  have hr := r.isLt
  obtain ⟨R, hlt⟩ := R
  obtain rfl : R = r.val := hR
  pointwise [latent, gate_at]

/-- The reference's result, as a function of its arguments. -/
def res (x : FVec 𝕀 S33280x1024 .f32) (a : FVec 𝕀 S32768x1024 .bf16) (w : FVec 𝕀 S1024x1024 .bf16) (m : FVec 𝕀 S8x6144 .f32) :
    FVec 𝕀 S33280x1024 .f32 :=
  concatenate S33280x1024 0 [⟨S32768x1024, latent x a w m⟩, ⟨S512x1024, extractStridedSlice S512x1024 ![32768, 0] x slices_S33280x1024_S512x1024_32768_0⟩]
    concatenates_S32768x1024_S512x1024_S33280x1024_d0

theorem res_at (x : FVec 𝕀 S33280x1024 .f32) (a : FVec 𝕀 S32768x1024 .bf16) (w : FVec 𝕀 S1024x1024 .bf16) (m : FVec 𝕀 S8x6144 .f32)
    (R : Fin 33280) (C : Fin 1024) : res x a w m (ix2 R C) = Cert.ResidLastIdeal.Rows.at_ x a w m R C := by
  unfold Cert.ResidLastIdeal.Rows.at_
  by_cases h : R.val < 32768
  · rw [dif_pos h]
    refine Eq.trans ?_ (latent_at x a w m ⟨R.val, h⟩ R C rfl)
    pointwise [res]
    exact dif_pos h
  · rw [dif_neg h]
    pointwise [res]
    refine (dif_neg h).trans (congrArg (fun i => x (ix2 i C)) (Fin.ext ?_))
    show 32768 + (R.val - 32768) = R.val; omega

end Cert.ResidLastReferenceIdeal.Rows

end
-- ==== Proof.ResidLastClaims.lean ====
/- The claims of the gated residual product of the last layer. -/
module

public import proofs.«01_k».proof.Defs
public import proofs.«01_k».proof.Proof.ResidLast
public import proofs.«01_k».proof.Proof.Gen.ResidLast.Frame
public import Idealize.ShloMosaic.Lib.Quiescent
public import Idealize.ShloMosaic.Adequacy
public import Idealize.ShloMosaic.Init

@[expose] public section

set_option maxRecDepth 16384

noncomputable section

namespace Cert.ResidLastIdeal.Rows

open Idealize.ShloMosaic Idealize.SL.Sem

/-- The reference leaves its arguments unchanged and its counters at zero (it declares none). -/
theorem frame_reference : Cert.quiescent_ResidLastReferenceIdeal := fun m g _ =>
  (θ_run Cert.ResidLastReferenceIdeal.defs _ _).mono
    (fun r h => ⟨fun c => (h c).2, sem_eq_zero_of_no_sems rfl _⟩) (Cert.ResidLastReferenceIdeal.Value.run m g)

/-- The call and its reference end with the same array. -/
theorem algebraic : Cert.algebraic_ResidLastIdeal_ResidLastReferenceIdeal := fun m g m' g' _ agree => by
  refine ⟨fun c => fun y : Cert.ResidLastIdeal.S33280x1024.Idx => at_ (m ((c.tc : Thread Cert.ResidLastIdeal.nD Cert.ResidLastIdeal.τ).loc Cert.ResidLastIdeal.main_arg0)) (m ((c.tc : Thread Cert.ResidLastIdeal.nD Cert.ResidLastIdeal.τ).loc Cert.ResidLastIdeal.main_arg1)) (m ((c.tc : Thread Cert.ResidLastIdeal.nD Cert.ResidLastIdeal.τ).loc Cert.ResidLastIdeal.main_arg2)) (m ((c.tc : Thread Cert.ResidLastIdeal.nD Cert.ResidLastIdeal.τ).loc Cert.ResidLastIdeal.main_arg3)) (y 0) (y 1),
    (θ_run Cert.ResidLastIdeal.defs _ _).mono (fun r h c => ⟨(h c).1.trans (final m c), (h c).2⟩) (Cert.ResidLastIdeal.Value.run_blocks m g),
    (θ_run Cert.ResidLastReferenceIdeal.defs _ _).mono (fun r h c => ⟨(h c).1.trans ?_, (h c).2⟩) (Cert.ResidLastReferenceIdeal.Value.run m' g')⟩
  rw [(agree c).1, (agree c).2.1, (agree c).2.2.1, (agree c).2.2.2]
  refine funext fun y => ?_
  refine (congrArg _ (eq_ix2 y)).trans ?_
  exact Cert.ResidLastReferenceIdeal.Rows.res_at _ _ _ _ (y 0) (y 1)

end Cert.ResidLastIdeal.Rows

end
-- ==== Proof.NormNarrow.lean ====
/- The product of the modulated norm, at the narrower width: what the call and its reference compute. -/
module

public import proofs.«01_k».proof.Proof.Rows
public import proofs.«01_k».proof.Proof.Gen.NormNarrowIdeal.Value
public import proofs.«01_k».proof.Proof.Gen.NormNarrowReferenceIdeal.Run

@[expose] public section

set_option maxRecDepth 16384

noncomputable section

namespace Cert.NormNarrowIdeal.Rows

open Cert.NormNarrowIdeal Cert.NormNarrowIdeal.Gen Cert.Rows Idealize.ShloMosaic Idealize.ShloMosaic.TcCoe

local notation "𝕀" => Idealize.ShloMosaic.Ideal

/-- An element of the result: the product of the modulated, normalized row with a column of the weights. -/
def at_ (x : FVec 𝕀 S33280x1024 .f32) (m : FVec 𝕀 S8x6144 .f32) (g : FVec 𝕀 S1x1024 .f32) (w : FVec 𝕀 S1024x512 .bf16)
    (R : Fin 33280) (C : Fin 512) : EReal :=
  ∑ e : Fin 1024, normed (fun d => x (ix2 R d)) (fun d => g (ix2 0 d)) (fun d => m (ix2 (modRow R) (modCol 0 d)))
    (fun d => m (ix2 (modRow R) (modCol 1 d))) e * w (ix2 e C)

theorem pay_at (x : FVec 𝕀 S512x1024 .f32) (g shift scale : FVec 𝕀 S1x1024 .f32) (w : FVec 𝕀 S1024x512 .bf16)
    (i : Fin 512) (j : Fin 512) :
    k0_pay1 (F := 𝕀) (k0_pay2 (F := 𝕀) x g scale) (k0_pay3 (F := 𝕀) shift) w (ix2 i j)
      = ∑ e : Fin 1024, normed (fun d => x (ix2 i d)) (fun d => g (ix2 0 d)) (fun d => shift (ix2 0 d))
          (fun d => scale (ix2 0 d)) e * w (ix2 e j) := by
  pointwise [k0_pay1, k0_pay2, k0_pay3, normed, rms]

variable (m : (ℓ : Loc nD τ sig) → Buf (Elt 𝕀) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The rows of modulation vectors a point takes. -/
theorem off : ∀ t : Fin cfg0.N, k0_off1 (grid0.coords t) = ![min (t.val / 32) 2, 0]
    ∧ k0_off2 (grid0.coords t) = ![min (t.val / 32) 2, 1024] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (a : Fin 8) (b : Fin 6144) :
    iblk m c 1 t (ix2 a b) = m ((c : Thread nD τ).loc main_arg1) (ix2 a b) := by
  blk_ext [iblk, V, idx t]

theorem blk2 (c : Dev nD) (t : Fin cfg0.N) (b : Fin 1024) :
    iblk m c 2 t (ix2 0 b) = m ((c : Thread nD τ).loc main_arg2) (ix2 0 b) := by
  blk_ext [iblk, V, idx t]

theorem blk3 (c : Dev nD) (t : Fin cfg0.N) (a : Fin 1024) (b : Fin 512) :
    iblk m c 3 t (ix2 a b) = m ((c : Thread nD τ).loc main_arg3) (ix2 a b) := by
  blk_ext [iblk, V, idx t]

/-- What point `t` computes, at the array position it is stored to. -/
theorem point (c : Dev nD) (t : Fin cfg0.N) (a : Fin 512) (b : Fin 512) (R : Fin 33280) (C : Fin 512)
    (hR : R.val = t.val * 512 + a) (hC : C.val = b) :
    outsAt0 m c t (ix2 a b)
      = at_ (m ((c : Thread nD τ).loc main_arg0)) (m ((c : Thread nD τ).loc main_arg1)) (m ((c : Thread nD τ).loc main_arg2))
          (m ((c : Thread nD τ).loc main_arg3)) R C := by
  obtain rfl : C = b := Fin.ext hC
  have ha := a.isLt
  have hr : (modRow R).val = min (t.val / 32) 2 := by show min (R.val / 16384) 2 = _; omega
  unfold outsAt0
  frame_out
  rw [pay_at, at_]
  have hx : ∀ d : Fin 1024, iblk m c 0 t (ix2 a d) = m ((c : Thread nD τ).loc main_arg0) (ix2 R d) := fun d =>
    blk0 m c t _ _ _ hR rfl
  have h0 : ∀ d : Fin 1024, View.ld (iblk m c 1 t) (Rect.unit (k0_off1 (grid0.coords t)) S1x1024.size (k0_off1_inb _)) (ix2 0 d)
      = m ((c : Thread nD τ).loc main_arg1) (ix2 (modRow R) (modCol 0 d)) := fun d =>
    (ld_row _ _ _ _ (off t).1 _ _ (modRow R) (modCol 0 d) hr rfl).trans (blk1 m c t _ _)
  have h1 : ∀ d : Fin 1024, View.ld (iblk m c 1 t) (Rect.unit (k0_off2 (grid0.coords t)) S1x1024.size (k0_off2_inb _)) (ix2 0 d)
      = m ((c : Thread nD τ).loc main_arg1) (ix2 (modRow R) (modCol 1 d)) := fun d =>
    (ld_row _ _ _ _ (off t).2 _ _ (modRow R) (modCol 1 d) hr rfl).trans (blk1 m c t _ _)
  have hn := fun e => normed_congr hx (blk2 m c t) h0 h1 e
  have hw := fun e => blk3 m c t e C
  refine Finset.sum_congr rfl fun e _ => ?_
  rw [hw]
  exact congrArg (fun a : EReal => a * _) (hn e)

/-- The result array. -/
theorem final (c : Dev nD) : (dats m 0 c).arrAt 4 cfg0.N = fun y : S33280x512.Idx =>
    at_ (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 4 _ (by decide +kernel) fun t _ y => ?_
  blk_simp
  rw [after0_4]
  exact (congrArg _ (eq_ix2 y)).trans (point m c t _ _ _ _ (by blk_simp [idx t]) (by blk_simp [idx t]))

end Cert.NormNarrowIdeal.Rows

namespace Cert.NormNarrowReferenceIdeal.Rows

open Cert.NormNarrowReferenceIdeal Cert.NormNarrowReferenceIdeal.Gen Cert.Rows Idealize.ShloMosaic Idealize.ShloMosaic.TcCoe

local notation "𝕀" => Idealize.ShloMosaic.Ideal

/-- The reference's shift, spread over the rows. -/
def row0 (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 0] m slices_S8x6144_S8x1024_0_0) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 0] m slices_S8x6144_S8x1024_0_0) slices_S8x1024_S1x1024_2_0))⟩] concatenates_S32768x1024_S512x1024_S33280x1024_d0

/-- The reference's scale, spread over the rows. -/
def row1 (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 1024] m slices_S8x6144_S8x1024_0_1024) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 1024] m slices_S8x6144_S8x1024_0_1024) slices_S8x1024_S1x1024_2_0))⟩] concatenates_S32768x1024_S512x1024_S33280x1024_d0

theorem row0_at (m : FVec 𝕀 S8x6144 .f32) (R : Fin 33280) (C : Fin 1024) : row0 m (ix2 R C) = m (ix2 (modRow R) (modCol 0 C)) := by
  refine Eq.trans ?_ (spread_at (fun a => m (ix2 a (modCol 0 C))) R)
  pointwise [row0, modCol]

theorem row1_at (m : FVec 𝕀 S8x6144 .f32) (R : Fin 33280) (C : Fin 1024) : row1 m (ix2 R C) = m (ix2 (modRow R) (modCol 1 C)) := by
  refine Eq.trans ?_ (spread_at (fun a => m (ix2 a (modCol 1 C))) R)
  pointwise [row1, modCol]

/-- The reference's modulated, normalized rows. -/
def norm (x : FVec 𝕀 S33280x1024 .f32) (m : FVec 𝕀 S8x6144 .f32) (g : FVec 𝕀 S1x1024 .f32) : FVec 𝕀 S33280x1024 .f32 :=
  addf (mulf (mulf (mulf x (broadcastInDim S33280x1024 ![0, 1] bcast_S33280x1_S33280x1024_0_1 (Host.rsqrt (addf (Host.divf (broadcastInDim S33280x1 ![0] bcast_S33280_S33280x1_0 (Host.reduceAdd (mulf x x) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x358637BD#32)))))) (broadcastInDim S33280x1024 ![0, 1] bcast_S1x1024_S33280x1024_0_1 g)) (addf (broadcastInDim S33280x1024 ![] bcast_S_S33280x1024 (constant S_ .f32 0x3F800000#32)) (row1 m))) (row0 m)

theorem norm_at (x : FVec 𝕀 S33280x1024 .f32) (m : FVec 𝕀 S8x6144 .f32) (g : FVec 𝕀 S1x1024 .f32) (R : Fin 33280) (e : Fin 1024) :
    norm x m g (ix2 R e) = normed (fun d => x (ix2 R d)) (fun d => g (ix2 0 d)) (fun d => m (ix2 (modRow R) (modCol 0 d)))
      (fun d => m (ix2 (modRow R) (modCol 1 d))) e := by
  pointwise [norm, normed, rms, row0_at, row1_at]

/-- The reference's result, as a function of its arguments. -/
def res (x : FVec 𝕀 S33280x1024 .f32) (m : FVec 𝕀 S8x6144 .f32) (g : FVec 𝕀 S1x1024 .f32) (w : FVec 𝕀 S1024x512 .bf16) :
    FVec 𝕀 S33280x512 .f32 :=
  Host.dotGeneral dot_S33280x1024_S1024x512_S33280x512_1_0_0_1_n_n none (norm x m g) (extf .f32 w bitsLt_bf16_f32)

theorem res_at (x : FVec 𝕀 S33280x1024 .f32) (m : FVec 𝕀 S8x6144 .f32) (g : FVec 𝕀 S1x1024 .f32) (w : FVec 𝕀 S1024x512 .bf16)
    (R : Fin 33280) (C : Fin 512) : res x m g w (ix2 R C) = Cert.NormNarrowIdeal.Rows.at_ x m g w R C := by
  pointwise [res, Cert.NormNarrowIdeal.Rows.at_, norm_at]

end Cert.NormNarrowReferenceIdeal.Rows

end
-- ==== Proof.NormNarrowClaims.lean ====
/- The claims of the product of the modulated norm, at the narrower width. -/
module

public import proofs.«01_k».proof.Defs
public import proofs.«01_k».proof.Proof.NormNarrow
public import proofs.«01_k».proof.Proof.Gen.NormNarrow.Frame
public import Idealize.ShloMosaic.Lib.Quiescent
public import Idealize.ShloMosaic.Adequacy
public import Idealize.ShloMosaic.Init

@[expose] public section

set_option maxRecDepth 16384

noncomputable section

namespace Cert.NormNarrowIdeal.Rows

open Idealize.ShloMosaic Idealize.SL.Sem

/-- The reference leaves its arguments unchanged and its counters at zero (it declares none). -/
theorem frame_reference : Cert.quiescent_NormNarrowReferenceIdeal := fun m g _ =>
  (θ_run Cert.NormNarrowReferenceIdeal.defs _ _).mono
    (fun r h => ⟨fun c => (h c).2, sem_eq_zero_of_no_sems rfl _⟩) (Cert.NormNarrowReferenceIdeal.Value.run m g)

/-- The call and its reference end with the same array. -/
theorem algebraic : Cert.algebraic_NormNarrowIdeal_NormNarrowReferenceIdeal := fun m g m' g' _ agree => by
  refine ⟨fun c => fun y : Cert.NormNarrowIdeal.S33280x512.Idx => at_ (m ((c.tc : Thread Cert.NormNarrowIdeal.nD Cert.NormNarrowIdeal.τ).loc Cert.NormNarrowIdeal.main_arg0)) (m ((c.tc : Thread Cert.NormNarrowIdeal.nD Cert.NormNarrowIdeal.τ).loc Cert.NormNarrowIdeal.main_arg1)) (m ((c.tc : Thread Cert.NormNarrowIdeal.nD Cert.NormNarrowIdeal.τ).loc Cert.NormNarrowIdeal.main_arg2)) (m ((c.tc : Thread Cert.NormNarrowIdeal.nD Cert.NormNarrowIdeal.τ).loc Cert.NormNarrowIdeal.main_arg3)) (y 0) (y 1),
    (θ_run Cert.NormNarrowIdeal.defs _ _).mono (fun r h c => ⟨(h c).1.trans (final m c), (h c).2⟩) (Cert.NormNarrowIdeal.Value.run_blocks m g),
    (θ_run Cert.NormNarrowReferenceIdeal.defs _ _).mono (fun r h c => ⟨(h c).1.trans ?_, (h c).2⟩) (Cert.NormNarrowReferenceIdeal.Value.run m' g')⟩
  rw [(agree c).1, (agree c).2.1, (agree c).2.2.1, (agree c).2.2.2]
  refine funext fun y => ?_
  refine (congrArg _ (eq_ix2 y)).trans ?_
  exact Cert.NormNarrowReferenceIdeal.Rows.res_at _ _ _ _ (y 0) (y 1)

end Cert.NormNarrowIdeal.Rows

end
-- ==== Proof.AttnQkvTile.lean ====
/- The query, key and value projection: what the stores of one tile hold. -/
module

public import proofs.«01_k».proof.Proof.Rows
public import proofs.«01_k».proof.Proof.Gen.AttnQkvIdeal.Skeleton

@[expose] public section

set_option maxRecDepth 16384

noncomputable section

namespace Cert.AttnQkvIdeal.Rows

open Cert.AttnQkvIdeal Cert.AttnQkvIdeal.Gen Cert.Rows Idealize.ShloMosaic Idealize.ShloMosaic.TcCoe

local notation "𝕀" => Idealize.ShloMosaic.Ideal

/-- The other entry of a rotary pair. -/
def other (d : Fin 128) : Fin 128 := ⟨(d + 128 - 64) % 128, by omega⟩

/-- Entry `d` of head `h` among the `1536` columns of queries, keys and values. -/
def headCol (h : Fin 12) (d : Fin 128) : Fin 1536 := ⟨h * 128 + d, by omega⟩

/-- An entry of a head's normalized vector. -/
def headNorm (z gain : Fin 128 → EReal) (d : Fin 128) : EReal := z d * rms 0x43000000#32 z * gain d

/-- A head's normalized vector, turned by the angles whose cosines and signed sines are given. -/
def turned (z gain cs sn : Fin 128 → EReal) (d : Fin 128) : EReal :=
  headNorm z gain d * cs d + headNorm z gain (other d) * sn d

/-- The scale the queries leave with. -/
def qscale : EReal := Ideal.ofBits .f32 0x3E0293EE#32

theorem pay5_at (x : FVec 𝕀 S512x1024 .f32) (g shift scale : FVec 𝕀 S1x1024 .f32) (w : FVec 𝕀 S1024x1536 .bf16)
    (i : Fin 512) (j : Fin 1536) :
    k0_pay5 (F := 𝕀) (k0_pay3 (F := 𝕀) x g scale) (k0_pay4 (F := 𝕀) shift) w (ix2 i j)
      = ∑ e : Fin 1024, normed (fun d => x (ix2 i d)) (fun d => g (ix2 0 d)) (fun d => shift (ix2 0 d))
          (fun d => scale (ix2 0 d)) e * w (ix2 e j) := by
  pointwise [k0_pay5, k0_pay3, k0_pay4, normed, rms]

theorem head0_at (v39 v40 : FVec 𝕀 S512x1024 .f32) (w : FVec 𝕀 S1024x1536 .bf16) (cs sn : FVec 𝕀 S512x128 .f32) (gain : FVec 𝕀 S1x128 .f32) (i : Fin 512) (d : Fin 128) :
    k0_pay8 (F := 𝕀) v39 v40 w cs sn gain (ix2 i d)
      = turned (fun e => (k0_pay5 (F := 𝕀) v39 v40 w) (ix2 i (headCol 0 e))) (fun e => gain (ix2 0 e)) (fun e => cs (ix2 i e)) (fun e => sn (ix2 i e)) d * qscale := by
  pointwise [k0_pay8, k0_pay6, k0_pay7, turned, headNorm, rms, qscale, other, headCol]

theorem head1_at (v39 v40 : FVec 𝕀 S512x1024 .f32) (w : FVec 𝕀 S1024x1536 .bf16) (cs sn : FVec 𝕀 S512x128 .f32) (gain : FVec 𝕀 S1x128 .f32) (i : Fin 512) (d : Fin 128) :
    k0_pay12 (F := 𝕀) cs sn (k0_pay9 (F := 𝕀) v39 v40 w) gain (k0_pay10 (F := 𝕀) v39 v40 w) (k0_pay11 (F := 𝕀)) (ix2 i d)
      = turned (fun e => (k0_pay5 (F := 𝕀) v39 v40 w) (ix2 i (headCol 1 e))) (fun e => gain (ix2 0 e)) (fun e => cs (ix2 i e)) (fun e => sn (ix2 i e)) d * qscale := by
  pointwise [k0_pay12, k0_pay9, k0_pay10, k0_pay11, turned, headNorm, rms, qscale, other, headCol]

theorem head2_at (v44 : FVec 𝕀 S512x1536 .f32) (cs sn : FVec 𝕀 S512x128 .f32) (gain : FVec 𝕀 S1x128 .f32) (i : Fin 512) (d : Fin 128) :
    k0_pay13 (F := 𝕀) v44 cs sn gain (ix2 i d)
      = turned (fun e => v44 (ix2 i (headCol 2 e))) (fun e => gain (ix2 0 e)) (fun e => cs (ix2 i e)) (fun e => sn (ix2 i e)) d * qscale := by
  pointwise [k0_pay13, turned, headNorm, rms, qscale, other, headCol]

theorem head3_at (v44 : FVec 𝕀 S512x1536 .f32) (cs sn : FVec 𝕀 S512x128 .f32) (gain : FVec 𝕀 S1x128 .f32) (i : Fin 512) (d : Fin 128) :
    k0_pay16 (F := 𝕀) cs sn (k0_pay14 (F := 𝕀) v44) gain (k0_pay15 (F := 𝕀) v44) (Scalar.ofBits .f32 0x43000000#32) (ix2 i d)
      = turned (fun e => v44 (ix2 i (headCol 3 e))) (fun e => gain (ix2 0 e)) (fun e => cs (ix2 i e)) (fun e => sn (ix2 i e)) d * qscale := by
  pointwise [k0_pay16, k0_pay14, k0_pay15, turned, headNorm, rms, qscale, other, headCol]

theorem head4_at (v44 : FVec 𝕀 S512x1536 .f32) (cs sn : FVec 𝕀 S512x128 .f32) (gain : FVec 𝕀 S1x128 .f32) (i : Fin 512) (d : Fin 128) :
    k0_pay17 (F := 𝕀) v44 cs sn gain (ix2 i d)
      = turned (fun e => v44 (ix2 i (headCol 4 e))) (fun e => gain (ix2 0 e)) (fun e => cs (ix2 i e)) (fun e => sn (ix2 i e)) d * qscale := by
  pointwise [k0_pay17, turned, headNorm, rms, qscale, other, headCol]

theorem head5_at (v44 : FVec 𝕀 S512x1536 .f32) (cs sn : FVec 𝕀 S512x128 .f32) (gain : FVec 𝕀 S1x128 .f32) (i : Fin 512) (d : Fin 128) :
    k0_pay20 (F := 𝕀) cs sn (k0_pay18 (F := 𝕀) v44) gain (k0_pay19 (F := 𝕀) v44) (ix2 i d)
      = turned (fun e => v44 (ix2 i (headCol 5 e))) (fun e => gain (ix2 0 e)) (fun e => cs (ix2 i e)) (fun e => sn (ix2 i e)) d * qscale := by
  pointwise [k0_pay20, k0_pay18, k0_pay19, turned, headNorm, rms, qscale, other, headCol]

theorem head6_at (v44 : FVec 𝕀 S512x1536 .f32) (cs sn : FVec 𝕀 S512x128 .f32) (gain : FVec 𝕀 S1x128 .f32) (i : Fin 512) (d : Fin 128) :
    k0_pay21 (F := 𝕀) v44 cs sn gain (ix2 i d)
      = turned (fun e => v44 (ix2 i (headCol 6 e))) (fun e => gain (ix2 0 e)) (fun e => cs (ix2 i e)) (fun e => sn (ix2 i e)) d * qscale := by
  pointwise [k0_pay21, turned, headNorm, rms, qscale, other, headCol]

theorem head7_at (v44 : FVec 𝕀 S512x1536 .f32) (cs sn : FVec 𝕀 S512x128 .f32) (gain : FVec 𝕀 S1x128 .f32) (i : Fin 512) (d : Fin 128) :
    k0_pay23 (F := 𝕀) cs sn (k0_pay22 (F := 𝕀) v44) gain (ix2 i d)
      = turned (fun e => v44 (ix2 i (headCol 7 e))) (fun e => gain (ix2 0 e)) (fun e => cs (ix2 i e)) (fun e => sn (ix2 i e)) d * qscale := by
  pointwise [k0_pay23, k0_pay22, turned, headNorm, rms, qscale, other, headCol]

theorem head8_at (v44 : FVec 𝕀 S512x1536 .f32) (cs sn : FVec 𝕀 S512x128 .f32) (gain : FVec 𝕀 S1x128 .f32) (i : Fin 512) (d : Fin 128) :
    k0_pay24 (F := 𝕀) v44 cs sn gain (ix2 i d)
      = turned (fun e => v44 (ix2 i (headCol 8 e))) (fun e => gain (ix2 0 e)) (fun e => cs (ix2 i e)) (fun e => sn (ix2 i e)) d := by
  pointwise [k0_pay24, turned, headNorm, rms, qscale, other, headCol]

theorem head9_at (v44 : FVec 𝕀 S512x1536 .f32) (cs sn : FVec 𝕀 S512x128 .f32) (gain : FVec 𝕀 S1x128 .f32) (i : Fin 512) (d : Fin 128) :
    k0_pay1 (F := 𝕀) v44 cs sn gain (ix2 i d)
      = turned (fun e => v44 (ix2 i (headCol 9 e))) (fun e => gain (ix2 0 e)) (fun e => cs (ix2 i e)) (fun e => sn (ix2 i e)) d := by
  pointwise [k0_pay1, turned, headNorm, rms, qscale, other, headCol]

theorem vals_at (v44 : FVec 𝕀 S512x1536 .f32) (i : Fin 512) (j : Fin 256) :
    k0_pay2 (F := 𝕀) v44 (ix2 i j) = v44 (ix2 i ⟨1280 + j, by omega⟩) := by
  pointwise [k0_pay2]

theorem ident6 (x : FVec 𝕀 S512x128 .f32) : k0_pay6 (F := 𝕀) x = x := by
  funext y; rw [eq_ix2 y]; pointwise [k0_pay6]

theorem ident7 (x : FVec 𝕀 S512x128 .f32) : k0_pay7 (F := 𝕀) x = x := by
  funext y; rw [eq_ix2 y]; pointwise [k0_pay7]

/-- The queries of a tile, from its product `v44` with the weights. -/
def queries (v44 : FVec 𝕀 S512x1536 .f32) (cs sn : FVec 𝕀 S512x128 .f32) (gain : FVec 𝕀 S1x128 .f32) : FVec 𝕀 S512x1024 .bf16 := fun y =>
  turned (fun e => v44 (ix2 (y 0) (headCol ⟨(y 1).val / 128, by have := (y 1).isLt; change (y 1).val < 1024 at this; omega⟩ e))) (fun e => gain (ix2 0 e))
    (fun e => cs (ix2 (y 0) e)) (fun e => sn (ix2 (y 0) e)) ⟨(y 1).val % 128, by omega⟩ * qscale

/-- The keys of a tile. -/
def keys (v44 : FVec 𝕀 S512x1536 .f32) (cs sn : FVec 𝕀 S512x128 .f32) (gain : FVec 𝕀 S1x128 .f32) : FVec 𝕀 S512x256 .bf16 := fun y =>
  turned (fun e => v44 (ix2 (y 0) (headCol ⟨8 + (y 1).val / 128, by have := (y 1).isLt; change (y 1).val < 256 at this; omega⟩ e))) (fun e => gain (ix2 0 e))
    (fun e => cs (ix2 (y 0) e)) (fun e => sn (ix2 (y 0) e)) ⟨(y 1).val % 128, by omega⟩

theorem queries_at (v44 : FVec 𝕀 S512x1536 .f32) (cs sn : FVec 𝕀 S512x128 .f32) (gain : FVec 𝕀 S1x128 .f32) (h : Fin 12)
    (i : Fin 512) (d : Fin 128) (y : S512x1024.Idx) (h0 : (y 0).val = i.val) (h1 : (y 1).val = h.val * 128 + d.val) :
    queries v44 cs sn gain y
      = turned (fun e => v44 (ix2 i (headCol h e))) (fun e => gain (ix2 0 e)) (fun e => cs (ix2 i e)) (fun e => sn (ix2 i e)) d * qscale := by
  have e0 : y 0 = i := Fin.ext h0
  have e1 : (⟨(y 1).val / 128, by have := (y 1).isLt; change (y 1).val < 1024 at this; omega⟩ : Fin 12) = h :=
    Fin.ext (show (y 1).val / 128 = h.val by omega)
  have e2 : (⟨(y 1).val % 128, by omega⟩ : Fin 128) = d := Fin.ext (show (y 1).val % 128 = d.val by omega)
  rw [queries, e1, e2, e0]

theorem keys_at (v44 : FVec 𝕀 S512x1536 .f32) (cs sn : FVec 𝕀 S512x128 .f32) (gain : FVec 𝕀 S1x128 .f32) (h : Fin 12)
    (i : Fin 512) (d : Fin 128) (y : S512x256.Idx) (h0 : (y 0).val = i.val) (h1 : (y 1).val + 1024 = h.val * 128 + d.val) :
    keys v44 cs sn gain y
      = turned (fun e => v44 (ix2 i (headCol h e))) (fun e => gain (ix2 0 e)) (fun e => cs (ix2 i e)) (fun e => sn (ix2 i e)) d := by
  have e0 : y 0 = i := Fin.ext h0
  have e1 : (⟨8 + (y 1).val / 128, by have := (y 1).isLt; change (y 1).val < 256 at this; omega⟩ : Fin 12) = h :=
    Fin.ext (show 8 + (y 1).val / 128 = h.val by omega)
  have e2 : (⟨(y 1).val % 128, by omega⟩ : Fin 128) = d := Fin.ext (show (y 1).val % 128 = d.val by omega)
  rw [keys, e1, e2, e0]

end Cert.AttnQkvIdeal.Rows

end
-- ==== Proof.AttnQkv.lean ====
/- The query, key and value projection: what the call computes. -/
module

public import proofs.«01_k».proof.Proof.AttnQkvTile
public import proofs.«01_k».proof.Proof.Gen.AttnQkvIdeal.Value
public import Idealize.ShloMosaic.Lib.Pipeline.ReadBack

@[expose] public section

set_option maxRecDepth 16384

noncomputable section

namespace Cert.AttnQkvIdeal.Rows

open Cert.AttnQkvIdeal Cert.AttnQkvIdeal.Gen Cert.Rows Idealize.ShloMosaic Idealize.ShloMosaic.TcCoe

local notation "𝕀" => Idealize.ShloMosaic.Ideal

variable (m : (ℓ : Loc nD τ sig) → Buf (Elt 𝕀) ℓ)

theorem piece0 (v39 v40 : FVec 𝕀 S512x1024 .f32) (w : FVec 𝕀 S1024x1536 .bf16) (cs sn : FVec 𝕀 S512x128 .f32) (gain : FVec 𝕀 S1x128 .f32) (x : (Rect.unit (s := S512x1024) ![0, 0] ![512, 128] inb_S512x1024_S512x128_0_0).shape.Idx) :
    k0_pay8 (F := 𝕀) v39 v40 w cs sn gain x
      = queries (k0_pay5 (F := 𝕀) v39 v40 w) cs sn gain ((Rect.unit (s := S512x1024) ![0, 0] ![512, 128] inb_S512x1024_S512x128_0_0).emb x) := by
  refine (congrArg _ (eq_ix2 x)).trans ((head0_at v39 v40 w cs sn gain (x 0) (x 1)).trans (queries_at _ _ _ _ 0 (x 0) (x 1) _ ?_ ?_).symm)
  · show 0 + 1 * (x 0).val = (x 0).val; omega
  · show 0 + 1 * (x 1).val = 0 * 128 + (x 1).val; omega

theorem piece1 (v39 v40 : FVec 𝕀 S512x1024 .f32) (w : FVec 𝕀 S1024x1536 .bf16) (cs sn : FVec 𝕀 S512x128 .f32) (gain : FVec 𝕀 S1x128 .f32) (x : (Rect.unit (s := S512x1024) ![0, 128] ![512, 128] inb_S512x1024_S512x128_0_128).shape.Idx) :
    k0_pay12 (F := 𝕀) (k0_pay6 (F := 𝕀) cs) (k0_pay7 (F := 𝕀) sn) (k0_pay9 (F := 𝕀) v39 v40 w) gain (k0_pay10 (F := 𝕀) v39 v40 w) (k0_pay11 (F := 𝕀)) x
      = queries (k0_pay5 (F := 𝕀) v39 v40 w) cs sn gain ((Rect.unit (s := S512x1024) ![0, 128] ![512, 128] inb_S512x1024_S512x128_0_128).emb x) := by
  rw [ident6, ident7]
  refine (congrArg _ (eq_ix2 x)).trans ((head1_at v39 v40 w cs sn gain (x 0) (x 1)).trans (queries_at _ _ _ _ 1 (x 0) (x 1) _ ?_ ?_).symm)
  · show 0 + 1 * (x 0).val = (x 0).val; omega
  · show 128 + 1 * (x 1).val = 1 * 128 + (x 1).val; omega

theorem piece2 (v44 : FVec 𝕀 S512x1536 .f32) (cs sn : FVec 𝕀 S512x128 .f32) (gain : FVec 𝕀 S1x128 .f32) (x : (Rect.unit (s := S512x1024) ![0, 256] ![512, 128] inb_S512x1024_S512x128_0_256).shape.Idx) :
    k0_pay13 (F := 𝕀) v44 (k0_pay6 (F := 𝕀) cs) (k0_pay7 (F := 𝕀) sn) gain x
      = queries v44 cs sn gain ((Rect.unit (s := S512x1024) ![0, 256] ![512, 128] inb_S512x1024_S512x128_0_256).emb x) := by
  rw [ident6, ident7]
  refine (congrArg _ (eq_ix2 x)).trans ((head2_at v44 cs sn gain (x 0) (x 1)).trans (queries_at _ _ _ _ 2 (x 0) (x 1) _ ?_ ?_).symm)
  · show 0 + 1 * (x 0).val = (x 0).val; omega
  · show 256 + 1 * (x 1).val = 2 * 128 + (x 1).val; omega

theorem piece3 (v44 : FVec 𝕀 S512x1536 .f32) (cs sn : FVec 𝕀 S512x128 .f32) (gain : FVec 𝕀 S1x128 .f32) (x : (Rect.unit (s := S512x1024) ![0, 384] ![512, 128] inb_S512x1024_S512x128_0_384).shape.Idx) :
    k0_pay16 (F := 𝕀) (k0_pay6 (F := 𝕀) cs) (k0_pay7 (F := 𝕀) sn) (k0_pay14 (F := 𝕀) v44) gain (k0_pay15 (F := 𝕀) v44) (Scalar.ofBits .f32 0x43000000#32) x
      = queries v44 cs sn gain ((Rect.unit (s := S512x1024) ![0, 384] ![512, 128] inb_S512x1024_S512x128_0_384).emb x) := by
  rw [ident6, ident7]
  refine (congrArg _ (eq_ix2 x)).trans ((head3_at v44 cs sn gain (x 0) (x 1)).trans (queries_at _ _ _ _ 3 (x 0) (x 1) _ ?_ ?_).symm)
  · show 0 + 1 * (x 0).val = (x 0).val; omega
  · show 384 + 1 * (x 1).val = 3 * 128 + (x 1).val; omega

theorem piece4 (v44 : FVec 𝕀 S512x1536 .f32) (cs sn : FVec 𝕀 S512x128 .f32) (gain : FVec 𝕀 S1x128 .f32) (x : (Rect.unit (s := S512x1024) ![0, 512] ![512, 128] inb_S512x1024_S512x128_0_512).shape.Idx) :
    k0_pay17 (F := 𝕀) v44 (k0_pay6 (F := 𝕀) cs) (k0_pay7 (F := 𝕀) sn) gain x
      = queries v44 cs sn gain ((Rect.unit (s := S512x1024) ![0, 512] ![512, 128] inb_S512x1024_S512x128_0_512).emb x) := by
  rw [ident6, ident7]
  refine (congrArg _ (eq_ix2 x)).trans ((head4_at v44 cs sn gain (x 0) (x 1)).trans (queries_at _ _ _ _ 4 (x 0) (x 1) _ ?_ ?_).symm)
  · show 0 + 1 * (x 0).val = (x 0).val; omega
  · show 512 + 1 * (x 1).val = 4 * 128 + (x 1).val; omega

theorem piece5 (v44 : FVec 𝕀 S512x1536 .f32) (cs sn : FVec 𝕀 S512x128 .f32) (gain : FVec 𝕀 S1x128 .f32) (x : (Rect.unit (s := S512x1024) ![0, 640] ![512, 128] inb_S512x1024_S512x128_0_640).shape.Idx) :
    k0_pay20 (F := 𝕀) (k0_pay6 (F := 𝕀) cs) (k0_pay7 (F := 𝕀) sn) (k0_pay18 (F := 𝕀) v44) gain (k0_pay19 (F := 𝕀) v44) x
      = queries v44 cs sn gain ((Rect.unit (s := S512x1024) ![0, 640] ![512, 128] inb_S512x1024_S512x128_0_640).emb x) := by
  rw [ident6, ident7]
  refine (congrArg _ (eq_ix2 x)).trans ((head5_at v44 cs sn gain (x 0) (x 1)).trans (queries_at _ _ _ _ 5 (x 0) (x 1) _ ?_ ?_).symm)
  · show 0 + 1 * (x 0).val = (x 0).val; omega
  · show 640 + 1 * (x 1).val = 5 * 128 + (x 1).val; omega

theorem piece6 (v44 : FVec 𝕀 S512x1536 .f32) (cs sn : FVec 𝕀 S512x128 .f32) (gain : FVec 𝕀 S1x128 .f32) (x : (Rect.unit (s := S512x1024) ![0, 768] ![512, 128] inb_S512x1024_S512x128_0_768).shape.Idx) :
    k0_pay21 (F := 𝕀) v44 (k0_pay6 (F := 𝕀) cs) (k0_pay7 (F := 𝕀) sn) gain x
      = queries v44 cs sn gain ((Rect.unit (s := S512x1024) ![0, 768] ![512, 128] inb_S512x1024_S512x128_0_768).emb x) := by
  rw [ident6, ident7]
  refine (congrArg _ (eq_ix2 x)).trans ((head6_at v44 cs sn gain (x 0) (x 1)).trans (queries_at _ _ _ _ 6 (x 0) (x 1) _ ?_ ?_).symm)
  · show 0 + 1 * (x 0).val = (x 0).val; omega
  · show 768 + 1 * (x 1).val = 6 * 128 + (x 1).val; omega

theorem piece7 (v44 : FVec 𝕀 S512x1536 .f32) (cs sn : FVec 𝕀 S512x128 .f32) (gain : FVec 𝕀 S1x128 .f32) (x : (Rect.unit (s := S512x1024) ![0, 896] ![512, 128] inb_S512x1024_S512x128_0_896).shape.Idx) :
    k0_pay23 (F := 𝕀) (k0_pay6 (F := 𝕀) cs) (k0_pay7 (F := 𝕀) sn) (k0_pay22 (F := 𝕀) v44) gain x
      = queries v44 cs sn gain ((Rect.unit (s := S512x1024) ![0, 896] ![512, 128] inb_S512x1024_S512x128_0_896).emb x) := by
  rw [ident6, ident7]
  refine (congrArg _ (eq_ix2 x)).trans ((head7_at v44 cs sn gain (x 0) (x 1)).trans (queries_at _ _ _ _ 7 (x 0) (x 1) _ ?_ ?_).symm)
  · show 0 + 1 * (x 0).val = (x 0).val; omega
  · show 896 + 1 * (x 1).val = 7 * 128 + (x 1).val; omega

theorem piece8 (v44 : FVec 𝕀 S512x1536 .f32) (cs sn : FVec 𝕀 S512x128 .f32) (gain : FVec 𝕀 S1x128 .f32) (x : (Rect.unit (s := S512x256) ![0, 0] ![512, 128] inb_S512x256_S512x128_0_0).shape.Idx) :
    k0_pay24 (F := 𝕀) v44 (k0_pay6 (F := 𝕀) cs) (k0_pay7 (F := 𝕀) sn) gain x
      = keys v44 cs sn gain ((Rect.unit (s := S512x256) ![0, 0] ![512, 128] inb_S512x256_S512x128_0_0).emb x) := by
  rw [ident6, ident7]
  refine (congrArg _ (eq_ix2 x)).trans ((head8_at v44 cs sn gain (x 0) (x 1)).trans (keys_at _ _ _ _ 8 (x 0) (x 1) _ ?_ ?_).symm)
  · show 0 + 1 * (x 0).val = (x 0).val; omega
  · show 0 + 1 * (x 1).val + 1024 = 8 * 128 + (x 1).val; omega

theorem piece9 (v44 : FVec 𝕀 S512x1536 .f32) (cs sn : FVec 𝕀 S512x128 .f32) (gain : FVec 𝕀 S1x128 .f32) (x : (Rect.unit (s := S512x256) ![0, 128] ![512, 128] inb_S512x256_S512x128_0_128).shape.Idx) :
    k0_pay1 (F := 𝕀) v44 (k0_pay6 (F := 𝕀) cs) (k0_pay7 (F := 𝕀) sn) gain x
      = keys v44 cs sn gain ((Rect.unit (s := S512x256) ![0, 128] ![512, 128] inb_S512x256_S512x128_0_128).emb x) := by
  rw [ident6, ident7]
  refine (congrArg _ (eq_ix2 x)).trans ((head9_at v44 cs sn gain (x 0) (x 1)).trans (keys_at _ _ _ _ 9 (x 0) (x 1) _ ?_ ?_).symm)
  · show 0 + 1 * (x 0).val = (x 0).val; omega
  · show 128 + 1 * (x 1).val + 1024 = 9 * 128 + (x 1).val; omega

/-- The product of a tile's modulated, normalized rows with the weights. -/
def tile (c : Dev nD) (t : Fin cfg0.N) : FVec 𝕀 S512x1536 .f32 :=
  k0_pay5 (F := 𝕀)
    (k0_pay3 (F := 𝕀) (iblk m c 0 t) (iblk m c 2 t)
      (View.ld (iblk m c 1 t) (Rect.unit (k0_off2 (grid0.coords t)) S1x1024.size (k0_off2_inb _))))
    (k0_pay4 (F := 𝕀) (View.ld (iblk m c 1 t) (Rect.unit (k0_off1 (grid0.coords t)) S1x1024.size (k0_off1_inb _))))
    (iblk m c 3 t)

theorem out9 (c : Dev nD) (t : Fin cfg0.N) :
    (outsAt0 m c t).2.1 = keys (tile m c t) (iblk m c 6 t) (iblk m c 7 t) (iblk m c 5 t) := by
  unfold outsAt0
  dsimp only
  unfold out0_A_9
  rw [View.read_writes_junk_eq_canon]
  funext y
  refine (congrFun (congrArg View.canon (List.append_nil _).symm) y).trans ?_
  refine View.canon_append_of_piecesOf _ [] _ ?_ y (cover0_A_9 c _ _ _ _ _ _ _ _ _ _ _ _ _ _ _ _ _ _ _ _ _ _ _ _ _ _ _ _ _ _ _ y)
  refine ⟨fun x => ?_, fun x => ?_, trivial⟩
  · frame_out
    exact piece9 (tile m c t) _ _ _ x
  · frame_out
    exact piece8 (tile m c t) _ _ _ x

theorem out8 (c : Dev nD) (t : Fin cfg0.N) :
    (outsAt0 m c t).1 = queries (tile m c t) (iblk m c 6 t) (iblk m c 7 t) (iblk m c 4 t) := by
  unfold outsAt0
  dsimp only
  unfold out0_A_8
  rw [View.read_writes_junk_eq_canon]
  funext y
  refine (congrFun (congrArg View.canon (List.append_nil _).symm) y).trans ?_
  refine View.canon_append_of_piecesOf _ [] _ ?_ y (cover0_A_8 c _ _ _ _ _ _ _ _ _ _ _ _ _ _ _ _ _ _ _ _ _ _ _ _ _ _ _ _ _ _ _ y)
  refine ⟨fun x => ?_, fun x => ?_, fun x => ?_, fun x => ?_, fun x => ?_, fun x => ?_, fun x => ?_, fun x => ?_, trivial⟩
  · frame_out
    exact piece7 (tile m c t) _ _ _ x
  · frame_out
    exact piece6 (tile m c t) _ _ _ x
  · frame_out
    exact piece5 (tile m c t) _ _ _ x
  · frame_out
    exact piece4 (tile m c t) _ _ _ x
  · frame_out
    exact piece3 (tile m c t) _ _ _ x
  · frame_out
    exact piece2 (tile m c t) _ _ _ x
  · frame_out
    exact piece1 _ _ _ _ _ _ x
  · frame_out
    exact piece0 _ _ _ _ _ _ x

theorem out10 (c : Dev nD) (t : Fin cfg0.N) (i : Fin 512) (j : Fin 256) :
    (outsAt0 m c t).2.2 (ix2 i j) = tile m c t (ix2 i ⟨1280 + j, by omega⟩) := by
  unfold outsAt0
  frame_out
  exact vals_at _ _ _

end Cert.AttnQkvIdeal.Rows

end
-- ==== Proof.AttnQkvSpec.lean ====
/- The query, key and value projection: its three results, element by element. -/
module

public import proofs.«01_k».proof.Proof.AttnQkvTile

@[expose] public section

set_option maxRecDepth 16384

noncomputable section

namespace Cert.AttnQkvIdeal.Rows

open Cert.AttnQkvIdeal Cert.Rows Idealize.ShloMosaic

local notation "𝕀" => Idealize.ShloMosaic.Ideal

/-- The product of the modulated, normalized row with a column of the weights. -/
def proj (x : FVec 𝕀 S33280x1024 .f32) (m : FVec 𝕀 S8x6144 .f32) (g : FVec 𝕀 S1x1024 .f32) (w : FVec 𝕀 S1024x1536 .bf16)
    (R : Fin 33280) (C : Fin 1536) : EReal :=
  ∑ e : Fin 1024, normed (fun d => x (ix2 R d)) (fun d => g (ix2 0 d)) (fun d => m (ix2 (modRow R) (modCol 0 d)))
    (fun d => m (ix2 (modRow R) (modCol 1 d))) e * w (ix2 e C)

/-- The position of a latent row in its sequence. -/
def pos (R : ℕ) : Fin 16384 := ⟨R % 16384, by omega⟩

/-- The cosines that turn a row: those of its position, and `1` for a context row. -/
def cosOf (cs : FVec 𝕀 S16384x64 .f32) (R : ℕ) (e : Fin 128) : EReal :=
  if R < 32768 then cs (ix2 (pos R) ⟨e % 64, by omega⟩) else 1

/-- The signed sines that turn a row: `-sin` in the first half, `sin` in the second, and `0` for a context row. -/
def sinOf (sn : FVec 𝕀 S16384x64 .f32) (R : ℕ) (e : Fin 128) : EReal :=
  if R < 32768 then (if e.val < 64 then -sn (ix2 (pos R) ⟨e % 64, by omega⟩) else sn (ix2 (pos R) ⟨e % 64, by omega⟩)) else 0

/-- An entry of head `h` of row `R`, normalized and turned. -/
def head (x : FVec 𝕀 S33280x1024 .f32) (m : FVec 𝕀 S8x6144 .f32) (g : FVec 𝕀 S1x1024 .f32) (w : FVec 𝕀 S1024x1536 .bf16)
    (gain : FVec 𝕀 S1x128 .f32) (cs sn : FVec 𝕀 S16384x64 .f32) (R : Fin 33280) (h : Fin 12) (d : Fin 128) : EReal :=
  turned (fun e => proj x m g w R (headCol h e)) (fun e => gain (ix2 0 e)) (cosOf cs R) (sinOf sn R) d

/-- An element of the queries. -/
def atQ (x : FVec 𝕀 S33280x1024 .f32) (m : FVec 𝕀 S8x6144 .f32) (g : FVec 𝕀 S1x1024 .f32) (w : FVec 𝕀 S1024x1536 .bf16)
    (gain : FVec 𝕀 S1x128 .f32) (cs sn : FVec 𝕀 S16384x64 .f32) (R : Fin 33280) (C : Fin 1024) : EReal :=
  head x m g w gain cs sn R ⟨C / 128, by omega⟩ ⟨C % 128, by omega⟩ * qscale

/-- An element of the keys. -/
def atK (x : FVec 𝕀 S33280x1024 .f32) (m : FVec 𝕀 S8x6144 .f32) (g : FVec 𝕀 S1x1024 .f32) (w : FVec 𝕀 S1024x1536 .bf16)
    (gain : FVec 𝕀 S1x128 .f32) (cs sn : FVec 𝕀 S16384x64 .f32) (R : Fin 33280) (C : Fin 256) : EReal :=
  head x m g w gain cs sn R ⟨8 + C / 128, by omega⟩ ⟨C % 128, by omega⟩

/-- An element of the values. -/
def atV (x : FVec 𝕀 S33280x1024 .f32) (m : FVec 𝕀 S8x6144 .f32) (g : FVec 𝕀 S1x1024 .f32) (w : FVec 𝕀 S1024x1536 .bf16)
    (R : Fin 33280) (C : Fin 256) : EReal :=
  proj x m g w R ⟨1280 + C, by omega⟩

theorem turned_congr {z z' gain gain' cs cs' sn sn' : Fin 128 → EReal} (hz : ∀ e, z e = z' e) (hg : ∀ e, gain e = gain' e)
    (hc : ∀ e, cs e = cs' e) (hs : ∀ e, sn e = sn' e) (d : Fin 128) : turned z gain cs sn d = turned z' gain' cs' sn' d := by
  rw [funext hz, funext hg, funext hc, funext hs]

end Cert.AttnQkvIdeal.Rows

end
-- ==== Proof.AttnQkvValue.lean ====
/- The query, key and value projection: the arrays the call ends with. -/
module

public import proofs.«01_k».proof.Proof.AttnQkv
public import proofs.«01_k».proof.Proof.AttnQkvSpec

@[expose] public section

set_option maxRecDepth 16384

noncomputable section

namespace Cert.AttnQkvIdeal.Rows

open Cert.AttnQkvIdeal Cert.AttnQkvIdeal.Gen Cert.Rows Idealize.ShloMosaic Idealize.ShloMosaic.TcCoe

local notation "𝕀" => Idealize.ShloMosaic.Ideal

variable (m : (ℓ : Loc nD τ sig) → Buf (Elt 𝕀) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The blocks of angles a point takes: by position for the latent rows, the last block for the context rows. -/
theorem idxTab : ∀ t : Fin cfg0.N, win0_6.index t = ![if t.val < 64 then t.val % 32 else 32, 0]
    ∧ win0_7.index t = ![if t.val < 64 then t.val % 32 else 32, 0] :=
  (by decide +kernel : ∀ t : Fin grid0.N, _)

theorem idxOut : ∀ t : Fin cfg0.N, win0_8.index t = ![t.val, 0] ∧ win0_9.index t = ![t.val, 0] ∧ win0_10.index t = ![t.val, 0] :=
  (by decide +kernel : ∀ t : Fin grid0.N, _)

/-- The rows of modulation vectors a point takes. -/
theorem off : ∀ t : Fin cfg0.N, k0_off1 (grid0.coords t) = ![min (t.val / 32) 2, 0]
    ∧ k0_off2 (grid0.coords t) = ![min (t.val / 32) 2, 1024] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (a : Fin 8) (b : Fin 6144) :
    iblk m c 1 t (ix2 a b) = m ((c : Thread nD τ).loc main_arg1) (ix2 a b) := by
  blk_ext [iblk, V, idx t]

theorem blk2 (c : Dev nD) (t : Fin cfg0.N) (b : Fin 1024) :
    iblk m c 2 t (ix2 0 b) = m ((c : Thread nD τ).loc main_arg2) (ix2 0 b) := by
  blk_ext [iblk, V, idx t]

theorem blk3 (c : Dev nD) (t : Fin cfg0.N) (a : Fin 1024) (b : Fin 1536) :
    iblk m c 3 t (ix2 a b) = m ((c : Thread nD τ).loc main_arg3) (ix2 a b) := by
  blk_ext [iblk, V, idx t]

theorem blk4 (c : Dev nD) (t : Fin cfg0.N) (b : Fin 128) :
    iblk m c 4 t (ix2 0 b) = m ((c : Thread nD τ).loc main_arg4) (ix2 0 b) := by
  blk_ext [iblk, V, idx t]

theorem blk5 (c : Dev nD) (t : Fin cfg0.N) (b : Fin 128) :
    iblk m c 5 t (ix2 0 b) = m ((c : Thread nD τ).loc main_arg5) (ix2 0 b) := by
  blk_ext [iblk, V, idx t]

/-- The table of cosines, as the host builds it. -/
def tabCos (cs : FVec 𝕀 S16384x64 .f32) : FVec 𝕀 S16896x128 .f32 :=
  concatenate S16896x128 0 [⟨S16384x128, concatenate S16384x128 1 [⟨S16384x64, cs⟩, ⟨S16384x64, cs⟩] concatenates_S16384x64_S16384x64_S16384x128_d1⟩,
    ⟨S512x128, broadcastInDim S512x128 ![] bcast_S_S512x128 (constant S_ .f32 0x3F800000#32)⟩] concatenates_S16384x128_S512x128_S16896x128_d0

/-- The table of signed sines, as the host builds it from the negated and the plain sines. -/
def tabSin (neg sn : FVec 𝕀 S16384x64 .f32) : FVec 𝕀 S16896x128 .f32 :=
  concatenate S16896x128 0 [⟨S16384x128, concatenate S16384x128 1 [⟨S16384x64, neg⟩, ⟨S16384x64, sn⟩] concatenates_S16384x64_S16384x64_S16384x128_d1⟩,
    ⟨S512x128, broadcastInDim S512x128 ![] bcast_S_S512x128 (constant S_ .f32 0x00000000#32)⟩] concatenates_S16384x128_S512x128_S16896x128_d0

theorem tabCos_at (cs : FVec 𝕀 S16384x64 .f32) (r : Fin 16896) (e : Fin 128) (R : ℕ)
    (h : r.val = if R < 32768 then R % 16384 else 16384 + R % 512) : tabCos cs (ix2 r e) = cosOf cs R e := by
  have he := e.isLt
  pointwise [tabCos, cosOf, pos]
  by_cases hR : R < 32768
  · rw [if_pos hR] at h ⊢
    rw [dif_pos (by omega)]
    split
    · exact congrArg cs (congrArg₂ ix2 (Fin.ext h) (Fin.ext (show e.val = e.val % 64 by omega)))
    · exact congrArg cs (congrArg₂ ix2 (Fin.ext h) (Fin.ext (show e.val - 64 = e.val % 64 by omega)))
  · rw [if_neg hR] at h ⊢
    rw [dif_neg (by omega)]

theorem tabSin_at (sn : FVec 𝕀 S16384x64 .f32) (r : Fin 16896) (e : Fin 128) (R : ℕ)
    (h : r.val = if R < 32768 then R % 16384 else 16384 + R % 512) : tabSin (Host.negf sn) sn (ix2 r e) = sinOf sn R e := by
  have he := e.isLt
  pointwise [tabSin, sinOf, pos]
  by_cases hR : R < 32768
  · rw [if_pos hR] at h ⊢
    rw [dif_pos (by omega)]
    split
    · exact congrArg (fun z : EReal => -z) (congrArg sn (congrArg₂ ix2 (Fin.ext h) (Fin.ext (show e.val = e.val % 64 by omega))))
    · exact congrArg sn (congrArg₂ ix2 (Fin.ext h) (Fin.ext (show e.val - 64 = e.val % 64 by omega)))
  · rw [if_neg hR] at h ⊢
    rw [dif_neg (by omega)]

/-- The row of the tables a tile's row takes. -/
def tabRow (t : Fin cfg0.N) (a : Fin 512) : Fin 16896 := ⟨(if t.val < 64 then t.val % 32 else 32) * 512 + a, by split <;> omega⟩

theorem tabRow_eq (t : Fin cfg0.N) (a : Fin 512) (R : Fin 33280) (hR : R.val = t.val * 512 + a) :
    (tabRow t a).val = if R.val < 32768 then R.val % 16384 else 16384 + R.val % 512 := by
  have := R.isLt
  have := a.isLt
  show (if t.val < 64 then t.val % 32 else 32) * 512 + a.val = _
  split <;> split <;> omega

/-- The cosines of a tile's rows. -/
theorem blk6 (c : Dev nD) (t : Fin cfg0.N) (a : Fin 512) (e : Fin 128) (R : Fin 33280) (hR : R.val = t.val * 512 + a) :
    iblk m c 6 t (ix2 a e) = cosOf (m ((c : Thread nD τ).loc main_arg6)) R e := by
  refine Eq.trans ?_ (tabCos_at _ (tabRow t a) e R (tabRow_eq t a R hR))
  blk_simp [iblk, idxTab t]
  entry_read
  refine congrArg (tabCos _) ?_
  blk_ext [idxTab t, tabRow]

/-- The signed sines of a tile's rows. -/
theorem blk7 (c : Dev nD) (t : Fin cfg0.N) (a : Fin 512) (e : Fin 128) (R : Fin 33280) (hR : R.val = t.val * 512 + a) :
    iblk m c 7 t (ix2 a e) = sinOf (m ((c : Thread nD τ).loc main_arg7)) R e := by
  refine Eq.trans ?_ (tabSin_at _ (tabRow t a) e R (tabRow_eq t a R hR))
  blk_simp [iblk, idxTab t]
  entry_read
  show tabSin _ _ _ = _
  refine (congrArg₂ (fun u v => tabSin u v _) ?_ ?_).trans (congrArg (tabSin _ _) ?_)
  · rfl
  · rfl
  blk_ext [idxTab t, tabRow]

/-- The product of a tile's modulated, normalized rows with the weights, at its place in the array. -/
theorem tile_at (c : Dev nD) (t : Fin cfg0.N) (a : Fin 512) (C : Fin 1536) (R : Fin 33280) (hR : R.val = t.val * 512 + a) :
    tile m c t (ix2 a C) = proj (m ((c : Thread nD τ).loc main_arg0)) (m ((c : Thread nD τ).loc main_arg1))
      (m ((c : Thread nD τ).loc main_arg2)) (m ((c : Thread nD τ).loc main_arg3)) R C := by
  have ha := a.isLt
  have hr : (modRow R).val = min (t.val / 32) 2 := by show min (R.val / 16384) 2 = _; omega
  rw [tile, pay5_at, proj]
  have hx : ∀ d : Fin 1024, iblk m c 0 t (ix2 a d) = m ((c : Thread nD τ).loc main_arg0) (ix2 R d) := fun d =>
    blk0 m c t _ _ _ hR rfl
  have h0 : ∀ d : Fin 1024, View.ld (iblk m c 1 t) (Rect.unit (k0_off1 (grid0.coords t)) S1x1024.size (k0_off1_inb _)) (ix2 0 d)
      = m ((c : Thread nD τ).loc main_arg1) (ix2 (modRow R) (modCol 0 d)) := fun d =>
    (ld_row _ _ _ _ (off t).1 _ _ (modRow R) (modCol 0 d) hr rfl).trans (blk1 m c t _ _)
  have h1 : ∀ d : Fin 1024, View.ld (iblk m c 1 t) (Rect.unit (k0_off2 (grid0.coords t)) S1x1024.size (k0_off2_inb _)) (ix2 0 d)
      = m ((c : Thread nD τ).loc main_arg1) (ix2 (modRow R) (modCol 1 d)) := fun d =>
    (ld_row _ _ _ _ (off t).2 _ _ (modRow R) (modCol 1 d) hr rfl).trans (blk1 m c t _ _)
  have hn := fun e => normed_congr hx (blk2 m c t) h0 h1 e
  have hw := fun e => blk3 m c t e C
  refine Finset.sum_congr rfl fun e _ => ?_
  rw [hw]
  exact congrArg (fun a : EReal => a * _) (hn e)

/-- What point `t` stores of the queries, at its place in the array. -/
theorem pointQ (c : Dev nD) (t : Fin cfg0.N) (a : Fin 512) (b : Fin 1024) (R : Fin 33280) (C : Fin 1024)
    (hR : R.val = t.val * 512 + a) (hC : C.val = b) :
    (outsAt0 m c t).1 (ix2 a b) = atQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) R C := by
  obtain rfl : C = b := Fin.ext hC
  rw [out8, atQ, head]
  refine (queries_at _ _ _ _ ⟨C / 128, by omega⟩ a ⟨C % 128, by omega⟩ (ix2 a C) rfl
    (show C.val = C.val / 128 * 128 + C.val % 128 by omega)).trans ?_
  exact congrArg (fun z : EReal => z * qscale) (turned_congr (fun e => tile_at m c t a _ R hR) (blk4 m c t)
    (fun e => blk6 m c t a e R hR) (fun e => blk7 m c t a e R hR) _)

/-- What point `t` stores of the keys, at its place in the array. -/
theorem pointK (c : Dev nD) (t : Fin cfg0.N) (a : Fin 512) (b : Fin 256) (R : Fin 33280) (C : Fin 256)
    (hR : R.val = t.val * 512 + a) (hC : C.val = b) :
    (outsAt0 m c t).2.1 (ix2 a b) = atK (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) R C := by
  obtain rfl : C = b := Fin.ext hC
  rw [out9, atK, head]
  refine (keys_at _ _ _ _ ⟨8 + C / 128, by omega⟩ a ⟨C % 128, by omega⟩ (ix2 a C) rfl
    (show C.val + 1024 = (8 + C.val / 128) * 128 + C.val % 128 by omega)).trans ?_
  exact turned_congr (fun e => tile_at m c t a _ R hR) (blk5 m c t)
    (fun e => blk6 m c t a e R hR) (fun e => blk7 m c t a e R hR) _

/-- What point `t` stores of the values, at its place in the array. -/
theorem pointV (c : Dev nD) (t : Fin cfg0.N) (a : Fin 512) (b : Fin 256) (R : Fin 33280) (C : Fin 256)
    (hR : R.val = t.val * 512 + a) (hC : C.val = b) :
    (outsAt0 m c t).2.2 (ix2 a b) = atV (m ((c : Thread nD τ).loc main_arg0)) (m ((c : Thread nD τ).loc main_arg1)) (m ((c : Thread nD τ).loc main_arg2)) (m ((c : Thread nD τ).loc main_arg3)) R C := by
  obtain rfl : C = b := Fin.ext hC
  rw [out10, atV]
  exact tile_at m c t a _ R hR

/-- The array of queries. -/
theorem finalQ (c : Dev nD) : (dats m 0 c).arrAt 8 cfg0.N = fun y : S33280x1024.Idx =>
    atQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (y 0) (y 1) := by
  refine (dats m 0 c).arrAt_eq_of_covers 8 _ (by decide +kernel) fun t _ y => ?_
  blk_simp
  rw [after0_8]
  exact (congrArg _ (eq_ix2 y)).trans (pointQ m c t _ _ _ _ (by blk_simp [idxOut t]) (by blk_simp [idxOut t]))

/-- The array of keys. -/
theorem finalK (c : Dev nD) : (dats m 0 c).arrAt 9 cfg0.N = fun y : S33280x256.Idx =>
    atK (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (y 0) (y 1) := by
  refine (dats m 0 c).arrAt_eq_of_covers 9 _ (by decide +kernel) fun t _ y => ?_
  blk_simp
  rw [after0_9]
  exact (congrArg _ (eq_ix2 y)).trans (pointK m c t _ _ _ _ (by blk_simp [idxOut t]) (by blk_simp [idxOut t]))

/-- The array of values. -/
theorem finalV (c : Dev nD) : (dats m 0 c).arrAt 10 cfg0.N = fun y : S33280x256.Idx =>
    atV (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 10 _ (by decide +kernel) fun t _ y => ?_
  blk_simp
  rw [after0_10]
  exact (congrArg _ (eq_ix2 y)).trans (pointV m c t _ _ _ _ (by blk_simp [idxOut t]) (by blk_simp [idxOut t]))

end Cert.AttnQkvIdeal.Rows

end
-- ==== Proof.AttnQkvReference.lean ====
/- The query, key and value projection: what the reference computes. -/
module

public import proofs.«01_k».proof.Proof.AttnQkvSpec
public import proofs.«01_k».proof.Proof.Gen.AttnQkvReferenceIdeal.Run

@[expose] public section

set_option maxRecDepth 16384

noncomputable section

namespace Cert.AttnQkvReferenceIdeal.Rows

open Cert.AttnQkvReferenceIdeal Cert.AttnQkvReferenceIdeal.Gen Cert.Rows Idealize.ShloMosaic Idealize.ShloMosaic.TcCoe
open Cert.AttnQkvIdeal.Rows (proj head headCol headNorm turned other cosOf sinOf pos atQ atK atV qscale)

local notation "𝕀" => Idealize.ShloMosaic.Ideal

/-- The reference's shift, spread over the rows. -/
def row0 (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 0] m slices_S8x6144_S8x1024_0_0) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 0] m slices_S8x6144_S8x1024_0_0) slices_S8x1024_S1x1024_2_0))⟩] concatenates_S32768x1024_S512x1024_S33280x1024_d0

/-- The reference's scale, spread over the rows. -/
def row1 (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 1024] m slices_S8x6144_S8x1024_0_1024) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 1024] m slices_S8x6144_S8x1024_0_1024) slices_S8x1024_S1x1024_2_0))⟩] concatenates_S32768x1024_S512x1024_S33280x1024_d0

theorem row0_at (m : FVec 𝕀 S8x6144 .f32) (R : Fin 33280) (C : Fin 1024) : row0 m (ix2 R C) = m (ix2 (modRow R) (modCol 0 C)) := by
  refine Eq.trans ?_ (spread_at (fun a => m (ix2 a (modCol 0 C))) R)
  pointwise [row0, modCol]

theorem row1_at (m : FVec 𝕀 S8x6144 .f32) (R : Fin 33280) (C : Fin 1024) : row1 m (ix2 R C) = m (ix2 (modRow R) (modCol 1 C)) := by
  refine Eq.trans ?_ (spread_at (fun a => m (ix2 a (modCol 1 C))) R)
  pointwise [row1, modCol]

/-- The reference's modulated, normalized rows. -/
def norm (x : FVec 𝕀 S33280x1024 .f32) (m : FVec 𝕀 S8x6144 .f32) (g : FVec 𝕀 S1x1024 .f32) : FVec 𝕀 S33280x1024 .f32 :=
  addf (mulf (mulf (mulf x (broadcastInDim S33280x1024 ![0, 1] bcast_S33280x1_S33280x1024_0_1 (Host.rsqrt (addf (Host.divf (broadcastInDim S33280x1 ![0] bcast_S33280_S33280x1_0 (Host.reduceAdd (mulf x x) (constant S_ .f32 0x00000000#32) reducesTo_S33280x1024_S33280_d1 h_S_)) (broadcastInDim S33280x1 ![] bcast_S_S33280x1 (constant S_ .f32 0x44800000#32))) (broadcastInDim S33280x1 ![] bcast_S_S33280x1 (constant S_ .f32 0x358637BD#32)))))) (broadcastInDim S33280x1024 ![0, 1] bcast_S1x1024_S33280x1024_0_1 g)) (addf (broadcastInDim S33280x1024 ![] bcast_S_S33280x1024 (constant S_ .f32 0x3F800000#32)) (row1 m))) (row0 m)

theorem norm_at (x : FVec 𝕀 S33280x1024 .f32) (m : FVec 𝕀 S8x6144 .f32) (g : FVec 𝕀 S1x1024 .f32) (R : Fin 33280) (e : Fin 1024) :
    norm x m g (ix2 R e) = normed (fun d => x (ix2 R d)) (fun d => g (ix2 0 d)) (fun d => m (ix2 (modRow R) (modCol 0 d)))
      (fun d => m (ix2 (modRow R) (modCol 1 d))) e := by
  pointwise [norm, normed, rms, row0_at, row1_at]

/-- The reference's product with the weights. -/
def prod (x : FVec 𝕀 S33280x1024 .f32) (m : FVec 𝕀 S8x6144 .f32) (g : FVec 𝕀 S1x1024 .f32) (w : FVec 𝕀 S1024x1536 .bf16) :
    FVec 𝕀 S33280x1536 .f32 :=
  Host.dotGeneral dot_S33280x1024_S1024x1536_S33280x1536_1_0_0_1_n_n none (norm x m g) (extf .f32 w bitsLt_bf16_f32)

theorem prod_at (x : FVec 𝕀 S33280x1024 .f32) (m : FVec 𝕀 S8x6144 .f32) (g : FVec 𝕀 S1x1024 .f32) (w : FVec 𝕀 S1024x1536 .bf16)
    (R : Fin 33280) (C : Fin 1536) : prod x m g w (ix2 R C) = proj x m g w R C := by
  pointwise [prod, proj, norm_at]

/-- The turned entry, half by half as the reference writes it, and with the angles of the whole head. -/
theorem turn_cases (f : Fin 33280 → Fin 128 → EReal) (cs sn : FVec 𝕀 S16384x64 .f32) (R : Fin 33280) (d : Fin 128) :
    (if h : R.val < 32768 then
      if h1 : d.val < 64 then
        f ⟨R / 16384 * 16384 + R % 16384, by omega⟩ ⟨d, by omega⟩ * cs (ix2 ⟨R % 16384, by omega⟩ ⟨d, by omega⟩)
          - f ⟨R / 16384 * 16384 + R % 16384, by omega⟩ ⟨64 + d, by omega⟩ * sn (ix2 ⟨R % 16384, by omega⟩ ⟨d, by omega⟩)
      else
        f ⟨R / 16384 * 16384 + R % 16384, by omega⟩ ⟨d - 64, by omega⟩ * sn (ix2 ⟨R % 16384, by omega⟩ ⟨d - 64, by omega⟩)
          + f ⟨R / 16384 * 16384 + R % 16384, by omega⟩ ⟨64 + (d - 64), by omega⟩ * cs (ix2 ⟨R % 16384, by omega⟩ ⟨d - 64, by omega⟩)
    else f ⟨32768 + (R - 32768), by omega⟩ ⟨d, by omega⟩)
      = f R d * cosOf cs R d + f R (other d) * sinOf sn R d := by
  have hd := d.isLt
  have e1 : (⟨R / 16384 * 16384 + R % 16384, by omega⟩ : Fin 33280) = R :=
    Fin.ext (show R.val / 16384 * 16384 + R.val % 16384 = R.val by omega)
  rw [cosOf, sinOf]
  by_cases h : R.val < 32768
  · rw [dif_pos h, if_pos h, if_pos h]
    by_cases h1 : d.val < 64
    · have e2 : (⟨64 + d, by omega⟩ : Fin 128) = other d := Fin.ext (show 64 + d.val = (d.val + 128 - 64) % 128 by omega)
      have e3 : (⟨d % 64, by omega⟩ : Fin 64) = ⟨d, h1⟩ := Fin.ext (show d.val % 64 = d.val by omega)
      rw [dif_pos h1, if_pos h1, e1, e2, e3, mul_neg, ← sub_eq_add_neg]
      rfl
    · have e2 : (⟨d - 64, by omega⟩ : Fin 128) = other d := Fin.ext (show d.val - 64 = (d.val + 128 - 64) % 128 by omega)
      have e3 : (⟨d % 64, by omega⟩ : Fin 64) = ⟨d - 64, by omega⟩ := Fin.ext (show d.val % 64 = d.val - 64 by omega)
      have e4 : (⟨64 + (d - 64), by omega⟩ : Fin 128) = d := Fin.ext (show 64 + (d.val - 64) = d.val by omega)
      rw [dif_neg h1, if_neg h1, e1, e2, e3, e4, add_comm]
      rfl
  · have e5 : (⟨32768 + (R - 32768), by omega⟩ : Fin 33280) = R := Fin.ext (show 32768 + (R.val - 32768) = R.val by omega)
    rw [dif_neg h, if_neg h, if_neg h, e5, mul_one, mul_zero, add_zero]

/-- The reference's query columns, head by head. -/
def headsQ (p : FVec 𝕀 S33280x1536 .f32) : FVec 𝕀 S33280x8x128 .f32 :=
  shapeCast _ (extractStridedSlice S33280x1024 ![0, 0] p slices_S33280x1536_S33280x1024_0_0) shapeCasts_S33280x1024_S33280x8x128

theorem headsQ_at (p : FVec 𝕀 S33280x1536 .f32) (R : Fin 33280) (h : Fin 8) (d : Fin 128) :
    headsQ p (ix3 R h d) = p (ix2 R (headCol ⟨h, by omega⟩ d)) := by
  pointwise [headsQ, headCol]

/-- The reference's query heads, normalized. -/
def normedQ (p : FVec 𝕀 S33280x1536 .f32) (gain : FVec 𝕀 S1x128 .f32) : FVec 𝕀 S33280x8x128 .f32 :=
  mulf (mulf (headsQ p) (broadcastInDim S33280x8x128 ![0, 1, 2] bcast_S33280x8x1_S33280x8x128_0_1_2 (Host.rsqrt (addf (Host.divf (broadcastInDim S33280x8x1 ![0, 1] bcast_S33280x8_S33280x8x1_0_1 (Host.reduceAdd (mulf (headsQ p) (headsQ p)) (constant S_ .f32 0x00000000#32) reducesTo_S33280x8x128_S33280x8_d2 h_S_)) (broadcastInDim S33280x8x1 ![] bcast_S_S33280x8x1 (constant S_ .f32 0x43000000#32))) (broadcastInDim S33280x8x1 ![] bcast_S_S33280x8x1 (constant S_ .f32 0x358637BD#32)))))) (broadcastInDim S33280x8x128 ![0, 1, 2] bcast_S1x1x128_S33280x8x128_0_1_2 (broadcastInDim S1x1x128 ![1, 2] bcast_S1x128_S1x1x128_1_2 gain))

theorem normedQ_at (p : FVec 𝕀 S33280x1536 .f32) (gain : FVec 𝕀 S1x128 .f32) (R : Fin 33280) (h : Fin 8) (d : Fin 128) :
    normedQ p gain (ix3 R h d)
      = headNorm (fun e => p (ix2 R (headCol ⟨h, by omega⟩ e))) (fun e => gain (ix2 0 e)) d := by
  pointwise [normedQ, headNorm, rms, headsQ_at]

/-- The reference's query heads, turned by their positions and laid side by side. -/
def turnedQ (n : FVec 𝕀 S33280x8x128 .f32) (cs sn : FVec 𝕀 S16384x64 .f32) : FVec 𝕀 S33280x1024 .f32 :=
  concatenate S33280x1024 0 [⟨S32768x1024, (shapeCast _ (concatenate S2x16384x8x128 3 [⟨S2x16384x8x64, (subf (mulf (extractStridedSlice S2x16384x8x64 ![0, 0, 0, 0] (shapeCast _ (extractStridedSlice S32768x8x128 ![0, 0, 0] n slices_S33280x8x128_S32768x8x128_0_0_0) shapeCasts_S32768x8x128_S2x16384x8x128) slices_S2x16384x8x128_S2x16384x8x64_0_0_0_0) (broadcastInDim S2x16384x8x64 ![0, 1, 2, 3] bcast_S1x16384x1x64_S2x16384x8x64_0_1_2_3 (shapeCast _ cs shapeCasts_S16384x64_S1x16384x1x64))) (mulf (extractStridedSlice S2x16384x8x64 ![0, 0, 0, 64] (shapeCast _ (extractStridedSlice S32768x8x128 ![0, 0, 0] n slices_S33280x8x128_S32768x8x128_0_0_0) shapeCasts_S32768x8x128_S2x16384x8x128) slices_S2x16384x8x128_S2x16384x8x64_0_0_0_64) (broadcastInDim S2x16384x8x64 ![0, 1, 2, 3] bcast_S1x16384x1x64_S2x16384x8x64_0_1_2_3 (shapeCast _ sn shapeCasts_S16384x64_S1x16384x1x64))))⟩, ⟨S2x16384x8x64, (addf (mulf (extractStridedSlice S2x16384x8x64 ![0, 0, 0, 0] (shapeCast _ (extractStridedSlice S32768x8x128 ![0, 0, 0] n slices_S33280x8x128_S32768x8x128_0_0_0) shapeCasts_S32768x8x128_S2x16384x8x128) slices_S2x16384x8x128_S2x16384x8x64_0_0_0_0) (broadcastInDim S2x16384x8x64 ![0, 1, 2, 3] bcast_S1x16384x1x64_S2x16384x8x64_0_1_2_3 (shapeCast _ sn shapeCasts_S16384x64_S1x16384x1x64))) (mulf (extractStridedSlice S2x16384x8x64 ![0, 0, 0, 64] (shapeCast _ (extractStridedSlice S32768x8x128 ![0, 0, 0] n slices_S33280x8x128_S32768x8x128_0_0_0) shapeCasts_S32768x8x128_S2x16384x8x128) slices_S2x16384x8x128_S2x16384x8x64_0_0_0_64) (broadcastInDim S2x16384x8x64 ![0, 1, 2, 3] bcast_S1x16384x1x64_S2x16384x8x64_0_1_2_3 (shapeCast _ cs shapeCasts_S16384x64_S1x16384x1x64))))⟩] concatenates_S2x16384x8x64_S2x16384x8x64_S2x16384x8x128_d3) shapeCasts_S2x16384x8x128_S32768x1024)⟩, ⟨S512x1024, (shapeCast _ (extractStridedSlice S512x8x128 ![32768, 0, 0] n slices_S33280x8x128_S512x8x128_32768_0_0) shapeCasts_S512x8x128_S512x1024)⟩] concatenates_S32768x1024_S512x1024_S33280x1024_d0

theorem turnedQ_at (n : FVec 𝕀 S33280x8x128 .f32) (cs sn : FVec 𝕀 S16384x64 .f32) (R : Fin 33280) (C : Fin 1024) :
    turnedQ n cs sn (ix2 R C)
      = n (ix3 R ⟨C / 128, by omega⟩ ⟨C % 128, by omega⟩) * cosOf cs R ⟨C % 128, by omega⟩
        + n (ix3 R ⟨C / 128, by omega⟩ (other ⟨C % 128, by omega⟩)) * sinOf sn R ⟨C % 128, by omega⟩ := by
  refine Eq.trans ?_ (turn_cases (fun R d => n (ix3 R ⟨C / 128, by omega⟩ d)) cs sn R ⟨C % 128, by omega⟩)
  pointwise [turnedQ]

/-- The reference's key columns, head by head. -/
def headsK (p : FVec 𝕀 S33280x1536 .f32) : FVec 𝕀 S33280x2x128 .f32 :=
  shapeCast _ (extractStridedSlice S33280x256 ![0, 1024] p slices_S33280x1536_S33280x256_0_1024) shapeCasts_S33280x256_S33280x2x128

theorem headsK_at (p : FVec 𝕀 S33280x1536 .f32) (R : Fin 33280) (h : Fin 2) (d : Fin 128) :
    headsK p (ix3 R h d) = p (ix2 R (headCol ⟨8 + h, by omega⟩ d)) := by
  pointwise [headsK, headCol]
  exact congrArg p (congrArg (ix2 R) (Fin.ext (show 1024 + (h.val * 128 + d.val) = (8 + h.val) * 128 + d.val by omega)))

/-- The reference's key heads, normalized. -/
def normedK (p : FVec 𝕀 S33280x1536 .f32) (gain : FVec 𝕀 S1x128 .f32) : FVec 𝕀 S33280x2x128 .f32 :=
  mulf (mulf (headsK p) (broadcastInDim S33280x2x128 ![0, 1, 2] bcast_S33280x2x1_S33280x2x128_0_1_2 (Host.rsqrt (addf (Host.divf (broadcastInDim S33280x2x1 ![0, 1] bcast_S33280x2_S33280x2x1_0_1 (Host.reduceAdd (mulf (headsK p) (headsK p)) (constant S_ .f32 0x00000000#32) reducesTo_S33280x2x128_S33280x2_d2 h_S_)) (broadcastInDim S33280x2x1 ![] bcast_S_S33280x2x1 (constant S_ .f32 0x43000000#32))) (broadcastInDim S33280x2x1 ![] bcast_S_S33280x2x1 (constant S_ .f32 0x358637BD#32)))))) (broadcastInDim S33280x2x128 ![0, 1, 2] bcast_S1x1x128_S33280x2x128_0_1_2 (broadcastInDim S1x1x128 ![1, 2] bcast_S1x128_S1x1x128_1_2 gain))

theorem normedK_at (p : FVec 𝕀 S33280x1536 .f32) (gain : FVec 𝕀 S1x128 .f32) (R : Fin 33280) (h : Fin 2) (d : Fin 128) :
    normedK p gain (ix3 R h d)
      = headNorm (fun e => p (ix2 R (headCol ⟨8 + h, by omega⟩ e))) (fun e => gain (ix2 0 e)) d := by
  pointwise [normedK, headNorm, rms, headsK_at]

/-- The reference's key heads, turned by their positions and laid side by side. -/
def turnedK (n : FVec 𝕀 S33280x2x128 .f32) (cs sn : FVec 𝕀 S16384x64 .f32) : FVec 𝕀 S33280x256 .f32 :=
  concatenate S33280x256 0 [⟨S32768x256, (shapeCast _ (concatenate S2x16384x2x128 3 [⟨S2x16384x2x64, (subf (mulf (extractStridedSlice S2x16384x2x64 ![0, 0, 0, 0] (shapeCast _ (extractStridedSlice S32768x2x128 ![0, 0, 0] n slices_S33280x2x128_S32768x2x128_0_0_0) shapeCasts_S32768x2x128_S2x16384x2x128) slices_S2x16384x2x128_S2x16384x2x64_0_0_0_0) (broadcastInDim S2x16384x2x64 ![0, 1, 2, 3] bcast_S1x16384x1x64_S2x16384x2x64_0_1_2_3 (shapeCast _ cs shapeCasts_S16384x64_S1x16384x1x64))) (mulf (extractStridedSlice S2x16384x2x64 ![0, 0, 0, 64] (shapeCast _ (extractStridedSlice S32768x2x128 ![0, 0, 0] n slices_S33280x2x128_S32768x2x128_0_0_0) shapeCasts_S32768x2x128_S2x16384x2x128) slices_S2x16384x2x128_S2x16384x2x64_0_0_0_64) (broadcastInDim S2x16384x2x64 ![0, 1, 2, 3] bcast_S1x16384x1x64_S2x16384x2x64_0_1_2_3 (shapeCast _ sn shapeCasts_S16384x64_S1x16384x1x64))))⟩, ⟨S2x16384x2x64, (addf (mulf (extractStridedSlice S2x16384x2x64 ![0, 0, 0, 0] (shapeCast _ (extractStridedSlice S32768x2x128 ![0, 0, 0] n slices_S33280x2x128_S32768x2x128_0_0_0) shapeCasts_S32768x2x128_S2x16384x2x128) slices_S2x16384x2x128_S2x16384x2x64_0_0_0_0) (broadcastInDim S2x16384x2x64 ![0, 1, 2, 3] bcast_S1x16384x1x64_S2x16384x2x64_0_1_2_3 (shapeCast _ sn shapeCasts_S16384x64_S1x16384x1x64))) (mulf (extractStridedSlice S2x16384x2x64 ![0, 0, 0, 64] (shapeCast _ (extractStridedSlice S32768x2x128 ![0, 0, 0] n slices_S33280x2x128_S32768x2x128_0_0_0) shapeCasts_S32768x2x128_S2x16384x2x128) slices_S2x16384x2x128_S2x16384x2x64_0_0_0_64) (broadcastInDim S2x16384x2x64 ![0, 1, 2, 3] bcast_S1x16384x1x64_S2x16384x2x64_0_1_2_3 (shapeCast _ cs shapeCasts_S16384x64_S1x16384x1x64))))⟩] concatenates_S2x16384x2x64_S2x16384x2x64_S2x16384x2x128_d3) shapeCasts_S2x16384x2x128_S32768x256)⟩, ⟨S512x256, (shapeCast _ (extractStridedSlice S512x2x128 ![32768, 0, 0] n slices_S33280x2x128_S512x2x128_32768_0_0) shapeCasts_S512x2x128_S512x256)⟩] concatenates_S32768x256_S512x256_S33280x256_d0

theorem turnedK_at (n : FVec 𝕀 S33280x2x128 .f32) (cs sn : FVec 𝕀 S16384x64 .f32) (R : Fin 33280) (C : Fin 256) :
    turnedK n cs sn (ix2 R C)
      = n (ix3 R ⟨C / 128, by omega⟩ ⟨C % 128, by omega⟩) * cosOf cs R ⟨C % 128, by omega⟩
        + n (ix3 R ⟨C / 128, by omega⟩ (other ⟨C % 128, by omega⟩)) * sinOf sn R ⟨C % 128, by omega⟩ := by
  refine Eq.trans ?_ (turn_cases (fun R d => n (ix3 R ⟨C / 128, by omega⟩ d)) cs sn R ⟨C % 128, by omega⟩)
  pointwise [turnedK]

/-- The reference's queries, as a function of its arguments. -/
def resQ (x : FVec 𝕀 S33280x1024 .f32) (m : FVec 𝕀 S8x6144 .f32) (g : FVec 𝕀 S1x1024 .f32) (w : FVec 𝕀 S1024x1536 .bf16)
    (gain : FVec 𝕀 S1x128 .f32) (cs sn : FVec 𝕀 S16384x64 .f32) : FVec 𝕀 S33280x1024 .bf16 :=
  truncf .bf16 (mulf (turnedQ (normedQ (prod x m g w) gain) cs sn) (broadcastInDim S33280x1024 ![] bcast_S_S33280x1024 (constant S_ .f32 0x3E0293EE#32))) bitsLt_bf16_f32

/-- The reference's keys, as a function of its arguments. -/
def resK (x : FVec 𝕀 S33280x1024 .f32) (m : FVec 𝕀 S8x6144 .f32) (g : FVec 𝕀 S1x1024 .f32) (w : FVec 𝕀 S1024x1536 .bf16)
    (gain : FVec 𝕀 S1x128 .f32) (cs sn : FVec 𝕀 S16384x64 .f32) : FVec 𝕀 S33280x256 .bf16 :=
  truncf .bf16 (turnedK (normedK (prod x m g w) gain) cs sn) bitsLt_bf16_f32

/-- The reference's values, as a function of its arguments. -/
def resV (x : FVec 𝕀 S33280x1024 .f32) (m : FVec 𝕀 S8x6144 .f32) (g : FVec 𝕀 S1x1024 .f32) (w : FVec 𝕀 S1024x1536 .bf16) : FVec 𝕀 S33280x256 .bf16 :=
  truncf .bf16 (extractStridedSlice S33280x256 ![0, 1280] (prod x m g w) slices_S33280x1536_S33280x256_0_1280) bitsLt_bf16_f32

theorem resQ_at (x : FVec 𝕀 S33280x1024 .f32) (m : FVec 𝕀 S8x6144 .f32) (g : FVec 𝕀 S1x1024 .f32) (w : FVec 𝕀 S1024x1536 .bf16)
    (gain : FVec 𝕀 S1x128 .f32) (cs sn : FVec 𝕀 S16384x64 .f32) (R : Fin 33280) (C : Fin 1024) :
    resQ x m g w gain cs sn (ix2 R C) = atQ x m g w gain cs sn R C := by
  pointwise [resQ, turnedQ_at, normedQ_at, prod_at, atQ, head, turned, qscale]

theorem resK_at (x : FVec 𝕀 S33280x1024 .f32) (m : FVec 𝕀 S8x6144 .f32) (g : FVec 𝕀 S1x1024 .f32) (w : FVec 𝕀 S1024x1536 .bf16)
    (gain : FVec 𝕀 S1x128 .f32) (cs sn : FVec 𝕀 S16384x64 .f32) (R : Fin 33280) (C : Fin 256) :
    resK x m g w gain cs sn (ix2 R C) = atK x m g w gain cs sn R C := by
  pointwise [resK, turnedK_at, normedK_at, prod_at, atK, head, turned]

theorem resV_at (x : FVec 𝕀 S33280x1024 .f32) (m : FVec 𝕀 S8x6144 .f32) (g : FVec 𝕀 S1x1024 .f32) (w : FVec 𝕀 S1024x1536 .bf16) (R : Fin 33280) (C : Fin 256) :
    resV x m g w (ix2 R C) = atV x m g w R C := by
  pointwise [resV, prod_at, atV]

end Cert.AttnQkvReferenceIdeal.Rows

end
-- ==== Proof.AttnQkvClaims.lean ====
/- The claims of the query, key and value projection. -/
module

public import proofs.«01_k».proof.Defs
public import proofs.«01_k».proof.Proof.AttnQkvValue
public import proofs.«01_k».proof.Proof.AttnQkvReference
public import proofs.«01_k».proof.Proof.Gen.AttnQkv.Frame
public import Idealize.ShloMosaic.Lib.Quiescent
public import Idealize.ShloMosaic.Adequacy
public import Idealize.ShloMosaic.Init

@[expose] public section

set_option maxRecDepth 16384

noncomputable section

namespace Cert.AttnQkvIdeal.Rows

open Idealize.ShloMosaic Idealize.SL.Sem

/-- The reference leaves its arguments unchanged and its counters at zero (it declares none). -/
theorem frame_reference : Cert.quiescent_AttnQkvReferenceIdeal := fun m g _ =>
  (θ_run Cert.AttnQkvReferenceIdeal.defs _ _).mono
    (fun r h => ⟨fun c => (h c).2.2.2, sem_eq_zero_of_no_sems rfl _⟩) (Cert.AttnQkvReferenceIdeal.Value.run m g)

/-- The call and its reference end with the same queries, keys and values. -/
theorem algebraic : Cert.algebraic_AttnQkvIdeal_AttnQkvReferenceIdeal := fun m g m' g' _ agree => by
  refine ⟨fun c => fun y : Cert.AttnQkvIdeal.S33280x1024.Idx => atQ (m ((c.tc : Thread Cert.AttnQkvIdeal.nD Cert.AttnQkvIdeal.τ).loc Cert.AttnQkvIdeal.main_arg0)) (m ((c.tc : Thread Cert.AttnQkvIdeal.nD Cert.AttnQkvIdeal.τ).loc Cert.AttnQkvIdeal.main_arg1)) (m ((c.tc : Thread Cert.AttnQkvIdeal.nD Cert.AttnQkvIdeal.τ).loc Cert.AttnQkvIdeal.main_arg2)) (m ((c.tc : Thread Cert.AttnQkvIdeal.nD Cert.AttnQkvIdeal.τ).loc Cert.AttnQkvIdeal.main_arg3)) (m ((c.tc : Thread Cert.AttnQkvIdeal.nD Cert.AttnQkvIdeal.τ).loc Cert.AttnQkvIdeal.main_arg4)) (m ((c.tc : Thread Cert.AttnQkvIdeal.nD Cert.AttnQkvIdeal.τ).loc Cert.AttnQkvIdeal.main_arg6)) (m ((c.tc : Thread Cert.AttnQkvIdeal.nD Cert.AttnQkvIdeal.τ).loc Cert.AttnQkvIdeal.main_arg7)) (y 0) (y 1),
    fun c => fun y : Cert.AttnQkvIdeal.S33280x256.Idx => atK (m ((c.tc : Thread Cert.AttnQkvIdeal.nD Cert.AttnQkvIdeal.τ).loc Cert.AttnQkvIdeal.main_arg0)) (m ((c.tc : Thread Cert.AttnQkvIdeal.nD Cert.AttnQkvIdeal.τ).loc Cert.AttnQkvIdeal.main_arg1)) (m ((c.tc : Thread Cert.AttnQkvIdeal.nD Cert.AttnQkvIdeal.τ).loc Cert.AttnQkvIdeal.main_arg2)) (m ((c.tc : Thread Cert.AttnQkvIdeal.nD Cert.AttnQkvIdeal.τ).loc Cert.AttnQkvIdeal.main_arg3)) (m ((c.tc : Thread Cert.AttnQkvIdeal.nD Cert.AttnQkvIdeal.τ).loc Cert.AttnQkvIdeal.main_arg5)) (m ((c.tc : Thread Cert.AttnQkvIdeal.nD Cert.AttnQkvIdeal.τ).loc Cert.AttnQkvIdeal.main_arg6)) (m ((c.tc : Thread Cert.AttnQkvIdeal.nD Cert.AttnQkvIdeal.τ).loc Cert.AttnQkvIdeal.main_arg7)) (y 0) (y 1),
    fun c => fun y : Cert.AttnQkvIdeal.S33280x256.Idx => atV (m ((c.tc : Thread Cert.AttnQkvIdeal.nD Cert.AttnQkvIdeal.τ).loc Cert.AttnQkvIdeal.main_arg0)) (m ((c.tc : Thread Cert.AttnQkvIdeal.nD Cert.AttnQkvIdeal.τ).loc Cert.AttnQkvIdeal.main_arg1)) (m ((c.tc : Thread Cert.AttnQkvIdeal.nD Cert.AttnQkvIdeal.τ).loc Cert.AttnQkvIdeal.main_arg2)) (m ((c.tc : Thread Cert.AttnQkvIdeal.nD Cert.AttnQkvIdeal.τ).loc Cert.AttnQkvIdeal.main_arg3)) (y 0) (y 1),
    (θ_run Cert.AttnQkvIdeal.defs _ _).mono (fun r h c => ⟨(h c).1.trans (finalQ m c), (h c).2.1.trans (finalK m c),
      (h c).2.2.1.trans (finalV m c), (h c).2.2.2⟩) (Cert.AttnQkvIdeal.Value.run_blocks m g),
    (θ_run Cert.AttnQkvReferenceIdeal.defs _ _).mono (fun r h c => ⟨(h c).1.trans ?_, (h c).2.1.trans ?_, (h c).2.2.1.trans ?_, (h c).2.2.2⟩)
      (Cert.AttnQkvReferenceIdeal.Value.run m' g')⟩
  · change Cert.AttnQkvReferenceIdeal.Rows.resQ (m' ((c.tc : Thread Cert.AttnQkvReferenceIdeal.nD Cert.AttnQkvReferenceIdeal.τ).loc Cert.AttnQkvReferenceIdeal.main_arg0)) (m' ((c.tc : Thread Cert.AttnQkvReferenceIdeal.nD Cert.AttnQkvReferenceIdeal.τ).loc Cert.AttnQkvReferenceIdeal.main_arg1)) (m' ((c.tc : Thread Cert.AttnQkvReferenceIdeal.nD Cert.AttnQkvReferenceIdeal.τ).loc Cert.AttnQkvReferenceIdeal.main_arg2)) (m' ((c.tc : Thread Cert.AttnQkvReferenceIdeal.nD Cert.AttnQkvReferenceIdeal.τ).loc Cert.AttnQkvReferenceIdeal.main_arg3)) (m' ((c.tc : Thread Cert.AttnQkvReferenceIdeal.nD Cert.AttnQkvReferenceIdeal.τ).loc Cert.AttnQkvReferenceIdeal.main_arg4)) (m' ((c.tc : Thread Cert.AttnQkvReferenceIdeal.nD Cert.AttnQkvReferenceIdeal.τ).loc Cert.AttnQkvReferenceIdeal.main_arg6)) (m' ((c.tc : Thread Cert.AttnQkvReferenceIdeal.nD Cert.AttnQkvReferenceIdeal.τ).loc Cert.AttnQkvReferenceIdeal.main_arg7)) = _
    rw [(agree c).1, (agree c).2.1, (agree c).2.2.1, (agree c).2.2.2.1, (agree c).2.2.2.2.1, (agree c).2.2.2.2.2.2.1, (agree c).2.2.2.2.2.2.2]
    refine funext fun y => (congrArg _ (eq_ix2 y)).trans ?_
    exact Cert.AttnQkvReferenceIdeal.Rows.resQ_at _ _ _ _ _ _ _ (y 0) (y 1)
  · change Cert.AttnQkvReferenceIdeal.Rows.resK (m' ((c.tc : Thread Cert.AttnQkvReferenceIdeal.nD Cert.AttnQkvReferenceIdeal.τ).loc Cert.AttnQkvReferenceIdeal.main_arg0)) (m' ((c.tc : Thread Cert.AttnQkvReferenceIdeal.nD Cert.AttnQkvReferenceIdeal.τ).loc Cert.AttnQkvReferenceIdeal.main_arg1)) (m' ((c.tc : Thread Cert.AttnQkvReferenceIdeal.nD Cert.AttnQkvReferenceIdeal.τ).loc Cert.AttnQkvReferenceIdeal.main_arg2)) (m' ((c.tc : Thread Cert.AttnQkvReferenceIdeal.nD Cert.AttnQkvReferenceIdeal.τ).loc Cert.AttnQkvReferenceIdeal.main_arg3)) (m' ((c.tc : Thread Cert.AttnQkvReferenceIdeal.nD Cert.AttnQkvReferenceIdeal.τ).loc Cert.AttnQkvReferenceIdeal.main_arg5)) (m' ((c.tc : Thread Cert.AttnQkvReferenceIdeal.nD Cert.AttnQkvReferenceIdeal.τ).loc Cert.AttnQkvReferenceIdeal.main_arg6)) (m' ((c.tc : Thread Cert.AttnQkvReferenceIdeal.nD Cert.AttnQkvReferenceIdeal.τ).loc Cert.AttnQkvReferenceIdeal.main_arg7)) = _
    rw [(agree c).1, (agree c).2.1, (agree c).2.2.1, (agree c).2.2.2.1, (agree c).2.2.2.2.2.1, (agree c).2.2.2.2.2.2.1, (agree c).2.2.2.2.2.2.2]
    refine funext fun y => (congrArg _ (eq_ix2 y)).trans ?_
    exact Cert.AttnQkvReferenceIdeal.Rows.resK_at _ _ _ _ _ _ _ (y 0) (y 1)
  · change Cert.AttnQkvReferenceIdeal.Rows.resV (m' ((c.tc : Thread Cert.AttnQkvReferenceIdeal.nD Cert.AttnQkvReferenceIdeal.τ).loc Cert.AttnQkvReferenceIdeal.main_arg0)) (m' ((c.tc : Thread Cert.AttnQkvReferenceIdeal.nD Cert.AttnQkvReferenceIdeal.τ).loc Cert.AttnQkvReferenceIdeal.main_arg1)) (m' ((c.tc : Thread Cert.AttnQkvReferenceIdeal.nD Cert.AttnQkvReferenceIdeal.τ).loc Cert.AttnQkvReferenceIdeal.main_arg2)) (m' ((c.tc : Thread Cert.AttnQkvReferenceIdeal.nD Cert.AttnQkvReferenceIdeal.τ).loc Cert.AttnQkvReferenceIdeal.main_arg3)) = _
    rw [(agree c).1, (agree c).2.1, (agree c).2.2.1, (agree c).2.2.2.1]
    refine funext fun y => (congrArg _ (eq_ix2 y)).trans ?_
    exact Cert.AttnQkvReferenceIdeal.Rows.resV_at _ _ _ _ (y 0) (y 1)

end Cert.AttnQkvIdeal.Rows

end
-- ==== Proof.Gates.lean ====
/- The activations: the two readings of the GELU and of the logistic function agree on every extended real. -/
module

public import Idealize.ShloMosaic.Lib.Pointwise
public import Idealize.ShloMosaic.PureOps.Ideal.Laws
public import Mathlib.Analysis.SpecialFunctions.Trigonometric.DerivHyp

@[expose] public section

noncomputable section

namespace Cert.Gates

open Idealize.ShloMosaic

/-- One half and one, as float32 words. -/
theorem half_eq : Ideal.ofBits .f32 0x3F000000#32 = ((1 / 2 : ℝ) : EReal) := by
  show Ideal.ieee 8 23 0x3F000000#32 = _
  rw [Ideal.ieee]
  simp
  norm_cast
  norm_num [zpow_neg]

theorem one_eq : Ideal.ofBits .f32 0x3F800000#32 = 1 := by
  show Ideal.ieee 8 23 0x3F800000#32 = _
  rw [Ideal.ieee]
  simp
  norm_cast
  norm_num [zpow_neg]

/-- The GELU, by the error function of the argument. -/
def gelu (x : EReal) : EReal :=
  Ideal.ofBits .f32 0x3F000000#32 * x
    * (Ideal.ofBits .f32 0x3F800000#32 + Ideal.erf (x * Ideal.ofBits .f32 0x3F3504F3#32))

/-- The GELU by the complementary error function of the negated argument. -/
theorem gelu_erfc (x : EReal) : Ideal.ofBits .f32 0x3F000000#32 * x * Ideal.erfc (-x * Ideal.ofBits .f32 0x3F3504F3#32) = gelu x := by
  rw [gelu, EReal.neg_mul, Ideal.erfc_neg, one_eq]

/-- The logistic function. -/
def sigm (x : EReal) : EReal :=
  Ideal.div (Ideal.ofBits .f32 0x3F800000#32) (Ideal.ofBits .f32 0x3F800000#32 + Ideal.exp (-x))

theorem tanh_half (r : ℝ) : 1 / 2 * Real.tanh (1 / 2 * r) + 1 / 2 = 1 / (1 + Real.exp (-r)) := by
  have h : Real.exp (-r) = Real.exp (-(1 / 2 * r)) * Real.exp (-(1 / 2 * r)) := by rw [← Real.exp_add]; congr 1; ring
  have hm : Real.exp (1 / 2 * r) * Real.exp (-(1 / 2 * r)) = 1 := by rw [← Real.exp_add]; simp
  rw [Real.tanh_eq_sinh_div_cosh, Real.sinh_eq, Real.cosh_eq, h]
  have ha := Real.exp_pos (1 / 2 * r)
  have hb := Real.exp_pos (-(1 / 2 * r))
  generalize Real.exp (1 / 2 * r) = a at *
  generalize Real.exp (-(1 / 2 * r)) = b at *
  field_simp
  linear_combination 2 * b * hm

/-- The logistic function by the hyperbolic tangent of half the argument. -/
theorem sigm_tanh (x : EReal) :
    Ideal.ofBits .f32 0x3F000000#32 * Ideal.tanh (Ideal.ofBits .f32 0x3F000000#32 * x) + Ideal.ofBits .f32 0x3F000000#32 = sigm x := by
  rw [sigm, half_eq, one_eq]
  induction x with
  | bot =>
    rw [EReal.coe_mul_bot_of_pos (by norm_num), Ideal.tanh_bot, EReal.neg_bot, Ideal.exp_top]
    have h : (1 : EReal) + ⊤ = ⊤ := EReal.add_top_of_ne_bot (by decide)
    rw [h, Ideal.div, if_neg (by decide), EReal.inv_top, mul_zero, mul_neg, mul_one, ← EReal.coe_neg, ← EReal.coe_add]
    norm_num
  | top =>
    rw [EReal.coe_mul_top_of_pos (by norm_num), Ideal.tanh_top, EReal.neg_top, Ideal.exp_bot]
    simp [Ideal.div]
    norm_cast; norm_num
  | coe r =>
    rw [← EReal.coe_neg, Ideal.exp_coe, ← EReal.coe_one, ← EReal.coe_add, Ideal.div_coe (by positivity), ← EReal.coe_mul,
      Ideal.tanh_coe, ← EReal.coe_mul, ← EReal.coe_add, ← EReal.coe_mul, tanh_half, one_mul]

end Cert.Gates

end
-- ==== Proof.LruOut.lean ====
/- The output projection of the linear recurrence: what the call and its reference compute. -/
module

public import proofs.«01_k».proof.Proof.Rows
public import proofs.«01_k».proof.Proof.Gates
public import proofs.«01_k».proof.Proof.Gen.LruOutIdeal.Value
public import proofs.«01_k».proof.Proof.Gen.LruOutReferenceIdeal.Run

@[expose] public section

set_option maxRecDepth 16384

noncomputable section

namespace Cert.LruOutIdeal.Rows

open Cert.LruOutIdeal Cert.LruOutIdeal.Gen Cert.Rows Cert.Gates Idealize.ShloMosaic Idealize.ShloMosaic.TcCoe

local notation "𝕀" => Idealize.ShloMosaic.Ideal

/-- An element of the result: the residual, plus its row's gate times the product of the gated state. -/
def at_ (x : FVec 𝕀 S33280x1024 .f32) (gx : FVec 𝕀 S33280x2048 .f32) (sf sb : FVec 𝕀 S33280x1024 .f32) (wo : FVec 𝕀 S1024x1024 .bf16) (m : FVec 𝕀 S8x6144 .f32)
    (R : Fin 33280) (C : Fin 1024) : EReal :=
  x (ix2 R C) + m (ix2 (modRow R) (modCol 2 C))
    * ∑ e : Fin 1024, (sf (ix2 R e) + sb (ix2 R e)) * gelu (gx (ix2 R ⟨e, by omega⟩)) * wo (ix2 e C)

theorem pay_at (sf sb gx : FVec 𝕀 S512x1024 .f32) (wo : FVec 𝕀 S1024x1024 .bf16) (x : FVec 𝕀 S512x1024 .f32) (g : FVec 𝕀 S1x1024 .f32)
    (i : Fin 512) (j : Fin 1024) :
    k0_pay1 (F := 𝕀) (k0_pay2 (F := 𝕀) sf sb gx wo) x g (ix2 i j)
      = x (ix2 i j) + g (ix2 0 j) * ∑ e : Fin 1024, (sf (ix2 i e) + sb (ix2 i e)) * gelu (gx (ix2 i e)) * wo (ix2 e j) := by
  pointwise [k0_pay1, k0_pay2, gelu]
  rfl

variable (m : (ℓ : Loc nD τ sig) → Buf (Elt 𝕀) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- The row of modulation vectors a point takes. -/
theorem off : ∀ t : Fin cfg0.N, k0_off1 (grid0.coords t) = ![min (t.val / 32) 2, 2048] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (a : Fin 512) (b : Fin 1024) (j : S33280x2048.Idx)
    (h0 : (j 0).val = t.val * 512 + a) (h1 : (j 1).val = b) :
    iblk m c 1 t (ix2 a b) = m ((c : Thread nD τ).loc main_arg1) j := by
  blk_ext [iblk, V, idx t]

theorem blk2 (c : Dev nD) (t : Fin cfg0.N) (a : Fin 512) (b : Fin 1024) (j : S33280x1024.Idx)
    (h0 : (j 0).val = t.val * 512 + a) (h1 : (j 1).val = b) :
    iblk m c 2 t (ix2 a b) = m ((c : Thread nD τ).loc main_arg2) j := by
  blk_ext [iblk, V, idx t]

theorem blk3 (c : Dev nD) (t : Fin cfg0.N) (a : Fin 512) (b : Fin 1024) (j : S33280x1024.Idx)
    (h0 : (j 0).val = t.val * 512 + a) (h1 : (j 1).val = b) :
    iblk m c 3 t (ix2 a b) = m ((c : Thread nD τ).loc main_arg3) j := by
  blk_ext [iblk, V, idx t]

theorem blk4 (c : Dev nD) (t : Fin cfg0.N) (a : Fin 1024) (b : Fin 1024) :
    iblk m c 4 t (ix2 a b) = m ((c : Thread nD τ).loc main_arg4) (ix2 a b) := by
  blk_ext [iblk, V, idx t]

theorem blk5 (c : Dev nD) (t : Fin cfg0.N) (a : Fin 8) (b : Fin 6144) :
    iblk m c 5 t (ix2 a b) = m ((c : Thread nD τ).loc main_arg5) (ix2 a b) := by
  blk_ext [iblk, V, idx t]

/-- What point `t` computes, at the array position it is stored to. -/
theorem point (c : Dev nD) (t : Fin cfg0.N) (a : Fin 512) (b : Fin 1024) (R : Fin 33280) (C : Fin 1024)
    (hR : R.val = t.val * 512 + a) (hC : C.val = b) :
    outsAt0 m c t (ix2 a b)
      = at_ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R C := by
  obtain rfl : C = b := Fin.ext hC
  have ha := a.isLt
  have hr : (modRow R).val = min (t.val / 32) 2 := by show min (R.val / 16384) 2 = _; omega
  unfold outsAt0
  frame_out
  rw [pay_at, at_]
  have hx : ∀ d : Fin 1024, iblk m c 0 t (ix2 a d) = m ((c : Thread nD τ).loc main_arg0) (ix2 R d) := fun d =>
    blk0 m c t _ _ _ hR rfl
  have hg : ∀ d : Fin 1024, iblk m c 1 t (ix2 a d) = m ((c : Thread nD τ).loc main_arg1) (ix2 R ⟨d, by omega⟩) := fun d =>
    blk1 m c t _ _ _ hR rfl
  have hf : ∀ d : Fin 1024, iblk m c 2 t (ix2 a d) = m ((c : Thread nD τ).loc main_arg2) (ix2 R d) := fun d =>
    blk2 m c t _ _ _ hR rfl
  have hb : ∀ d : Fin 1024, iblk m c 3 t (ix2 a d) = m ((c : Thread nD τ).loc main_arg3) (ix2 R d) := fun d =>
    blk3 m c t _ _ _ hR rfl
  have hw : ∀ d : Fin 1024, iblk m c 4 t (ix2 d C) = m ((c : Thread nD τ).loc main_arg4) (ix2 d C) := fun d =>
    blk4 m c t _ _
  have h2 : View.ld (iblk m c 5 t) (Rect.unit (k0_off1 (grid0.coords t)) S1x1024.size (k0_off1_inb _)) (ix2 0 C)
      = m ((c : Thread nD τ).loc main_arg5) (ix2 (modRow R) (modCol 2 C)) :=
    (ld_row _ _ _ _ (off t) _ _ (modRow R) (modCol 2 C) hr rfl).trans (blk5 m c t _ _)
  refine congrArg₂ (fun a b : EReal => a + b) (hx C) (congrArg₂ (fun a b : EReal => a * b) h2 (Finset.sum_congr rfl fun e _ => ?_))
  rw [hg, hf, hb, hw]

/-- The result array. -/
theorem final (c : Dev nD) : (dats m 0 c).arrAt 6 cfg0.N = fun y : S33280x1024.Idx =>
    at_ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 6 _ (by decide +kernel) fun t _ y => ?_
  blk_simp
  rw [after0_6]
  exact (congrArg _ (eq_ix2 y)).trans (point m c t _ _ _ _ (by blk_simp [idx t]) (by blk_simp [idx t]))

end Cert.LruOutIdeal.Rows

namespace Cert.LruOutReferenceIdeal.Rows

open Cert.LruOutReferenceIdeal Cert.LruOutReferenceIdeal.Gen Cert.Rows Cert.Gates Idealize.ShloMosaic Idealize.ShloMosaic.TcCoe

local notation "𝕀" => Idealize.ShloMosaic.Ideal

/-- The reference's gate, spread over the rows. -/
def gate (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 2048] m slices_S8x6144_S8x1024_0_2048) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 2048] m slices_S8x6144_S8x1024_0_2048) slices_S8x1024_S1x1024_2_0))⟩] concatenates_S32768x1024_S512x1024_S33280x1024_d0

theorem gate_at (m : FVec 𝕀 S8x6144 .f32) (R : Fin 33280) (C : Fin 1024) : gate m (ix2 R C) = m (ix2 (modRow R) (modCol 2 C)) := by
  refine Eq.trans ?_ (spread_at (fun a => m (ix2 a (modCol 2 C))) R)
  pointwise [gate, modCol]

/-- The reference's result, as a function of its arguments. -/
def res (x : FVec 𝕀 S33280x1024 .f32) (gx : FVec 𝕀 S33280x2048 .f32) (sf sb : FVec 𝕀 S33280x1024 .f32) (wo : FVec 𝕀 S1024x1024 .bf16) (m : FVec 𝕀 S8x6144 .f32) : FVec 𝕀 S33280x1024 .f32 :=
  addf x (mulf (gate m) (Host.dotGeneral dot_S33280x1024_S1024x1024_S33280x1024_1_0_0_1_n_n none (mulf (addf sf sb) (mulf (mulf (broadcastInDim S33280x1024 ![] bcast_S_S33280x1024 (constant S_ .f32 0x3F000000#32)) (extractStridedSlice S33280x1024 ![0, 0] gx slices_S33280x2048_S33280x1024_0_0)) (Host.erfc (mulf (Host.negf (extractStridedSlice S33280x1024 ![0, 0] gx slices_S33280x2048_S33280x1024_0_0)) (broadcastInDim S33280x1024 ![] bcast_S_S33280x1024 (constant S_ .f32 0x3F3504F3#32)))))) (extf .f32 wo bitsLt_bf16_f32)))

theorem res_at (x : FVec 𝕀 S33280x1024 .f32) (gx : FVec 𝕀 S33280x2048 .f32) (sf sb : FVec 𝕀 S33280x1024 .f32) (wo : FVec 𝕀 S1024x1024 .bf16) (m : FVec 𝕀 S8x6144 .f32)
    (R : Fin 33280) (C : Fin 1024) : res x gx sf sb wo m (ix2 R C) = Cert.LruOutIdeal.Rows.at_ x gx sf sb wo m R C := by
  pointwise [res, Cert.LruOutIdeal.Rows.at_, gate_at, gelu_erfc]

end Cert.LruOutReferenceIdeal.Rows

end
-- ==== Proof.LruOutClaims.lean ====
/- The claims of the output projection of the linear recurrence. -/
module

public import proofs.«01_k».proof.Defs
public import proofs.«01_k».proof.Proof.LruOut
public import proofs.«01_k».proof.Proof.Gen.LruOut.Frame
public import Idealize.ShloMosaic.Lib.Quiescent
public import Idealize.ShloMosaic.Adequacy
public import Idealize.ShloMosaic.Init

@[expose] public section

set_option maxRecDepth 16384

noncomputable section

namespace Cert.LruOutIdeal.Rows

open Idealize.ShloMosaic Idealize.SL.Sem

/-- The reference leaves its arguments unchanged and its counters at zero (it declares none). -/
theorem frame_reference : Cert.quiescent_LruOutReferenceIdeal := fun m g _ =>
  (θ_run Cert.LruOutReferenceIdeal.defs _ _).mono
    (fun r h => ⟨fun c => (h c).2, sem_eq_zero_of_no_sems rfl _⟩) (Cert.LruOutReferenceIdeal.Value.run m g)

/-- The call and its reference end with the same array. -/
theorem algebraic : Cert.algebraic_LruOutIdeal_LruOutReferenceIdeal := fun m g m' g' _ agree => by
  refine ⟨fun c => fun y : Cert.LruOutIdeal.S33280x1024.Idx => at_ (m ((c.tc : Thread Cert.LruOutIdeal.nD Cert.LruOutIdeal.τ).loc Cert.LruOutIdeal.main_arg0)) (m ((c.tc : Thread Cert.LruOutIdeal.nD Cert.LruOutIdeal.τ).loc Cert.LruOutIdeal.main_arg1)) (m ((c.tc : Thread Cert.LruOutIdeal.nD Cert.LruOutIdeal.τ).loc Cert.LruOutIdeal.main_arg2)) (m ((c.tc : Thread Cert.LruOutIdeal.nD Cert.LruOutIdeal.τ).loc Cert.LruOutIdeal.main_arg3)) (m ((c.tc : Thread Cert.LruOutIdeal.nD Cert.LruOutIdeal.τ).loc Cert.LruOutIdeal.main_arg4)) (m ((c.tc : Thread Cert.LruOutIdeal.nD Cert.LruOutIdeal.τ).loc Cert.LruOutIdeal.main_arg5)) (y 0) (y 1),
    (θ_run Cert.LruOutIdeal.defs _ _).mono (fun r h c => ⟨(h c).1.trans (final m c), (h c).2⟩) (Cert.LruOutIdeal.Value.run_blocks m g),
    (θ_run Cert.LruOutReferenceIdeal.defs _ _).mono (fun r h c => ⟨(h c).1.trans ?_, (h c).2⟩) (Cert.LruOutReferenceIdeal.Value.run m' g')⟩
  rw [(agree c).1, (agree c).2.1, (agree c).2.2.1, (agree c).2.2.2.1, (agree c).2.2.2.2.1, (agree c).2.2.2.2.2]
  refine funext fun y => ?_
  refine (congrArg _ (eq_ix2 y)).trans ?_
  exact Cert.LruOutReferenceIdeal.Rows.res_at _ _ _ _ _ _ (y 0) (y 1)

end Cert.LruOutIdeal.Rows

end
-- ==== Proof.S5Out.lean ====
/- The output projection of the state space layer: what the call and its reference compute. -/
module

public import proofs.«01_k».proof.Proof.Rows
public import proofs.«01_k».proof.Proof.Gates
public import proofs.«01_k».proof.Proof.Gen.S5OutIdeal.Value
public import proofs.«01_k».proof.Proof.Gen.S5OutReferenceIdeal.Run

@[expose] public section

set_option maxRecDepth 16384

noncomputable section

namespace Cert.S5OutIdeal.Rows

open Cert.S5OutIdeal Cert.S5OutIdeal.Gen Cert.Rows Cert.Gates Idealize.ShloMosaic Idealize.ShloMosaic.TcCoe

local notation "𝕀" => Idealize.ShloMosaic.Ideal

/-- The state with its skip connection, after the GELU. -/
def z_ (u yf yb dsk : Fin 512 → EReal) (e : Fin 512) : EReal := gelu (dsk e * u e + yf e + yb e)

/-- The gated product: the activated state times the logistic function of its own projection, times a column of weights. -/
def prod_ (z : Fin 512 → EReal) (wg : Fin 512 → Fin 512 → EReal) (wo : Fin 512 → EReal) : EReal :=
  ∑ e : Fin 512, z e * sigm (∑ d : Fin 512, z d * wg d e) * wo e

/-- An element of the result: the residual, plus its row's gate times the gated product. -/
def at_ (x : FVec 𝕀 S33280x1024 .f32) (u yf yb : FVec 𝕀 S33280x512 .f32) (dsk : FVec 𝕀 S1x512 .f32) (wg : FVec 𝕀 S512x512 .bf16) (wo : FVec 𝕀 S512x1024 .bf16) (m : FVec 𝕀 S8x6144 .f32)
    (R : Fin 33280) (C : Fin 1024) : EReal :=
  x (ix2 R C) + m (ix2 (modRow R) (modCol 2 C))
    * prod_ (z_ (fun e => u (ix2 R e)) (fun e => yf (ix2 R e)) (fun e => yb (ix2 R e)) (fun e => dsk (ix2 0 e)))
        (fun d e => wg (ix2 d e)) (fun e => wo (ix2 e C))

theorem pay2_at (dsk : FVec 𝕀 S1x512 .f32) (u yf yb : FVec 𝕀 S512x512 .f32) (i e : Fin 512) :
    k0_pay2 (F := 𝕀) dsk u yf yb (ix2 i e)
      = z_ (fun e => u (ix2 i e)) (fun e => yf (ix2 i e)) (fun e => yb (ix2 i e)) (fun e => dsk (ix2 0 e)) e := by
  pointwise [k0_pay2, z_, gelu]
  rfl

theorem pay3_at (dsk : FVec 𝕀 S1x512 .f32) (u yf yb : FVec 𝕀 S512x512 .f32) (wg : FVec 𝕀 S512x512 .bf16) (i e : Fin 512) :
    k0_pay3 (F := 𝕀) dsk u yf yb wg (ix2 i e)
      = ∑ d : Fin 512, z_ (fun e => u (ix2 i e)) (fun e => yf (ix2 i e)) (fun e => yb (ix2 i e)) (fun e => dsk (ix2 0 e)) d * wg (ix2 d e) := by
  pointwise [k0_pay3, pay2_at]

theorem pay1_at (z y : FVec 𝕀 S512x512 .f32) (wo : FVec 𝕀 S512x1024 .bf16) (x : FVec 𝕀 S512x1024 .f32) (g : FVec 𝕀 S1x1024 .f32)
    (i : Fin 512) (j : Fin 1024) :
    k0_pay1 (F := 𝕀) z y wo x g (ix2 i j)
      = x (ix2 i j) + g (ix2 0 j) * ∑ e : Fin 512, z (ix2 i e) * sigm (y (ix2 i e)) * wo (ix2 e j) := by
  simp only [← sigm_tanh]
  pointwise [k0_pay1]

theorem pay_at (dsk : FVec 𝕀 S1x512 .f32) (u yf yb : FVec 𝕀 S512x512 .f32) (wg : FVec 𝕀 S512x512 .bf16)
    (wo : FVec 𝕀 S512x1024 .bf16) (x : FVec 𝕀 S512x1024 .f32) (g : FVec 𝕀 S1x1024 .f32) (i : Fin 512) (j : Fin 1024) :
    k0_pay1 (F := 𝕀) (k0_pay2 (F := 𝕀) dsk u yf yb) (k0_pay3 (F := 𝕀) dsk u yf yb wg) wo x g (ix2 i j)
      = x (ix2 i j) + g (ix2 0 j)
        * prod_ (z_ (fun e => u (ix2 i e)) (fun e => yf (ix2 i e)) (fun e => yb (ix2 i e)) (fun e => dsk (ix2 0 e)))
            (fun d e => wg (ix2 d e)) (fun e => wo (ix2 e j)) := by
  rw [pay1_at, prod_]
  simp only [pay2_at, pay3_at]

variable (m : (ℓ : Loc nD τ sig) → Buf (Elt 𝕀) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The row of modulation vectors a point takes. -/
theorem off : ∀ t : Fin cfg0.N, k0_off1 (grid0.coords t) = ![min (t.val / 32) 2, 2048] :=
  (by decide +kernel : ∀ t : Fin grid0.N, _)

theorem blk0 (c : Dev nD) (t : Fin cfg0.N) (a : Fin 512) (b : Fin 1024) (j : S33280x1024.Idx)
    (h0 : (j 0).val = t.val * 512 + a) (h1 : (j 1).val = b) :
    iblk m c 0 t (ix2 a b) = m ((c : Thread nD τ).loc main_arg0) j := by
  blk_ext [iblk, V, idx t]

theorem blk1 (c : Dev nD) (t : Fin cfg0.N) (a : Fin 512) (b : Fin 512) (j : S33280x512.Idx)
    (h0 : (j 0).val = t.val * 512 + a) (h1 : (j 1).val = b) :
    iblk m c 1 t (ix2 a b) = m ((c : Thread nD τ).loc main_arg1) j := by
  blk_ext [iblk, V, idx t]

theorem blk2 (c : Dev nD) (t : Fin cfg0.N) (a : Fin 512) (b : Fin 512) (j : S33280x512.Idx)
    (h0 : (j 0).val = t.val * 512 + a) (h1 : (j 1).val = b) :
    iblk m c 2 t (ix2 a b) = m ((c : Thread nD τ).loc main_arg2) j := by
  blk_ext [iblk, V, idx t]

theorem blk3 (c : Dev nD) (t : Fin cfg0.N) (a : Fin 512) (b : Fin 512) (j : S33280x512.Idx)
    (h0 : (j 0).val = t.val * 512 + a) (h1 : (j 1).val = b) :
    iblk m c 3 t (ix2 a b) = m ((c : Thread nD τ).loc main_arg3) j := by
  blk_ext [iblk, V, idx t]

theorem blk4 (c : Dev nD) (t : Fin cfg0.N) (a : Fin 1) (b : Fin 512) :
    iblk m c 4 t (ix2 a b) = m ((c : Thread nD τ).loc main_arg4) (ix2 a b) := by
  blk_ext [iblk, V, idx t]

theorem blk5 (c : Dev nD) (t : Fin cfg0.N) (a : Fin 512) (b : Fin 512) :
    iblk m c 5 t (ix2 a b) = m ((c : Thread nD τ).loc main_arg5) (ix2 a b) := by
  blk_ext [iblk, V, idx t]

theorem blk6 (c : Dev nD) (t : Fin cfg0.N) (a : Fin 512) (b : Fin 1024) :
    iblk m c 6 t (ix2 a b) = m ((c : Thread nD τ).loc main_arg6) (ix2 a b) := by
  blk_ext [iblk, V, idx t]

theorem blk7 (c : Dev nD) (t : Fin cfg0.N) (a : Fin 8) (b : Fin 6144) :
    iblk m c 7 t (ix2 a b) = m ((c : Thread nD τ).loc main_arg7) (ix2 a b) := by
  blk_ext [iblk, V, idx t]

/-- What point `t` computes, at the array position it is stored to. -/
theorem point (c : Dev nD) (t : Fin cfg0.N) (a : Fin 512) (b : Fin 1024) (R : Fin 33280) (C : Fin 1024)
    (hR : R.val = t.val * 512 + a) (hC : C.val = b) :
    outsAt0 m c t (ix2 a b)
      = at_ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R C := by
  obtain rfl : C = b := Fin.ext hC
  have ha := a.isLt
  have hr : (modRow R).val = min (t.val / 32) 2 := by show min (R.val / 16384) 2 = _; omega
  unfold outsAt0
  frame_out
  rw [pay_at, at_]
  have hx : iblk m c 0 t (ix2 a C) = m ((c : Thread nD τ).loc main_arg0) (ix2 R C) := blk0 m c t _ _ _ hR rfl
  have hu : ∀ d : Fin 512, iblk m c 1 t (ix2 a d) = m ((c : Thread nD τ).loc main_arg1) (ix2 R d) := fun d =>
    blk1 m c t _ _ _ hR rfl
  have hf : ∀ d : Fin 512, iblk m c 2 t (ix2 a d) = m ((c : Thread nD τ).loc main_arg2) (ix2 R d) := fun d =>
    blk2 m c t _ _ _ hR rfl
  have hb : ∀ d : Fin 512, iblk m c 3 t (ix2 a d) = m ((c : Thread nD τ).loc main_arg3) (ix2 R d) := fun d =>
    blk3 m c t _ _ _ hR rfl
  have h2 : View.ld (iblk m c 7 t) (Rect.unit (k0_off1 (grid0.coords t)) S1x1024.size (k0_off1_inb _)) (ix2 0 C)
      = m ((c : Thread nD τ).loc main_arg7) (ix2 (modRow R) (modCol 2 C)) :=
    (ld_row _ _ _ _ (off t) _ _ (modRow R) (modCol 2 C) hr rfl).trans (blk7 m c t _ _)
  refine congrArg₂ (fun a b : EReal => a + b) hx (congrArg₂ (fun a b : EReal => a * b) h2 ?_)
  rw [funext hu, funext hf, funext hb, funext (fun e => blk4 m c t 0 e), funext (fun d => funext (blk5 m c t d)),
    funext (fun d => blk6 m c t d C)]

/-- The result array. -/
theorem final (c : Dev nD) : (dats m 0 c).arrAt 8 cfg0.N = fun y : S33280x1024.Idx =>
    at_ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (y 0) (y 1) := by
  refine (dats m 0 c).arrAt_eq_of_covers 8 _ (by decide +kernel) fun t _ y => ?_
  blk_simp
  rw [after0_8]
  exact (congrArg _ (eq_ix2 y)).trans (point m c t _ _ _ _ (by blk_simp [idx t]) (by blk_simp [idx t]))

end Cert.S5OutIdeal.Rows

namespace Cert.S5OutReferenceIdeal.Rows

open Cert.S5OutReferenceIdeal Cert.S5OutReferenceIdeal.Gen Cert.Rows Cert.Gates Idealize.ShloMosaic Idealize.ShloMosaic.TcCoe

local notation "𝕀" => Idealize.ShloMosaic.Ideal

/-- The reference's gate, spread over the rows. -/
def gate (m : FVec 𝕀 S8x6144 .f32) : FVec 𝕀 S33280x1024 .f32 :=
  concatenate S33280x1024 0 [⟨S32768x1024, (shapeCast _ (broadcastInDim S2x16384x1024 ![0, 1, 2] bcast_S2x1x1024_S2x16384x1024_0_1_2 (broadcastInDim S2x1x1024 ![0, 2] bcast_S2x1024_S2x1x1024_0_2 (extractStridedSlice S2x1024 ![0, 0] (extractStridedSlice S8x1024 ![0, 2048] m slices_S8x6144_S8x1024_0_2048) slices_S8x1024_S2x1024_0_0))) shapeCasts_S2x16384x1024_S32768x1024)⟩, ⟨S512x1024, (broadcastInDim S512x1024 ![0, 1] bcast_S1x1024_S512x1024_0_1 (extractStridedSlice S1x1024 ![2, 0] (extractStridedSlice S8x1024 ![0, 2048] m slices_S8x6144_S8x1024_0_2048) slices_S8x1024_S1x1024_2_0))⟩] concatenates_S32768x1024_S512x1024_S33280x1024_d0

theorem gate_at (m : FVec 𝕀 S8x6144 .f32) (R : Fin 33280) (C : Fin 1024) : gate m (ix2 R C) = m (ix2 (modRow R) (modCol 2 C)) := by
  refine Eq.trans ?_ (spread_at (fun a => m (ix2 a (modCol 2 C))) R)
  pointwise [gate, modCol]

/-- The reference's activated state. -/
def act (u yf yb : FVec 𝕀 S33280x512 .f32) (dsk : FVec 𝕀 S1x512 .f32) : FVec 𝕀 S33280x512 .f32 :=
  mulf (mulf (broadcastInDim S33280x512 ![] bcast_S_S33280x512 (constant S_ .f32 0x3F000000#32)) (addf (addf (mulf (broadcastInDim S33280x512 ![0, 1] bcast_S1x512_S33280x512_0_1 dsk) u) yf) yb)) (Host.erfc (mulf (Host.negf (addf (addf (mulf (broadcastInDim S33280x512 ![0, 1] bcast_S1x512_S33280x512_0_1 dsk) u) yf) yb)) (broadcastInDim S33280x512 ![] bcast_S_S33280x512 (constant S_ .f32 0x3F3504F3#32))))

theorem act_at (u yf yb : FVec 𝕀 S33280x512 .f32) (dsk : FVec 𝕀 S1x512 .f32) (R : Fin 33280) (e : Fin 512) :
    act u yf yb dsk (ix2 R e)
      = Cert.S5OutIdeal.Rows.z_ (fun e => u (ix2 R e)) (fun e => yf (ix2 R e)) (fun e => yb (ix2 R e)) (fun e => dsk (ix2 0 e)) e := by
  pointwise [act, Cert.S5OutIdeal.Rows.z_, gelu_erfc]

/-- The reference's result, as a function of its arguments. -/
def res (x : FVec 𝕀 S33280x1024 .f32) (u yf yb : FVec 𝕀 S33280x512 .f32) (dsk : FVec 𝕀 S1x512 .f32) (wg : FVec 𝕀 S512x512 .bf16) (wo : FVec 𝕀 S512x1024 .bf16) (m : FVec 𝕀 S8x6144 .f32) : FVec 𝕀 S33280x1024 .f32 :=
  addf x (mulf (gate m) (Host.dotGeneral dot_S33280x512_S512x1024_S33280x1024_1_0_0_1_n_n none (mulf (act u yf yb dsk) (Host.divf (broadcastInDim S33280x512 ![] bcast_S_S33280x512 (constant S_ .f32 0x3F800000#32)) (addf (broadcastInDim S33280x512 ![] bcast_S_S33280x512 (constant S_ .f32 0x3F800000#32)) (Host.exp (Host.negf (Host.dotGeneral dot_S33280x512_S512x512_S33280x512_1_0_0_1_n_n none (act u yf yb dsk) (extf .f32 wg bitsLt_bf16_f32))))))) (extf .f32 wo bitsLt_bf16_f32)))

theorem res_at (x : FVec 𝕀 S33280x1024 .f32) (u yf yb : FVec 𝕀 S33280x512 .f32) (dsk : FVec 𝕀 S1x512 .f32) (wg : FVec 𝕀 S512x512 .bf16) (wo : FVec 𝕀 S512x1024 .bf16) (m : FVec 𝕀 S8x6144 .f32)
    (R : Fin 33280) (C : Fin 1024) : res x u yf yb dsk wg wo m (ix2 R C) = Cert.S5OutIdeal.Rows.at_ x u yf yb dsk wg wo m R C := by
  pointwise [res, Cert.S5OutIdeal.Rows.at_, Cert.S5OutIdeal.Rows.prod_, gate_at, act_at, sigm]

end Cert.S5OutReferenceIdeal.Rows

end
-- ==== Proof.S5OutClaims.lean ====
/- The claims of the output projection of the state space layer. -/
module

public import proofs.«01_k».proof.Defs
public import proofs.«01_k».proof.Proof.S5Out
public import proofs.«01_k».proof.Proof.Gen.S5Out.Frame
public import Idealize.ShloMosaic.Lib.Quiescent
public import Idealize.ShloMosaic.Adequacy
public import Idealize.ShloMosaic.Init

@[expose] public section

set_option maxRecDepth 16384

noncomputable section

namespace Cert.S5OutIdeal.Rows

open Idealize.ShloMosaic Idealize.SL.Sem

/-- The reference leaves its arguments unchanged and its counters at zero (it declares none). -/
theorem frame_reference : Cert.quiescent_S5OutReferenceIdeal := fun m g _ =>
  (θ_run Cert.S5OutReferenceIdeal.defs _ _).mono
    (fun r h => ⟨fun c => (h c).2, sem_eq_zero_of_no_sems rfl _⟩) (Cert.S5OutReferenceIdeal.Value.run m g)

/-- The call and its reference end with the same array. -/
theorem algebraic : Cert.algebraic_S5OutIdeal_S5OutReferenceIdeal := fun m g m' g' _ agree => by
  refine ⟨fun c => fun y : Cert.S5OutIdeal.S33280x1024.Idx => at_ (m ((c.tc : Thread Cert.S5OutIdeal.nD Cert.S5OutIdeal.τ).loc Cert.S5OutIdeal.main_arg0)) (m ((c.tc : Thread Cert.S5OutIdeal.nD Cert.S5OutIdeal.τ).loc Cert.S5OutIdeal.main_arg1)) (m ((c.tc : Thread Cert.S5OutIdeal.nD Cert.S5OutIdeal.τ).loc Cert.S5OutIdeal.main_arg2)) (m ((c.tc : Thread Cert.S5OutIdeal.nD Cert.S5OutIdeal.τ).loc Cert.S5OutIdeal.main_arg3)) (m ((c.tc : Thread Cert.S5OutIdeal.nD Cert.S5OutIdeal.τ).loc Cert.S5OutIdeal.main_arg4)) (m ((c.tc : Thread Cert.S5OutIdeal.nD Cert.S5OutIdeal.τ).loc Cert.S5OutIdeal.main_arg5)) (m ((c.tc : Thread Cert.S5OutIdeal.nD Cert.S5OutIdeal.τ).loc Cert.S5OutIdeal.main_arg6)) (m ((c.tc : Thread Cert.S5OutIdeal.nD Cert.S5OutIdeal.τ).loc Cert.S5OutIdeal.main_arg7)) (y 0) (y 1),
    (θ_run Cert.S5OutIdeal.defs _ _).mono (fun r h c => ⟨(h c).1.trans (final m c), (h c).2⟩) (Cert.S5OutIdeal.Value.run_blocks m g),
    (θ_run Cert.S5OutReferenceIdeal.defs _ _).mono (fun r h c => ⟨(h c).1.trans ?_, (h c).2⟩) (Cert.S5OutReferenceIdeal.Value.run m' g')⟩
  rw [(agree c).1, (agree c).2.1, (agree c).2.2.1, (agree c).2.2.2.1, (agree c).2.2.2.2.1, (agree c).2.2.2.2.2.1, (agree c).2.2.2.2.2.2.1, (agree c).2.2.2.2.2.2.2]
  refine funext fun y => ?_
  refine (congrArg _ (eq_ix2 y)).trans ?_
  exact Cert.S5OutReferenceIdeal.Rows.res_at _ _ _ _ _ _ _ _ (y 0) (y 1)

end Cert.S5OutIdeal.Rows

end
-- ==== Proof.Modulation.lean ====
/- The modulation vectors: what the call and its reference compute. -/
module

public import proofs.«01_k».proof.Proof.Rows
public import proofs.«01_k».proof.Proof.Gates
public import proofs.«01_k».proof.Proof.Gen.ModulationIdeal.Value
public import proofs.«01_k».proof.Proof.Gen.ModulationReferenceIdeal.Run

@[expose] public section

set_option maxRecDepth 16384

noncomputable section

namespace Cert.ModulationIdeal.Rows

open Cert.ModulationIdeal Cert.ModulationIdeal.Gen Cert.Rows Cert.Gates Idealize.ShloMosaic Idealize.ShloMosaic.TcCoe

local notation "𝕀" => Idealize.ShloMosaic.Ideal

/-- An element of the result: the activated conditioning row's product with a column of the layer's weights, plus the bias. -/
def at_ (c : FVec 𝕀 S8x1024 .f32) (w : FVec 𝕀 S4x1024x6144 .f32) (b : FVec 𝕀 S4x6144 .f32)
    (l : Fin 4) (R : Fin 8) (C : Fin 6144) : EReal :=
  ∑ e : Fin 1024, c (ix2 R e) * sigm (c (ix2 R e)) * w (ix3 l e C) + b (ix2 l C)

theorem pay_at (c : FVec 𝕀 S8x1024 .f32) (w : FVec 𝕀 S1x1024x1536 .f32) (b : FVec 𝕀 S1x1x1536 .f32) (i : Fin 8) (j : Fin 1536) :
    k0_pay1 (F := 𝕀) c w b (ix3 0 i j)
      = ∑ e : Fin 1024, c (ix2 i e) * sigm (c (ix2 i e)) * w (ix3 0 e j) + b (ix3 0 0 j) := by
  pointwise [k0_pay1, sigm]
  rfl

theorem tile (c : FVec 𝕀 S8x1024 .f32) (w : FVec 𝕀 S1x1024x1536 .f32) (b : FVec 𝕀 S1x1x1536 .f32) :
    out0_3 (F := 𝕀) c w b = k0_pay1 (F := 𝕀) c w b := by
  unfold out0_3
  rw [View.canon_cons_unit_lit, View.ld_unit_lit, View.ld_unit_lit, View.ld_unit_lit] <;> decide

variable (m : (ℓ : Loc nD τ sig) → Buf (Elt 𝕀) ℓ)

theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

theorem blk0 (c : Dev nD) (t : Fin cfg0.N) (a : Fin 8) (b : Fin 1024) :
    iblk m c 0 t (ix2 a b) = m ((c : Thread nD τ).loc main_arg0) (ix2 a b) := by
  blk_ext [iblk, V, idx t]

theorem blk1 (c : Dev nD) (t : Fin cfg0.N) (a : Fin 1024) (b : Fin 1536) (l : Fin 4) (C : Fin 6144)
    (h0 : l.val = (grid0.coords t 0).val) (h2 : C.val = (grid0.coords t 1).val * 1536 + b) :
    iblk m c 1 t (ix3 0 a b) = m ((c : Thread nD τ).loc main_arg1) (ix3 l a C) := by
  blk_ext [iblk, V, idx t]

theorem blk2 (c : Dev nD) (t : Fin cfg0.N) (b : Fin 1536) (l : Fin 4) (C : Fin 6144)
    (h0 : l.val = (grid0.coords t 0).val) (h2 : C.val = (grid0.coords t 1).val * 1536 + b) :
    iblk m c 2 t (ix3 0 0 b) = m ((c : Thread nD τ).loc main_arg2) (ix2 l C) := by
  blk_simp [iblk, idx t]
  entry_read
  pointwise
  blk_ext [idx t]

/-- What point `t` computes, at the array position it is stored to. -/
theorem point (c : Dev nD) (t : Fin cfg0.N) (a : Fin 8) (b : Fin 1536) (l : Fin 4) (R : Fin 8) (C : Fin 6144)
    (hl : l.val = (grid0.coords t 0).val) (hR : R.val = a) (hC : C.val = (grid0.coords t 1).val * 1536 + b) :
    k0_pay1 (F := 𝕀) (iblk m c 0 t) (iblk m c 1 t) (iblk m c 2 t) (ix3 0 a b)
      = at_ (m ((c : Thread nD τ).loc main_arg0)) (m ((c : Thread nD τ).loc main_arg1)) (m ((c : Thread nD τ).loc main_arg2)) l R C := by
  obtain rfl : R = a := Fin.ext hR
  rw [pay_at, at_]
  have hw : ∀ d : Fin 1024, iblk m c 1 t (ix3 0 d b) = m ((c : Thread nD τ).loc main_arg1) (ix3 l d C) := fun d =>
    blk1 m c t _ _ _ _ hl hC
  refine congrArg₂ (fun a b : EReal => a + b) (Finset.sum_congr rfl fun e _ => ?_) (blk2 m c t _ _ _ hl hC)
  rw [hw, blk0]

/-- The result array. -/
theorem final (c : Dev nD) : (dats m 0 c).arrAt 3 cfg0.N = fun y : S4x8x6144.Idx =>
    at_ (m ((c : Thread nD τ).loc main_arg0)) (m ((c : Thread nD τ).loc main_arg1)) (m ((c : Thread nD τ).loc main_arg2)) (y 0) (y 1) (y 2) := by
  refine (dats m 0 c).arrAt_eq_of_covers 3 _ (by decide +kernel) fun t _ y => ?_
  blk_simp
  rw [after0_3, tile]
  have hy : y = ix3 0 (y 1) (y 2) := (eq_ix3 y).trans (congrArg (fun z => ix3 z (y 1) (y 2)) (Subsingleton.elim (α := Fin 1) _ _))
  exact (congrArg _ hy).trans (point m c t _ _ _ _ _ (by blk_simp [idx t]) (by blk_simp [idx t]) (by blk_simp [idx t]))

end Cert.ModulationIdeal.Rows

namespace Cert.ModulationReferenceIdeal.Rows

open Cert.ModulationReferenceIdeal Cert.ModulationReferenceIdeal.Gen Cert.Rows Cert.Gates Idealize.ShloMosaic Idealize.ShloMosaic.TcCoe

local notation "𝕀" => Idealize.ShloMosaic.Ideal

/-- The reference's result, as a function of its arguments. -/
def res (c : FVec 𝕀 S8x1024 .f32) (w : FVec 𝕀 S4x1024x6144 .f32) (b : FVec 𝕀 S4x6144 .f32) : FVec 𝕀 S4x8x6144 .f32 :=
  addf (transpose S4x8x6144 [0, 2, 1] (Host.dotGeneral dot_S4x1024x6144_S8x1024_S4x6144x8_1_1_02_0_n_n none w (mulf c (Host.divf (broadcastInDim S8x1024 ![] bcast_S_S8x1024 (constant S_ .f32 0x3F800000#32)) (addf (broadcastInDim S8x1024 ![] bcast_S_S8x1024 (constant S_ .f32 0x3F800000#32)) (Host.exp (Host.negf c)))))) transposes_S4x6144x8_S4x8x6144_0_2_1) (broadcastInDim S4x8x6144 ![0, 1, 2] bcast_S4x1x6144_S4x8x6144_0_1_2 (broadcastInDim S4x1x6144 ![0, 2] bcast_S4x6144_S4x1x6144_0_2 b))

theorem res_at (c : FVec 𝕀 S8x1024 .f32) (w : FVec 𝕀 S4x1024x6144 .f32) (b : FVec 𝕀 S4x6144 .f32)
    (l : Fin 4) (R : Fin 8) (C : Fin 6144) : res c w b (ix3 l R C) = Cert.ModulationIdeal.Rows.at_ c w b l R C := by
  pointwise [res, Cert.ModulationIdeal.Rows.at_, sigm]
  refine congrArg₂ (fun a b : EReal => a + b) (Finset.sum_congr rfl fun e _ => mul_comm _ _) rfl

end Cert.ModulationReferenceIdeal.Rows

end
-- ==== Proof.ModulationClaims.lean ====
/- The claims of the modulation vectors. -/
module

public import proofs.«01_k».proof.Defs
public import proofs.«01_k».proof.Proof.Modulation
public import proofs.«01_k».proof.Proof.Gen.Modulation.Frame
public import Idealize.ShloMosaic.Lib.Quiescent
public import Idealize.ShloMosaic.Adequacy
public import Idealize.ShloMosaic.Init

@[expose] public section

set_option maxRecDepth 16384

noncomputable section

namespace Cert.ModulationIdeal.Rows

open Idealize.ShloMosaic Idealize.SL.Sem

/-- The reference leaves its arguments unchanged and its counters at zero (it declares none). -/
theorem frame_reference : Cert.quiescent_ModulationReferenceIdeal := fun m g _ =>
  (θ_run Cert.ModulationReferenceIdeal.defs _ _).mono
    (fun r h => ⟨fun c => (h c).2, sem_eq_zero_of_no_sems rfl _⟩) (Cert.ModulationReferenceIdeal.Value.run m g)

/-- The call and its reference end with the same array. -/
theorem algebraic : Cert.algebraic_ModulationIdeal_ModulationReferenceIdeal := fun m g m' g' _ agree => by
  refine ⟨fun c => fun y : Cert.ModulationIdeal.S4x8x6144.Idx => at_ (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (y 0) (y 1) (y 2),
    (θ_run Cert.ModulationIdeal.defs _ _).mono (fun r h c => ⟨(h c).1.trans (final m c), (h c).2⟩) (Cert.ModulationIdeal.Value.run_blocks m g),
    (θ_run Cert.ModulationReferenceIdeal.defs _ _).mono (fun r h c => ⟨(h c).1.trans ?_, (h c).2⟩) (Cert.ModulationReferenceIdeal.Value.run m' g')⟩
  rw [(agree c).1, (agree c).2.1, (agree c).2.2]
  refine funext fun y => ?_
  refine (congrArg _ (eq_ix3 y)).trans ?_
  exact Cert.ModulationReferenceIdeal.Rows.res_at _ _ _ (y 0) (y 1) (y 2)

end Cert.ModulationIdeal.Rows

end
-- ==== Proof.LruCoefTile.lean ====
/- The coefficients of the recurrence: what one step of the grid computes from the convolution of its rows. -/
module

public import proofs.«01_k».proof.Proof.Rows
public import proofs.«01_k».proof.Proof.Gates
public import proofs.«01_k».proof.Proof.Gen.LruCoefIdeal.Skeleton

@[expose] public section

set_option maxRecDepth 16384

noncomputable section

namespace Cert.LruCoefIdeal.Rows

open Cert.LruCoefIdeal Cert.LruCoefIdeal.Gen Cert.Rows Cert.Gates Idealize.ShloMosaic Idealize.ShloMosaic.TcCoe

local notation "𝕀" => Idealize.ShloMosaic.Ideal

/-- The decay: `exp (cn · sigmoid z)`. -/
def decay (z cn : EReal) : EReal := Ideal.exp (cn * sigm z)

/-- The input of the recurrence: `sqrt (1 - a²)` times the gated row. -/
def drive (z y cn x : EReal) : EReal :=
  Ideal.sqrt (Ideal.ofBits .f32 0x3F800000#32 - decay z cn * decay z cn) * (sigm y * x)

/-- A column of block `n`. -/
def bcol (n : Fin 8) (e : Fin 128) : Fin 1024 := ⟨n.val * 128 + e.val, by omega⟩

/-- A gate before its sigmoid: the rows' block `n` times the block's matrix, plus the bias. -/
def pre (n : Fin 8) (X : FVec 𝕀 S256x1024 .f32) (w : FVec 𝕀 S1x1x128x128 .bf16) (b : FVec 𝕀 S1x1x128 .f32) (i : Fin 256) (j : Fin 128) : EReal :=
  ∑ e : Fin 128, X (ix2 i (bcol n e)) * w (ix4 0 0 e j) + b (ix3 0 0 j)

theorem decay7_1 (X : FVec 𝕀 S256x1024 .f32) (wr : FVec 𝕀 S1x1x128x128 .bf16) (br : FVec 𝕀 S1x1x128 .f32) (cn : FVec 𝕀 S1x1x128 .f32) (i : Fin 256) (j : Fin 128) :
    k0_pay1 (F := 𝕀) (k0_pay95 (F := 𝕀) (k0_pay93 (F := 𝕀) (k0_pay87 (F := 𝕀) X) wr br) cn) (ix3 0 i j)
      = decay (pre 7 X wr br i j) (cn (ix3 0 0 j)) := by
  simp only [decay, pre, ← sigm_tanh]
  pointwise [bcol, k0_pay1, k0_pay86, k0_pay87, k0_pay93, k0_pay95]

theorem decay7_0 (X : FVec 𝕀 S256x1024 .f32) (wr : FVec 𝕀 S1x1x128x128 .bf16) (br : FVec 𝕀 S1x1x128 .f32) (cn : FVec 𝕀 S1x1x128 .f32) (i : Fin 256) (j : Fin 128) :
    k0_pay91 (F := 𝕀) (k0_pay88 (F := 𝕀) X wr br) cn (ix3 0 i j)
      = decay (pre 7 X wr br i j) (cn (ix3 0 0 j)) := by
  simp only [decay, pre, ← sigm_tanh]
  pointwise [bcol, k0_pay86, k0_pay87, k0_pay88, k0_pay90, k0_pay91]

theorem decay6_1 (X : FVec 𝕀 S256x1024 .f32) (wr : FVec 𝕀 S1x1x128x128 .bf16) (br : FVec 𝕀 S1x1x128 .f32) (cn : FVec 𝕀 S1x1x128 .f32) (i : Fin 256) (j : Fin 128) :
    k0_pay84 (F := 𝕀) (k0_pay83 (F := 𝕀) (k0_pay76 (F := 𝕀) X) wr br cn) (ix3 0 i j)
      = decay (pre 6 X wr br i j) (cn (ix3 0 0 j)) := by
  simp only [decay, pre, ← sigm_tanh]
  pointwise [bcol, k0_pay75, k0_pay76, k0_pay83, k0_pay84]

theorem decay6_0 (X : FVec 𝕀 S256x1024 .f32) (wr : FVec 𝕀 S1x1x128x128 .bf16) (br : FVec 𝕀 S1x1x128 .f32) (cn : FVec 𝕀 S1x1x128 .f32) (i : Fin 256) (j : Fin 128) :
    k0_pay80 (F := 𝕀) (k0_pay77 (F := 𝕀) X wr br) (k0_pay78 (F := 𝕀)) cn (ix3 0 i j)
      = decay (pre 6 X wr br i j) (cn (ix3 0 0 j)) := by
  simp only [decay, pre, ← sigm_tanh]
  pointwise [bcol, k0_pay75, k0_pay76, k0_pay77, k0_pay78, k0_pay79, k0_pay80]

theorem decay5_1 (X : FVec 𝕀 S256x1024 .f32) (wr : FVec 𝕀 S1x1x128x128 .bf16) (br : FVec 𝕀 S1x1x128 .f32) (cn : FVec 𝕀 S1x1x128 .f32) (i : Fin 256) (j : Fin 128) :
    k0_pay73 (F := 𝕀) (k0_pay69 (F := 𝕀) (k0_pay64 (F := 𝕀) X) wr br) cn (ix3 0 i j)
      = decay (pre 5 X wr br i j) (cn (ix3 0 0 j)) := by
  simp only [decay, pre, ← sigm_tanh]
  pointwise [bcol, k0_pay63, k0_pay64, k0_pay69, k0_pay72, k0_pay73]

theorem decay5_0 (X : FVec 𝕀 S256x1024 .f32) (wr : FVec 𝕀 S1x1x128x128 .bf16) (br : FVec 𝕀 S1x1x128 .f32) (cn : FVec 𝕀 S1x1x128 .f32) (i : Fin 256) (j : Fin 128) :
    k0_pay67 (F := 𝕀) (k0_pay66 (F := 𝕀) (k0_pay64 (F := 𝕀) X) wr br cn) (ix3 0 i j)
      = decay (pre 5 X wr br i j) (cn (ix3 0 0 j)) := by
  simp only [decay, pre, ← sigm_tanh]
  pointwise [bcol, k0_pay63, k0_pay64, k0_pay66, k0_pay67]

theorem decay4_1 (X : FVec 𝕀 S256x1024 .f32) (wr : FVec 𝕀 S1x1x128x128 .bf16) (br : FVec 𝕀 S1x1x128 .f32) (cn : FVec 𝕀 S1x1x128 .f32) (i : Fin 256) (j : Fin 128) :
    k0_pay61 (F := 𝕀) (k0_pay59 (F := 𝕀) (k0_pay53 (F := 𝕀) X) wr br) cn (ix3 0 i j)
      = decay (pre 4 X wr br i j) (cn (ix3 0 0 j)) := by
  simp only [decay, pre, ← sigm_tanh]
  pointwise [bcol, k0_pay52, k0_pay53, k0_pay59, k0_pay60, k0_pay61]

theorem decay4_0 (X : FVec 𝕀 S256x1024 .f32) (wr : FVec 𝕀 S1x1x128x128 .bf16) (br : FVec 𝕀 S1x1x128 .f32) (cn : FVec 𝕀 S1x1x128 .f32) (i : Fin 256) (j : Fin 128) :
    k0_pay57 (F := 𝕀) (k0_pay54 (F := 𝕀) X wr br) cn (ix3 0 i j)
      = decay (pre 4 X wr br i j) (cn (ix3 0 0 j)) := by
  simp only [decay, pre, ← sigm_tanh]
  pointwise [bcol, k0_pay52, k0_pay53, k0_pay54, k0_pay56, k0_pay57]

theorem decay3_1 (X : FVec 𝕀 S256x1024 .f32) (wr : FVec 𝕀 S1x1x128x128 .bf16) (br : FVec 𝕀 S1x1x128 .f32) (cn : FVec 𝕀 S1x1x128 .f32) (i : Fin 256) (j : Fin 128) :
    k0_pay50 (F := 𝕀) (k0_pay49 (F := 𝕀) (k0_pay42 (F := 𝕀) X) wr br cn) (ix3 0 i j)
      = decay (pre 3 X wr br i j) (cn (ix3 0 0 j)) := by
  simp only [decay, pre, ← sigm_tanh]
  pointwise [bcol, k0_pay41, k0_pay42, k0_pay49, k0_pay50]

theorem decay3_0 (X : FVec 𝕀 S256x1024 .f32) (wr : FVec 𝕀 S1x1x128x128 .bf16) (br : FVec 𝕀 S1x1x128 .f32) (cn : FVec 𝕀 S1x1x128 .f32) (i : Fin 256) (j : Fin 128) :
    k0_pay46 (F := 𝕀) (k0_pay43 (F := 𝕀) X wr br) (k0_pay44 (F := 𝕀)) cn (ix3 0 i j)
      = decay (pre 3 X wr br i j) (cn (ix3 0 0 j)) := by
  simp only [decay, pre, ← sigm_tanh]
  pointwise [bcol, k0_pay41, k0_pay42, k0_pay43, k0_pay44, k0_pay45, k0_pay46]

theorem decay2_1 (X : FVec 𝕀 S256x1024 .f32) (wr : FVec 𝕀 S1x1x128x128 .bf16) (br : FVec 𝕀 S1x1x128 .f32) (cn : FVec 𝕀 S1x1x128 .f32) (i : Fin 256) (j : Fin 128) :
    k0_pay39 (F := 𝕀) (k0_pay35 (F := 𝕀) (k0_pay30 (F := 𝕀) X) wr br) cn (ix3 0 i j)
      = decay (pre 2 X wr br i j) (cn (ix3 0 0 j)) := by
  simp only [decay, pre, ← sigm_tanh]
  pointwise [bcol, k0_pay29, k0_pay30, k0_pay35, k0_pay38, k0_pay39]

theorem decay2_0 (X : FVec 𝕀 S256x1024 .f32) (wr : FVec 𝕀 S1x1x128x128 .bf16) (br : FVec 𝕀 S1x1x128 .f32) (cn : FVec 𝕀 S1x1x128 .f32) (i : Fin 256) (j : Fin 128) :
    k0_pay33 (F := 𝕀) (k0_pay32 (F := 𝕀) (k0_pay30 (F := 𝕀) X) wr br cn) (ix3 0 i j)
      = decay (pre 2 X wr br i j) (cn (ix3 0 0 j)) := by
  simp only [decay, pre, ← sigm_tanh]
  pointwise [bcol, k0_pay29, k0_pay30, k0_pay32, k0_pay33]

theorem decay1_1 (X : FVec 𝕀 S256x1024 .f32) (wr : FVec 𝕀 S1x1x128x128 .bf16) (br : FVec 𝕀 S1x1x128 .f32) (cn : FVec 𝕀 S1x1x128 .f32) (i : Fin 256) (j : Fin 128) :
    k0_pay27 (F := 𝕀) (k0_pay25 (F := 𝕀) (k0_pay19 (F := 𝕀) X) wr br) cn (ix3 0 i j)
      = decay (pre 1 X wr br i j) (cn (ix3 0 0 j)) := by
  simp only [decay, pre, ← sigm_tanh]
  pointwise [bcol, k0_pay18, k0_pay19, k0_pay25, k0_pay26, k0_pay27]

theorem decay1_0 (X : FVec 𝕀 S256x1024 .f32) (wr : FVec 𝕀 S1x1x128x128 .bf16) (br : FVec 𝕀 S1x1x128 .f32) (cn : FVec 𝕀 S1x1x128 .f32) (i : Fin 256) (j : Fin 128) :
    k0_pay23 (F := 𝕀) (k0_pay20 (F := 𝕀) X wr br) cn (ix3 0 i j)
      = decay (pre 1 X wr br i j) (cn (ix3 0 0 j)) := by
  simp only [decay, pre, ← sigm_tanh]
  pointwise [bcol, k0_pay18, k0_pay19, k0_pay20, k0_pay22, k0_pay23]

theorem decay0_1 (cb : FVec 𝕀 S1x1024 .f32) (w0 : FVec 𝕀 S1x1024 .f32) (x0 : FVec 𝕀 S256x1024 .f32) (w1 : FVec 𝕀 S1x1024 .f32) (x1 : FVec 𝕀 S256x1024 .f32) (w2 : FVec 𝕀 S1x1024 .f32) (x2 : FVec 𝕀 S256x1024 .f32) (w3 : FVec 𝕀 S1x1024 .f32) (x3 : FVec 𝕀 S256x1024 .f32) (wr : FVec 𝕀 S1x1x128x128 .bf16) (br : FVec 𝕀 S1x1x128 .f32) (cn : FVec 𝕀 S1x1x128 .f32) (i : Fin 256) (j : Fin 128) :
    k0_pay16 (F := 𝕀) (k0_pay15 (F := 𝕀) (k0_pay8 (F := 𝕀) cb w0 x0 w1 x1 w2 x2 w3 x3) wr br cn) (ix3 0 i j)
      = decay (pre 0 (k0_pay6 (F := 𝕀) cb w0 x0 w1 x1 w2 x2 w3 x3) wr br i j) (cn (ix3 0 0 j)) := by
  simp only [decay, pre, ← sigm_tanh]
  pointwise [bcol, k0_pay7, k0_pay8, k0_pay15, k0_pay16]

theorem decay0_0 (cb : FVec 𝕀 S1x1024 .f32) (w0 : FVec 𝕀 S1x1024 .f32) (x0 : FVec 𝕀 S256x1024 .f32) (w1 : FVec 𝕀 S1x1024 .f32) (x1 : FVec 𝕀 S256x1024 .f32) (w2 : FVec 𝕀 S1x1024 .f32) (x2 : FVec 𝕀 S256x1024 .f32) (w3 : FVec 𝕀 S1x1024 .f32) (x3 : FVec 𝕀 S256x1024 .f32) (wr : FVec 𝕀 S1x1x128x128 .bf16) (br : FVec 𝕀 S1x1x128 .f32) (cn : FVec 𝕀 S1x1x128 .f32) (i : Fin 256) (j : Fin 128) :
    k0_pay12 (F := 𝕀) (k0_pay9 (F := 𝕀) cb w0 x0 w1 x1 w2 x2 w3 x3 wr br) (k0_pay10 (F := 𝕀)) cn (ix3 0 i j)
      = decay (pre 0 (k0_pay6 (F := 𝕀) cb w0 x0 w1 x1 w2 x2 w3 x3) wr br i j) (cn (ix3 0 0 j)) := by
  simp only [decay, pre, ← sigm_tanh]
  pointwise [bcol, k0_pay7, k0_pay8, k0_pay9, k0_pay10, k0_pay11, k0_pay12]

theorem drive7_1 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay2 (F := 𝕀) (k0_pay86 (F := 𝕀) X) (k0_pay94 (F := 𝕀) (k0_pay87 (F := 𝕀) X) wi bi) (k0_pay95 (F := 𝕀) (k0_pay93 (F := 𝕀) (k0_pay87 (F := 𝕀) X) wr br) cn) (ix3 0 i j)
      = drive (pre 7 X wr br i j) (pre 7 X wi bi i j) (cn (ix3 0 0 j)) (X (ix2 i (bcol 7 j))) := by
  simp only [drive, decay, pre, ← sigm_tanh]
  pointwise [bcol, k0_pay2, k0_pay86, k0_pay87, k0_pay93, k0_pay94, k0_pay95]

theorem drive7_0 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay92 (F := 𝕀) (k0_pay86 (F := 𝕀) X) (k0_pay88 (F := 𝕀) X wr br) (k0_pay89 (F := 𝕀) X wi bi) (FloatOps.ofBits FTy.f32 1056964608#32) cn (ix3 0 i j)
      = drive (pre 7 X wr br i j) (pre 7 X wi bi i j) (cn (ix3 0 0 j)) (X (ix2 i (bcol 7 j))) := by
  simp only [drive, decay, pre, ← sigm_tanh]
  pointwise [bcol, k0_pay86, k0_pay87, k0_pay88, k0_pay89, k0_pay90, k0_pay92]

theorem drive6_1 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay85 (F := 𝕀) (k0_pay75 (F := 𝕀) X) (k0_pay82 (F := 𝕀) (k0_pay76 (F := 𝕀) X) wi bi) (k0_pay83 (F := 𝕀) (k0_pay76 (F := 𝕀) X) wr br cn) (ix3 0 i j)
      = drive (pre 6 X wr br i j) (pre 6 X wi bi i j) (cn (ix3 0 0 j)) (X (ix2 i (bcol 6 j))) := by
  simp only [drive, decay, pre, ← sigm_tanh]
  pointwise [bcol, k0_pay75, k0_pay76, k0_pay82, k0_pay83, k0_pay85]

theorem drive6_0 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay81 (F := 𝕀) (k0_pay75 (F := 𝕀) X) (k0_pay76 (F := 𝕀) X) (k0_pay77 (F := 𝕀) X wr br) (k0_pay78 (F := 𝕀)) wi bi cn (ix3 0 i j)
      = drive (pre 6 X wr br i j) (pre 6 X wi bi i j) (cn (ix3 0 0 j)) (X (ix2 i (bcol 6 j))) := by
  simp only [drive, decay, pre, ← sigm_tanh]
  pointwise [bcol, k0_pay75, k0_pay76, k0_pay77, k0_pay78, k0_pay79, k0_pay81]

theorem drive5_1 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay74 (F := 𝕀) (k0_pay63 (F := 𝕀) X) (k0_pay69 (F := 𝕀) (k0_pay64 (F := 𝕀) X) wr br) (k0_pay70 (F := 𝕀) (k0_pay64 (F := 𝕀) X) wi bi) (k0_pay71 (F := 𝕀)) cn (ix3 0 i j)
      = drive (pre 5 X wr br i j) (pre 5 X wi bi i j) (cn (ix3 0 0 j)) (X (ix2 i (bcol 5 j))) := by
  simp only [drive, decay, pre, ← sigm_tanh]
  pointwise [bcol, k0_pay63, k0_pay64, k0_pay69, k0_pay70, k0_pay71, k0_pay72, k0_pay74]

theorem drive5_0 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay68 (F := 𝕀) (k0_pay63 (F := 𝕀) X) (k0_pay65 (F := 𝕀) (k0_pay64 (F := 𝕀) X) wi bi) (k0_pay66 (F := 𝕀) (k0_pay64 (F := 𝕀) X) wr br cn) (ix3 0 i j)
      = drive (pre 5 X wr br i j) (pre 5 X wi bi i j) (cn (ix3 0 0 j)) (X (ix2 i (bcol 5 j))) := by
  simp only [drive, decay, pre, ← sigm_tanh]
  pointwise [bcol, k0_pay63, k0_pay64, k0_pay65, k0_pay66, k0_pay68]

theorem drive4_1 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay62 (F := 𝕀) (k0_pay52 (F := 𝕀) X) (k0_pay53 (F := 𝕀) X) (k0_pay59 (F := 𝕀) (k0_pay53 (F := 𝕀) X) wr br) wi bi cn (ix3 0 i j)
      = drive (pre 4 X wr br i j) (pre 4 X wi bi i j) (cn (ix3 0 0 j)) (X (ix2 i (bcol 4 j))) := by
  simp only [drive, decay, pre, ← sigm_tanh]
  pointwise [bcol, k0_pay52, k0_pay53, k0_pay59, k0_pay60, k0_pay62]

theorem drive4_0 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay58 (F := 𝕀) (k0_pay52 (F := 𝕀) X) (k0_pay54 (F := 𝕀) X wr br) (k0_pay55 (F := 𝕀) X wi bi) (FloatOps.ofBits FTy.f32 1056964608#32) cn (ix3 0 i j)
      = drive (pre 4 X wr br i j) (pre 4 X wi bi i j) (cn (ix3 0 0 j)) (X (ix2 i (bcol 4 j))) := by
  simp only [drive, decay, pre, ← sigm_tanh]
  pointwise [bcol, k0_pay52, k0_pay53, k0_pay54, k0_pay55, k0_pay56, k0_pay58]

theorem drive3_1 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay51 (F := 𝕀) (k0_pay41 (F := 𝕀) X) (k0_pay48 (F := 𝕀) (k0_pay42 (F := 𝕀) X) wi bi) (k0_pay49 (F := 𝕀) (k0_pay42 (F := 𝕀) X) wr br cn) (ix3 0 i j)
      = drive (pre 3 X wr br i j) (pre 3 X wi bi i j) (cn (ix3 0 0 j)) (X (ix2 i (bcol 3 j))) := by
  simp only [drive, decay, pre, ← sigm_tanh]
  pointwise [bcol, k0_pay41, k0_pay42, k0_pay48, k0_pay49, k0_pay51]

theorem drive3_0 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay47 (F := 𝕀) (k0_pay41 (F := 𝕀) X) (k0_pay42 (F := 𝕀) X) (k0_pay43 (F := 𝕀) X wr br) (k0_pay44 (F := 𝕀)) wi bi cn (ix3 0 i j)
      = drive (pre 3 X wr br i j) (pre 3 X wi bi i j) (cn (ix3 0 0 j)) (X (ix2 i (bcol 3 j))) := by
  simp only [drive, decay, pre, ← sigm_tanh]
  pointwise [bcol, k0_pay41, k0_pay42, k0_pay43, k0_pay44, k0_pay45, k0_pay47]

theorem drive2_1 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay40 (F := 𝕀) (k0_pay29 (F := 𝕀) X) (k0_pay35 (F := 𝕀) (k0_pay30 (F := 𝕀) X) wr br) (k0_pay36 (F := 𝕀) (k0_pay30 (F := 𝕀) X) wi bi) (k0_pay37 (F := 𝕀)) cn (ix3 0 i j)
      = drive (pre 2 X wr br i j) (pre 2 X wi bi i j) (cn (ix3 0 0 j)) (X (ix2 i (bcol 2 j))) := by
  simp only [drive, decay, pre, ← sigm_tanh]
  pointwise [bcol, k0_pay29, k0_pay30, k0_pay35, k0_pay36, k0_pay37, k0_pay38, k0_pay40]

theorem drive2_0 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay34 (F := 𝕀) (k0_pay29 (F := 𝕀) X) (k0_pay31 (F := 𝕀) (k0_pay30 (F := 𝕀) X) wi bi) (k0_pay32 (F := 𝕀) (k0_pay30 (F := 𝕀) X) wr br cn) (ix3 0 i j)
      = drive (pre 2 X wr br i j) (pre 2 X wi bi i j) (cn (ix3 0 0 j)) (X (ix2 i (bcol 2 j))) := by
  simp only [drive, decay, pre, ← sigm_tanh]
  pointwise [bcol, k0_pay29, k0_pay30, k0_pay31, k0_pay32, k0_pay34]

theorem drive1_1 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay28 (F := 𝕀) (k0_pay18 (F := 𝕀) X) (k0_pay19 (F := 𝕀) X) (k0_pay25 (F := 𝕀) (k0_pay19 (F := 𝕀) X) wr br) wi bi cn (ix3 0 i j)
      = drive (pre 1 X wr br i j) (pre 1 X wi bi i j) (cn (ix3 0 0 j)) (X (ix2 i (bcol 1 j))) := by
  simp only [drive, decay, pre, ← sigm_tanh]
  pointwise [bcol, k0_pay18, k0_pay19, k0_pay25, k0_pay26, k0_pay28]

theorem drive1_0 (X : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay24 (F := 𝕀) (k0_pay18 (F := 𝕀) X) (k0_pay20 (F := 𝕀) X wr br) (k0_pay21 (F := 𝕀) X wi bi) (FloatOps.ofBits FTy.f32 1056964608#32) cn (ix3 0 i j)
      = drive (pre 1 X wr br i j) (pre 1 X wi bi i j) (cn (ix3 0 0 j)) (X (ix2 i (bcol 1 j))) := by
  simp only [drive, decay, pre, ← sigm_tanh]
  pointwise [bcol, k0_pay18, k0_pay19, k0_pay20, k0_pay21, k0_pay22, k0_pay24]

theorem drive0_1 (cb : FVec 𝕀 S1x1024 .f32) (w0 : FVec 𝕀 S1x1024 .f32) (x0 : FVec 𝕀 S256x1024 .f32) (w1 : FVec 𝕀 S1x1024 .f32) (x1 : FVec 𝕀 S256x1024 .f32) (w2 : FVec 𝕀 S1x1024 .f32) (x2 : FVec 𝕀 S256x1024 .f32) (w3 : FVec 𝕀 S1x1024 .f32) (x3 : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay17 (F := 𝕀) (k0_pay7 (F := 𝕀) cb w0 x0 w1 x1 w2 x2 w3 x3) (k0_pay14 (F := 𝕀) (k0_pay8 (F := 𝕀) cb w0 x0 w1 x1 w2 x2 w3 x3) wi bi) (k0_pay15 (F := 𝕀) (k0_pay8 (F := 𝕀) cb w0 x0 w1 x1 w2 x2 w3 x3) wr br cn) (ix3 0 i j)
      = drive (pre 0 (k0_pay6 (F := 𝕀) cb w0 x0 w1 x1 w2 x2 w3 x3) wr br i j) (pre 0 (k0_pay6 (F := 𝕀) cb w0 x0 w1 x1 w2 x2 w3 x3) wi bi i j) (cn (ix3 0 0 j)) ((k0_pay6 (F := 𝕀) cb w0 x0 w1 x1 w2 x2 w3 x3) (ix2 i (bcol 0 j))) := by
  simp only [drive, decay, pre, ← sigm_tanh]
  pointwise [bcol, k0_pay7, k0_pay8, k0_pay14, k0_pay15, k0_pay17]

theorem drive0_0 (cb : FVec 𝕀 S1x1024 .f32) (w0 : FVec 𝕀 S1x1024 .f32) (x0 : FVec 𝕀 S256x1024 .f32) (w1 : FVec 𝕀 S1x1024 .f32) (x1 : FVec 𝕀 S256x1024 .f32) (w2 : FVec 𝕀 S1x1024 .f32) (x2 : FVec 𝕀 S256x1024 .f32) (w3 : FVec 𝕀 S1x1024 .f32) (x3 : FVec 𝕀 S256x1024 .f32) (wr : FVec 𝕀 S1x1x128x128 .bf16) (br : FVec 𝕀 S1x1x128 .f32) (wi : FVec 𝕀 S1x1x128x128 .bf16) (bi : FVec 𝕀 S1x1x128 .f32) (cn : FVec 𝕀 S1x1x128 .f32) (i : Fin 256) (j : Fin 128) :
    k0_pay13 (F := 𝕀) (k0_pay7 (F := 𝕀) cb w0 x0 w1 x1 w2 x2 w3 x3) (k0_pay8 (F := 𝕀) cb w0 x0 w1 x1 w2 x2 w3 x3) (k0_pay9 (F := 𝕀) cb w0 x0 w1 x1 w2 x2 w3 x3 wr br) (k0_pay10 (F := 𝕀)) wi bi cn (ix3 0 i j)
      = drive (pre 0 (k0_pay6 (F := 𝕀) cb w0 x0 w1 x1 w2 x2 w3 x3) wr br i j) (pre 0 (k0_pay6 (F := 𝕀) cb w0 x0 w1 x1 w2 x2 w3 x3) wi bi i j) (cn (ix3 0 0 j)) ((k0_pay6 (F := 𝕀) cb w0 x0 w1 x1 w2 x2 w3 x3) (ix2 i (bcol 0 j))) := by
  simp only [drive, decay, pre, ← sigm_tanh]
  pointwise [bcol, k0_pay7, k0_pay8, k0_pay9, k0_pay10, k0_pay11, k0_pay13]

end Cert.LruCoefIdeal.Rows

end
-- ==== Proof.LruCoefSpec.lean ====
/- The coefficients of the recurrence, as the mathematics states them: a convolution along each sequence, gates by blocks of columns. -/
module

public import proofs.«01_k».proof.Proof.LruCoefTile

@[expose] public section

noncomputable section

namespace Cert.LruCoefIdeal.Rows

open Cert.LruCoefIdeal Cert.LruCoefIdeal.Gen Cert.Rows Cert.Gates Idealize.ShloMosaic Idealize.ShloMosaic.TcCoe

local notation "𝕀" => Idealize.ShloMosaic.Ideal

/-- The first row of a row's sequence. -/
def start (R : Nat) : Nat := if R < 32768 then R / 16384 * 16384 else 32768 + (R - 32768) / 256 * 256

/-- The length of a row's sequence. -/
def len (R : Nat) : Nat := if R < 32768 then 16384 else 256

/-- The row `k - 2` after row `R`, zero outside the sequence. -/
def tap (gx : FVec 𝕀 S33280x2048 .f32) (R : Fin 33280) (C : Fin 1024) (k : Nat) : EReal :=
  if start R.val + 2 ≤ R.val + k ∧ R.val + k < start R.val + len R.val + 2
  then gx (ix2 ⟨min (R.val + k - 2) 33279, by omega⟩ ⟨1024 + C.val, by omega⟩) else 0

/-- The convolution. -/
def conv (gx : FVec 𝕀 S33280x2048 .f32) (cw : FVec 𝕀 S4x1024 .f32) (cb : FVec 𝕀 S1x1024 .f32) (R : Fin 33280) (C : Fin 1024) : EReal :=
  cb (ix2 0 C) + (cw (ix2 0 C) * tap gx R C 0 + cw (ix2 1 C) * tap gx R C 1 + cw (ix2 2 C) * tap gx R C 2 + cw (ix2 3 C) * tap gx R C 3)

/-- A column's block. -/
def blk (C : Fin 1024) : Fin 8 := ⟨C.val / 128, by omega⟩

/-- A column's place in its block. -/
def lane (C : Fin 1024) : Fin 128 := ⟨C.val % 128, by omega⟩

/-- A gate before its sigmoid: the block of a row around a column, times the block's matrix, plus the bias. -/
def gateIn (X : Fin 1024 → EReal) (w : FVec 𝕀 S2x8x128x128 .bf16) (b : FVec 𝕀 S2x1x1024 .f32) (d : Fin 2) (C : Fin 1024) : EReal :=
  ∑ e : Fin 128, X (bcol (blk C) e) * w (ix4 d (blk C) e (lane C)) + b (ix3 d 0 C)

/-- The decay of a row. -/
def rowA (X : Fin 1024 → EReal) (wr : FVec 𝕀 S2x8x128x128 .bf16) (br cn : FVec 𝕀 S2x1x1024 .f32) (d : Fin 2) (C : Fin 1024) : EReal :=
  decay (gateIn X wr br d C) (cn (ix3 d 0 C))

/-- The input of a row. -/
def rowB (X : Fin 1024 → EReal) (wr : FVec 𝕀 S2x8x128x128 .bf16) (br : FVec 𝕀 S2x1x1024 .f32) (wi : FVec 𝕀 S2x8x128x128 .bf16)
    (bi cn : FVec 𝕀 S2x1x1024 .f32) (d : Fin 2) (C : Fin 1024) : EReal :=
  drive (gateIn X wr br d C) (gateIn X wi bi d C) (cn (ix3 d 0 C)) (X C)

/-- The decays. -/
def atA (gx : FVec 𝕀 S33280x2048 .f32) (cw : FVec 𝕀 S4x1024 .f32) (cb : FVec 𝕀 S1x1024 .f32) (wr : FVec 𝕀 S2x8x128x128 .bf16)
    (br cn : FVec 𝕀 S2x1x1024 .f32) (d : Fin 2) (R : Fin 33280) (C : Fin 1024) : EReal := rowA (conv gx cw cb R) wr br cn d C

/-- The inputs. -/
def atB (gx : FVec 𝕀 S33280x2048 .f32) (cw : FVec 𝕀 S4x1024 .f32) (cb : FVec 𝕀 S1x1024 .f32) (wr : FVec 𝕀 S2x8x128x128 .bf16)
    (br : FVec 𝕀 S2x1x1024 .f32) (wi : FVec 𝕀 S2x8x128x128 .bf16) (bi cn : FVec 𝕀 S2x1x1024 .f32) (d : Fin 2) (R : Fin 33280) (C : Fin 1024) : EReal :=
  rowB (conv gx cw cb R) wr br wi bi cn d C

end Cert.LruCoefIdeal.Rows

end
-- ==== Proof.LruCoefConv.lean ====
/- The coefficients of the recurrence: the rows a step of the grid holds, with their neighbours, and the convolution over them. -/
module

public import proofs.«01_k».proof.Proof.LruCoefTile
public import proofs.«01_k».proof.Proof.Gen.LruCoefIdeal.Value
public import Idealize.ShloMosaic.Lib.Pipeline.ReadBack

@[expose] public section

set_option maxRecDepth 16384

noncomputable section

namespace Cert.LruCoefIdeal.Rows

open Cert.LruCoefIdeal Cert.LruCoefIdeal.Gen Cert.Rows Cert.Gates Idealize.ShloMosaic Idealize.ShloMosaic.TcCoe

local notation "𝕀" => Idealize.ShloMosaic.Ideal

variable (m : (ℓ : Loc nD τ sig) → Buf (Elt 𝕀) ℓ)

/-- Whether a step's rows are latent. -/
def isLat (t : Fin cfg0.N) : BitVec 1 := Scalar.cmpi .slt (BitVec.ofNat 32 (grid0.coords t 0).val) 128#32

/-- A latent step's place in its batch. -/
def posLat (t : Fin cfg0.N) : BitVec 32 :=
  Scalar.select
    (Scalar.andi (Scalar.xori (Scalar.cmpi .slt (Scalar.remsi (BitVec.ofNat 32 (grid0.coords t 0).val) 64#32) 0#32) 0#1)
      (Scalar.cmpi .ne (Scalar.remsi (BitVec.ofNat 32 (grid0.coords t 0).val) 64#32) 0#32))
    (Scalar.addi (Scalar.remsi (BitVec.ofNat 32 (grid0.coords t 0).val) 64#32) 64#32)
    (Scalar.remsi (BitVec.ofNat 32 (grid0.coords t 0).val) 64#32)

/-- A context step's number. -/
def numCtx (t : Fin cfg0.N) : BitVec 32 := Scalar.subi (BitVec.ofNat 32 (grid0.coords t 0).val) 128#32

/-- A context step's place in its batch. -/
def posCtx (t : Fin cfg0.N) : BitVec 32 :=
  Scalar.select
    (Scalar.andi (Scalar.xori (Scalar.cmpi .slt (Scalar.remsi (numCtx t) 1#32) 0#32) 0#1)
      (Scalar.cmpi .ne (Scalar.remsi (numCtx t) 1#32) 0#32))
    (Scalar.addi (Scalar.remsi (numCtx t) 1#32) 1#32) (Scalar.remsi (numCtx t) 1#32)

/-- Whether a step is the first of its sequence. -/
def isFirst (t : Fin cfg0.N) : BitVec 1 :=
  Scalar.select (isLat t) (Scalar.cmpi .eq (posLat t) 0#32) (Scalar.cmpi .eq (posCtx t) 0#32)

/-- Whether a step is the last of its sequence. -/
def isLast (t : Fin cfg0.N) : BitVec 1 :=
  let v37 : BitVec 1 := Scalar.cmpi .eq 1#32 0#32
  let v38 : BitVec 32 := Scalar.select v37 1#32 1#32
  let v39 : BitVec 32 := Scalar.remsi (numCtx t) v38
  let v40 : BitVec 1 := Scalar.cmpi .ne v39 0#32
  let v41 : BitVec 1 := Scalar.cmpi .slt v39 0#32
  let v42 : BitVec 1 := Scalar.cmpi .slt v38 0#32
  let v43 : BitVec 1 := Scalar.xori v41 v42
  let v44 : BitVec 1 := Scalar.andi v43 v40
  Scalar.select (isLat t) (Scalar.cmpi .eq (posLat t) 63#32)
    (Scalar.cmpi .eq (Scalar.select v44 (Scalar.addi v39 v38) v39) 0#32)

theorem isFirst_eq : ∀ t : Fin cfg0.N, isFirst t = if t.val % 64 = 0 ∨ 128 ≤ t.val then 1#1 else 0#1 :=
  (by decide +kernel : ∀ t : Fin grid0.N, _)

theorem isLast_eq : ∀ t : Fin cfg0.N, isLast t = if t.val % 64 = 63 ∨ 128 ≤ t.val then 1#1 else 0#1 :=
  (by decide +kernel : ∀ t : Fin grid0.N, _)

/-- The eight rows before a step's own, zero at the start of a sequence. -/
def before (c : Dev nD) (t : Fin cfg0.N) : FVec 𝕀 S8x1024 .f32 := k0_pay3 (F := 𝕀) (isFirst t) (iblk m c 1 t)

/-- The eight rows after a step's own, zero at the end of a sequence. -/
def after (c : Dev nD) (t : Fin cfg0.N) : FVec 𝕀 S8x1024 .f32 := k0_pay5 (F := 𝕀) (numCtx t) (isLat t) (posLat t) (iblk m c 2 t)

theorem before_at (c : Dev nD) (t : Fin cfg0.N) (a : Fin 8) (b : Fin 1024) :
    before m c t (ix2 a b) = if t.val % 64 = 0 ∨ 128 ≤ t.val then (0 : EReal) else iblk m c 1 t (ix2 a b) := by
  unfold before
  rw [isFirst_eq]
  by_cases h : t.val % 64 = 0 ∨ 128 ≤ t.val
  · rw [if_pos h, if_pos h]
    pointwise [k0_pay3]
  · rw [if_neg h, if_neg h]
    pointwise [k0_pay3]

theorem after_at (c : Dev nD) (t : Fin cfg0.N) (a : Fin 8) (b : Fin 1024) :
    after m c t (ix2 a b) = if t.val % 64 = 63 ∨ 128 ≤ t.val then (0 : EReal) else iblk m c 2 t (ix2 a b) := by
  have e : after m c t = shapeCast S8x1024 (Scalar.select (isLast t) (broadcast S8x1024 (Scalar.ofBits (F := 𝕀) .f32 0x00000000#32)) (iblk m c 2 t))
      shapeCasts_S8x1024_S8x1024 := rfl
  rw [e, isLast_eq]
  by_cases h : t.val % 64 = 63 ∨ 128 ≤ t.val
  · rw [if_pos h, if_pos h]
    pointwise []
  · rw [if_neg h, if_neg h]
    pointwise []

/-- The stores into the buffer of rows: the rows after, the step's own, the rows before. -/
def stores (c : Dev nD) (t : Fin cfg0.N) : List (View.Piece (Elt 𝕀) S272x1024 .f32) :=
  [⟨Rect.unit ![264, 0] ![8, 1024] inb_S272x1024_S8x1024_264_0, after m c t⟩,
    ⟨Rect.unit ![8, 0] ![256, 1024] inb_S272x1024_S256x1024_8_0, k0_pay4 (F := 𝕀) (iblk m c 0 t)⟩,
    ⟨Rect.unit ![0, 0] ![8, 1024] inb_S272x1024_S8x1024_0_0, before m c t⟩]

/-- The buffer of rows. -/
def held (c : Dev nD) (t : Fin cfg0.N) (r : Fin 272) (C : Fin 1024) : EReal :=
  if h : r.val < 8 then before m c t (ix2 ⟨r.val, h⟩ C)
  else if h' : r.val < 264 then iblk m c 0 t (ix2 ⟨r.val - 8, by omega⟩ C)
  else after m c t (ix2 ⟨r.val - 264, by omega⟩ C)

theorem own_at (x : FVec 𝕀 S256x1024 .f32) : k0_pay4 (F := 𝕀) x = x := by
  funext y
  refine (congrArg _ (eq_ix2 y)).trans (Eq.trans ?_ (congrArg x (eq_ix2 y)).symm)
  pointwise [k0_pay4]

/-- The buffer, at its indices. -/
def heldAt (c : Dev nD) (t : Fin cfg0.N) (y : S272x1024.Idx) : Elt 𝕀 .f32 := held m c t (y 0) (y 1)

theorem held_before (c : Dev nD) (t : Fin cfg0.N) (x : (Rect.unit (s := S272x1024) ![0, 0] ![8, 1024] inb_S272x1024_S8x1024_0_0).shape.Idx) :
    before m c t x = heldAt m c t ((Rect.unit (s := S272x1024) ![0, 0] ![8, 1024] inb_S272x1024_S8x1024_0_0).emb x) := by
  have h : (x 0).val < 8 := (x 0).isLt
  have e : ((Rect.unit (s := S272x1024) ![0, 0] ![8, 1024] inb_S272x1024_S8x1024_0_0).emb x 0).val < 8 := by simp; omega
  refine Eq.trans ?_ (dif_pos e).symm
  exact congrArg (before m c t) (by funext k; fin_cases k <;> ext <;> simp)

theorem held_own (c : Dev nD) (t : Fin cfg0.N) (x : (Rect.unit (s := S272x1024) ![8, 0] ![256, 1024] inb_S272x1024_S256x1024_8_0).shape.Idx) :
    iblk m c 0 t x = heldAt m c t ((Rect.unit (s := S272x1024) ![8, 0] ![256, 1024] inb_S272x1024_S256x1024_8_0).emb x) := by
  have h : (x 0).val < 256 := (x 0).isLt
  have e : ¬((Rect.unit (s := S272x1024) ![8, 0] ![256, 1024] inb_S272x1024_S256x1024_8_0).emb x 0).val < 8 := by simp
  have e' : ((Rect.unit (s := S272x1024) ![8, 0] ![256, 1024] inb_S272x1024_S256x1024_8_0).emb x 0).val < 264 := by simp; omega
  refine Eq.trans ?_ ((dif_neg e).trans (dif_pos e')).symm
  exact congrArg (iblk m c 0 t) (by funext k; fin_cases k <;> ext <;> simp)

theorem held_after (c : Dev nD) (t : Fin cfg0.N) (x : (Rect.unit (s := S272x1024) ![264, 0] ![8, 1024] inb_S272x1024_S8x1024_264_0).shape.Idx) :
    after m c t x = heldAt m c t ((Rect.unit (s := S272x1024) ![264, 0] ![8, 1024] inb_S272x1024_S8x1024_264_0).emb x) := by
  have h : (x 0).val < 8 := (x 0).isLt
  have e : ¬((Rect.unit (s := S272x1024) ![264, 0] ![8, 1024] inb_S272x1024_S8x1024_264_0).emb x 0).val < 8 := by simp; omega
  have e' : ¬((Rect.unit (s := S272x1024) ![264, 0] ![8, 1024] inb_S272x1024_S8x1024_264_0).emb x 0).val < 264 := by simp
  refine Eq.trans ?_ ((dif_neg e).trans (dif_neg e')).symm
  exact congrArg (after m c t) (by funext k; fin_cases k <;> ext <;> simp)

/-- The buffer, read back from the stores. -/
theorem held_eq (c : Dev nD) (t : Fin cfg0.N) (y : S272x1024.Idx) : View.canon (stores m c t) y = heldAt m c t y := by
  have hy0 : (y 0).val < 272 := (y 0).isLt
  have hy1 : (y 1).val < 1024 := (y 1).isLt
  refine (congrFun (congrArg View.canon (List.append_nil _).symm) y).trans ?_
  refine View.canon_append_of_piecesOf (heldAt m c t) [] _ ?_ y ?_
  · refine ⟨fun x => held_after m c t x, fun x => ?_, fun x => held_before m c t x, trivial⟩
    exact (congrFun (own_at (iblk m c 0 t)) x).trans (held_own m c t x)
  · by_cases h : (y 0).val < 8
    · refine ⟨_, List.mem_cons_of_mem _ (List.mem_cons_of_mem _ (List.mem_singleton.mpr rfl)), ?_⟩
      refine (Rect.mem_set_unit (inb := inb_S272x1024_S8x1024_0_0)).mpr fun a => ?_
      fin_cases a <;> simp <;> omega
    · by_cases h' : (y 0).val < 264
      · refine ⟨_, List.mem_cons_of_mem _ (List.mem_cons_self), ?_⟩
        refine (Rect.mem_set_unit (inb := inb_S272x1024_S256x1024_8_0)).mpr fun a => ?_
        fin_cases a <;> simp <;> omega
      · refine ⟨_, List.mem_cons_self, ?_⟩
        refine (Rect.mem_set_unit (inb := inb_S272x1024_S8x1024_264_0)).mpr fun a => ?_
        fin_cases a <;> simp <;> omega

/-- The convolution over a step's rows. -/
def tile (c : Dev nD) (t : Fin cfg0.N) : FVec 𝕀 S256x1024 .f32 :=
  k0_pay6 (F := 𝕀) (iblk m c 4 t)
    (View.ld (iblk m c 3 t) (Rect.unit (s := S4x1024) ![0, 0] ![1, 1024] inb_S4x1024_S1x1024_0_0))
    ((View.whole cc0_scratch0).readCov (stores m c t) (Rect.unit (s := S272x1024) ![6, 0] ![256, 1024] inb_S272x1024_S256x1024_6_0).toLoadRect)
    (View.ld (iblk m c 3 t) (Rect.unit (s := S4x1024) ![1, 0] ![1, 1024] inb_S4x1024_S1x1024_1_0))
    ((View.whole cc0_scratch0).readCov (stores m c t) (Rect.unit (s := S272x1024) ![7, 0] ![256, 1024] inb_S272x1024_S256x1024_7_0).toLoadRect)
    (View.ld (iblk m c 3 t) (Rect.unit (s := S4x1024) ![2, 0] ![1, 1024] inb_S4x1024_S1x1024_2_0))
    ((View.whole cc0_scratch0).readCov (stores m c t) (Rect.unit (s := S272x1024) ![8, 0] ![256, 1024] inb_S272x1024_S256x1024_8_0).toLoadRect)
    (View.ld (iblk m c 3 t) (Rect.unit (s := S4x1024) ![3, 0] ![1, 1024] inb_S4x1024_S1x1024_3_0))
    ((View.whole cc0_scratch0).readCov (stores m c t) (Rect.unit (s := S272x1024) ![9, 0] ![256, 1024] inb_S272x1024_S256x1024_9_0).toLoadRect)

/-- The convolution's sum at an index. -/
theorem conv_at (cb w0 w1 w2 w3 : FVec 𝕀 S1x1024 .f32) (x0 x1 x2 x3 : FVec 𝕀 S256x1024 .f32) (i : Fin 256) (C : Fin 1024) :
    k0_pay6 (F := 𝕀) cb w0 x0 w1 x1 w2 x2 w3 x3 (ix2 i C)
      = cb (ix2 0 C) + (w0 (ix2 0 C) * x0 (ix2 i C) + w1 (ix2 0 C) * x1 (ix2 i C) + w2 (ix2 0 C) * x2 (ix2 i C)
        + w3 (ix2 0 C) * x3 (ix2 i C)) := by
  pointwise [k0_pay6]

theorem read_at (c : Dev nD) (t : Fin cfg0.N) (o : Nat) (inb) (ho : o ≤ 16) (i : Fin 256) (C : Fin 1024) :
    (View.whole cc0_scratch0).readCov (stores m c t) (Rect.unit (s := S272x1024) ![o, 0] ![256, 1024] inb).toLoadRect (ix2 i C)
      = held m c t ⟨o + i.val, by omega⟩ C := by
  rw [View.readCov_eq_canon']
  refine (held_eq m c t _).trans ?_
  unfold heldAt
  congr 1
  · ext; simp
  · ext; simp

/-- An entry of an array, as an extended real. -/
abbrev cell {s : Shape} (x : FVec 𝕀 s .f32) (i : s.Idx) : EReal := x i

theorem tile_at (c : Dev nD) (t : Fin cfg0.N) (i : Fin 256) (C : Fin 1024) :
    tile m c t (ix2 i C)
      = cell (iblk m c 4 t) (ix2 0 C) + (cell (iblk m c 3 t) (ix2 0 C) * held m c t ⟨6 + i.val, by omega⟩ C
          + cell (iblk m c 3 t) (ix2 1 C) * held m c t ⟨7 + i.val, by omega⟩ C
          + cell (iblk m c 3 t) (ix2 2 C) * held m c t ⟨8 + i.val, by omega⟩ C
          + cell (iblk m c 3 t) (ix2 3 C) * held m c t ⟨9 + i.val, by omega⟩ C) := by
  unfold tile
  rw [conv_at, read_at _ _ _ _ _ (by omega), read_at _ _ _ _ _ (by omega), read_at _ _ _ _ _ (by omega), read_at _ _ _ _ _ (by omega)]
  have e : ∀ (k : Nat) (hk : k < 4) (inb), View.ld (iblk m c 3 t) (Rect.unit (s := S4x1024) ![k, 0] ![1, 1024] inb) (ix2 0 C)
      = iblk m c 3 t (ix2 ⟨k, hk⟩ C) := fun k hk inb => by
    refine congrArg (iblk m c 3 t) ?_
    funext a; fin_cases a <;> ext <;> simp
  rw [e 0 (by omega), e 1 (by omega), e 2 (by omega), e 3 (by omega)]
  rfl

end Cert.LruCoefIdeal.Rows

end
-- ==== Proof.LruCoef.lean ====
/- The coefficients of the recurrence: what every step of the grid stores, and the two arrays at the end. -/
module

public import proofs.«01_k».proof.Proof.LruCoefSpec
public import proofs.«01_k».proof.Proof.LruCoefConv

@[expose] public section

set_option maxRecDepth 16384

noncomputable section

namespace Cert.LruCoefIdeal.Rows

open Cert.LruCoefIdeal Cert.LruCoefIdeal.Gen Cert.Rows Cert.Gates Idealize.ShloMosaic Idealize.ShloMosaic.TcCoe

local notation "𝕀" => Idealize.ShloMosaic.Ideal

/-- A step's decays, from its convolution. -/
def tileA (X : FVec 𝕀 S256x1024 .f32) (wr : FVec 𝕀 S2x8x128x128 .bf16) (br cn : FVec 𝕀 S2x1x1024 .f32) : FVec 𝕀 S2x256x1024 .f32 :=
  fun y => rowA (fun C => X (ix2 (y 1) C)) wr br cn (y 0) (y 2)

/-- A step's inputs, from its convolution. -/
def tileB (X : FVec 𝕀 S256x1024 .f32) (wr : FVec 𝕀 S2x8x128x128 .bf16) (br : FVec 𝕀 S2x1x1024 .f32) (wi : FVec 𝕀 S2x8x128x128 .bf16)
    (bi cn : FVec 𝕀 S2x1x1024 .f32) : FVec 𝕀 S2x256x1024 .f32 :=
  fun y => rowB (fun C => X (ix2 (y 1) C)) wr br wi bi cn (y 0) (y 2)

theorem blk_bcol (n : Fin 8) (j : Fin 128) : blk (bcol n j) = n := Fin.ext (by simp only [blk, bcol]; omega)

theorem lane_bcol (n : Fin 8) (j : Fin 128) : lane (bcol n j) = j := Fin.ext (by simp only [lane, bcol]; omega)

theorem ld_w (w : FVec 𝕀 S2x8x128x128 .bf16) (d : Fin 2) (n : Fin 8) (h) (e j : Fin 128) :
    View.ld (Val := Elt 𝕀) (e' := .bf16) w (Rect.unit (s := S2x8x128x128) ![d.val, n.val, 0, 0] ![1, 1, 128, 128] h) (ix4 0 0 e j) = w (ix4 d n e j) := by
  refine congrArg w ?_
  funext a; fin_cases a <;> ext <;> simp

theorem ld_b (b : FVec 𝕀 S2x1x1024 .f32) (d : Fin 2) (n : Fin 8) (h) (j : Fin 128) :
    View.ld (Val := Elt 𝕀) (e' := .f32) b (Rect.unit (s := S2x1x1024) ![d.val, 0, n.val * 128] ![1, 1, 128] h) (ix3 0 0 j) = b (ix3 d 0 (bcol n j)) := by
  refine congrArg b ?_
  funext a; fin_cases a <;> ext <;> simp [bcol]

theorem pre_of (X : FVec 𝕀 S256x1024 .f32) (w : FVec 𝕀 S2x8x128x128 .bf16) (b : FVec 𝕀 S2x1x1024 .f32) (d : Fin 2) (n : Fin 8) (h h')
    (i : Fin 256) (j : Fin 128) :
    pre n X (View.ld (Val := Elt 𝕀) (e' := .bf16) w (Rect.unit (s := S2x8x128x128) ![d.val, n.val, 0, 0] ![1, 1, 128, 128] h))
        (View.ld (Val := Elt 𝕀) (e' := .f32) b (Rect.unit (s := S2x1x1024) ![d.val, 0, n.val * 128] ![1, 1, 128] h')) i j
      = gateIn (fun C => X (ix2 i C)) w b d (bcol n j) := by
  unfold pre gateIn
  rw [blk_bcol, lane_bcol]
  refine congrArg₂ (fun a b : EReal => a + b) (Finset.sum_congr rfl fun e _ => ?_) (ld_b b d n _ j)
  exact congrArg (fun a : EReal => X (ix2 i (bcol n e)) * a) (ld_w w d n _ e j)

/-- Where block `n` of direction `d` lies in a step's result. -/
theorem emb_eq (d : Fin 2) (n : Fin 8) (h) (x : S1x256x128.Idx) :
    (Rect.unit (s := S2x256x1024) ![d.val, 0, n.val * 128] ![1, 256, 128] h).emb x = ix3 d (x 1) (bcol n (x 2)) := by
  funext a
  fin_cases a <;> ext <;> simp [bcol]

theorem a_of (X : FVec 𝕀 S256x1024 .f32) (wr : FVec 𝕀 S2x8x128x128 .bf16) (br cn : FVec 𝕀 S2x1x1024 .f32) (d : Fin 2) (n : Fin 8) (h5 h6 h9 hb)
    (x : S1x256x128.Idx) :
    decay (pre n X (View.ld (Val := Elt 𝕀) (e' := .bf16) wr (Rect.unit (s := S2x8x128x128) ![d.val, n.val, 0, 0] ![1, 1, 128, 128] h5))
        (View.ld (Val := Elt 𝕀) (e' := .f32) br (Rect.unit (s := S2x1x1024) ![d.val, 0, n.val * 128] ![1, 1, 128] h6)) (x 1) (x 2))
        (View.ld (Val := Elt 𝕀) (e' := .f32) cn (Rect.unit (s := S2x1x1024) ![d.val, 0, n.val * 128] ![1, 1, 128] h9) (ix3 0 0 (x 2)))
      = tileA X wr br cn ((Rect.unit (s := S2x256x1024) ![d.val, 0, n.val * 128] ![1, 256, 128] hb).emb x) := by
  rw [emb_eq]
  exact congrArg₂ decay (pre_of X wr br d n _ _ (x 1) (x 2)) (ld_b cn d n _ (x 2))

theorem drive_congr {z z' y y' cn cn' : EReal} (hz : z = z') (hy : y = y') (hc : cn = cn') (x : EReal) :
    drive z y cn x = drive z' y' cn' x := by
  rw [hz, hy, hc]

theorem b_of (X : FVec 𝕀 S256x1024 .f32) (wr : FVec 𝕀 S2x8x128x128 .bf16) (br : FVec 𝕀 S2x1x1024 .f32) (wi : FVec 𝕀 S2x8x128x128 .bf16)
    (bi cn : FVec 𝕀 S2x1x1024 .f32) (d : Fin 2) (n : Fin 8) (h5 h6 h7 h8 h9 hb)
    (x : S1x256x128.Idx) :
    drive (pre n X (View.ld (Val := Elt 𝕀) (e' := .bf16) wr (Rect.unit (s := S2x8x128x128) ![d.val, n.val, 0, 0] ![1, 1, 128, 128] h5))
        (View.ld (Val := Elt 𝕀) (e' := .f32) br (Rect.unit (s := S2x1x1024) ![d.val, 0, n.val * 128] ![1, 1, 128] h6)) (x 1) (x 2))
        (pre n X (View.ld (Val := Elt 𝕀) (e' := .bf16) wi (Rect.unit (s := S2x8x128x128) ![d.val, n.val, 0, 0] ![1, 1, 128, 128] h7))
        (View.ld (Val := Elt 𝕀) (e' := .f32) bi (Rect.unit (s := S2x1x1024) ![d.val, 0, n.val * 128] ![1, 1, 128] h8)) (x 1) (x 2))
        (View.ld (Val := Elt 𝕀) (e' := .f32) cn (Rect.unit (s := S2x1x1024) ![d.val, 0, n.val * 128] ![1, 1, 128] h9) (ix3 0 0 (x 2)))
        (X (ix2 (x 1) (bcol n (x 2))))
      = tileB X wr br wi bi cn ((Rect.unit (s := S2x256x1024) ![d.val, 0, n.val * 128] ![1, 256, 128] hb).emb x) := by
  rw [emb_eq]
  exact drive_congr (pre_of X wr br d n _ _ (x 1) (x 2)) (pre_of X wi bi d n _ _ (x 1) (x 2)) (ld_b cn d n _ (x 2)) _

/-- An index of a stored block, by its last two coordinates. -/
theorem eq_row (x : S1x256x128.Idx) : x = ix3 0 (x 1) (x 2) :=
  (eq_ix3 x).trans (congrArg (fun a : Fin 1 => ix3 a (x 1) (x 2)) (Subsingleton.elim _ _))

variable (m : (ℓ : Loc nD τ sig) → Buf (Elt 𝕀) ℓ)

theorem outA (c : Dev nD) (t : Fin cfg0.N) : (outsAt0 m c t).1 = tileA (tile m c t) (iblk m c 5 t) (iblk m c 6 t) (iblk m c 9 t) := by
  unfold outsAt0
  dsimp only
  unfold out0_A_10
  rw [View.read_writes_junk_eq_canon]
  funext y
  refine (congrFun (congrArg View.canon (List.append_nil _).symm) y).trans ?_
  refine View.canon_append_of_piecesOf _ [] _ ?_ y (cover0_A_10 c _ _ _ _ _ _ _ _ _ _ _ _ _ _ _ _ _ _ _ _ _ _ _ _ _ _ _ _ _ _ _ _ _ _ _ _ _ y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · frame_out
    exact (congrArg _ (eq_row x)).trans ((decay7_1 (tile m c t) _ _ _ _ _).trans (a_of (tile m c t) _ _ _ 1 7 _ _ _ _ x))
  · frame_out
    exact (congrArg _ (eq_row x)).trans ((decay7_0 (tile m c t) _ _ _ _ _).trans (a_of (tile m c t) _ _ _ 0 7 _ _ _ _ x))
  · frame_out
    exact (congrArg _ (eq_row x)).trans ((decay6_1 (tile m c t) _ _ _ _ _).trans (a_of (tile m c t) _ _ _ 1 6 _ _ _ _ x))
  · frame_out
    exact (congrArg _ (eq_row x)).trans ((decay6_0 (tile m c t) _ _ _ _ _).trans (a_of (tile m c t) _ _ _ 0 6 _ _ _ _ x))
  · frame_out
    exact (congrArg _ (eq_row x)).trans ((decay5_1 (tile m c t) _ _ _ _ _).trans (a_of (tile m c t) _ _ _ 1 5 _ _ _ _ x))
  · frame_out
    exact (congrArg _ (eq_row x)).trans ((decay5_0 (tile m c t) _ _ _ _ _).trans (a_of (tile m c t) _ _ _ 0 5 _ _ _ _ x))
  · frame_out
    exact (congrArg _ (eq_row x)).trans ((decay4_1 (tile m c t) _ _ _ _ _).trans (a_of (tile m c t) _ _ _ 1 4 _ _ _ _ x))
  · frame_out
    exact (congrArg _ (eq_row x)).trans ((decay4_0 (tile m c t) _ _ _ _ _).trans (a_of (tile m c t) _ _ _ 0 4 _ _ _ _ x))
  · frame_out
    exact (congrArg _ (eq_row x)).trans ((decay3_1 (tile m c t) _ _ _ _ _).trans (a_of (tile m c t) _ _ _ 1 3 _ _ _ _ x))
  · frame_out
    exact (congrArg _ (eq_row x)).trans ((decay3_0 (tile m c t) _ _ _ _ _).trans (a_of (tile m c t) _ _ _ 0 3 _ _ _ _ x))
  · frame_out
    exact (congrArg _ (eq_row x)).trans ((decay2_1 (tile m c t) _ _ _ _ _).trans (a_of (tile m c t) _ _ _ 1 2 _ _ _ _ x))
  · frame_out
    exact (congrArg _ (eq_row x)).trans ((decay2_0 (tile m c t) _ _ _ _ _).trans (a_of (tile m c t) _ _ _ 0 2 _ _ _ _ x))
  · frame_out
    exact (congrArg _ (eq_row x)).trans ((decay1_1 (tile m c t) _ _ _ _ _).trans (a_of (tile m c t) _ _ _ 1 1 _ _ _ _ x))
  · frame_out
    exact (congrArg _ (eq_row x)).trans ((decay1_0 (tile m c t) _ _ _ _ _).trans (a_of (tile m c t) _ _ _ 0 1 _ _ _ _ x))
  · frame_out
    exact (congrArg _ (eq_row x)).trans ((decay0_1 _ _ _ _ _ _ _ _ _ _ _ _ _ _).trans (a_of (tile m c t) _ _ _ 1 0 _ _ _ _ x))
  · frame_out
    exact (congrArg _ (eq_row x)).trans ((decay0_0 _ _ _ _ _ _ _ _ _ _ _ _ _ _).trans (a_of (tile m c t) _ _ _ 0 0 _ _ _ _ x))

theorem outB (c : Dev nD) (t : Fin cfg0.N) : (outsAt0 m c t).2 = tileB (tile m c t) (iblk m c 5 t) (iblk m c 6 t) (iblk m c 7 t) (iblk m c 8 t) (iblk m c 9 t) := by
  unfold outsAt0
  dsimp only
  unfold out0_A_11
  rw [View.read_writes_junk_eq_canon]
  funext y
  refine (congrFun (congrArg View.canon (List.append_nil _).symm) y).trans ?_
  refine View.canon_append_of_piecesOf _ [] _ ?_ y (cover0_A_11 c _ _ _ _ _ _ _ _ _ _ _ _ _ _ _ _ _ _ _ _ _ _ _ _ _ _ _ _ _ _ _ _ _ _ _ _ _ y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · frame_out
    exact (congrArg _ (eq_row x)).trans ((drive7_1 (tile m c t) _ _ _ _ _ _ _).trans (b_of (tile m c t) _ _ _ _ _ 1 7 _ _ _ _ _ _ x))
  · frame_out
    exact (congrArg _ (eq_row x)).trans ((drive7_0 (tile m c t) _ _ _ _ _ _ _).trans (b_of (tile m c t) _ _ _ _ _ 0 7 _ _ _ _ _ _ x))
  · frame_out
    exact (congrArg _ (eq_row x)).trans ((drive6_1 (tile m c t) _ _ _ _ _ _ _).trans (b_of (tile m c t) _ _ _ _ _ 1 6 _ _ _ _ _ _ x))
  · frame_out
    exact (congrArg _ (eq_row x)).trans ((drive6_0 (tile m c t) _ _ _ _ _ _ _).trans (b_of (tile m c t) _ _ _ _ _ 0 6 _ _ _ _ _ _ x))
  · frame_out
    exact (congrArg _ (eq_row x)).trans ((drive5_1 (tile m c t) _ _ _ _ _ _ _).trans (b_of (tile m c t) _ _ _ _ _ 1 5 _ _ _ _ _ _ x))
  · frame_out
    exact (congrArg _ (eq_row x)).trans ((drive5_0 (tile m c t) _ _ _ _ _ _ _).trans (b_of (tile m c t) _ _ _ _ _ 0 5 _ _ _ _ _ _ x))
  · frame_out
    exact (congrArg _ (eq_row x)).trans ((drive4_1 (tile m c t) _ _ _ _ _ _ _).trans (b_of (tile m c t) _ _ _ _ _ 1 4 _ _ _ _ _ _ x))
  · frame_out
    exact (congrArg _ (eq_row x)).trans ((drive4_0 (tile m c t) _ _ _ _ _ _ _).trans (b_of (tile m c t) _ _ _ _ _ 0 4 _ _ _ _ _ _ x))
  · frame_out
    exact (congrArg _ (eq_row x)).trans ((drive3_1 (tile m c t) _ _ _ _ _ _ _).trans (b_of (tile m c t) _ _ _ _ _ 1 3 _ _ _ _ _ _ x))
  · frame_out
    exact (congrArg _ (eq_row x)).trans ((drive3_0 (tile m c t) _ _ _ _ _ _ _).trans (b_of (tile m c t) _ _ _ _ _ 0 3 _ _ _ _ _ _ x))
  · frame_out
    exact (congrArg _ (eq_row x)).trans ((drive2_1 (tile m c t) _ _ _ _ _ _ _).trans (b_of (tile m c t) _ _ _ _ _ 1 2 _ _ _ _ _ _ x))
  · frame_out
    exact (congrArg _ (eq_row x)).trans ((drive2_0 (tile m c t) _ _ _ _ _ _ _).trans (b_of (tile m c t) _ _ _ _ _ 0 2 _ _ _ _ _ _ x))
  · frame_out
    exact (congrArg _ (eq_row x)).trans ((drive1_1 (tile m c t) _ _ _ _ _ _ _).trans (b_of (tile m c t) _ _ _ _ _ 1 1 _ _ _ _ _ _ x))
  · frame_out
    exact (congrArg _ (eq_row x)).trans ((drive1_0 (tile m c t) _ _ _ _ _ _ _).trans (b_of (tile m c t) _ _ _ _ _ 0 1 _ _ _ _ _ _ x))
  · frame_out
    exact (congrArg _ (eq_row x)).trans ((drive0_1 _ _ _ _ _ _ _ _ _ _ _ _ _ _ _ _).trans (b_of (tile m c t) _ _ _ _ _ 1 0 _ _ _ _ _ _ x))
  · frame_out
    exact (congrArg _ (eq_row x)).trans ((drive0_0 _ _ _ _ _ _ _ _ _ _ _ _ _ _ _ _).trans (b_of (tile m c t) _ _ _ _ _ 0 0 _ _ _ _ _ _ x))

end Cert.LruCoefIdeal.Rows

end
-- ==== Proof.LruCoefValue.lean ====
/- The coefficients of the recurrence: the rows a step reads, and the two arrays at the end. -/
module

public import proofs.«01_k».proof.Proof.LruCoef

@[expose] public section

set_option maxRecDepth 16384

noncomputable section

namespace Cert.LruCoefIdeal.Rows

open Cert.LruCoefIdeal Cert.LruCoefIdeal.Gen Cert.Rows Cert.Gates Idealize.ShloMosaic Idealize.ShloMosaic.TcCoe

local notation "𝕀" => Idealize.ShloMosaic.Ideal

variable (m : (ℓ : Loc nD τ sig) → Buf (Elt 𝕀) ℓ)

theorem idx : ∀ t : Fin cfg0.N, win0_0.index t = ![t.val, 1] ∧ win0_3.index t = ![0, 0] ∧ win0_4.index t = ![0, 0]
    ∧ win0_5.index t = ![0, 0, 0, 0] ∧ win0_6.index t = ![0, 0, 0] ∧ win0_7.index t = ![0, 0, 0, 0] ∧ win0_8.index t = ![0, 0, 0]
    ∧ win0_9.index t = ![0, 0, 0] ∧ win0_10.index t = ![0, t.val, 0] ∧ win0_11.index t = ![0, t.val, 0] :=
  (by decide +kernel : ∀ t : Fin grid0.N, _)

theorem idx1 : ∀ t : Fin cfg0.N, t.val ≠ 0 → win0_1.index t = ![t.val * 32 - 1, 1] :=
  (by decide +kernel : ∀ t : Fin grid0.N, _)

theorem idx2 : ∀ t : Fin cfg0.N, t.val < 129 → win0_2.index t = ![(t.val + 1) * 32, 1] :=
  (by decide +kernel : ∀ t : Fin grid0.N, _)

theorem blk0 (c : Dev nD) (t : Fin cfg0.N) (a : Fin 256) (b : Fin 1024) (j : S33280x2048.Idx)
    (h0 : (j 0).val = t.val * 256 + a) (h1 : (j 1).val = 1024 + b) :
    iblk m c 0 t (ix2 a b) = m ((c : Thread nD τ).loc main_arg0) j := by
  blk_ext [iblk, V, idx t]

theorem blk1 (c : Dev nD) (t : Fin cfg0.N) (ht : t.val ≠ 0) (a : Fin 8) (b : Fin 1024) (j : S33280x2048.Idx)
    (h0 : (j 0).val = (t.val * 32 - 1) * 8 + a) (h1 : (j 1).val = 1024 + b) :
    iblk m c 1 t (ix2 a b) = m ((c : Thread nD τ).loc main_arg0) j := by
  blk_ext [iblk, V, idx1 t ht]

theorem blk2 (c : Dev nD) (t : Fin cfg0.N) (ht : t.val < 129) (a : Fin 8) (b : Fin 1024) (j : S33280x2048.Idx)
    (h0 : (j 0).val = (t.val + 1) * 256 + a) (h1 : (j 1).val = 1024 + b) :
    iblk m c 2 t (ix2 a b) = m ((c : Thread nD τ).loc main_arg0) j := by
  blk_ext [iblk, V, idx2 t ht]

theorem blk3 (c : Dev nD) (t : Fin cfg0.N) (a : Fin 4) (b : Fin 1024) :
    iblk m c 3 t (ix2 a b) = m ((c : Thread nD τ).loc main_arg1) (ix2 a b) := by
  blk_ext [iblk, V, idx t]

theorem blk4 (c : Dev nD) (t : Fin cfg0.N) (a : Fin 1) (b : Fin 1024) :
    iblk m c 4 t (ix2 a b) = m ((c : Thread nD τ).loc main_arg2) (ix2 a b) := by
  blk_ext [iblk, V, idx t]

theorem blk5 (c : Dev nD) (t : Fin cfg0.N) : iblk m c 5 t = m ((c : Thread nD τ).loc main_arg3) := by
  funext y
  refine (congrArg _ (eq_ix4 y)).trans (Eq.trans ?_ (congrArg (m ((c : Thread nD τ).loc main_arg3)) (eq_ix4 y)).symm)
  blk_ext [iblk, V, idx t]

theorem blk6 (c : Dev nD) (t : Fin cfg0.N) : iblk m c 6 t = m ((c : Thread nD τ).loc main_arg4) := by
  funext y
  refine (congrArg _ (eq_ix3 y)).trans (Eq.trans ?_ (congrArg (m ((c : Thread nD τ).loc main_arg4)) (eq_ix3 y)).symm)
  blk_ext [iblk, V, idx t]

theorem blk7 (c : Dev nD) (t : Fin cfg0.N) : iblk m c 7 t = m ((c : Thread nD τ).loc main_arg5) := by
  funext y
  refine (congrArg _ (eq_ix4 y)).trans (Eq.trans ?_ (congrArg (m ((c : Thread nD τ).loc main_arg5)) (eq_ix4 y)).symm)
  blk_ext [iblk, V, idx t]

theorem blk8 (c : Dev nD) (t : Fin cfg0.N) : iblk m c 8 t = m ((c : Thread nD τ).loc main_arg6) := by
  funext y
  refine (congrArg _ (eq_ix3 y)).trans (Eq.trans ?_ (congrArg (m ((c : Thread nD τ).loc main_arg6)) (eq_ix3 y)).symm)
  blk_ext [iblk, V, idx t]

theorem blk9 (c : Dev nD) (t : Fin cfg0.N) : iblk m c 9 t = m ((c : Thread nD τ).loc main_arg7) := by
  funext y
  refine (congrArg _ (eq_ix3 y)).trans (Eq.trans ?_ (congrArg (m ((c : Thread nD τ).loc main_arg7)) (eq_ix3 y)).symm)
  blk_ext [iblk, V, idx t]

/-- A step's place in its sequence: its first row, and what is left of it. -/
theorem place (t i k R : Nat) (ht : t < 130) (hi : i < 256) (hk : k < 4) (hR : R = t * 256 + i) :
    (start R + 2 ≤ R + k ∧ R + k < start R + len R + 2)
      ↔ ¬(i + k < 2 ∧ (t % 64 = 0 ∨ 128 ≤ t)) ∧ ¬(258 ≤ i + k ∧ (t % 64 = 63 ∨ 128 ≤ t)) := by
  unfold start len
  split <;> omega

/-- The buffer's row `6 + k + i` is the tap `k` of the step's row `i`. -/
theorem held_tap (c : Dev nD) (t : Fin cfg0.N) (i : Fin 256) (C : Fin 1024) (k : Nat) (hk : k < 4) (r : Fin 272) (hr : r.val = 6 + k + i.val)
    (R : Fin 33280) (hR : R.val = t.val * 256 + i) :
    held m c t r C = tap (m ((c : Thread nD τ).loc main_arg0)) R C k := by
  have ht : t.val < 130 := t.isLt
  have hi := i.isLt
  have hp := place t.val i.val k R.val ht hi hk hR
  unfold held tap
  by_cases h : r.val < 8
  · rw [dif_pos h, before_at]
    by_cases z : t.val % 64 = 0 ∨ 128 ≤ t.val
    · rw [if_pos z, if_neg (by rw [hp]; omega)]
    · rw [if_neg z, if_pos (by rw [hp]; omega)]
      refine blk1 m c t (by omega) _ _ _ ?_ rfl
      show min (R.val + k - 2) 33279 = (t.val * 32 - 1) * 8 + r.val
      omega
  · rw [dif_neg h]
    by_cases h' : r.val < 264
    · rw [dif_pos h', if_pos (by rw [hp]; omega)]
      refine blk0 m c t _ _ _ ?_ rfl
      show min (R.val + k - 2) 33279 = t.val * 256 + (r.val - 8)
      omega
    · rw [dif_neg h', after_at]
      by_cases z : t.val % 64 = 63 ∨ 128 ≤ t.val
      · rw [if_pos z, if_neg (by rw [hp]; omega)]
      · rw [if_neg z, if_pos (by rw [hp]; omega)]
        refine blk2 m c t (by omega) _ _ _ ?_ rfl
        show min (R.val + k - 2) 33279 = (t.val + 1) * 256 + (r.val - 264)
        omega

/-- A step's convolution is the array's. -/
theorem tile_conv (c : Dev nD) (t : Fin cfg0.N) (i : Fin 256) (R : Fin 33280) (hR : R.val = t.val * 256 + i) :
    (fun C => tile m c t (ix2 i C))
      = conv (m ((c : Thread nD τ).loc main_arg0)) (m ((c : Thread nD τ).loc main_arg1)) (m ((c : Thread nD τ).loc main_arg2)) R := by
  funext C
  refine (tile_at m c t i C).trans ?_
  unfold conv
  rw [held_tap m c t i C 0 (by omega) _ (by simp) R hR, held_tap m c t i C 1 (by omega) _ (by simp) R hR,
    held_tap m c t i C 2 (by omega) _ (by simp) R hR, held_tap m c t i C 3 (by omega) _ (by simp) R hR]
  simp only [cell]
  rw [blk4, blk3, blk3, blk3, blk3]

theorem pointA (c : Dev nD) (t : Fin cfg0.N) (d : Fin 2) (i : Fin 256) (b : Fin 1024) (D : Fin 2) (R : Fin 33280) (C : Fin 1024)
    (hD : D.val = d) (hR : R.val = t.val * 256 + i) (hC : C.val = b) :
    (outsAt0 m c t).1 (ix3 d i b)
      = atA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7)) D R C := by
  obtain rfl : C = b := Fin.ext hC
  obtain rfl : D = d := Fin.ext hD
  rw [outA, blk5, blk6, blk9]
  exact congrArg (fun X => rowA X _ _ _ D C) (tile_conv m c t i R hR)

theorem pointB (c : Dev nD) (t : Fin cfg0.N) (d : Fin 2) (i : Fin 256) (b : Fin 1024) (D : Fin 2) (R : Fin 33280) (C : Fin 1024)
    (hD : D.val = d) (hR : R.val = t.val * 256 + i) (hC : C.val = b) :
    (outsAt0 m c t).2 (ix3 d i b)
      = atB (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) D R C := by
  obtain rfl : C = b := Fin.ext hC
  obtain rfl : D = d := Fin.ext hD
  rw [outB, blk5, blk6, blk7, blk8, blk9]
  exact congrArg (fun X => rowB X _ _ _ _ _ D C) (tile_conv m c t i R hR)

/-- The array of decays. -/
theorem finalA (c : Dev nD) : (dats m 0 c).arrAt 10 cfg0.N = fun y : S2x33280x1024.Idx =>
    atA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg7)) (y 0) (y 1) (y 2) := by
  refine (dats m 0 c).arrAt_eq_of_covers 10 _ (by decide +kernel) fun t _ y => ?_
  blk_simp
  rw [after0_10]
  exact (congrArg _ (eq_ix3 y)).trans (pointA m c t _ _ _ _ _ _ (by blk_simp [idx t]) (by blk_simp [idx t]) (by blk_simp [idx t]))

/-- The array of inputs. -/
theorem finalB (c : Dev nD) : (dats m 0 c).arrAt 11 cfg0.N = fun y : S2x33280x1024.Idx =>
    atB (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (y 0) (y 1) (y 2) := by
  refine (dats m 0 c).arrAt_eq_of_covers 11 _ (by decide +kernel) fun t _ y => ?_
  blk_simp
  rw [after0_11]
  exact (congrArg _ (eq_ix3 y)).trans (pointB m c t _ _ _ _ _ _ (by blk_simp [idx t]) (by blk_simp [idx t]) (by blk_simp [idx t]))

end Cert.LruCoefIdeal.Rows

end
-- ==== Proof.LruCoefReference.lean ====
/- The coefficients of the recurrence, as the reference computes them. -/
module

public import proofs.«01_k».proof.Proof.LruCoefSpec
public import proofs.«01_k».proof.Proof.Gen.LruCoefReferenceIdeal.Run

@[expose] public section

set_option maxRecDepth 16384

noncomputable section

namespace Cert.LruCoefReferenceIdeal.Rows

open Cert.LruCoefReferenceIdeal Cert.LruCoefReferenceIdeal.Gen Cert.Rows Cert.Gates Idealize.ShloMosaic Idealize.ShloMosaic.TcCoe
open Cert.LruCoefIdeal.Rows (start len tap conv blk lane bcol gateIn rowA rowB atA atB decay drive)

local notation "𝕀" => Idealize.ShloMosaic.Ideal

/-- The latent rows of each batch between zeros. -/
def padL (gx : FVec 𝕀 S33280x2048 .f32) : FVec 𝕀 S2x16387x1024 .f32 :=
  (pad S2x16387x1024 ![0, 2, 0] ![0, 1, 0] ![0, 0, 0] (shapeCast _ (extractStridedSlice S32768x1024 ![0, 0] (extractStridedSlice S33280x1024 ![0, 1024] gx slices_S33280x2048_S33280x1024_0_1024) slices_S33280x1024_S32768x1024_0_0) shapeCasts_S32768x1024_S2x16384x1024) (sitofp .f32 (constantI S_ 32 0#32)) pads_S2x16384x1024_S2x16387x1024_000_210_000 h_S_)

/-- The context rows of each batch between zeros. -/
def padC (gx : FVec 𝕀 S33280x2048 .f32) : FVec 𝕀 S2x259x1024 .f32 :=
  (pad S2x259x1024 ![0, 2, 0] ![0, 1, 0] ![0, 0, 0] (shapeCast _ (extractStridedSlice S512x1024 ![32768, 0] (extractStridedSlice S33280x1024 ![0, 1024] gx slices_S33280x2048_S33280x1024_0_1024) slices_S33280x1024_S512x1024_32768_0) shapeCasts_S512x1024_S2x256x1024) (sitofp .f32 (constantI S_ 32 0#32)) pads_S2x256x1024_S2x259x1024_000_210_000 h_S_)

/-- The convolution of the latent rows. -/
def lat (gx : FVec 𝕀 S33280x2048 .f32) (cw : FVec 𝕀 S4x1024 .f32) (cb : FVec 𝕀 S1x1024 .f32) : FVec 𝕀 S32768x1024 .f32 :=
  (shapeCast _ (addf (addf (addf (addf (addf (broadcastInDim S2x16384x1024 ![] bcast_S_S2x16384x1024 (constant S_ .f32 0x00000000#32)) (mulf (broadcastInDim S2x16384x1024 ![0, 1, 2] bcast_S1x1x1024_S2x16384x1024_0_1_2 (broadcastInDim S1x1x1024 ![2] bcast_S1024_S1x1x1024_2 (shapeCast _ (extractStridedSlice S1x1024 ![0, 0] cw slices_S4x1024_S1x1024_0_0) shapeCasts_S1x1024_S1024))) (extractStridedSlice S2x16384x1024 ![0, 0, 0] (padL gx) slices_S2x16387x1024_S2x16384x1024_0_0_0))) (mulf (broadcastInDim S2x16384x1024 ![0, 1, 2] bcast_S1x1x1024_S2x16384x1024_0_1_2 (broadcastInDim S1x1x1024 ![2] bcast_S1024_S1x1x1024_2 (shapeCast _ (extractStridedSlice S1x1024 ![1, 0] cw slices_S4x1024_S1x1024_1_0) shapeCasts_S1x1024_S1024))) (extractStridedSlice S2x16384x1024 ![0, 1, 0] (padL gx) slices_S2x16387x1024_S2x16384x1024_0_1_0))) (mulf (broadcastInDim S2x16384x1024 ![0, 1, 2] bcast_S1x1x1024_S2x16384x1024_0_1_2 (broadcastInDim S1x1x1024 ![2] bcast_S1024_S1x1x1024_2 (shapeCast _ (extractStridedSlice S1x1024 ![2, 0] cw slices_S4x1024_S1x1024_2_0) shapeCasts_S1x1024_S1024))) (extractStridedSlice S2x16384x1024 ![0, 2, 0] (padL gx) slices_S2x16387x1024_S2x16384x1024_0_2_0))) (mulf (broadcastInDim S2x16384x1024 ![0, 1, 2] bcast_S1x1x1024_S2x16384x1024_0_1_2 (broadcastInDim S1x1x1024 ![2] bcast_S1024_S1x1x1024_2 (shapeCast _ (extractStridedSlice S1x1024 ![3, 0] cw slices_S4x1024_S1x1024_3_0) shapeCasts_S1x1024_S1024))) (extractStridedSlice S2x16384x1024 ![0, 3, 0] (padL gx) slices_S2x16387x1024_S2x16384x1024_0_3_0))) (broadcastInDim S2x16384x1024 ![0, 1, 2] bcast_S1x1x1024_S2x16384x1024_0_1_2 (broadcastInDim S1x1x1024 ![1, 2] bcast_S1x1024_S1x1x1024_1_2 cb))) shapeCasts_S2x16384x1024_S32768x1024)

/-- The convolution of the context rows. -/
def ctx (gx : FVec 𝕀 S33280x2048 .f32) (cw : FVec 𝕀 S4x1024 .f32) (cb : FVec 𝕀 S1x1024 .f32) : FVec 𝕀 S512x1024 .f32 :=
  (shapeCast _ (addf (addf (addf (addf (addf (broadcastInDim S2x256x1024 ![] bcast_S_S2x256x1024 (constant S_ .f32 0x00000000#32)) (mulf (broadcastInDim S2x256x1024 ![0, 1, 2] bcast_S1x1x1024_S2x256x1024_0_1_2 (broadcastInDim S1x1x1024 ![2] bcast_S1024_S1x1x1024_2 (shapeCast _ (extractStridedSlice S1x1024 ![0, 0] cw slices_S4x1024_S1x1024_0_0) shapeCasts_S1x1024_S1024))) (extractStridedSlice S2x256x1024 ![0, 0, 0] (padC gx) slices_S2x259x1024_S2x256x1024_0_0_0))) (mulf (broadcastInDim S2x256x1024 ![0, 1, 2] bcast_S1x1x1024_S2x256x1024_0_1_2 (broadcastInDim S1x1x1024 ![2] bcast_S1024_S1x1x1024_2 (shapeCast _ (extractStridedSlice S1x1024 ![1, 0] cw slices_S4x1024_S1x1024_1_0) shapeCasts_S1x1024_S1024))) (extractStridedSlice S2x256x1024 ![0, 1, 0] (padC gx) slices_S2x259x1024_S2x256x1024_0_1_0))) (mulf (broadcastInDim S2x256x1024 ![0, 1, 2] bcast_S1x1x1024_S2x256x1024_0_1_2 (broadcastInDim S1x1x1024 ![2] bcast_S1024_S1x1x1024_2 (shapeCast _ (extractStridedSlice S1x1024 ![2, 0] cw slices_S4x1024_S1x1024_2_0) shapeCasts_S1x1024_S1024))) (extractStridedSlice S2x256x1024 ![0, 2, 0] (padC gx) slices_S2x259x1024_S2x256x1024_0_2_0))) (mulf (broadcastInDim S2x256x1024 ![0, 1, 2] bcast_S1x1x1024_S2x256x1024_0_1_2 (broadcastInDim S1x1x1024 ![2] bcast_S1024_S1x1x1024_2 (shapeCast _ (extractStridedSlice S1x1024 ![3, 0] cw slices_S4x1024_S1x1024_3_0) shapeCasts_S1x1024_S1024))) (extractStridedSlice S2x256x1024 ![0, 3, 0] (padC gx) slices_S2x259x1024_S2x256x1024_0_3_0))) (broadcastInDim S2x256x1024 ![0, 1, 2] bcast_S1x1x1024_S2x256x1024_0_1_2 (broadcastInDim S1x1x1024 ![1, 2] bcast_S1x1024_S1x1x1024_1_2 cb))) shapeCasts_S2x256x1024_S512x1024)

/-- The convolution of all rows. -/
def cv (gx : FVec 𝕀 S33280x2048 .f32) (cw : FVec 𝕀 S4x1024 .f32) (cb : FVec 𝕀 S1x1024 .f32) : FVec 𝕀 S33280x1024 .f32 :=
  (concatenate S33280x1024 0 [⟨S32768x1024, lat gx cw cb⟩, ⟨S512x1024, ctx gx cw cb⟩] concatenates_S32768x1024_S512x1024_S33280x1024_d0)

/-- A gate of the convolved rows. -/
def gate (X : FVec 𝕀 S33280x1024 .f32) (wr : FVec 𝕀 S2x8x128x128 .bf16) (br : FVec 𝕀 S2x1x1024 .f32) : FVec 𝕀 S2x33280x1024 .f32 :=
  (Host.divf (broadcastInDim S2x33280x1024 ![] bcast_S_S2x33280x1024 (constant S_ .f32 0x3F800000#32)) (addf (broadcastInDim S2x33280x1024 ![] bcast_S_S2x33280x1024 (constant S_ .f32 0x3F800000#32)) (Host.exp (Host.negf (addf (shapeCast _ (transpose S2x33280x8x128 [1, 3, 0, 2] (Host.dotGeneral dot_S2x8x128x128_S33280x8x128_S8x2x128x33280_2_2_03_0_1_1 none (extf .f32 wr bitsLt_bf16_f32) (shapeCast _ X shapeCasts_S33280x1024_S33280x8x128)) transposes_S8x2x128x33280_S2x33280x8x128_1_3_0_2) shapeCasts_S2x33280x8x128_S2x33280x1024) (broadcastInDim S2x33280x1024 ![0, 1, 2] bcast_S2x1x1024_S2x33280x1024_0_1_2 br))))))

/-- The decays. -/
def resA (gx : FVec 𝕀 S33280x2048 .f32) (cw : FVec 𝕀 S4x1024 .f32) (cb : FVec 𝕀 S1x1024 .f32) (wr : FVec 𝕀 S2x8x128x128 .bf16)
    (br cn : FVec 𝕀 S2x1x1024 .f32) : FVec 𝕀 S2x33280x1024 .f32 :=
  Host.exp (mulf (broadcastInDim S2x33280x1024 ![0, 1, 2] bcast_S2x1x1024_S2x33280x1024_0_1_2 cn) (gate (cv gx cw cb) wr br))

/-- The inputs. -/
def resB (gx : FVec 𝕀 S33280x2048 .f32) (cw : FVec 𝕀 S4x1024 .f32) (cb : FVec 𝕀 S1x1024 .f32) (wr : FVec 𝕀 S2x8x128x128 .bf16)
    (br : FVec 𝕀 S2x1x1024 .f32) (wi : FVec 𝕀 S2x8x128x128 .bf16) (bi cn : FVec 𝕀 S2x1x1024 .f32) : FVec 𝕀 S2x33280x1024 .f32 :=
  mulf (Host.sqrt (Host.negf (Host.expm1 (mulf (broadcastInDim S2x33280x1024 ![] bcast_S_S2x33280x1024 (constant S_ .f32 0x40000000#32)) (mulf (broadcastInDim S2x33280x1024 ![0, 1, 2] bcast_S2x1x1024_S2x33280x1024_0_1_2 cn) (gate (cv gx cw cb) wr br)))))) (mulf (gate (cv gx cw cb) wi bi) (broadcastInDim S2x33280x1024 ![0, 1, 2] bcast_S1x33280x1024_S2x33280x1024_0_1_2 (broadcastInDim S1x33280x1024 ![1, 2] bcast_S33280x1024_S1x33280x1024_1_2 (cv gx cw cb))))

theorem fill : (FloatOps.sitofp (F := 𝕀) .f32 (0#32 : BitVec 32)) = (0 : EReal) := by
  show (((0#32 : BitVec 32).toInt : ℝ) : EReal) = 0
  simp

theorem padL_at (gx : FVec 𝕀 S33280x2048 .f32) (R : Fin 33280) (hR : R.val < 32768) (k : Nat) (hk : k < 4) (n : Fin 2) (s : Fin 16387)
    (hn : n.val = R.val / 16384) (hs : s.val = k + R.val % 16384) (C : Fin 1024) :
    padL gx (ix3 n s C) = tap gx R C k := by
  have e : padL gx (ix3 n s C) = if h : 2 ≤ s.val ∧ s.val - 2 < 16384
      then gx (ix2 ⟨n.val * 16384 + (s.val - 2), by omega⟩ ⟨1024 + C.val, by omega⟩) else FloatOps.sitofp (F := 𝕀) .f32 (0#32 : BitVec 32) := by
    pointwise [padL]
  rw [e, tap, start, len, if_pos hR, if_pos hR]
  by_cases h : 2 ≤ s.val ∧ s.val - 2 < 16384
  · rw [dif_pos h, if_pos (by omega)]
    refine congrArg (fun r : Fin 33280 => gx (ix2 r ⟨1024 + C.val, by omega⟩)) (Fin.ext ?_)
    show n.val * 16384 + (s.val - 2) = min (R.val + k - 2) 33279
    omega
  · rw [dif_neg h, if_neg (by omega)]
    exact fill

theorem padC_at (gx : FVec 𝕀 S33280x2048 .f32) (R : Fin 33280) (hR : ¬R.val < 32768) (k : Nat) (hk : k < 4) (n : Fin 2) (s : Fin 259)
    (hn : n.val = (R.val - 32768) / 256) (hs : s.val = k + (R.val - 32768) % 256) (C : Fin 1024) :
    padC gx (ix3 n s C) = tap gx R C k := by
  have e : padC gx (ix3 n s C) = if h : 2 ≤ s.val ∧ s.val - 2 < 256
      then gx (ix2 ⟨32768 + (n.val * 256 + (s.val - 2)), by omega⟩ ⟨1024 + C.val, by omega⟩) else FloatOps.sitofp (F := 𝕀) .f32 (0#32 : BitVec 32) := by
    pointwise [padC]
  rw [e, tap, start, len, if_neg hR, if_neg hR]
  by_cases h : 2 ≤ s.val ∧ s.val - 2 < 256
  · rw [dif_pos h, if_pos (by omega)]
    refine congrArg (fun r : Fin 33280 => gx (ix2 r ⟨1024 + C.val, by omega⟩)) (Fin.ext ?_)
    show 32768 + (n.val * 256 + (s.val - 2)) = min (R.val + k - 2) 33279
    omega
  · rw [dif_neg h, if_neg (by omega)]
    exact fill

theorem ctx_at (gx : FVec 𝕀 S33280x2048 .f32) (cw : FVec 𝕀 S4x1024 .f32) (cb : FVec 𝕀 S1x1024 .f32) (R : Fin 512) (C : Fin 1024) :
    ctx gx cw cb (ix2 R C)
      = cw (ix2 0 C) * padC gx (ix3 ⟨R.val / 256, by omega⟩ ⟨R.val % 256, by omega⟩ C)
        + cw (ix2 1 C) * padC gx (ix3 ⟨R.val / 256, by omega⟩ ⟨1 + R.val % 256, by omega⟩ C)
        + cw (ix2 2 C) * padC gx (ix3 ⟨R.val / 256, by omega⟩ ⟨2 + R.val % 256, by omega⟩ C)
        + cw (ix2 3 C) * padC gx (ix3 ⟨R.val / 256, by omega⟩ ⟨3 + R.val % 256, by omega⟩ C) + cb (ix2 0 C) := by
  pointwise [ctx]

theorem cv_at (gx : FVec 𝕀 S33280x2048 .f32) (cw : FVec 𝕀 S4x1024 .f32) (cb : FVec 𝕀 S1x1024 .f32) (R : Fin 33280) (C : Fin 1024) :
    cv gx cw cb (ix2 R C) = conv gx cw cb R C := by
  have e : cv gx cw cb (ix2 R C) = if h : R.val < 32768 then lat gx cw cb (ix2 ⟨R.val, h⟩ C) else ctx gx cw cb (ix2 ⟨R.val - 32768, by omega⟩ C) := by
    pointwise [cv]
  rw [e, conv]
  by_cases h : R.val < 32768
  · rw [dif_pos h, ← padL_at gx R h 0 (by omega) ⟨R.val / 16384, by omega⟩ ⟨R.val % 16384, by omega⟩ rfl (by simp) C,
      ← padL_at gx R h 1 (by omega) ⟨R.val / 16384, by omega⟩ ⟨1 + R.val % 16384, by omega⟩ rfl rfl C,
      ← padL_at gx R h 2 (by omega) ⟨R.val / 16384, by omega⟩ ⟨2 + R.val % 16384, by omega⟩ rfl rfl C,
      ← padL_at gx R h 3 (by omega) ⟨R.val / 16384, by omega⟩ ⟨3 + R.val % 16384, by omega⟩ rfl rfl C]
    rw [add_comm]
    pointwise [lat]
  · rw [dif_neg h, ← padC_at gx R h 0 (by omega) ⟨(R.val - 32768) / 256, by omega⟩ ⟨(R.val - 32768) % 256, by omega⟩ rfl (by simp) C,
      ← padC_at gx R h 1 (by omega) ⟨(R.val - 32768) / 256, by omega⟩ ⟨1 + (R.val - 32768) % 256, by omega⟩ rfl rfl C,
      ← padC_at gx R h 2 (by omega) ⟨(R.val - 32768) / 256, by omega⟩ ⟨2 + (R.val - 32768) % 256, by omega⟩ rfl rfl C,
      ← padC_at gx R h 3 (by omega) ⟨(R.val - 32768) / 256, by omega⟩ ⟨3 + (R.val - 32768) % 256, by omega⟩ rfl rfl C]
    rw [add_comm]
    exact ctx_at gx cw cb ⟨R.val - 32768, by omega⟩ C

theorem gate_at (X : FVec 𝕀 S33280x1024 .f32) (w : FVec 𝕀 S2x8x128x128 .bf16) (b : FVec 𝕀 S2x1x1024 .f32) (d : Fin 2) (R : Fin 33280) (C : Fin 1024) :
    gate X w b (ix3 d R C) = sigm (gateIn (fun C => X (ix2 R C)) w b d C) := by
  have e : gateIn (fun C => X (ix2 R C)) w b d C
      = ∑ e : Fin 128, w (ix4 d (blk C) e (lane C)) * X (ix2 R (bcol (blk C) e)) + b (ix3 d 0 C) :=
    congrArg (fun a : EReal => a + b (ix3 d 0 C)) (Finset.sum_congr rfl fun _ _ => mul_comm _ _)
  rw [e]
  pointwise [gate, sigm]
  rfl

theorem row_at (gx : FVec 𝕀 S33280x2048 .f32) (cw : FVec 𝕀 S4x1024 .f32) (cb : FVec 𝕀 S1x1024 .f32) (R : Fin 33280) :
    (fun C => cv gx cw cb (ix2 R C)) = conv gx cw cb R := funext fun C => cv_at gx cw cb R C

theorem resA_at (gx : FVec 𝕀 S33280x2048 .f32) (cw : FVec 𝕀 S4x1024 .f32) (cb : FVec 𝕀 S1x1024 .f32) (wr : FVec 𝕀 S2x8x128x128 .bf16)
    (br cn : FVec 𝕀 S2x1x1024 .f32) (d : Fin 2) (R : Fin 33280) (C : Fin 1024) :
    resA gx cw cb wr br cn (ix3 d R C) = atA gx cw cb wr br cn d R C := by
  have e : resA gx cw cb wr br cn (ix3 d R C) = Ideal.exp (cn (ix3 d 0 C) * gate (cv gx cw cb) wr br (ix3 d R C)) := by
    pointwise [resA]
  rw [e, gate_at, row_at]
  rfl

/-- `1 - a²` by the exponential of twice the logarithm. -/
theorem one_sub_sq (l : EReal) : Ideal.ofBits .f32 0x3F800000#32 - Ideal.exp l * Ideal.exp l
    = -(Ideal.exp (Ideal.ofBits .f32 0x40000000#32 * l) - 1) := by
  have two : Ideal.ofBits .f32 0x40000000#32 = ((2 : ℝ) : EReal) := by
    show Ideal.ieee 8 23 0x40000000#32 = _
    rw [Ideal.ieee]
    simp
    norm_cast
    norm_num [zpow_neg]
  rw [two, one_eq]
  induction l with
  | bot =>
    rw [EReal.coe_mul_bot_of_pos (by norm_num), Ideal.exp_bot]
    simp
  | top =>
    rw [EReal.coe_mul_top_of_pos (by norm_num), Ideal.exp_top]
    have h : (⊤ : EReal) - 1 = ⊤ := rfl
    rw [h, EReal.top_mul_top, EReal.neg_top]
    rfl
  | coe r =>
    rw [← EReal.coe_mul, Ideal.exp_coe, Ideal.exp_coe, ← EReal.coe_mul, ← EReal.coe_one, ← EReal.coe_sub, ← EReal.coe_sub, ← EReal.coe_neg,
      ← Real.exp_add, two_mul]
    congr 1
    ring

theorem resB_at (gx : FVec 𝕀 S33280x2048 .f32) (cw : FVec 𝕀 S4x1024 .f32) (cb : FVec 𝕀 S1x1024 .f32) (wr : FVec 𝕀 S2x8x128x128 .bf16)
    (br : FVec 𝕀 S2x1x1024 .f32) (wi : FVec 𝕀 S2x8x128x128 .bf16) (bi cn : FVec 𝕀 S2x1x1024 .f32) (d : Fin 2) (R : Fin 33280) (C : Fin 1024) :
    resB gx cw cb wr br wi bi cn (ix3 d R C) = atB gx cw cb wr br wi bi cn d R C := by
  have e : resB gx cw cb wr br wi bi cn (ix3 d R C)
      = Ideal.sqrt (-(Ideal.exp (Ideal.ofBits .f32 0x40000000#32 * (cn (ix3 d 0 C) * gate (cv gx cw cb) wr br (ix3 d R C))) - 1))
        * (gate (cv gx cw cb) wi bi (ix3 d R C) * cv gx cw cb (ix2 R C)) := by
    pointwise [resB]
  rw [e, gate_at, gate_at, row_at, cv_at, ← one_sub_sq]
  rfl

end Cert.LruCoefReferenceIdeal.Rows

end
-- ==== Proof.LruCoefClaims.lean ====
/- The claims of the coefficients of the recurrence. -/
module

public import proofs.«01_k».proof.Defs
public import proofs.«01_k».proof.Proof.LruCoefValue
public import proofs.«01_k».proof.Proof.LruCoefReference
public import proofs.«01_k».proof.Proof.Gen.LruCoef.Frame
public import Idealize.ShloMosaic.Lib.Quiescent
public import Idealize.ShloMosaic.Adequacy
public import Idealize.ShloMosaic.Init

@[expose] public section

set_option maxRecDepth 16384

noncomputable section

namespace Cert.LruCoefIdeal.Rows

open Idealize.ShloMosaic Idealize.SL.Sem

/-- The reference leaves its arguments unchanged and its counters at zero (it declares none). -/
theorem frame_reference : Cert.quiescent_LruCoefReferenceIdeal := fun m g _ =>
  (θ_run Cert.LruCoefReferenceIdeal.defs _ _).mono
    (fun r h => ⟨fun c => (h c).2.2, sem_eq_zero_of_no_sems rfl _⟩) (Cert.LruCoefReferenceIdeal.Value.run m g)

/-- The call and its reference end with the same decays and inputs. -/
theorem algebraic : Cert.algebraic_LruCoefIdeal_LruCoefReferenceIdeal := fun m g m' g' _ agree => by
  refine ⟨fun c => fun y : Cert.LruCoefIdeal.S2x33280x1024.Idx => atA (m ((c.tc : Thread Cert.LruCoefIdeal.nD Cert.LruCoefIdeal.τ).loc Cert.LruCoefIdeal.main_arg0)) (m ((c.tc : Thread Cert.LruCoefIdeal.nD Cert.LruCoefIdeal.τ).loc Cert.LruCoefIdeal.main_arg1)) (m ((c.tc : Thread Cert.LruCoefIdeal.nD Cert.LruCoefIdeal.τ).loc Cert.LruCoefIdeal.main_arg2)) (m ((c.tc : Thread Cert.LruCoefIdeal.nD Cert.LruCoefIdeal.τ).loc Cert.LruCoefIdeal.main_arg3)) (m ((c.tc : Thread Cert.LruCoefIdeal.nD Cert.LruCoefIdeal.τ).loc Cert.LruCoefIdeal.main_arg4)) (m ((c.tc : Thread Cert.LruCoefIdeal.nD Cert.LruCoefIdeal.τ).loc Cert.LruCoefIdeal.main_arg7)) (y 0) (y 1) (y 2),
    fun c => fun y : Cert.LruCoefIdeal.S2x33280x1024.Idx => atB (m ((c.tc : Thread Cert.LruCoefIdeal.nD Cert.LruCoefIdeal.τ).loc Cert.LruCoefIdeal.main_arg0)) (m ((c.tc : Thread Cert.LruCoefIdeal.nD Cert.LruCoefIdeal.τ).loc Cert.LruCoefIdeal.main_arg1)) (m ((c.tc : Thread Cert.LruCoefIdeal.nD Cert.LruCoefIdeal.τ).loc Cert.LruCoefIdeal.main_arg2)) (m ((c.tc : Thread Cert.LruCoefIdeal.nD Cert.LruCoefIdeal.τ).loc Cert.LruCoefIdeal.main_arg3)) (m ((c.tc : Thread Cert.LruCoefIdeal.nD Cert.LruCoefIdeal.τ).loc Cert.LruCoefIdeal.main_arg4)) (m ((c.tc : Thread Cert.LruCoefIdeal.nD Cert.LruCoefIdeal.τ).loc Cert.LruCoefIdeal.main_arg5)) (m ((c.tc : Thread Cert.LruCoefIdeal.nD Cert.LruCoefIdeal.τ).loc Cert.LruCoefIdeal.main_arg6)) (m ((c.tc : Thread Cert.LruCoefIdeal.nD Cert.LruCoefIdeal.τ).loc Cert.LruCoefIdeal.main_arg7)) (y 0) (y 1) (y 2),
    (θ_run Cert.LruCoefIdeal.defs _ _).mono (fun r h c => ⟨(h c).1.trans (finalA m c), (h c).2.1.trans (finalB m c), (h c).2.2⟩) (Cert.LruCoefIdeal.Value.run_blocks m g),
    (θ_run Cert.LruCoefReferenceIdeal.defs _ _).mono (fun r h c => ⟨(h c).1.trans ?_, (h c).2.1.trans ?_, (h c).2.2⟩)
      (Cert.LruCoefReferenceIdeal.Value.run m' g')⟩
  · change Cert.LruCoefReferenceIdeal.Rows.resA (m' ((c.tc : Thread Cert.LruCoefReferenceIdeal.nD Cert.LruCoefReferenceIdeal.τ).loc Cert.LruCoefReferenceIdeal.main_arg0)) (m' ((c.tc : Thread Cert.LruCoefReferenceIdeal.nD Cert.LruCoefReferenceIdeal.τ).loc Cert.LruCoefReferenceIdeal.main_arg1)) (m' ((c.tc : Thread Cert.LruCoefReferenceIdeal.nD Cert.LruCoefReferenceIdeal.τ).loc Cert.LruCoefReferenceIdeal.main_arg2)) (m' ((c.tc : Thread Cert.LruCoefReferenceIdeal.nD Cert.LruCoefReferenceIdeal.τ).loc Cert.LruCoefReferenceIdeal.main_arg3)) (m' ((c.tc : Thread Cert.LruCoefReferenceIdeal.nD Cert.LruCoefReferenceIdeal.τ).loc Cert.LruCoefReferenceIdeal.main_arg4)) (m' ((c.tc : Thread Cert.LruCoefReferenceIdeal.nD Cert.LruCoefReferenceIdeal.τ).loc Cert.LruCoefReferenceIdeal.main_arg7)) = _
    rw [(agree c).1, (agree c).2.1, (agree c).2.2.1, (agree c).2.2.2.1, (agree c).2.2.2.2.1, (agree c).2.2.2.2.2.2.2]
    refine funext fun y => (congrArg _ (eq_ix3 y)).trans ?_
    exact Cert.LruCoefReferenceIdeal.Rows.resA_at _ _ _ _ _ _ (y 0) (y 1) (y 2)
  · change Cert.LruCoefReferenceIdeal.Rows.resB (m' ((c.tc : Thread Cert.LruCoefReferenceIdeal.nD Cert.LruCoefReferenceIdeal.τ).loc Cert.LruCoefReferenceIdeal.main_arg0)) (m' ((c.tc : Thread Cert.LruCoefReferenceIdeal.nD Cert.LruCoefReferenceIdeal.τ).loc Cert.LruCoefReferenceIdeal.main_arg1)) (m' ((c.tc : Thread Cert.LruCoefReferenceIdeal.nD Cert.LruCoefReferenceIdeal.τ).loc Cert.LruCoefReferenceIdeal.main_arg2)) (m' ((c.tc : Thread Cert.LruCoefReferenceIdeal.nD Cert.LruCoefReferenceIdeal.τ).loc Cert.LruCoefReferenceIdeal.main_arg3)) (m' ((c.tc : Thread Cert.LruCoefReferenceIdeal.nD Cert.LruCoefReferenceIdeal.τ).loc Cert.LruCoefReferenceIdeal.main_arg4)) (m' ((c.tc : Thread Cert.LruCoefReferenceIdeal.nD Cert.LruCoefReferenceIdeal.τ).loc Cert.LruCoefReferenceIdeal.main_arg5)) (m' ((c.tc : Thread Cert.LruCoefReferenceIdeal.nD Cert.LruCoefReferenceIdeal.τ).loc Cert.LruCoefReferenceIdeal.main_arg6)) (m' ((c.tc : Thread Cert.LruCoefReferenceIdeal.nD Cert.LruCoefReferenceIdeal.τ).loc Cert.LruCoefReferenceIdeal.main_arg7)) = _
    rw [(agree c).1, (agree c).2.1, (agree c).2.2.1, (agree c).2.2.2.1, (agree c).2.2.2.2.1, (agree c).2.2.2.2.2.1, (agree c).2.2.2.2.2.2.1, (agree c).2.2.2.2.2.2.2]
    refine funext fun y => (congrArg _ (eq_ix3 y)).trans ?_
    exact Cert.LruCoefReferenceIdeal.Rows.resB_at _ _ _ _ _ _ _ _ (y 0) (y 1) (y 2)

end Cert.LruCoefIdeal.Rows

end
-- ==== Proof.Finite.lean ====
/- What the precondition `finite` says of the arrays it is given: every query and every key is a real number. -/
module

public import proofs.«01_k».proof.Pre_finite
public import Idealize.ShloMosaic.PureOps.Ideal
public import Idealize.ShloMosaic.Lib.ReduceAll
public import Idealize.ShloMosaic.Lib.Decide
public import Idealize.ShloMosaic.Lib.Affine

@[expose] public section

noncomputable section

namespace Cert.Pre_finite

open Idealize.ShloMosaic

local notation "𝕀" => Idealize.ShloMosaic.Ideal

/-- The side conditions the predicate's operations state. -/
instance facts : Facts where
  bitsLt_bf16_f32 := by decide
  bcast_S_S33280x1024 := by decide
  reducesTo_S33280x1024_S_d0_1 := by decide
  h_S_ := by decide
  bcast_S_S33280x256 := by decide
  reducesTo_S33280x256_S_d0_1 := by decide

/-- An array without axes has one element. -/
instance oneIdx : Subsingleton S_.Idx := ⟨fun a b => funext fun i => i.elim0⟩

/-- An extended real whose absolute value is below infinity is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- Two truth values joined by `and` are both true. -/
theorem both (a b : BitVec 1) (h : IntOp.andi a b = 1#1) : a = 1#1 ∧ b = 1#1 := by
  revert a b; decide

/-- Where the predicate holds, every query and every key is a real number. -/
theorem real_of_fn (q : FVec 𝕀 S33280x1024 .bf16) (k v : FVec 𝕀 S33280x256 .bf16)
    (h : fn (F := 𝕀) q k v = fun _ => 1#1) :
    (∀ i, ∃ r : ℝ, q i = (r : EReal)) ∧ (∀ i, ∃ r : ℝ, k i = (r : EReal)) := by
  have e := both _ _ (congrFun h (Shape.Idx.first Facts.h_S_))
  exact ⟨fun i => real_of_abs_lt _ (Host.reduce_andi_all _ _ _ _ _ e.1 i),
    fun i => real_of_abs_lt _ (Host.reduce_andi_all _ _ _ _ _ e.2 i)⟩

end Cert.Pre_finite

end
-- ==== Proof.Softmax.lean ====
/- The arithmetic of one query row, on the extended reals.

   All scores are real; the values may be any extended real. The sums `W` (of `2 ^ s`) and `V` (of `2 ^ s * v`) over the keys
   seen so far describe the running state: at a running maximum `μ` the denominator is `2 ^ (-μ) * W` and the numerator
   `2 ^ (-μ) * V`. That `μ` is the maximum plays no part, only that it is real. -/
module

public import Idealize.ShloMosaic.Lib.Pointwise

@[expose] public section

noncomputable section

namespace Cert.Softmax

open Idealize.ShloMosaic

/-- A power of two, as a real. -/
def pow2 (r : ℝ) : ℝ := Real.rpow 2 r

theorem pow2_pos (r : ℝ) : 0 < pow2 r := Real.rpow_pos_of_pos (by norm_num) r

theorem pow2_add (a b : ℝ) : pow2 (a + b) = pow2 a * pow2 b := Real.rpow_add (by norm_num) a b

theorem pow2_sub (a b : ℝ) : pow2 (a - b) = pow2 (-b) * pow2 a := by rw [← pow2_add]; congr 1; ring

theorem exp2_sub (a b : ℝ) : Ideal.exp2 ((a : EReal) - (b : EReal)) = ((pow2 (-b) * pow2 a : ℝ) : EReal) := by
  rw [← EReal.coe_sub, ← pow2_sub]; rfl

theorem exp2_bot (b : ℝ) : Ideal.exp2 ((⊥ : EReal) - (b : EReal)) = 0 := by
  rw [EReal.bot_sub]; rfl

/-- A sum of reals, embedded. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem coe_mul_sum {ι : Type*} (s : Finset ι) {x : ℝ} (hx : 0 ≤ x) (f : ι → EReal) :
    (x : EReal) * ∑ i ∈ s, f i = ∑ i ∈ s, (x : EReal) * f i := by
  classical
  induction s using Finset.induction_on with
  | empty => simp
  | insert a s ha ih => rw [Finset.sum_insert ha, Finset.sum_insert ha, EReal.left_distrib_of_nonneg_of_ne_top (EReal.coe_nonneg.2 hx) (EReal.coe_ne_top _), ih]

/-- The largest of finitely many reals is real. -/
theorem fold_max_real {ι : Type*} [Fintype ι] (i₀ : ι) (f : ι → ℝ) :
    ∃ M : ℝ, Finset.fold max (⊥ : EReal) (fun i => (f i : EReal)) Finset.univ = (M : EReal) := by
  have hb : Finset.fold max (⊥ : EReal) (fun i => (f i : EReal)) Finset.univ ≠ ⊥ := fun h => by
    have : (f i₀ : EReal) ≤ ⊥ := h ▸ (Finset.le_fold_max _).2 (.inr ⟨i₀, Finset.mem_univ _, le_rfl⟩)
    exact EReal.coe_ne_bot _ (le_bot_iff.1 this)
  have ht : Finset.fold max (⊥ : EReal) (fun i => (f i : EReal)) Finset.univ ≠ ⊤ := fun h => by
    have : (⊤ : EReal) ≤ Finset.fold max (⊥ : EReal) (fun i => (f i : EReal)) Finset.univ := h.ge
    rcases (Finset.le_fold_max _).1 this with h | ⟨i, _, h⟩
    · exact absurd h (by simp)
    · exact EReal.coe_ne_top _ (top_le_iff.1 h)
  exact ⟨_, (EReal.coe_toReal ht hb).symm⟩

/-- The running state of a row that has seen keys of total weight `W` and weighted values `V`. -/
def Row {δ : Type*} (W : ℝ) (V : δ → EReal) (M L : EReal) (A : δ → EReal) : Prop :=
  ∃ μ : ℝ, M = (μ : EReal) ∧ L = ((pow2 (-μ) * W : ℝ) : EReal) ∧ ∀ d, A d = (pow2 (-μ) : EReal) * V d

/-- The weights of a tile relative to a real maximum, summed. -/
theorem tile_weight {ι : Type*} [Fintype ι] (s : ι → ℝ) (b : ℝ) :
    ∑ t, Ideal.exp2 ((s t : EReal) - (b : EReal)) = ((pow2 (-b) * ∑ t, pow2 (s t) : ℝ) : EReal) := by
  simp only [exp2_sub]
  rw [← coe_sum, ← Finset.mul_sum]

/-- … and the weighted values. -/
theorem tile_values {ι : Type*} [Fintype ι] (s : ι → ℝ) (b : ℝ) (v : ι → EReal) :
    ∑ t, Ideal.exp2 ((s t : EReal) - (b : EReal)) * v t = (pow2 (-b) : EReal) * ∑ t, (pow2 (s t) : EReal) * v t := by
  rw [coe_mul_sum _ (pow2_pos _).le]
  exact Finset.sum_congr rfl fun t _ => by rw [exp2_sub, EReal.coe_mul, mul_assoc]

/-- Absorbing a first block of keys, from nothing. -/
theorem Row.first {δ ι : Type*} [Fintype ι] (i₀ : ι) (s : ι → ℝ) (v : ι → δ → EReal) {M L : EReal} {A : δ → EReal}
    (hM : M = max ⊥ (Finset.fold max ⊥ (fun t => (s t : EReal)) Finset.univ))
    (hL : L = Ideal.exp2 (⊥ - M) * 0 + ∑ t, Ideal.exp2 ((s t : EReal) - M))
    (hA : ∀ d, A d = Ideal.exp2 (⊥ - M) * 0 + ∑ t, Ideal.exp2 ((s t : EReal) - M) * v t d) :
    Row (∑ t, pow2 (s t)) (fun d => ∑ t, (pow2 (s t) : EReal) * v t d) M L A := by
  obtain ⟨μ, hμ⟩ := fold_max_real i₀ s
  rw [hμ, max_eq_right bot_le] at hM
  subst hM
  refine ⟨μ, rfl, ?_, fun d => ?_⟩
  · rw [hL, mul_zero, zero_add, tile_weight]
  · rw [hA, mul_zero, zero_add, tile_values]

/-- Absorbing one more tile. -/
theorem Row.step {δ ι : Type*} [Fintype ι] (i₀ : ι) (s : ι → ℝ) (v : ι → δ → EReal) {W : ℝ} {V : δ → EReal}
    {M L : EReal} {A : δ → EReal} (h : Row W V M L A) {M' L' : EReal} {A' : δ → EReal}
    (hM : M' = max M (Finset.fold max ⊥ (fun t => (s t : EReal)) Finset.univ))
    (hL : L' = Ideal.exp2 (M - M') * L + ∑ t, Ideal.exp2 ((s t : EReal) - M'))
    (hA : ∀ d, A' d = Ideal.exp2 (M - M') * A d + ∑ t, Ideal.exp2 ((s t : EReal) - M') * v t d) :
    Row (W + ∑ t, pow2 (s t)) (fun d => V d + ∑ t, (pow2 (s t) : EReal) * v t d) M' L' A' := by
  obtain ⟨μ, rfl, rfl, hA0⟩ := h
  obtain ⟨ν, hν⟩ := fold_max_real i₀ s
  obtain ⟨κ, hκ⟩ : ∃ κ : ℝ, M' = (κ : EReal) := ⟨max μ ν, by rw [hM, hν]; exact (EReal.coe_strictMono.monotone.map_max).symm⟩
  subst hκ
  have hc : pow2 (-κ) * pow2 μ * pow2 (-μ) = pow2 (-κ) := by
    rw [mul_assoc, ← pow2_add, show μ + -μ = 0 by ring]; simp [pow2]
  refine ⟨κ, rfl, ?_, fun d => ?_⟩
  · rw [hL, exp2_sub, tile_weight, ← EReal.coe_mul, ← EReal.coe_add, ← mul_assoc, hc, mul_add]
  · rw [hA, exp2_sub, tile_values, hA0, ← mul_assoc, ← EReal.coe_mul, hc, EReal.left_distrib_of_nonneg_of_ne_top (EReal.coe_nonneg.2 (pow2_pos _).le) (EReal.coe_ne_top _)]

/-- The quotient of a row's state: the weighted values over the total weight. -/
theorem Row.quot {δ : Type*} {W : ℝ} {V : δ → EReal} {M L : EReal} {A : δ → EReal} (h : Row W V M L A) (hW : 0 < W) (d : δ) :
    Ideal.div (A d) L = ((1 / W : ℝ) : EReal) * V d := by
  obtain ⟨μ, rfl, rfl, hA⟩ := h
  have hp := pow2_pos (-μ)
  have hne : ((pow2 (-μ) * W : ℝ) : EReal) ≠ 0 := by
    rw [Ne, EReal.coe_eq_zero]; exact (mul_pos hp hW).ne'
  rw [Ideal.div, if_neg hne, hA, ← EReal.coe_inv, mul_comm, ← mul_assoc, ← EReal.coe_mul]
  congr 2
  field_simp

/-- The softmax of scores `s` at base two, as the plain statement writes it: shifted by any real maximum, exponentials of
    natural base, normalised before the values are summed. -/
theorem plain {ι : Type*} [Fintype ι] (i₀ : ι) (s : ι → ℝ) (v : ι → EReal) {M : EReal}
    (hM : M = max ⊥ (Finset.fold max ⊥ (fun t => ((s t * Real.log 2 : ℝ) : EReal)) Finset.univ)) :
    ∑ t, v t * Ideal.div (Ideal.exp (((s t * Real.log 2 : ℝ) : EReal) - M))
        (∑ u, Ideal.exp (((s u * Real.log 2 : ℝ) : EReal) - M))
      = ((1 / ∑ t, pow2 (s t) : ℝ) : EReal) * ∑ t, (pow2 (s t) : EReal) * v t := by
  obtain ⟨μ, hμ⟩ := fold_max_real i₀ fun t => s t * Real.log 2
  rw [hμ, max_eq_right bot_le] at hM
  subst hM
  have he : ∀ t, Ideal.exp (((s t * Real.log 2 : ℝ) : EReal) - (μ : EReal)) = ((Real.exp (-μ) * pow2 (s t) : ℝ) : EReal) := fun t => by
    rw [← EReal.coe_sub]
    show ((Real.exp _ : ℝ) : EReal) = _
    congr 1
    rw [show pow2 (s t) = Real.exp (Real.log 2 * s t) from Real.rpow_def_of_pos (by norm_num) _, ← Real.exp_add]
    congr 1; ring
  have hW : 0 < ∑ t, pow2 (s t) := Finset.sum_pos (fun t _ => pow2_pos _) ⟨i₀, Finset.mem_univ _⟩
  have hd : ∑ u, Ideal.exp (((s u * Real.log 2 : ℝ) : EReal) - (μ : EReal)) = ((Real.exp (-μ) * ∑ t, pow2 (s t) : ℝ) : EReal) := by
    simp only [he]
    rw [← coe_sum, ← Finset.mul_sum]
  have hp := Real.exp_pos (-μ)
  have hne : ((Real.exp (-μ) * ∑ t, pow2 (s t) : ℝ) : EReal) ≠ 0 := by
    rw [Ne, EReal.coe_eq_zero]; exact (mul_pos hp hW).ne'
  rw [hd, coe_mul_sum _ (by positivity)]
  refine Finset.sum_congr rfl fun t _ => ?_
  rw [he, Ideal.div, if_neg hne, ← EReal.coe_inv, ← EReal.coe_mul, ← mul_assoc, ← EReal.coe_mul, mul_comm]
  congr 2
  field_simp

end Cert.Softmax

end
-- ==== Proof.Spec.lean ====
/- Attention over 256 context keys followed by 16384 latent keys, as one sum over 16640 keys: where each key and value stands
   in the arrays, and the closed form both programs are brought to. -/
module

public import proofs.«01_k».proof.Proof.Softmax

@[expose] public section

noncomputable section

namespace Cert.Attention

open Idealize.ShloMosaic Cert.Softmax

/-- The key at position `t` of the context. -/
def ctxKey (t : Fin 256) : Fin 16640 := ⟨t, by omega⟩

/-- The key at position `t` of latent tile `n`. -/
def latKey (n : ℕ) (t : Fin 1024) : Fin 16640 := ⟨256 + (n % 16 * 1024 + t), by omega⟩

/-- A sum over all keys, tile by tile. -/
theorem sum_keys {M : Type*} [AddCommMonoid M] (f : Fin 16640 → M) :
    ∑ x, f x = ∑ t, f (ctxKey t) + ∑ n ∈ Finset.range 16, ∑ t, f (latKey n t) := by
  refine (Fin.sum_univ_add (fun x : Fin (256 + 16384) => f x)).trans (congrArg₂ (· + ·) rfl ?_)
  rw [Finset.sum_range, Fin.sum_univ_tiles 16 1024 rfl]
  refine Finset.sum_congr rfl fun n _ => Finset.sum_congr rfl fun t _ => congrArg f (Fin.ext ?_)
  show 256 + ((n : ℕ) * 1024 + t) = 256 + ((n : ℕ) % 16 * 1024 + t)
  have := n.isLt
  omega

/-- The array row of batch `b`'s key `x`: the context rows stand after all the latent rows. -/
def keyRow (b : Fin 2) (x : Fin 16640) : Fin 33280 :=
  if h : x.val < 256 then ⟨32768 + b * 256 + x, by omega⟩ else ⟨b * 16384 + (x - 256), by omega⟩

theorem keyRow_ctx (b : Fin 2) (t : Fin 256) : (keyRow b (ctxKey t)).val = 32768 + b * 256 + t := by
  rw [keyRow, dif_pos (show (ctxKey t).val < 256 from t.isLt)]; rfl

theorem keyRow_lat (b : Fin 2) (n : ℕ) (t : Fin 1024) : (keyRow b (latKey n t)).val = b * 16384 + (n % 16 * 1024 + t) := by
  have h : ¬(latKey n t).val < 256 := by show ¬(256 + (n % 16 * 1024 + t) < 256); omega
  rw [keyRow, dif_neg h]
  show b * 16384 + (256 + (n % 16 * 1024 + t) - 256) = _
  omega

/-- The batch of a query row, the group of a query lane, and the lane's position in its head. -/
def batchOf (R : Fin 32768) : Fin 2 := ⟨R / 16384, by omega⟩
def groupOf (C : Fin 1024) : Fin 2 := ⟨C / 512, by omega⟩
def laneOf (C : Fin 1024) : Fin 128 := ⟨C % 128, by omega⟩

/-- Lane `e` of the query head that lane `C` belongs to. -/
def qLane (C : Fin 1024) (e : Fin 128) : Fin 1024 := ⟨C / 128 * 128 + e, by omega⟩

/-- Lane `e` of the key head that query lane `C` attends to. -/
def kLane (C : Fin 1024) (e : Fin 128) : Fin 256 := ⟨C / 512 * 128 + e, by omega⟩

/-- A latent row as a row of the whole array. -/
def qRow (R : Fin 32768) : Fin 33280 := ⟨R, by omega⟩

/-- The score of the query at row `R`, in the head of lane `C`, against key `x`. -/
def score (q : (⟨2, ![33280, 1024]⟩ : Shape).Idx → EReal) (k : (⟨2, ![33280, 256]⟩ : Shape).Idx → EReal) (R : Fin 32768)
    (C : Fin 1024) (x : Fin 16640) : EReal :=
  ∑ e : Fin 128, q (ix2 (qRow R) (qLane C e)) * k (ix2 (keyRow (batchOf R) x) (kLane C e))

/-- The value at lane `C` of key `x`. -/
def value (v : (⟨2, ![33280, 256]⟩ : Shape).Idx → EReal) (R : Fin 32768) (C : Fin 1024) (x : Fin 16640) : EReal :=
  v (ix2 (keyRow (batchOf R) x) (kLane C (laneOf C)))

/-- The attention at row `R`, lane `C`, when the scores are the reals `s`. -/
def attn (s : Fin 16640 → ℝ) (v : Fin 16640 → EReal) : EReal :=
  ((1 / ∑ x, pow2 (s x) : ℝ) : EReal) * ∑ x, (pow2 (s x) : EReal) * v x

/-- At finite queries and keys every score is real. -/
theorem score_real (q : (⟨2, ![33280, 1024]⟩ : Shape).Idx → EReal) (k : (⟨2, ![33280, 256]⟩ : Shape).Idx → EReal)
    (hq : ∀ i, ∃ r : ℝ, q i = (r : EReal)) (hk : ∀ i, ∃ r : ℝ, k i = (r : EReal)) (R : Fin 32768) (C : Fin 1024) :
    ∃ s : Fin 16640 → ℝ, ∀ x, score q k R C x = (s x : EReal) := by
  choose fq hq using hq
  choose fk hk using hk
  refine ⟨fun x => ∑ e : Fin 128, fq (ix2 (qRow R) (qLane C e)) * fk (ix2 (keyRow (batchOf R) x) (kLane C e)), fun x => ?_⟩
  rw [coe_sum]
  exact Finset.sum_congr rfl fun e _ => by rw [hq, hk, EReal.coe_mul]

end Cert.Attention

end
-- ==== Proof.FlashCtxSpec.lean ====
/- The attention of the context rows: each batch's 256 context queries over the batch's 256 context keys. -/
module

public import proofs.«01_k».proof.Proof.Spec

@[expose] public section

noncomputable section

namespace Cert.Attention.Ctx

open Idealize.ShloMosaic Cert.Softmax

/-- The batch of a context row. -/
def batchOf (R : Fin 512) : Fin 2 := ⟨R / 256, by omega⟩

/-- A context row as a row of the whole array: the context rows stand after all the latent rows. -/
def rowOf (R : Fin 512) : Fin 33280 := ⟨32768 + R, by omega⟩

/-- The context row of batch `b`'s key `x`. -/
def keyOf (b : Fin 2) (x : Fin 256) : Fin 512 := ⟨b * 256 + x, by omega⟩

/-- The score of the context query at row `R`, in the head of lane `C`, against key `x`. -/
def score (q : (⟨2, ![33280, 1024]⟩ : Shape).Idx → EReal) (k : (⟨2, ![33280, 256]⟩ : Shape).Idx → EReal) (R : Fin 512)
    (C : Fin 1024) (x : Fin 256) : EReal :=
  ∑ e : Fin 128, q (ix2 (rowOf R) (qLane C e)) * k (ix2 (rowOf (keyOf (batchOf R) x)) (kLane C e))

/-- The value at lane `C` of key `x`. -/
def value (v : (⟨2, ![33280, 256]⟩ : Shape).Idx → EReal) (R : Fin 512) (C : Fin 1024) (x : Fin 256) : EReal :=
  v (ix2 (rowOf (keyOf (batchOf R) x)) (kLane C (laneOf C)))

/-- The attention of one row and lane, when its scores are the reals `s`. -/
def attn (s : Fin 256 → ℝ) (v : Fin 256 → EReal) : EReal :=
  ((1 / ∑ x, pow2 (s x) : ℝ) : EReal) * ∑ x, (pow2 (s x) : EReal) * v x

/-- At finite context queries and keys every score is real. -/
theorem score_real (q : (⟨2, ![33280, 1024]⟩ : Shape).Idx → EReal) (k : (⟨2, ![33280, 256]⟩ : Shape).Idx → EReal)
    (hq : ∀ (R : Fin 512) (C : Fin 1024), ∃ r : ℝ, q (ix2 (rowOf R) C) = (r : EReal))
    (hk : ∀ (R : Fin 512) (C : Fin 256), ∃ r : ℝ, k (ix2 (rowOf R) C) = (r : EReal)) (R : Fin 512) (C : Fin 1024) :
    ∃ s : Fin 256 → ℝ, ∀ x, score q k R C x = (s x : EReal) := by
  choose fq hq using hq
  choose fk hk using hk
  refine ⟨fun x => ∑ e : Fin 128, fq R (qLane C e) * fk (keyOf (batchOf R) x) (kLane C e), fun x => ?_⟩
  rw [coe_sum]
  exact Finset.sum_congr rfl fun e _ => by rw [hq, hk, EReal.coe_mul]

end Cert.Attention.Ctx

end
-- ==== Proof.FiniteCtx.lean ====
/- What the precondition `finite_ctx` says of the arrays it is given: every context query and every context key is a real
   number. -/
module

public import proofs.«01_k».proof.Pre_finite_ctx
public import proofs.«01_k».proof.Proof.Finite
public import proofs.«01_k».proof.Proof.FlashCtxSpec
public import Idealize.ShloMosaic.Lib.ReduceAll
public import Idealize.ShloMosaic.Lib.Decide
public import Idealize.ShloMosaic.Lib.Affine

@[expose] public section

noncomputable section

namespace Cert.Pre_finite_ctx

open Idealize.ShloMosaic Cert.Attention.Ctx

local notation "𝕀" => Idealize.ShloMosaic.Ideal

/-- The side conditions the predicate's operations state. -/
instance facts : Facts where
  slices_S33280x1024_S512x1024_32768_0 := by decide
  bitsLt_bf16_f32 := by decide
  bcast_S_S512x1024 := by decide
  reducesTo_S512x1024_S_d0_1 := by decide
  h_S_ := by decide
  slices_S33280x256_S512x256_32768_0 := by decide
  bcast_S_S512x256 := by decide
  reducesTo_S512x256_S_d0_1 := by decide

/-- A context row of a wider array, read through the slice of the context rows. -/
theorem slice_q (q : FVec 𝕀 S33280x1024 .bf16) (h) (R : Fin 512) (C : Fin 1024) :
    extractStridedSlice S512x1024 ![32768, 0] q h (ix2 R C) = q (ix2 (rowOf R) C) := by
  unfold rowOf
  pointwise

theorem slice_k (k : FVec 𝕀 S33280x256 .bf16) (h) (R : Fin 512) (C : Fin 256) :
    extractStridedSlice S512x256 ![32768, 0] k h (ix2 R C) = k (ix2 (rowOf R) C) := by
  unfold rowOf
  pointwise

/-- Where the predicate holds, every context query and every context key is a real number. -/
theorem real_of_fn (q : FVec 𝕀 S33280x1024 .bf16) (k v : FVec 𝕀 S33280x256 .bf16)
    (h : fn (F := 𝕀) q k v = fun _ => 1#1) :
    (∀ (R : Fin 512) (C : Fin 1024), ∃ r : ℝ, q (ix2 (rowOf R) C) = (r : EReal))
      ∧ (∀ (R : Fin 512) (C : Fin 256), ∃ r : ℝ, k (ix2 (rowOf R) C) = (r : EReal)) := by
  have e := Cert.Pre_finite.both _ _ (congrFun h (Shape.Idx.first Facts.h_S_))
  refine ⟨fun R C => ?_, fun R C => ?_⟩
  · rw [← slice_q q Facts.slices_S33280x1024_S512x1024_32768_0]
    exact Cert.Pre_finite.real_of_abs_lt _ (Host.reduce_andi_all _ _ _ _ _ e.1 (ix2 R C))
  · rw [← slice_k k Facts.slices_S33280x256_S512x256_32768_0]
    exact Cert.Pre_finite.real_of_abs_lt _ (Host.reduce_andi_all _ _ _ _ _ e.2 (ix2 R C))

end Cert.Pre_finite_ctx

end
-- ==== Proof.Steps.lean ====
/- One block of queries through the attention kernel, as a recursion over the key tiles.

   The kernel keeps, per query row, a running maximum `m`, a running denominator `l` and a running numerator `acc`. It first
   absorbs the context keys, then sixteen tiles of 1024 latent keys. The generated run names every intermediate vector of the
   unrolled loop; this module says that those vectors are the states of one recursion (`stM`, `stL`, `stA`) whose step is
   `stepM`, `stepL`, `stepA`. Nothing here depends on what the floats mean. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F]

/-! ## The step -/

/-- Scores of 1024 query rows against one tile of 1024 keys, the tile stored transposed. -/
def scoreRows (q : FVec F S1024x128 .bf16) (kt : Vec F S1x1x1x128x1024 .bf16) : FVec F S1024x1024 .f32 :=
  matmul dot_S1024x128_S128x1024_S1024x1024_1_0_0_1_n_n none q (shapeCast S128x1024 kt shapeCasts_S1x1x1x128x1024_S128x1024)
    (constant S1024x1024 .f32 0x00000000#32)

/-- The running maximum after a tile with scores `s`. -/
def stepM (m : FVec F S1024x1 .f32) (s : FVec F S1024x1024 .f32) : FVec F S1024x1 .f32 :=
  maximumf m (shapeCast S1024x1 (multiReduction .maximumf [1] S1024 s 0xFF800000#32 reduces_S1024x1024_S1024 (.inl rfl) rfl)
    shapeCasts_S1024_S1024x1)

/-- The tile's weights relative to the new maximum. -/
def stepP (m : FVec F S1024x1 .f32) (s : FVec F S1024x1024 .f32) : FVec F S1024x1024 .bf16 :=
  exp2 (truncf .bf16 (subf s (broadcastTo S1024x1024 (stepM m s) broadcasts_S1024x1_S1024x1024)) bitsLt_bf16_f32)

/-- The factor that moves the old sums to the new maximum. -/
def stepC (m : FVec F S1024x1 .f32) (s : FVec F S1024x1024 .f32) : FVec F S1024x1 .f32 :=
  exp2 (subf m (stepM m s))

/-- A tile's weights folded onto 128 lanes. -/
def lanes (p : FVec F S1024x1024 .bf16) : FVec F S1024x128 .bf16 :=
  addf (addf (addf (addf (addf (addf (addf
    (extractStridedSlice S1024x128 ![0, 0] p slices_S1024x1024_o0_0_S1024x128)
    (extractStridedSlice S1024x128 ![0, 128] p slices_S1024x1024_o0_128_S1024x128))
    (extractStridedSlice S1024x128 ![0, 256] p slices_S1024x1024_o0_256_S1024x128))
    (extractStridedSlice S1024x128 ![0, 384] p slices_S1024x1024_o0_384_S1024x128))
    (extractStridedSlice S1024x128 ![0, 512] p slices_S1024x1024_o0_512_S1024x128))
    (extractStridedSlice S1024x128 ![0, 640] p slices_S1024x1024_o0_640_S1024x128))
    (extractStridedSlice S1024x128 ![0, 768] p slices_S1024x1024_o0_768_S1024x128))
    (extractStridedSlice S1024x128 ![0, 896] p slices_S1024x1024_o0_896_S1024x128)

/-- The running denominator after a tile. -/
def stepL (m l : FVec F S1024x1 .f32) (s : FVec F S1024x1024 .f32) : FVec F S1024x1 .f32 :=
  addf (mulf (stepC m s) l)
    (shapeCast S1024x1 (multiReduction .add [1] S1024 (extf .f32 (lanes (stepP m s)) bitsLt_bf16_f32) 0x00000000#32
      reduces_S1024x128_S1024 (.inl rfl) rfl) shapeCasts_S1024_S1024x1)

/-- The running numerator after a tile with values `v`. -/
def stepA (m : FVec F S1024x1 .f32) (a : FVec F S1024x128 .f32) (s : FVec F S1024x1024 .f32) (v : Vec F S1024x128 .bf16) :
    FVec F S1024x128 .f32 :=
  addf (mulf (broadcastTo S1024x128 (stepC m s) broadcasts_S1024x1_S1024x128) a)
    (matmul dot_S1024x1024_S1024x128_S1024x128_1_0_0_1_n_n none (stepP m s) v (constant S1024x128 .f32 0x00000000#32))

/-! ## The context block, absorbed first -/

/-- Scores against the context keys. -/
def ctxS (q : FVec F S1024x128 .bf16) (k : Vec F S256x128 .bf16) : FVec F S1024x256 .f32 :=
  matmul dot_S1024x128_S256x128_S1024x256_1_1_0_0_n_n none q k (constant S1024x256 .f32 0x00000000#32)

/-- The running maximum before anything is seen. -/
def negInf : FVec F S1024x1 .f32 := broadcast S1024x1 (Scalar.ofBits .f32 0xFF800000#32)

/-- The maximum after the context keys. -/
def ctxM (q : FVec F S1024x128 .bf16) (k : Vec F S256x128 .bf16) : FVec F S1024x1 .f32 :=
  maximumf negInf (shapeCast S1024x1 (multiReduction .maximumf [1] S1024 (ctxS q k) 0xFF800000#32 reduces_S1024x256_S1024
    (.inl rfl) rfl) shapeCasts_S1024_S1024x1)

/-- The context weights. -/
def ctxP (q : FVec F S1024x128 .bf16) (k : Vec F S256x128 .bf16) : FVec F S1024x256 .bf16 :=
  exp2 (truncf .bf16 (subf (ctxS q k) (broadcastTo S1024x256 (ctxM q k) broadcasts_S1024x1_S1024x256)) bitsLt_bf16_f32)

/-- The factor on the sums over nothing. -/
def ctxC (q : FVec F S1024x128 .bf16) (k : Vec F S256x128 .bf16) : FVec F S1024x1 .f32 := exp2 (subf negInf (ctxM q k))

/-- The denominator after the context keys. -/
def ctxL (q : FVec F S1024x128 .bf16) (k : Vec F S256x128 .bf16) : FVec F S1024x1 .f32 :=
  addf (mulf (ctxC q k) (broadcast S1024x1 (Scalar.ofBits .f32 0x00000000#32)))
    (shapeCast S1024x1 (multiReduction .add [1] S1024 (extf .f32 (addf
      (extractStridedSlice S1024x128 ![0, 0] (ctxP q k) slices_S1024x256_o0_0_S1024x128)
      (extractStridedSlice S1024x128 ![0, 128] (ctxP q k) slices_S1024x256_o0_128_S1024x128)) bitsLt_bf16_f32) 0x00000000#32
      reduces_S1024x128_S1024 (.inl rfl) rfl) shapeCasts_S1024_S1024x1)

/-- The numerator after the context keys. -/
def ctxA (q : FVec F S1024x128 .bf16) (k v : Vec F S256x128 .bf16) : FVec F S1024x128 .f32 :=
  addf (mulf (broadcastTo S1024x128 (ctxC q k) broadcasts_S1024x1_S1024x128)
      (broadcast S1024x128 (Scalar.ofBits .f32 0x00000000#32)))
    (matmul dot_S1024x256_S256x128_S1024x128_1_0_0_1_n_n none (ctxP q k) v (constant S1024x128 .f32 0x00000000#32))

/-! ## The recursion -/

/-- Tile `j` of the transposed keys. -/
def ktile (x3 : Vec F S1x1x16x128x1024 .bf16) (j : ℕ) : Vec F S1x1x1x128x1024 .bf16 :=
  fun i => x3 (ix5 0 0 ⟨j % 16, Nat.mod_lt _ (by decide)⟩ (i 3) (i 4))

/-- Tile `j` of the values. -/
def vtile (x4 : Vec F S16384x128 .bf16) (j : ℕ) : Vec F S1024x128 .bf16 :=
  fun i => x4 (ix2 ⟨(j % 16) * 1024 + (i 0).val, by
    have h : (i 0).val < 1024 := (i 0).isLt
    have h' := Nat.mod_lt j (show 0 < 16 by decide)
    omega⟩ (i 1))

/-- The maximum after `j` tiles. -/
def stM (q : FVec F S1024x128 .bf16) (k : Vec F S256x128 .bf16) (x3 : Vec F S1x1x16x128x1024 .bf16) : ℕ → FVec F S1024x1 .f32
  | 0 => ctxM q k
  | j + 1 => stepM (stM q k x3 j) (scoreRows q (ktile x3 j))

/-- The denominator after `j` tiles. -/
def stL (q : FVec F S1024x128 .bf16) (k : Vec F S256x128 .bf16) (x3 : Vec F S1x1x16x128x1024 .bf16) : ℕ → FVec F S1024x1 .f32
  | 0 => ctxL q k
  | j + 1 => stepL (stM q k x3 j) (stL q k x3 j) (scoreRows q (ktile x3 j))

/-- The numerator after `j` tiles. -/
def stA (q : FVec F S1024x128 .bf16) (k v : Vec F S256x128 .bf16) (x3 : Vec F S1x1x16x128x1024 .bf16)
    (x4 : Vec F S16384x128 .bf16) : ℕ → FVec F S1024x128 .f32
  | 0 => ctxA q k v
  | j + 1 => stepA (stM q k x3 j) (stA q k v x3 x4 j) (scoreRows q (ktile x3 j)) (vtile x4 j)

/-- The quotient the kernel stores, all four heads stacked. -/
def quot (q : FVec F S1024x128 .bf16) (k v : Vec F S256x128 .bf16) (x3 : Vec F S1x1x16x128x1024 .bf16)
    (x4 : Vec F S16384x128 .bf16) : FVec F S1024x128 .f32 :=
  divf (stA q k v x3 x4 16) (broadcastTo S1024x128 (stL q k x3 16) broadcasts_S1024x1_S1024x128)

/-! ## What the loads of whole blocks and of tiles read -/

/-- A load of a whole staged block reads the block. -/
theorem read_whole (a : Memref sig .tc .vmem S256x128 .bf16) (h : a.IsWhole) (x : Vec F S256x128 .bf16) (inb) :
    a.view.readAt (Elt F) (Rect.unit (s := S256x128) ![0, 0] S256x128.size inb).toLoadRect (h.unread x) = x := by
  refine (View.readAt_eq_ld _ _ _).trans ?_
  rw [h.read_unread]
  exact View.ld_unit_lit _ _ (by decide)

/-- A load of tile `j` of the keys. -/
theorem read_ktile (a : Memref sig .tc .vmem S1x1x16x128x1024 .bf16) (h : a.IsWhole) (x : Vec F S1x1x16x128x1024 .bf16)
    (j : ℕ) (hj : j < 16) (inb) :
    a.view.readAt (Elt F) (Rect.unit (s := S1x1x16x128x1024) ![0, 0, j, 0, 0] S1x1x1x128x1024.size inb).toLoadRect (h.unread x) = ktile x j := by
  funext i
  refine (congrFun (View.readAt_eq_ld _ _ _) i).trans ?_
  rw [h.read_unread]
  refine congrArg x (funext fun a => Fin.ext ?_)
  have e0 : (i 0).val = 0 := Nat.lt_one_iff.1 (i 0).isLt
  have e1 : (i 1).val = 0 := Nat.lt_one_iff.1 (i 1).isLt
  have e2 : (i 2).val = 0 := Nat.lt_one_iff.1 (i 2).isLt
  match a with
  | ⟨0, _⟩ => show 0 + 1 * (i 0).val = 0; omega
  | ⟨1, _⟩ => show 0 + 1 * (i 1).val = 0; omega
  | ⟨2, _⟩ => show j + 1 * (i 2).val = j % 16; omega
  | ⟨3, _⟩ => show 0 + 1 * (i 3).val = (i 3).val; omega
  | ⟨4, _⟩ => show 0 + 1 * (i 4).val = (i 4).val; omega

/-- A load of tile `j` of the values. -/
theorem read_vtile (a : Memref sig .tc .vmem S16384x128 .bf16) (h : a.IsWhole) (x : Vec F S16384x128 .bf16)
    (j o : ℕ) (hj : j < 16) (ho : o = j * 1024) (inb) :
    a.view.readAt (Elt F) (Rect.unit (s := S16384x128) ![o, 0] S1024x128.size inb).toLoadRect (h.unread x) = vtile x j := by
  subst ho
  funext i
  refine (congrFun (View.readAt_eq_ld _ _ _) i).trans ?_
  rw [h.read_unread]
  refine congrArg x (funext fun a => Fin.ext ?_)
  match a with
  | ⟨0, _⟩ => show j * 1024 + 1 * (i 0).val = j % 16 * 1024 + (i 0).val; omega
  | ⟨1, _⟩ => show 0 + 1 * (i 1).val = (i 1).val; omega

/-! ## The run's vectors are the recursion's -/

section Run

variable (c : Dev nD) (arg3 : Memref sig .tc .vmem S256x512 .bf16) (harg3 : arg3.IsWhole)
  (arg4 : Memref sig .tc .vmem S256x128 .bf16) (harg4 : arg4.IsWhole) (arg5 : Memref sig .tc .vmem S256x128 .bf16)
  (harg5 : arg5.IsWhole) (arg6 : Memref sig .tc .vmem S1x1x16x128x1024 .bf16) (harg6 : arg6.IsWhole)
  (arg7 : Memref sig .tc .vmem S16384x128 .bf16) (harg7 : arg7.IsWhole)
  (arg9 : Memref sig .tc .vmem S1024x1024 .f32) (arg10 : Memref sig .tc .vmem S1024x1024 .f32)
  (x0 : Vec F S256x512 .bf16) (x1 x2 : Vec F S256x128 .bf16) (x3 : Vec F S1x1x16x128x1024 .bf16) (x4 : Vec F S16384x128 .bf16)

/-- The stacked query rows, as the run names them. -/
abbrev qr : FVec F S1024x128 .bf16 := kernelRun0_A.sl.r c arg3 harg3 x0

theorem m_0 : kernelRun0_A.sl.r_1 c arg3 harg3 arg4 harg4 x0 x1 = stM (qr c arg3 harg3 x0) x1 x3 0 :=
  congrArg (ctxM (qr c arg3 harg3 x0)) (read_whole arg4 harg4 x1 _)

theorem l_0 : kernelRun0_A.sl.r_2 c arg3 harg3 arg4 harg4 x0 x1 = stL (qr c arg3 harg3 x0) x1 x3 0 :=
  congrArg (ctxL (qr c arg3 harg3 x0)) (read_whole arg4 harg4 x1 _)

theorem a_0 : kernelRun0_A.sl.r_3 c arg3 harg3 arg4 harg4 arg5 harg5 x0 x1 x2 = stA (qr c arg3 harg3 x0) x1 x2 x3 x4 0 :=
  congrArg₂ (ctxA (qr c arg3 harg3 x0)) (read_whole arg4 harg4 x1 _) (read_whole arg5 harg5 x2 _)

theorem s_0 : kernelRun0_A.sl.v47 c arg3 harg3 arg6 harg6 arg9 x0 x3 = scoreRows (qr c arg3 harg3 x0) (ktile x3 0) := by
  unfold kernelRun0_A.sl.v47 kernelRun0_A.sl.HS0_1
  refine (View.readCov_cons_toLoadRect _ _ _ _).trans ?_
  exact (shapeCast_self _ _).trans (congrArg (scoreRows (qr c arg3 harg3 x0)) (read_ktile arg6 harg6 x3 0 (by decide) _))

theorem s_1 : kernelRun0_A.sl.v94 c arg3 harg3 arg6 harg6 arg10 x0 x3 = scoreRows (qr c arg3 harg3 x0) (ktile x3 1) := by
  unfold kernelRun0_A.sl.v94 kernelRun0_A.sl.HS1_1
  refine (View.readCov_cons_toLoadRect _ _ _ _).trans ?_
  exact (shapeCast_self _ _).trans (congrArg (scoreRows (qr c arg3 harg3 x0)) (read_ktile arg6 harg6 x3 1 (by decide) _))

theorem s_2 : kernelRun0_A.sl.v142 c arg3 harg3 arg6 harg6 arg9 x0 x3 = scoreRows (qr c arg3 harg3 x0) (ktile x3 2) := by
  unfold kernelRun0_A.sl.v142 kernelRun0_A.sl.HS0_2
  refine (View.readCov_cons_toLoadRect _ _ _ _).trans ?_
  exact (shapeCast_self _ _).trans (congrArg (scoreRows (qr c arg3 harg3 x0)) (read_ktile arg6 harg6 x3 2 (by decide) _))

theorem s_3 : kernelRun0_A.sl.v189 c arg3 harg3 arg6 harg6 arg10 x0 x3 = scoreRows (qr c arg3 harg3 x0) (ktile x3 3) := by
  unfold kernelRun0_A.sl.v189 kernelRun0_A.sl.HS1_2
  refine (View.readCov_cons_toLoadRect _ _ _ _).trans ?_
  exact (shapeCast_self _ _).trans (congrArg (scoreRows (qr c arg3 harg3 x0)) (read_ktile arg6 harg6 x3 3 (by decide) _))

theorem s_4 : kernelRun0_A.sl.v237 c arg3 harg3 arg6 harg6 arg9 x0 x3 = scoreRows (qr c arg3 harg3 x0) (ktile x3 4) := by
  unfold kernelRun0_A.sl.v237 kernelRun0_A.sl.HS0_3
  refine (View.readCov_cons_toLoadRect _ _ _ _).trans ?_
  exact (shapeCast_self _ _).trans (congrArg (scoreRows (qr c arg3 harg3 x0)) (read_ktile arg6 harg6 x3 4 (by decide) _))

theorem s_5 : kernelRun0_A.sl.v284 c arg3 harg3 arg6 harg6 arg10 x0 x3 = scoreRows (qr c arg3 harg3 x0) (ktile x3 5) := by
  unfold kernelRun0_A.sl.v284 kernelRun0_A.sl.HS1_3
  refine (View.readCov_cons_toLoadRect _ _ _ _).trans ?_
  exact (shapeCast_self _ _).trans (congrArg (scoreRows (qr c arg3 harg3 x0)) (read_ktile arg6 harg6 x3 5 (by decide) _))

theorem s_6 : kernelRun0_A.sl.v332 c arg3 harg3 arg6 harg6 arg9 x0 x3 = scoreRows (qr c arg3 harg3 x0) (ktile x3 6) := by
  unfold kernelRun0_A.sl.v332 kernelRun0_A.sl.HS0_4
  refine (View.readCov_cons_toLoadRect _ _ _ _).trans ?_
  exact (shapeCast_self _ _).trans (congrArg (scoreRows (qr c arg3 harg3 x0)) (read_ktile arg6 harg6 x3 6 (by decide) _))

theorem s_7 : kernelRun0_A.sl.v379 c arg3 harg3 arg6 harg6 arg10 x0 x3 = scoreRows (qr c arg3 harg3 x0) (ktile x3 7) := by
  unfold kernelRun0_A.sl.v379 kernelRun0_A.sl.HS1_4
  refine (View.readCov_cons_toLoadRect _ _ _ _).trans ?_
  exact (shapeCast_self _ _).trans (congrArg (scoreRows (qr c arg3 harg3 x0)) (read_ktile arg6 harg6 x3 7 (by decide) _))

theorem s_8 : kernelRun0_A.sl.v427 c arg3 harg3 arg6 harg6 arg9 x0 x3 = scoreRows (qr c arg3 harg3 x0) (ktile x3 8) := by
  unfold kernelRun0_A.sl.v427 kernelRun0_A.sl.HS0_5
  refine (View.readCov_cons_toLoadRect _ _ _ _).trans ?_
  exact (shapeCast_self _ _).trans (congrArg (scoreRows (qr c arg3 harg3 x0)) (read_ktile arg6 harg6 x3 8 (by decide) _))

theorem s_9 : kernelRun0_A.sl.v474 c arg3 harg3 arg6 harg6 arg10 x0 x3 = scoreRows (qr c arg3 harg3 x0) (ktile x3 9) := by
  unfold kernelRun0_A.sl.v474 kernelRun0_A.sl.HS1_5
  refine (View.readCov_cons_toLoadRect _ _ _ _).trans ?_
  exact (shapeCast_self _ _).trans (congrArg (scoreRows (qr c arg3 harg3 x0)) (read_ktile arg6 harg6 x3 9 (by decide) _))

theorem s_10 : kernelRun0_A.sl.v522 c arg3 harg3 arg6 harg6 arg9 x0 x3 = scoreRows (qr c arg3 harg3 x0) (ktile x3 10) := by
  unfold kernelRun0_A.sl.v522 kernelRun0_A.sl.HS0_6
  refine (View.readCov_cons_toLoadRect _ _ _ _).trans ?_
  exact (shapeCast_self _ _).trans (congrArg (scoreRows (qr c arg3 harg3 x0)) (read_ktile arg6 harg6 x3 10 (by decide) _))

theorem s_11 : kernelRun0_A.sl.v569 c arg3 harg3 arg6 harg6 arg10 x0 x3 = scoreRows (qr c arg3 harg3 x0) (ktile x3 11) := by
  unfold kernelRun0_A.sl.v569 kernelRun0_A.sl.HS1_6
  refine (View.readCov_cons_toLoadRect _ _ _ _).trans ?_
  exact (shapeCast_self _ _).trans (congrArg (scoreRows (qr c arg3 harg3 x0)) (read_ktile arg6 harg6 x3 11 (by decide) _))

theorem s_12 : kernelRun0_A.sl.v617 c arg3 harg3 arg6 harg6 arg9 x0 x3 = scoreRows (qr c arg3 harg3 x0) (ktile x3 12) := by
  unfold kernelRun0_A.sl.v617 kernelRun0_A.sl.HS0_7
  refine (View.readCov_cons_toLoadRect _ _ _ _).trans ?_
  exact (shapeCast_self _ _).trans (congrArg (scoreRows (qr c arg3 harg3 x0)) (read_ktile arg6 harg6 x3 12 (by decide) _))

theorem s_13 : kernelRun0_A.sl.v664 c arg3 harg3 arg6 harg6 arg10 x0 x3 = scoreRows (qr c arg3 harg3 x0) (ktile x3 13) := by
  unfold kernelRun0_A.sl.v664 kernelRun0_A.sl.HS1_7
  refine (View.readCov_cons_toLoadRect _ _ _ _).trans ?_
  exact (shapeCast_self _ _).trans (congrArg (scoreRows (qr c arg3 harg3 x0)) (read_ktile arg6 harg6 x3 13 (by decide) _))

theorem s_14 : kernelRun0_A.sl.v712 c arg3 harg3 arg6 harg6 arg9 x0 x3 = scoreRows (qr c arg3 harg3 x0) (ktile x3 14) := by
  unfold kernelRun0_A.sl.v712 kernelRun0_A.sl.HS0_8
  refine (View.readCov_cons_toLoadRect _ _ _ _).trans ?_
  exact (shapeCast_self _ _).trans (congrArg (scoreRows (qr c arg3 harg3 x0)) (read_ktile arg6 harg6 x3 14 (by decide) _))

theorem s_15 : kernelRun0_A.sl.v759 c arg3 harg3 arg6 harg6 arg10 x0 x3 = scoreRows (qr c arg3 harg3 x0) (ktile x3 15) := by
  unfold kernelRun0_A.sl.v759 kernelRun0_A.sl.HS1_8
  refine (View.readCov_cons_toLoadRect _ _ _ _).trans ?_
  exact (shapeCast_self _ _).trans (congrArg (scoreRows (qr c arg3 harg3 x0)) (read_ktile arg6 harg6 x3 15 (by decide) _))

theorem m_1 : kernelRun0_A.sl.r_6 c arg3 harg3 arg4 harg4 arg6 harg6 arg9 x0 x1 x3 = stM (qr c arg3 harg3 x0) x1 x3 1 :=
  congrArg₂ stepM (m_0 c arg3 harg3 arg4 harg4 x0 x1 x3) (s_0 c arg3 harg3 arg6 harg6 arg9 x0 x3)

theorem l_1 : kernelRun0_A.sl.r_13 c arg3 harg3 arg4 harg4 arg6 harg6 arg9 x0 x1 x3 = stL (qr c arg3 harg3 x0) x1 x3 1 :=
  congr (congrArg₂ stepL (m_0 c arg3 harg3 arg4 harg4 x0 x1 x3) (l_0 c arg3 harg3 arg4 harg4 x0 x1 x3)) (s_0 c arg3 harg3 arg6 harg6 arg9 x0 x3)

theorem a_1 : kernelRun0_A.sl.r_14 c arg3 harg3 arg4 harg4 arg5 harg5 arg6 harg6 arg7 harg7 arg9 x0 x1 x2 x3 x4 = stA (qr c arg3 harg3 x0) x1 x2 x3 x4 1 :=
  congr (congr (congrArg₂ stepA (m_0 c arg3 harg3 arg4 harg4 x0 x1 x3) (a_0 c arg3 harg3 arg4 harg4 arg5 harg5 x0 x1 x2 x3 x4)) (s_0 c arg3 harg3 arg6 harg6 arg9 x0 x3)) (read_vtile arg7 harg7 x4 0 0 (by decide) (by decide) _)

theorem m_2 : kernelRun0_A.sl.r_16 c arg3 harg3 arg4 harg4 arg6 harg6 arg9 arg10 x0 x1 x3 = stM (qr c arg3 harg3 x0) x1 x3 2 :=
  congrArg₂ stepM (m_1 c arg3 harg3 arg4 harg4 arg6 harg6 arg9 x0 x1 x3) (s_1 c arg3 harg3 arg6 harg6 arg10 x0 x3)

theorem l_2 : kernelRun0_A.sl.r_25 c arg3 harg3 arg4 harg4 arg6 harg6 arg9 arg10 x0 x1 x3 = stL (qr c arg3 harg3 x0) x1 x3 2 :=
  congr (congrArg₂ stepL (m_1 c arg3 harg3 arg4 harg4 arg6 harg6 arg9 x0 x1 x3) (l_1 c arg3 harg3 arg4 harg4 arg6 harg6 arg9 x0 x1 x3)) (s_1 c arg3 harg3 arg6 harg6 arg10 x0 x3)

theorem a_2 : kernelRun0_A.sl.r_26 c arg3 harg3 arg4 harg4 arg5 harg5 arg6 harg6 arg7 harg7 arg9 arg10 x0 x1 x2 x3 x4 = stA (qr c arg3 harg3 x0) x1 x2 x3 x4 2 :=
  congr (congr (congrArg₂ stepA (m_1 c arg3 harg3 arg4 harg4 arg6 harg6 arg9 x0 x1 x3) (a_1 c arg3 harg3 arg4 harg4 arg5 harg5 arg6 harg6 arg7 harg7 arg9 x0 x1 x2 x3 x4)) (s_1 c arg3 harg3 arg6 harg6 arg10 x0 x3)) (read_vtile arg7 harg7 x4 1 1024 (by decide) (by decide) _)

theorem m_3 : kernelRun0_A.sl.r_28 c arg3 harg3 arg4 harg4 arg6 harg6 arg9 arg10 x0 x1 x3 = stM (qr c arg3 harg3 x0) x1 x3 3 :=
  congrArg₂ stepM (m_2 c arg3 harg3 arg4 harg4 arg6 harg6 arg9 arg10 x0 x1 x3) (s_2 c arg3 harg3 arg6 harg6 arg9 x0 x3)

theorem l_3 : kernelRun0_A.sl.r_32 c arg3 harg3 arg4 harg4 arg6 harg6 arg9 arg10 x0 x1 x3 = stL (qr c arg3 harg3 x0) x1 x3 3 :=
  congr (congrArg₂ stepL (m_2 c arg3 harg3 arg4 harg4 arg6 harg6 arg9 arg10 x0 x1 x3) (l_2 c arg3 harg3 arg4 harg4 arg6 harg6 arg9 arg10 x0 x1 x3)) (s_2 c arg3 harg3 arg6 harg6 arg9 x0 x3)

theorem a_3 : kernelRun0_A.sl.r_33 c arg3 harg3 arg4 harg4 arg5 harg5 arg6 harg6 arg7 harg7 arg9 arg10 x0 x1 x2 x3 x4 = stA (qr c arg3 harg3 x0) x1 x2 x3 x4 3 :=
  congr (congr (congrArg₂ stepA (m_2 c arg3 harg3 arg4 harg4 arg6 harg6 arg9 arg10 x0 x1 x3) (a_2 c arg3 harg3 arg4 harg4 arg5 harg5 arg6 harg6 arg7 harg7 arg9 arg10 x0 x1 x2 x3 x4)) (s_2 c arg3 harg3 arg6 harg6 arg9 x0 x3)) (read_vtile arg7 harg7 x4 2 2048 (by decide) (by decide) _)

theorem m_4 : kernelRun0_A.sl.r_35 c arg3 harg3 arg4 harg4 arg6 harg6 arg9 arg10 x0 x1 x3 = stM (qr c arg3 harg3 x0) x1 x3 4 :=
  congrArg₂ stepM (m_3 c arg3 harg3 arg4 harg4 arg6 harg6 arg9 arg10 x0 x1 x3) (s_3 c arg3 harg3 arg6 harg6 arg10 x0 x3)

theorem l_4 : kernelRun0_A.sl.r_37 c arg3 harg3 arg4 harg4 arg6 harg6 arg9 arg10 x0 x1 x3 = stL (qr c arg3 harg3 x0) x1 x3 4 :=
  congr (congrArg₂ stepL (m_3 c arg3 harg3 arg4 harg4 arg6 harg6 arg9 arg10 x0 x1 x3) (l_3 c arg3 harg3 arg4 harg4 arg6 harg6 arg9 arg10 x0 x1 x3)) (s_3 c arg3 harg3 arg6 harg6 arg10 x0 x3)

theorem a_4 : kernelRun0_A.sl.r_38 c arg3 harg3 arg4 harg4 arg5 harg5 arg6 harg6 arg7 harg7 arg9 arg10 x0 x1 x2 x3 x4 = stA (qr c arg3 harg3 x0) x1 x2 x3 x4 4 :=
  congr (congr (congrArg₂ stepA (m_3 c arg3 harg3 arg4 harg4 arg6 harg6 arg9 arg10 x0 x1 x3) (a_3 c arg3 harg3 arg4 harg4 arg5 harg5 arg6 harg6 arg7 harg7 arg9 arg10 x0 x1 x2 x3 x4)) (s_3 c arg3 harg3 arg6 harg6 arg10 x0 x3)) (read_vtile arg7 harg7 x4 3 3072 (by decide) (by decide) _)

theorem m_5 : kernelRun0_A.sl.r_40 c arg3 harg3 arg4 harg4 arg6 harg6 arg9 arg10 x0 x1 x3 = stM (qr c arg3 harg3 x0) x1 x3 5 :=
  congrArg₂ stepM (m_4 c arg3 harg3 arg4 harg4 arg6 harg6 arg9 arg10 x0 x1 x3) (s_4 c arg3 harg3 arg6 harg6 arg9 x0 x3)

theorem l_5 : kernelRun0_A.sl.r_41 c arg3 harg3 arg4 harg4 arg6 harg6 arg9 arg10 x0 x1 x3 = stL (qr c arg3 harg3 x0) x1 x3 5 :=
  congr (congrArg₂ stepL (m_4 c arg3 harg3 arg4 harg4 arg6 harg6 arg9 arg10 x0 x1 x3) (l_4 c arg3 harg3 arg4 harg4 arg6 harg6 arg9 arg10 x0 x1 x3)) (s_4 c arg3 harg3 arg6 harg6 arg9 x0 x3)

theorem a_5 : kernelRun0_A.sl.r_42 c arg3 harg3 arg4 harg4 arg5 harg5 arg6 harg6 arg7 harg7 arg9 arg10 x0 x1 x2 x3 x4 = stA (qr c arg3 harg3 x0) x1 x2 x3 x4 5 :=
  congr (congr (congrArg₂ stepA (m_4 c arg3 harg3 arg4 harg4 arg6 harg6 arg9 arg10 x0 x1 x3) (a_4 c arg3 harg3 arg4 harg4 arg5 harg5 arg6 harg6 arg7 harg7 arg9 arg10 x0 x1 x2 x3 x4)) (s_4 c arg3 harg3 arg6 harg6 arg9 x0 x3)) (read_vtile arg7 harg7 x4 4 4096 (by decide) (by decide) _)

theorem m_6 : kernelRun0_A.sl.r_43 c arg3 harg3 arg4 harg4 arg6 harg6 arg9 arg10 x0 x1 x3 = stM (qr c arg3 harg3 x0) x1 x3 6 :=
  congrArg₂ stepM (m_5 c arg3 harg3 arg4 harg4 arg6 harg6 arg9 arg10 x0 x1 x3) (s_5 c arg3 harg3 arg6 harg6 arg10 x0 x3)

theorem l_6 : kernelRun0_A.sl.r_44 c arg3 harg3 arg4 harg4 arg6 harg6 arg9 arg10 x0 x1 x3 = stL (qr c arg3 harg3 x0) x1 x3 6 :=
  congr (congrArg₂ stepL (m_5 c arg3 harg3 arg4 harg4 arg6 harg6 arg9 arg10 x0 x1 x3) (l_5 c arg3 harg3 arg4 harg4 arg6 harg6 arg9 arg10 x0 x1 x3)) (s_5 c arg3 harg3 arg6 harg6 arg10 x0 x3)

theorem a_6 : kernelRun0_A.sl.r_45 c arg3 harg3 arg4 harg4 arg5 harg5 arg6 harg6 arg7 harg7 arg9 arg10 x0 x1 x2 x3 x4 = stA (qr c arg3 harg3 x0) x1 x2 x3 x4 6 :=
  congr (congr (congrArg₂ stepA (m_5 c arg3 harg3 arg4 harg4 arg6 harg6 arg9 arg10 x0 x1 x3) (a_5 c arg3 harg3 arg4 harg4 arg5 harg5 arg6 harg6 arg7 harg7 arg9 arg10 x0 x1 x2 x3 x4)) (s_5 c arg3 harg3 arg6 harg6 arg10 x0 x3)) (read_vtile arg7 harg7 x4 5 5120 (by decide) (by decide) _)

theorem m_7 : kernelRun0_A.sl.r_47 c arg3 harg3 arg4 harg4 arg6 harg6 arg9 arg10 x0 x1 x3 = stM (qr c arg3 harg3 x0) x1 x3 7 :=
  congrArg₂ stepM (m_6 c arg3 harg3 arg4 harg4 arg6 harg6 arg9 arg10 x0 x1 x3) (s_6 c arg3 harg3 arg6 harg6 arg9 x0 x3)

theorem l_7 : kernelRun0_A.sl.r_48 c arg3 harg3 arg4 harg4 arg6 harg6 arg9 arg10 x0 x1 x3 = stL (qr c arg3 harg3 x0) x1 x3 7 :=
  congr (congrArg₂ stepL (m_6 c arg3 harg3 arg4 harg4 arg6 harg6 arg9 arg10 x0 x1 x3) (l_6 c arg3 harg3 arg4 harg4 arg6 harg6 arg9 arg10 x0 x1 x3)) (s_6 c arg3 harg3 arg6 harg6 arg9 x0 x3)

theorem a_7 : kernelRun0_A.sl.r_49 c arg3 harg3 arg4 harg4 arg5 harg5 arg6 harg6 arg7 harg7 arg9 arg10 x0 x1 x2 x3 x4 = stA (qr c arg3 harg3 x0) x1 x2 x3 x4 7 :=
  congr (congr (congrArg₂ stepA (m_6 c arg3 harg3 arg4 harg4 arg6 harg6 arg9 arg10 x0 x1 x3) (a_6 c arg3 harg3 arg4 harg4 arg5 harg5 arg6 harg6 arg7 harg7 arg9 arg10 x0 x1 x2 x3 x4)) (s_6 c arg3 harg3 arg6 harg6 arg9 x0 x3)) (read_vtile arg7 harg7 x4 6 6144 (by decide) (by decide) _)

theorem m_8 : kernelRun0_A.sl.r_51 c arg3 harg3 arg4 harg4 arg6 harg6 arg9 arg10 x0 x1 x3 = stM (qr c arg3 harg3 x0) x1 x3 8 :=
  congrArg₂ stepM (m_7 c arg3 harg3 arg4 harg4 arg6 harg6 arg9 arg10 x0 x1 x3) (s_7 c arg3 harg3 arg6 harg6 arg10 x0 x3)

theorem l_8 : kernelRun0_A.sl.r_52 c arg3 harg3 arg4 harg4 arg6 harg6 arg9 arg10 x0 x1 x3 = stL (qr c arg3 harg3 x0) x1 x3 8 :=
  congr (congrArg₂ stepL (m_7 c arg3 harg3 arg4 harg4 arg6 harg6 arg9 arg10 x0 x1 x3) (l_7 c arg3 harg3 arg4 harg4 arg6 harg6 arg9 arg10 x0 x1 x3)) (s_7 c arg3 harg3 arg6 harg6 arg10 x0 x3)

theorem a_8 : kernelRun0_A.sl.r_53 c arg3 harg3 arg4 harg4 arg5 harg5 arg6 harg6 arg7 harg7 arg9 arg10 x0 x1 x2 x3 x4 = stA (qr c arg3 harg3 x0) x1 x2 x3 x4 8 :=
  congr (congr (congrArg₂ stepA (m_7 c arg3 harg3 arg4 harg4 arg6 harg6 arg9 arg10 x0 x1 x3) (a_7 c arg3 harg3 arg4 harg4 arg5 harg5 arg6 harg6 arg7 harg7 arg9 arg10 x0 x1 x2 x3 x4)) (s_7 c arg3 harg3 arg6 harg6 arg10 x0 x3)) (read_vtile arg7 harg7 x4 7 7168 (by decide) (by decide) _)

theorem m_9 : kernelRun0_A.sl.r_54 c arg3 harg3 arg4 harg4 arg6 harg6 arg9 arg10 x0 x1 x3 = stM (qr c arg3 harg3 x0) x1 x3 9 :=
  congrArg₂ stepM (m_8 c arg3 harg3 arg4 harg4 arg6 harg6 arg9 arg10 x0 x1 x3) (s_8 c arg3 harg3 arg6 harg6 arg9 x0 x3)

theorem l_9 : kernelRun0_A.sl.r_55 c arg3 harg3 arg4 harg4 arg6 harg6 arg9 arg10 x0 x1 x3 = stL (qr c arg3 harg3 x0) x1 x3 9 :=
  congr (congrArg₂ stepL (m_8 c arg3 harg3 arg4 harg4 arg6 harg6 arg9 arg10 x0 x1 x3) (l_8 c arg3 harg3 arg4 harg4 arg6 harg6 arg9 arg10 x0 x1 x3)) (s_8 c arg3 harg3 arg6 harg6 arg9 x0 x3)

theorem a_9 : kernelRun0_A.sl.r_56 c arg3 harg3 arg4 harg4 arg5 harg5 arg6 harg6 arg7 harg7 arg9 arg10 x0 x1 x2 x3 x4 = stA (qr c arg3 harg3 x0) x1 x2 x3 x4 9 :=
  congr (congr (congrArg₂ stepA (m_8 c arg3 harg3 arg4 harg4 arg6 harg6 arg9 arg10 x0 x1 x3) (a_8 c arg3 harg3 arg4 harg4 arg5 harg5 arg6 harg6 arg7 harg7 arg9 arg10 x0 x1 x2 x3 x4)) (s_8 c arg3 harg3 arg6 harg6 arg9 x0 x3)) (read_vtile arg7 harg7 x4 8 8192 (by decide) (by decide) _)

theorem m_10 : kernelRun0_A.sl.r_58 c arg3 harg3 arg4 harg4 arg6 harg6 arg9 arg10 x0 x1 x3 = stM (qr c arg3 harg3 x0) x1 x3 10 :=
  congrArg₂ stepM (m_9 c arg3 harg3 arg4 harg4 arg6 harg6 arg9 arg10 x0 x1 x3) (s_9 c arg3 harg3 arg6 harg6 arg10 x0 x3)

theorem l_10 : kernelRun0_A.sl.r_60 c arg3 harg3 arg4 harg4 arg6 harg6 arg9 arg10 x0 x1 x3 = stL (qr c arg3 harg3 x0) x1 x3 10 :=
  congr (congrArg₂ stepL (m_9 c arg3 harg3 arg4 harg4 arg6 harg6 arg9 arg10 x0 x1 x3) (l_9 c arg3 harg3 arg4 harg4 arg6 harg6 arg9 arg10 x0 x1 x3)) (s_9 c arg3 harg3 arg6 harg6 arg10 x0 x3)

theorem a_10 : kernelRun0_A.sl.r_62 c arg3 harg3 arg4 harg4 arg5 harg5 arg6 harg6 arg7 harg7 arg9 arg10 x0 x1 x2 x3 x4 = stA (qr c arg3 harg3 x0) x1 x2 x3 x4 10 :=
  congr (congr (congrArg₂ stepA (m_9 c arg3 harg3 arg4 harg4 arg6 harg6 arg9 arg10 x0 x1 x3) (a_9 c arg3 harg3 arg4 harg4 arg5 harg5 arg6 harg6 arg7 harg7 arg9 arg10 x0 x1 x2 x3 x4)) (s_9 c arg3 harg3 arg6 harg6 arg10 x0 x3)) (read_vtile arg7 harg7 x4 9 9216 (by decide) (by decide) _)

theorem m_11 : kernelRun0_A.sl.r_64 c arg3 harg3 arg4 harg4 arg6 harg6 arg9 arg10 x0 x1 x3 = stM (qr c arg3 harg3 x0) x1 x3 11 :=
  congrArg₂ stepM (m_10 c arg3 harg3 arg4 harg4 arg6 harg6 arg9 arg10 x0 x1 x3) (s_10 c arg3 harg3 arg6 harg6 arg9 x0 x3)

theorem l_11 : kernelRun0_A.sl.r_69 c arg3 harg3 arg4 harg4 arg6 harg6 arg9 arg10 x0 x1 x3 = stL (qr c arg3 harg3 x0) x1 x3 11 :=
  congr (congrArg₂ stepL (m_10 c arg3 harg3 arg4 harg4 arg6 harg6 arg9 arg10 x0 x1 x3) (l_10 c arg3 harg3 arg4 harg4 arg6 harg6 arg9 arg10 x0 x1 x3)) (s_10 c arg3 harg3 arg6 harg6 arg9 x0 x3)

theorem a_11 : kernelRun0_A.sl.r_70 c arg3 harg3 arg4 harg4 arg5 harg5 arg6 harg6 arg7 harg7 arg9 arg10 x0 x1 x2 x3 x4 = stA (qr c arg3 harg3 x0) x1 x2 x3 x4 11 :=
  congr (congr (congrArg₂ stepA (m_10 c arg3 harg3 arg4 harg4 arg6 harg6 arg9 arg10 x0 x1 x3) (a_10 c arg3 harg3 arg4 harg4 arg5 harg5 arg6 harg6 arg7 harg7 arg9 arg10 x0 x1 x2 x3 x4)) (s_10 c arg3 harg3 arg6 harg6 arg9 x0 x3)) (read_vtile arg7 harg7 x4 10 10240 (by decide) (by decide) _)

theorem m_12 : kernelRun0_A.sl.r_72 c arg3 harg3 arg4 harg4 arg6 harg6 arg9 arg10 x0 x1 x3 = stM (qr c arg3 harg3 x0) x1 x3 12 :=
  congrArg₂ stepM (m_11 c arg3 harg3 arg4 harg4 arg6 harg6 arg9 arg10 x0 x1 x3) (s_11 c arg3 harg3 arg6 harg6 arg10 x0 x3)

theorem l_12 : kernelRun0_A.sl.r_80 c arg3 harg3 arg4 harg4 arg6 harg6 arg9 arg10 x0 x1 x3 = stL (qr c arg3 harg3 x0) x1 x3 12 :=
  congr (congrArg₂ stepL (m_11 c arg3 harg3 arg4 harg4 arg6 harg6 arg9 arg10 x0 x1 x3) (l_11 c arg3 harg3 arg4 harg4 arg6 harg6 arg9 arg10 x0 x1 x3)) (s_11 c arg3 harg3 arg6 harg6 arg10 x0 x3)

theorem a_12 : kernelRun0_A.sl.r_81 c arg3 harg3 arg4 harg4 arg5 harg5 arg6 harg6 arg7 harg7 arg9 arg10 x0 x1 x2 x3 x4 = stA (qr c arg3 harg3 x0) x1 x2 x3 x4 12 :=
  congr (congr (congrArg₂ stepA (m_11 c arg3 harg3 arg4 harg4 arg6 harg6 arg9 arg10 x0 x1 x3) (a_11 c arg3 harg3 arg4 harg4 arg5 harg5 arg6 harg6 arg7 harg7 arg9 arg10 x0 x1 x2 x3 x4)) (s_11 c arg3 harg3 arg6 harg6 arg10 x0 x3)) (read_vtile arg7 harg7 x4 11 11264 (by decide) (by decide) _)

theorem m_13 : kernelRun0_A.sl.r_83 c arg3 harg3 arg4 harg4 arg6 harg6 arg9 arg10 x0 x1 x3 = stM (qr c arg3 harg3 x0) x1 x3 13 :=
  congrArg₂ stepM (m_12 c arg3 harg3 arg4 harg4 arg6 harg6 arg9 arg10 x0 x1 x3) (s_12 c arg3 harg3 arg6 harg6 arg9 x0 x3)

theorem l_13 : kernelRun0_A.sl.r_92 c arg3 harg3 arg4 harg4 arg6 harg6 arg9 arg10 x0 x1 x3 = stL (qr c arg3 harg3 x0) x1 x3 13 :=
  congr (congrArg₂ stepL (m_12 c arg3 harg3 arg4 harg4 arg6 harg6 arg9 arg10 x0 x1 x3) (l_12 c arg3 harg3 arg4 harg4 arg6 harg6 arg9 arg10 x0 x1 x3)) (s_12 c arg3 harg3 arg6 harg6 arg9 x0 x3)

theorem a_13 : kernelRun0_A.sl.r_93 c arg3 harg3 arg4 harg4 arg5 harg5 arg6 harg6 arg7 harg7 arg9 arg10 x0 x1 x2 x3 x4 = stA (qr c arg3 harg3 x0) x1 x2 x3 x4 13 :=
  congr (congr (congrArg₂ stepA (m_12 c arg3 harg3 arg4 harg4 arg6 harg6 arg9 arg10 x0 x1 x3) (a_12 c arg3 harg3 arg4 harg4 arg5 harg5 arg6 harg6 arg7 harg7 arg9 arg10 x0 x1 x2 x3 x4)) (s_12 c arg3 harg3 arg6 harg6 arg9 x0 x3)) (read_vtile arg7 harg7 x4 12 12288 (by decide) (by decide) _)

theorem m_14 : kernelRun0_A.sl.r_95 c arg3 harg3 arg4 harg4 arg6 harg6 arg9 arg10 x0 x1 x3 = stM (qr c arg3 harg3 x0) x1 x3 14 :=
  congrArg₂ stepM (m_13 c arg3 harg3 arg4 harg4 arg6 harg6 arg9 arg10 x0 x1 x3) (s_13 c arg3 harg3 arg6 harg6 arg10 x0 x3)

theorem l_14 : kernelRun0_A.sl.r_98 c arg3 harg3 arg4 harg4 arg6 harg6 arg9 arg10 x0 x1 x3 = stL (qr c arg3 harg3 x0) x1 x3 14 :=
  congr (congrArg₂ stepL (m_13 c arg3 harg3 arg4 harg4 arg6 harg6 arg9 arg10 x0 x1 x3) (l_13 c arg3 harg3 arg4 harg4 arg6 harg6 arg9 arg10 x0 x1 x3)) (s_13 c arg3 harg3 arg6 harg6 arg10 x0 x3)

theorem a_14 : kernelRun0_A.sl.r_99 c arg3 harg3 arg4 harg4 arg5 harg5 arg6 harg6 arg7 harg7 arg9 arg10 x0 x1 x2 x3 x4 = stA (qr c arg3 harg3 x0) x1 x2 x3 x4 14 :=
  congr (congr (congrArg₂ stepA (m_13 c arg3 harg3 arg4 harg4 arg6 harg6 arg9 arg10 x0 x1 x3) (a_13 c arg3 harg3 arg4 harg4 arg5 harg5 arg6 harg6 arg7 harg7 arg9 arg10 x0 x1 x2 x3 x4)) (s_13 c arg3 harg3 arg6 harg6 arg10 x0 x3)) (read_vtile arg7 harg7 x4 13 13312 (by decide) (by decide) _)

theorem m_15 : kernelRun0_A.sl.r_101 c arg3 harg3 arg4 harg4 arg6 harg6 arg9 arg10 x0 x1 x3 = stM (qr c arg3 harg3 x0) x1 x3 15 :=
  congrArg₂ stepM (m_14 c arg3 harg3 arg4 harg4 arg6 harg6 arg9 arg10 x0 x1 x3) (s_14 c arg3 harg3 arg6 harg6 arg9 x0 x3)

theorem l_15 : kernelRun0_A.sl.r_103 c arg3 harg3 arg4 harg4 arg6 harg6 arg9 arg10 x0 x1 x3 = stL (qr c arg3 harg3 x0) x1 x3 15 :=
  congr (congrArg₂ stepL (m_14 c arg3 harg3 arg4 harg4 arg6 harg6 arg9 arg10 x0 x1 x3) (l_14 c arg3 harg3 arg4 harg4 arg6 harg6 arg9 arg10 x0 x1 x3)) (s_14 c arg3 harg3 arg6 harg6 arg9 x0 x3)

theorem a_15 : kernelRun0_A.sl.r_104 c arg3 harg3 arg4 harg4 arg5 harg5 arg6 harg6 arg7 harg7 arg9 arg10 x0 x1 x2 x3 x4 = stA (qr c arg3 harg3 x0) x1 x2 x3 x4 15 :=
  congr (congr (congrArg₂ stepA (m_14 c arg3 harg3 arg4 harg4 arg6 harg6 arg9 arg10 x0 x1 x3) (a_14 c arg3 harg3 arg4 harg4 arg5 harg5 arg6 harg6 arg7 harg7 arg9 arg10 x0 x1 x2 x3 x4)) (s_14 c arg3 harg3 arg6 harg6 arg9 x0 x3)) (read_vtile arg7 harg7 x4 14 14336 (by decide) (by decide) _)

/-- The kernel's last absorption and its division. -/
def lastQ (m l : FVec F S1024x1 .f32) (a : FVec F S1024x128 .f32) (s : FVec F S1024x1024 .f32) (v : Vec F S1024x128 .bf16) :
    FVec F S1024x128 .f32 :=
  divf (stepA m a s v) (broadcastTo S1024x128 (stepL m l s) broadcasts_S1024x1_S1024x128)

/-- What the body divides is the recursion's quotient. -/
theorem quot_eq (inb) : k0_pay130 (kernelRun0_A.sl.r_101 c arg3 harg3 arg4 harg4 arg6 harg6 arg9 arg10 x0 x1 x3) (kernelRun0_A.sl.r_103 c arg3 harg3 arg4 harg4 arg6 harg6 arg9 arg10 x0 x1 x3)
      (kernelRun0_A.sl.r_104 c arg3 harg3 arg4 harg4 arg5 harg5 arg6 harg6 arg7 harg7 arg9 arg10 x0 x1 x2 x3 x4) (kernelRun0_A.sl.v759 c arg3 harg3 arg6 harg6 arg10 x0 x3)
      (arg7.view.readAt (Elt F) (Rect.unit (s := S16384x128) ![15360, 0] S1024x128.size inb).toLoadRect (harg7.unread x4))
    = quot (qr c arg3 harg3 x0) x1 x2 x3 x4 :=
  congr (congr (congr (congrArg₂ lastQ (m_15 c arg3 harg3 arg4 harg4 arg6 harg6 arg9 arg10 x0 x1 x3) (l_15 c arg3 harg3 arg4 harg4 arg6 harg6 arg9 arg10 x0 x1 x3)) (a_15 c arg3 harg3 arg4 harg4 arg5 harg5 arg6 harg6 arg7 harg7 arg9 arg10 x0 x1 x2 x3 x4)) (s_15 c arg3 harg3 arg6 harg6 arg10 x0 x3)) (read_vtile arg7 harg7 x4 15 15360 (by decide) (by decide) _)

end Run

end Cert.KernelIdeal.Attn

end
-- ==== Proof.RowState.lean ====
/- The kernel's recursion, row by row: its state is the softmax state of `Softmax.lean`. -/
module

public import proofs.«01_k».proof.Proof.Steps
public import proofs.«01_k».proof.Proof.Softmax

@[expose] public section

set_option maxRecDepth 16384

noncomputable section

namespace Cert.KernelIdeal.Attn

open Cert.KernelIdeal Cert.KernelIdeal.Gen Cert.Softmax Idealize.ShloMosaic Idealize.ShloMosaic.TcCoe

local notation "𝕀" => Idealize.ShloMosaic.Ideal

/-- The ideal reading of the float pattern of negative infinity. -/
theorem ofBits_negInf : Ideal.ofBits FTy.f32 0xFF800000#32 = ⊥ := by
  show Ideal.ieee 8 23 0xFF800000#32 = ⊥
  rw [Ideal.ieee]
  simp

/-- A row's maximum. -/
theorem rowMax {n m : ℕ} (v : FVec 𝕀 ⟨2, ![n, m]⟩ .f32) (h : (⟨2, ![n, m]⟩ : Shape).Reduces [1] ⟨1, ![n]⟩) (acc) (hφ) (hacc)
    (i : Fin n) : multiReduction .maximumf [1] ⟨1, ![n]⟩ v acc h hφ hacc (ix1 i)
      = Finset.fold max (Ideal.ofBits .f32 acc) (fun t : Fin m => v (ix2 i t)) Finset.univ := by
  pointwise

theorem max_col (m : FVec 𝕀 S1024x1 .f32) (x : FVec 𝕀 S1024 .f32) (i : Fin 1024) :
    maximumf m (shapeCast S1024x1 x shapeCasts_S1024_S1024x1) (ix2 i 0) = max (m (ix2 i 0)) (x (ix1 i)) := by
  pointwise

theorem scoreRows_at (q : FVec 𝕀 S1024x128 .bf16) (kt : Vec 𝕀 S1x1x1x128x1024 .bf16) (i t : Fin 1024) :
    scoreRows q kt (ix2 i t) = ∑ e : Fin 128, q (ix2 i e) * kt (ix5 0 0 0 e t) := by
  pointwise [scoreRows]

theorem stepM_at (m : FVec 𝕀 S1024x1 .f32) (s : FVec 𝕀 S1024x1024 .f32) (i : Fin 1024) :
    stepM m s (ix2 i 0) = max (m (ix2 i 0)) (Finset.fold max ⊥ (fun t : Fin 1024 => s (ix2 i t)) Finset.univ) :=
  (max_col m _ i).trans (congrArg (max _) ((rowMax s _ _ _ _ i).trans (by rw [ofBits_negInf])))

theorem stepC_at (m : FVec 𝕀 S1024x1 .f32) (s : FVec 𝕀 S1024x1024 .f32) (i : Fin 1024) :
    stepC m s (ix2 i 0) = Ideal.exp2 (m (ix2 i 0) - stepM m s (ix2 i 0)) := by
  pointwise [stepC]; rfl

theorem stepP_at (m : FVec 𝕀 S1024x1 .f32) (s : FVec 𝕀 S1024x1024 .f32) (i t : Fin 1024) :
    stepP m s (ix2 i t) = Ideal.exp2 (s (ix2 i t) - stepM m s (ix2 i 0)) := by
  pointwise [stepP]; rfl

/-- Lane `x` of group `g`. -/
def lane (n : ℕ) (g : Fin n) (x : Fin 128) : Fin (n * 128) :=
  ⟨g * 128 + x, by have := g.isLt; have := x.isLt; omega⟩

theorem lane_eq {n : ℕ} (g : Fin n) (x : Fin 128) (o : ℕ) (h) (ho : o = g * 128 := by rfl) : (⟨o + x, h⟩ : Fin (n * 128)) = lane n g x :=
  Fin.ext (by subst ho; rfl)

theorem lane_zero {n : ℕ} (g : Fin n) (x : Fin 128) (h) (hg : g.val = 0) : (⟨x, h⟩ : Fin (n * 128)) = lane n g x :=
  Fin.ext (by show (x : ℕ) = g * 128 + x; omega)

theorem lanes_at (p : FVec 𝕀 S1024x1024 .bf16) (i : Fin 1024) (x : Fin 128) :
    lanes p (ix2 i x) = ∑ g : Fin 8, p (ix2 i (lane 8 g x)) := by
  rw [Fin.sum_univ_eight, ← lane_zero 0 x (by omega) rfl, ← lane_eq 1 x 128 (by omega), ← lane_eq 2 x 256 (by omega),
    ← lane_eq 3 x 384 (by omega), ← lane_eq 4 x 512 (by omega), ← lane_eq 5 x 640 (by omega), ← lane_eq 6 x 768 (by omega),
    ← lane_eq 7 x 896 (by omega)]
  pointwise [lanes]

/-- Folding a tile's weights onto lanes and summing the lanes sums the tile. -/
theorem sum_lanes (p : FVec 𝕀 S1024x1024 .bf16) (i : Fin 1024) :
    ∑ x : Fin 128, lanes p (ix2 i x) = ∑ t : Fin 1024, p (ix2 i t) := by
  simp only [lanes_at]
  rw [Finset.sum_comm]
  exact (Fin.sum_univ_tiles 8 128 rfl fun t : Fin 1024 => p (ix2 i t)).symm

theorem stepL_at (m l : FVec 𝕀 S1024x1 .f32) (s : FVec 𝕀 S1024x1024 .f32) (i : Fin 1024) :
    stepL m l s (ix2 i 0) = stepC m s (ix2 i 0) * l (ix2 i 0) + ∑ t : Fin 1024, stepP m s (ix2 i t) := by
  rw [← sum_lanes]
  pointwise [stepL]

theorem stepA_at (m : FVec 𝕀 S1024x1 .f32) (a : FVec 𝕀 S1024x128 .f32) (s : FVec 𝕀 S1024x1024 .f32)
    (v : Vec 𝕀 S1024x128 .bf16) (i : Fin 1024) (d : Fin 128) :
    stepA m a s v (ix2 i d) = stepC m s (ix2 i 0) * a (ix2 i d) + ∑ t : Fin 1024, stepP m s (ix2 i t) * v (ix2 t d) := by
  pointwise [stepA]

theorem ctxS_at (q : FVec 𝕀 S1024x128 .bf16) (k : Vec 𝕀 S256x128 .bf16) (i : Fin 1024) (t : Fin 256) :
    ctxS q k (ix2 i t) = ∑ e : Fin 128, q (ix2 i e) * k (ix2 t e) := by
  pointwise [ctxS]

theorem ctxM_at (q : FVec 𝕀 S1024x128 .bf16) (k : Vec 𝕀 S256x128 .bf16) (i : Fin 1024) :
    ctxM q k (ix2 i 0) = max ⊥ (Finset.fold max ⊥ (fun t : Fin 256 => ctxS q k (ix2 i t)) Finset.univ) :=
  (max_col negInf _ i).trans (congrArg₂ max ofBits_negInf ((rowMax (ctxS q k) _ _ _ _ i).trans (by rw [ofBits_negInf])))

theorem ctxC_at (q : FVec 𝕀 S1024x128 .bf16) (k : Vec 𝕀 S256x128 .bf16) (i : Fin 1024) :
    ctxC q k (ix2 i 0) = Ideal.exp2 (⊥ - ctxM q k (ix2 i 0)) := by
  rw [← ofBits_negInf]
  pointwise [ctxC, negInf]; rfl

theorem ctxP_at (q : FVec 𝕀 S1024x128 .bf16) (k : Vec 𝕀 S256x128 .bf16) (i : Fin 1024) (t : Fin 256) :
    ctxP q k (ix2 i t) = Ideal.exp2 (ctxS q k (ix2 i t) - ctxM q k (ix2 i 0)) := by
  pointwise [ctxP]; rfl

theorem ctxL_at (q : FVec 𝕀 S1024x128 .bf16) (k : Vec 𝕀 S256x128 .bf16) (i : Fin 1024) :
    ctxL q k (ix2 i 0) = ctxC q k (ix2 i 0) * 0 + ∑ t : Fin 256, ctxP q k (ix2 i t) := by
  have e : ∑ t : Fin 256, ctxP q k (ix2 i t)
      = ∑ x : Fin 128, (ctxP q k (ix2 i ⟨x, by omega⟩) + ctxP q k (ix2 i ⟨128 + x, by omega⟩)) := by
    rw [Fin.sum_univ_tiles 2 128 rfl fun t : Fin 256 => ctxP q k (ix2 i t), Finset.sum_comm]
    refine Finset.sum_congr rfl fun x _ => ?_
    rw [Fin.sum_univ_two, lane_zero (n := 2) 0 x _ rfl, lane_eq (n := 2) 1 x 128 _]
    rfl
  rw [e]
  pointwise [ctxL]

theorem ctxA_at (q : FVec 𝕀 S1024x128 .bf16) (k v : Vec 𝕀 S256x128 .bf16) (i : Fin 1024) (d : Fin 128) :
    ctxA q k v (ix2 i d) = ctxC q k (ix2 i 0) * 0 + ∑ t : Fin 256, ctxP q k (ix2 i t) * v (ix2 t d) := by
  pointwise [ctxA]

/-! ## A row's state after `n` tiles -/

/-- The total weight a row has seen: the context keys (scores `s0`), then tiles of scores `s`. -/
def seenW (s0 : Fin 256 → ℝ) (s : ℕ → Fin 1024 → ℝ) : ℕ → ℝ
  | 0 => ∑ t, pow2 (s0 t)
  | n + 1 => seenW s0 s n + ∑ t, pow2 (s n t)

/-- The weighted values a row has seen. -/
def seenV (s0 : Fin 256 → ℝ) (s : ℕ → Fin 1024 → ℝ) (v0 : Fin 256 → Fin 128 → EReal) (v : ℕ → Fin 1024 → Fin 128 → EReal)
    (d : Fin 128) : ℕ → EReal
  | 0 => ∑ t, (pow2 (s0 t) : EReal) * v0 t d
  | n + 1 => seenV s0 s v0 v d n + ∑ t, (pow2 (s n t) : EReal) * v n t d

/-- The state of row `i` after `n` tiles, when its scores are real. -/
theorem row_state (q : FVec 𝕀 S1024x128 .bf16) (k v : Vec 𝕀 S256x128 .bf16) (x3 : Vec 𝕀 S1x1x16x128x1024 .bf16)
    (x4 : Vec 𝕀 S16384x128 .bf16) (i : Fin 1024) (s0 : Fin 256 → ℝ) (s : ℕ → Fin 1024 → ℝ)
    (h0 : ∀ t, ctxS q k (ix2 i t) = (s0 t : EReal)) (hs : ∀ n t, scoreRows q (ktile x3 n) (ix2 i t) = (s n t : EReal)) :
    ∀ n, Row (seenW s0 s n) (fun d => seenV s0 s (fun t d => v (ix2 t d)) (fun n t d => vtile x4 n (ix2 t d)) d n)
      (stM q k x3 n (ix2 i 0)) (stL q k x3 n (ix2 i 0)) (fun d => stA q k v x3 x4 n (ix2 i d))
  | 0 => by
    refine Row.first 0 s0 (fun t d => v (ix2 t d)) ?_ ?_ fun d => ?_
    · exact (ctxM_at q k i).trans (by simp only [h0])
    · exact (ctxL_at q k i).trans (by simp only [ctxP_at, ctxC_at, h0]; rfl)
    · exact (ctxA_at q k v i d).trans (by simp only [ctxP_at, ctxC_at, h0]; rfl)
  | n + 1 => by
    refine Row.step 0 (s n) (fun t d => vtile x4 n (ix2 t d)) (row_state q k v x3 x4 i s0 s h0 hs n) ?_ ?_ fun d => ?_
    · exact (stepM_at _ _ i).trans (by simp only [hs])
    · exact (stepL_at _ _ _ i).trans (by simp only [stepP_at, stepC_at, hs]; rfl)
    · exact (stepA_at _ _ _ _ i d).trans (by simp only [stepP_at, stepC_at, hs]; rfl)

theorem seenW_pos (s0 : Fin 256 → ℝ) (s : ℕ → Fin 1024 → ℝ) : ∀ n, 0 < seenW s0 s n
  | 0 => Finset.sum_pos (fun t _ => pow2_pos _) ⟨0, Finset.mem_univ _⟩
  | n + 1 => add_pos (seenW_pos s0 s n) (Finset.sum_pos (fun t _ => pow2_pos _) ⟨0, Finset.mem_univ _⟩)

/-- What the kernel stores for a row: the weighted values over the total weight. -/
theorem quot_at (q : FVec 𝕀 S1024x128 .bf16) (k v : Vec 𝕀 S256x128 .bf16) (x3 : Vec 𝕀 S1x1x16x128x1024 .bf16)
    (x4 : Vec 𝕀 S16384x128 .bf16) (i : Fin 1024) (d : Fin 128) (s0 : Fin 256 → ℝ) (s : ℕ → Fin 1024 → ℝ)
    (h0 : ∀ t, ctxS q k (ix2 i t) = (s0 t : EReal)) (hs : ∀ n t, scoreRows q (ktile x3 n) (ix2 i t) = (s n t : EReal)) :
    quot q k v x3 x4 (ix2 i d)
      = ((1 / seenW s0 s 16 : ℝ) : EReal) * seenV s0 s (fun t d => v (ix2 t d)) (fun n t d => vtile x4 n (ix2 t d)) d 16 := by
  refine Eq.trans ?_ ((row_state q k v x3 x4 i s0 s h0 hs 16).quot (seenW_pos s0 s 16) d)
  generalize hA : stA q k v x3 x4 16 = a
  generalize hL : stL q k x3 16 = l
  have e : ∀ a : FVec 𝕀 S1024x128 .f32, ∀ l : FVec 𝕀 S1024x1 .f32,
      divf a (broadcastTo S1024x128 l broadcasts_S1024x1_S1024x128) (ix2 i d) = Ideal.div (a (ix2 i d)) (l (ix2 i 0)) := by
    intro a l
    pointwise
  exact (congrFun (congrArg₂ (fun a l => divf a (broadcastTo S1024x128 l broadcasts_S1024x1_S1024x128)) hA hL) _).trans (e a l)

end Cert.KernelIdeal.Attn

end
-- ==== Proof.Tile.lean ====
/- What one grid point stores: the quotient's rows, the four heads of the group side by side.

   The body stacks the four heads' queries as rows `g * 256 + r` and stores head `g` of row `r` at lanes `g * 128 ..`. -/
module

public import proofs.«01_k».proof.Proof.Steps
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F]

/-- The stacked query rows of a block of queries. -/
def qRows (x0 : Vec F S256x512 .bf16) : FVec F S1024x128 .bf16 :=
  fun i => x0 (ix2 ⟨(i 0).val % 256, Nat.mod_lt _ (by decide)⟩ ⟨(i 0).val / 256 * 128 + (i 1).val, by
    have h0 : (i 0).val < 1024 := (i 0).isLt
    have h1 : (i 1).val < 128 := (i 1).isLt
    omega⟩)

/-- The heads of a stacked block, put side by side. -/
def unstack (D : FVec F S1024x128 .f32) : FVec F S256x512 .bf16 :=
  fun y => truncf .bf16 D bitsLt_bf16_f32 (ix2 ⟨(y 1).val / 128 * 256 + (y 0).val, by
    have h0 : (y 0).val < 256 := (y 0).isLt
    have h1 : (y 1).val < 512 := (y 1).isLt
    omega⟩ ⟨(y 1).val % 128, Nat.mod_lt _ (by decide)⟩)

/-- Rows `o ..` of a stacked block, rounded: what the body stores for one head. -/
def headOf (o : ℕ) (D : FVec F S1024x128 .f32) (h : S1024x128.Slices ![o, 0] S256x128) : FVec F S256x128 .bf16 :=
  truncf .bf16 (extractStridedSlice S256x128 ![o, 0] D h) bitsLt_bf16_f32

/-- One head's store is a block of the unstacked tile. -/
theorem headOf_apply (D : FVec F S1024x128 .f32) (o l : ℕ) (h) (g : ℕ) (ho : o = g * 256) (hl : l = g * 128) (inb)
    (x : S256x128.Idx) : headOf o D h x = unstack D ((Rect.unit (s := S256x512) ![0, l] S256x128.size inb).emb x) := by
  subst ho hl
  have h0 : (x 0).val < 256 := (x 0).isLt
  have h1 : (x 1).val < 128 := (x 1).isLt
  refine congrArg (truncf .bf16 D bitsLt_bf16_f32) (funext fun a => Fin.ext ?_)
  match a with
  | ⟨0, _⟩ => show g * 256 + (x 0).val = (g * 128 + 1 * (x 1).val) / 128 * 256 + (0 + 1 * (x 0).val); omega
  | ⟨1, _⟩ => show 0 + (x 1).val = (g * 128 + 1 * (x 1).val) % 128; omega

/-- A load of one head's queries. -/
theorem read_head (a : Memref sig .tc .vmem S256x512 .bf16) (h : a.IsWhole) (x : Vec F S256x512 .bf16) (l : ℕ) (inb) (i : S256x128.Idx)
    (j : S256x512.Idx) (h0 : (j 0).val = (i 0).val) (h1 : (j 1).val = l + (i 1).val) :
    a.view.readAt (Elt F) (Rect.unit (s := S256x512) ![0, l] S256x128.size inb).toLoadRect (h.unread x) i = x j := by
  refine (congrFun (View.readAt_eq_ld a.view (h.unread x) (Rect.unit (s := S256x512) ![0, l] S256x128.size inb)) i).trans ?_
  rw [h.read_unread]
  refine congrArg x (funext fun a => Fin.ext ?_)
  match a with
  | ⟨0, _⟩ => show 0 + 1 * (i 0).val = (j 0).val; omega
  | ⟨1, _⟩ => show l + 1 * (i 1).val = (j 1).val; omega

/-- The stacked queries the run reads are `qRows` of the block. -/
theorem qr_eq (c : Dev nD) (arg3 : Memref sig .tc .vmem S256x512 .bf16) (harg3 : arg3.IsWhole) (x0 : Vec F S256x512 .bf16) :
    qr c arg3 harg3 x0 = qRows x0 := by
  unfold qr kernelRun0_A.sl.r k0_pay1
  funext i
  idx_vars i
  pointwise
  have hi := i0.isLt
  have h1 := i1.isLt
  by_cases a0 : (i0 : ℕ) < 256
  · rw [dif_pos a0]
    exact read_head arg3 harg3 x0 0 _ _ _ (by show (i0 : ℕ) % 256 = i0; omega) (by show (i0 : ℕ) / 256 * 128 + i1 = 0 + i1; omega)
  rw [dif_neg a0]
  by_cases a1 : (i0 : ℕ) - 256 < 256
  · rw [dif_pos a1]
    exact read_head arg3 harg3 x0 128 _ _ _ (by show (i0 : ℕ) % 256 = i0 - 256; omega)
      (by show (i0 : ℕ) / 256 * 128 + i1 = 128 + i1; omega)
  rw [dif_neg a1]
  by_cases a2 : (i0 : ℕ) - 256 - 256 < 256
  · rw [dif_pos a2]
    exact read_head arg3 harg3 x0 256 _ _ _ (by show (i0 : ℕ) % 256 = i0 - 256 - 256; omega)
      (by show (i0 : ℕ) / 256 * 128 + i1 = 256 + i1; omega)
  rw [dif_neg a2]
  exact read_head arg3 harg3 x0 384 _ _ _ (by show (i0 : ℕ) % 256 = i0 - 256 - 256 - 256; omega)
    (by show (i0 : ℕ) / 256 * 128 + i1 = 384 + i1; omega)

theorem out_tile (c : Dev nD) (i : grid0.Coords) (arg3 : Memref sig .tc .vmem S256x512 .bf16) (harg3 : arg3.IsWhole)
    (arg4 : Memref sig .tc .vmem S256x128 .bf16) (harg4 : arg4.IsWhole) (arg5 : Memref sig .tc .vmem S256x128 .bf16)
    (harg5 : arg5.IsWhole) (arg6 : Memref sig .tc .vmem S1x1x16x128x1024 .bf16) (harg6 : arg6.IsWhole)
    (arg7 : Memref sig .tc .vmem S16384x128 .bf16) (harg7 : arg7.IsWhole)
    (arg8 : Memref sig .tc .vmem S256x512 .bf16) (harg8 : arg8.IsWhole)
    (arg9 : Memref sig .tc .vmem S1024x1024 .f32) (harg9 : arg9.IsWhole) (arg10 : Memref sig .tc .vmem S1024x1024 .f32)
    (harg10 : arg10.IsWhole) (x0 : Vec F S256x512 .bf16) (x1 x2 : Vec F S256x128 .bf16) (x3 : Vec F S1x1x16x128x1024 .bf16)
    (x4 : Vec F S16384x128 .bf16) :
    out0_A_5 c i arg3 harg3 arg4 harg4 arg5 harg5 arg6 harg6 arg7 harg7 arg8 harg8 arg9 harg9 arg10 harg10 x0 x1 x2 x3 x4
      = unstack (quot (qRows x0) x1 x2 x3 x4) := by
  unfold out0_A_5
  rw [View.read_writes_junk_eq_canon]
  funext y
  refine (congrFun (congrArg View.canon (List.append_nil _).symm) y).trans ?_
  refine View.canon_append_of_piecesOf _ [] _ ?_ y (cover0_A_5 c i arg3 harg3 arg4 harg4 arg5 harg5 arg6 harg6 arg7 harg7 arg8 harg8
    arg9 harg9 arg10 harg10 x0 x1 x2 x3 x4 y)
  have hq := fun inb => quot_eq c arg3 harg3 arg4 harg4 arg5 harg5 arg6 harg6 arg7 harg7 arg9 arg10 x0 x1 x2 x3 x4 inb
  rw [qr_eq] at hq
  refine ⟨fun x => ?_, fun x => ?_, fun x => ?_, fun x => ?_, trivial⟩
  · exact (congrFun (congrArg (fun D => headOf 768 D slices_S1024x128_o768_0_S256x128) (hq _)) x).trans
      (headOf_apply _ 768 384 _ 3 rfl rfl inb_S256x512_S256x128_0_384 x)
  · exact (congrFun (congrArg (fun D => headOf 512 D slices_S1024x128_o512_0_S256x128) (hq _)) x).trans
      (headOf_apply _ 512 256 _ 2 rfl rfl inb_S256x512_S256x128_0_256 x)
  · exact (congrFun (congrArg (fun D => headOf 256 D slices_S1024x128_o256_0_S256x128) (hq _)) x).trans
      (headOf_apply _ 256 128 _ 1 rfl rfl inb_S256x512_S256x128_0_128 x)
  · exact (congrFun (congrArg (fun D => headOf 0 D slices_S1024x128_o0_0_S256x128) (hq _)) x).trans
      (headOf_apply _ 0 0 _ 0 rfl rfl inb_S256x512_S256x128_0_0 x)

end Cert.KernelIdeal.Attn

end
-- ==== Proof.FlashCtxValue.lean ====
/- The context call's result array: every element is the attention of `FlashCtxSpec.lean`.

   A grid point absorbs its 256 keys in one step of the running softmax, the step the latent call begins with, so the step's
   definitions and lemmas (`Steps.lean`, `RowState.lean`) are used again. -/
module

public import proofs.«01_k».proof.Proof.RowState
public import proofs.«01_k».proof.Proof.Tile
public import proofs.«01_k».proof.Proof.FlashCtxSpec
public import proofs.«01_k».proof.Proof.Gen.FlashCtxIdeal.Value

@[expose] public section

set_option maxRecDepth 16384

noncomputable section

namespace Cert.FlashCtxIdeal.Rows

open Cert.FlashCtxIdeal Cert.FlashCtxIdeal.Gen Cert.Softmax Cert.Attention Idealize.ShloMosaic Idealize.ShloMosaic.TcCoe
open Cert.KernelIdeal.Attn (ctxS ctxM ctxP ctxC ctxL ctxA ctxM_at ctxL_at ctxA_at ctxP_at ctxC_at ctxS_at qRows unstack headOf headOf_apply)

local notation "𝕀" => Idealize.ShloMosaic.Ideal

/-- One step of the running softmax over the block's keys, then the quotient. -/
def quot (q : FVec 𝕀 S1024x128 .bf16) (k v : Vec 𝕀 S256x128 .bf16) : FVec 𝕀 S1024x128 .f32 :=
  divf (ctxA q k v) (broadcastTo S1024x128 (ctxL q k) broadcasts_S1024x1_S1024x128)

/-- The four heads' queries, one under the other. -/
theorem stacked (x0 : Vec 𝕀 S256x512 .bf16) (h) :
    (concatenate S1024x128 0 [⟨S256x128, View.ld (Val := Elt 𝕀) (e' := .bf16) x0 r0_0⟩, ⟨S256x128, View.ld (Val := Elt 𝕀) (e' := .bf16) x0 r0_1⟩,
      ⟨S256x128, View.ld (Val := Elt 𝕀) (e' := .bf16) x0 r0_2⟩, ⟨S256x128, View.ld (Val := Elt 𝕀) (e' := .bf16) x0 r0_3⟩] h : FVec 𝕀 S1024x128 .bf16)
      = qRows x0 := by
  funext i
  idx_vars i
  have hi := i0.isLt
  have h1 := i1.isLt
  pointwise
  by_cases a0 : (i0 : ℕ) < 256
  · rw [dif_pos a0]
    refine congrArg x0 (congrArg₂ ix2 (Fin.ext ?_) (Fin.ext ?_))
    · show (i0 : ℕ) = (i0 : ℕ) % 256; omega
    · show (i1 : ℕ) = (i0 : ℕ) / 256 * 128 + i1; omega
  rw [dif_neg a0]
  by_cases a1 : (i0 : ℕ) - 256 < 256
  · rw [dif_pos a1]
    refine congrArg x0 (congrArg₂ ix2 (Fin.ext ?_) (Fin.ext ?_))
    · show (i0 : ℕ) - 256 = (i0 : ℕ) % 256; omega
    · show 128 + (i1 : ℕ) = (i0 : ℕ) / 256 * 128 + i1; omega
  rw [dif_neg a1]
  by_cases a2 : (i0 : ℕ) - 256 - 256 < 256
  · rw [dif_pos a2]
    refine congrArg x0 (congrArg₂ ix2 (Fin.ext ?_) (Fin.ext ?_))
    · show (i0 : ℕ) - 256 - 256 = (i0 : ℕ) % 256; omega
    · show 256 + (i1 : ℕ) = (i0 : ℕ) / 256 * 128 + i1; omega
  rw [dif_neg a2]
  refine congrArg x0 (congrArg₂ ix2 (Fin.ext ?_) (Fin.ext ?_))
  · show (i0 : ℕ) - 256 - 256 - 256 = (i0 : ℕ) % 256; omega
  · show 384 + (i1 : ℕ) = (i0 : ℕ) / 256 * 128 + i1; omega

/-- A block read whole is itself. -/
theorem whole (x : Vec 𝕀 S256x128 .bf16) : View.ld (Val := Elt 𝕀) (e' := .bf16) x r0_4 = x := by
  funext a
  refine congrArg x (funext fun b => Fin.ext ?_)
  match b with
  | ⟨0, _⟩ => show 0 + 1 * (a 0).val = (a 0).val; omega
  | ⟨1, _⟩ => show 0 + 1 * (a 1).val = (a 1).val; omega

/-- The value the body's four stores take their rows from. -/
theorem body_eq (x0 : Vec 𝕀 S256x512 .bf16) (x1 x2 : Vec 𝕀 S256x128 .bf16) : k0_pay6 x0 x1 x2 = quot (qRows x0) x1 x2 := by
  have e : k0_pay6 x0 x1 x2 = quot (concatenate S1024x128 0 [⟨S256x128, View.ld (Val := Elt 𝕀) (e' := .bf16) x0 r0_0⟩,
      ⟨S256x128, View.ld (Val := Elt 𝕀) (e' := .bf16) x0 r0_1⟩, ⟨S256x128, View.ld (Val := Elt 𝕀) (e' := .bf16) x0 r0_2⟩,
      ⟨S256x128, View.ld (Val := Elt 𝕀) (e' := .bf16) x0 r0_3⟩] concatenates_S256x128_S256x128_S256x128_S256x128_S1024x128_d0)
      (View.ld (Val := Elt 𝕀) (e' := .bf16) x1 r0_4) (View.ld (Val := Elt 𝕀) (e' := .bf16) x2 r0_4) := rfl
  rw [e, stacked, whole, whole]

/-- What a grid point leaves in the result's block: the heads side by side. -/
theorem tile (x0 : Vec 𝕀 S256x512 .bf16) (x1 x2 : Vec 𝕀 S256x128 .bf16) :
    out0_3 x0 x1 x2 = unstack (quot (qRows x0) x1 x2) := by
  unfold out0_3
  funext y
  refine (congrFun (congrArg View.canon (List.append_nil _).symm) y).trans ?_
  refine View.canon_append_of_piecesOf _ [] _ ?_ y (cover0_3 _ _ _ _ y)
  have hq := body_eq x0 x1 x2
  refine ⟨fun x => ?_, fun x => ?_, fun x => ?_, fun x => ?_, trivial⟩
  · exact (congrFun (congrArg (fun D => headOf 768 D slices_S1024x128_o768_0_S256x128) hq) x).trans
      (headOf_apply _ 768 384 _ 3 rfl rfl inb_S256x512_S256x128_0_384 x)
  · exact (congrFun (congrArg (fun D => headOf 512 D slices_S1024x128_o512_0_S256x128) hq) x).trans
      (headOf_apply _ 512 256 _ 2 rfl rfl inb_S256x512_S256x128_0_256 x)
  · exact (congrFun (congrArg (fun D => headOf 256 D slices_S1024x128_o256_0_S256x128) hq) x).trans
      (headOf_apply _ 256 128 _ 1 rfl rfl inb_S256x512_S256x128_0_128 x)
  · exact (congrFun (congrArg (fun D => headOf 0 D slices_S1024x128_o0_0_S256x128) hq) x).trans
      (headOf_apply _ 0 0 _ 0 rfl rfl inb_S256x512_S256x128_0_0 x)

/-- The quotient of a row whose scores are real. -/
theorem quot_at (q : FVec 𝕀 S1024x128 .bf16) (k v : Vec 𝕀 S256x128 .bf16) (i : Fin 1024) (d : Fin 128) (s : Fin 256 → ℝ)
    (w : Fin 256 → EReal) (hs : ∀ t, ctxS q k (ix2 i t) = (s t : EReal)) (hw : ∀ t, v (ix2 t d) = w t) :
    quot q k v (ix2 i d) = Ctx.attn s w := by
  have row : Row (∑ t, pow2 (s t)) (fun d => ∑ t, (pow2 (s t) : EReal) * v (ix2 t d))
      (ctxM q k (ix2 i 0)) (ctxL q k (ix2 i 0)) (fun d => ctxA q k v (ix2 i d)) := by
    refine Row.first 0 s (fun t d => v (ix2 t d)) ?_ ?_ fun d => ?_
    · exact (ctxM_at q k i).trans (by simp only [hs])
    · exact (ctxL_at q k i).trans (by simp only [ctxP_at, ctxC_at, hs])
    · exact (ctxA_at q k v i d).trans (by simp only [ctxP_at, ctxC_at, hs])
  have e : ∀ a : FVec 𝕀 S1024x128 .f32, ∀ l : FVec 𝕀 S1024x1 .f32,
      divf a (broadcastTo S1024x128 l broadcasts_S1024x1_S1024x128) (ix2 i d) = Ideal.div (a (ix2 i d)) (l (ix2 i 0)) := by
    intro a l
    pointwise
  refine (e _ _).trans ((row.quot (Finset.sum_pos (fun t _ => pow2_pos _) ⟨0, Finset.mem_univ _⟩) d).trans ?_)
  rw [Ctx.attn]
  simp only [hw]

variable (m : (ℓ : Loc nD τ sig) → Buf (Elt 𝕀) ℓ)

/-- The windows' index maps, at every grid point. -/
theorem idx : ∀ t : Fin cfg0.N,
    win0_0.index t = ![128 + (grid0.coords t 0).val, (grid0.coords t 1).val]
    ∧ win0_1.index t = ![128 + (grid0.coords t 0).val, (grid0.coords t 1).val]
    ∧ win0_2.index t = ![128 + (grid0.coords t 0).val, (grid0.coords t 1).val]
    ∧ win0_3.index t = ![(grid0.coords t 0).val, (grid0.coords t 1).val] :=
  (by decide +kernel : ∀ t : Fin grid0.N, _)

/-- The blocks at coordinates of the arguments. -/
theorem blk0 (c : Dev nD) (t : Fin cfg0.N) (a : Fin 256) (b : Fin 512) (j : S33280x1024.Idx)
    (h0 : (j 0).val = (128 + (grid0.coords t 0).val) * 256 + a) (h1 : (j 1).val = (grid0.coords t 1).val * 512 + b) :
    iblk m c 0 t (ix2 a b) = m ((c : Thread nD τ).loc main_arg0) j := by
  blk_ext [iblk, V, idx t]

theorem blk1 (c : Dev nD) (t : Fin cfg0.N) (a : Fin 256) (b : Fin 128) (j : S33280x256.Idx)
    (h0 : (j 0).val = (128 + (grid0.coords t 0).val) * 256 + a) (h1 : (j 1).val = (grid0.coords t 1).val * 128 + b) :
    iblk m c 1 t (ix2 a b) = m ((c : Thread nD τ).loc main_arg1) j := by
  blk_ext [iblk, V, idx t]

theorem blk2 (c : Dev nD) (t : Fin cfg0.N) (a : Fin 256) (b : Fin 128) (j : S33280x256.Idx)
    (h0 : (j 0).val = (128 + (grid0.coords t 0).val) * 256 + a) (h1 : (j 1).val = (grid0.coords t 1).val * 128 + b) :
    iblk m c 2 t (ix2 a b) = m ((c : Thread nD τ).loc main_arg2) j := by
  blk_ext [iblk, V, idx t]

/-- The element point `t` computes at stacked row `i`, lane `d`, is the attention at the array position it is stored to. -/
theorem point (c : Dev nD) (t : Fin cfg0.N) (i : Fin 1024) (d : Fin 128) (R : Fin 512) (C : Fin 1024)
    (hR : R.val = (grid0.coords t 0).val * 256 + i % 256)
    (hC : C.val = (grid0.coords t 1).val * 512 + i / 256 * 128 + d) (s : Fin 256 → ℝ)
    (hs : ∀ x, Ctx.score (m ((c : Thread nD τ).loc main_arg0)) (m ((c : Thread nD τ).loc main_arg1)) R C x = (s x : EReal)) :
    quot (qRows (iblk m c 0 t)) (iblk m c 1 t) (iblk m c 2 t) (ix2 i d)
      = Ctx.attn s (Ctx.value (m ((c : Thread nD τ).loc main_arg2)) R C) := by
  have b0 : (grid0.coords t 0).val < 2 := (grid0.coords t 0).isLt
  have b1 : (grid0.coords t 1).val < 2 := (grid0.coords t 1).isLt
  have hi := i.isLt
  have hd := d.isLt
  refine quot_at _ _ _ i d s _ (fun x => ?_) fun x => ?_
  · rw [← hs, ctxS_at]
    refine Finset.sum_congr rfl fun e _ => ?_
    have he := e.isLt
    refine congrArg₂ (· * ·) (blk0 m c t _ _ _ ?_ ?_) (blk1 m c t _ _ _ ?_ ?_)
    · show 32768 + R.val = (128 + (grid0.coords t 0).val) * 256 + i.val % 256; omega
    · show C.val / 128 * 128 + e.val = (grid0.coords t 1).val * 512 + (i.val / 256 * 128 + e.val); omega
    · show 32768 + (R.val / 256 * 256 + x.val) = (128 + (grid0.coords t 0).val) * 256 + x.val; omega
    · show C.val / 512 * 128 + e.val = (grid0.coords t 1).val * 128 + e.val; omega
  · refine blk2 m c t _ _ _ ?_ ?_
    · show 32768 + (R.val / 256 * 256 + x.val) = (128 + (grid0.coords t 0).val) * 256 + x.val; omega
    · show C.val / 512 * 128 + C.val % 128 = (grid0.coords t 1).val * 128 + d.val; omega

/-- The unstacked tile, element by element. -/
theorem unstack_at (D : FVec 𝕀 S1024x128 .f32) (y : S256x512.Idx) (i : Fin 1024) (d : Fin 128)
    (hi : i.val = (y 1).val / 128 * 256 + (y 0).val) (hd : d.val = (y 1).val % 128) : unstack D y = D (ix2 i d) :=
  congrArg D (congrArg₂ ix2 (Fin.ext hi.symm) (Fin.ext hd.symm))

/-- The call's result array, when the scores are real. -/
theorem final (c : Dev nD) (s : Fin 512 → Fin 1024 → Fin 256 → ℝ)
    (hs : ∀ R C x, Ctx.score (m ((c : Thread nD τ).loc main_arg0)) (m ((c : Thread nD τ).loc main_arg1)) R C x = (s R C x : EReal)) :
    (dats m 0 c).arrAt 3 cfg0.N
      = fun y : S512x1024.Idx => Ctx.attn (s (y 0) (y 1)) (Ctx.value (m ((c : Thread nD τ).loc main_arg2)) (y 0) (y 1)) := by
  refine (dats m 0 c).arrAt_eq_of_covers 3 _ (by decide +kernel) fun t _ y => ?_
  blk_simp
  rw [after0_3, tile]
  have e0 : ((win0_3.blk t).view.emb y 0).val = (grid0.coords t 0).val * 256 + (y 0).val := by
    blk_simp [idx t]
  have e1 : ((win0_3.blk t).view.emb y 1).val = (grid0.coords t 1).val * 512 + (y 1).val := by blk_simp [idx t]
  have y0 : (y 0).val < 256 := (y 0).isLt
  have y1 : (y 1).val < 512 := (y 1).isLt
  refine (unstack_at _ y ⟨(y 1).val / 128 * 256 + (y 0).val, by omega⟩ ⟨(y 1).val % 128, by omega⟩ rfl rfl).trans
    (point m c t _ _ _ _ ?_ ?_ _ (hs _ _))
  · show _ = _ + ((y 1).val / 128 * 256 + (y 0).val) % 256; omega
  · show _ = _ + ((y 1).val / 128 * 256 + (y 0).val) / 256 * 128 + (y 1).val % 128; omega

end Cert.FlashCtxIdeal.Rows

end
-- ==== Proof.RefValue.lean ====
/- The reference's result, element by element: the attention of `Spec.lean`. -/
module

public import proofs.«01_k».proof.Proof.Spec
public import proofs.«01_k».proof.Proof.Gen.ReferenceIdeal.Run

@[expose] public section

set_option maxRecDepth 16384

noncomputable section

namespace Cert.ReferenceIdeal.Attn

open Cert.ReferenceIdeal Cert.ReferenceIdeal.Gen Cert.Softmax Cert.Attention Idealize.ShloMosaic Idealize.ShloMosaic.TcCoe

local notation "𝕀" => Idealize.ShloMosaic.Ideal

/-- The keys (or values) of both batches, context rows first. -/
def keys (k : FVec 𝕀 S33280x256 .bf16) : FVec 𝕀 S2x16640x2x128 .f32 :=
  concatenate S2x16640x2x128 1
    [⟨S2x256x2x128, shapeCast S2x256x2x128 (extractStridedSlice S512x256 ![32768, 0] (extf .f32 k bitsLt_bf16_f32)
        slices_S33280x256_S512x256_32768_0) shapeCasts_S512x256_S2x256x2x128⟩,
     ⟨S2x16384x2x128, shapeCast S2x16384x2x128 (extractStridedSlice S32768x256 ![0, 0] (extf .f32 k bitsLt_bf16_f32)
        slices_S33280x256_S32768x256_0_0) shapeCasts_S32768x256_S2x16384x2x128⟩]
    concatenates_S2x256x2x128_S2x16384x2x128_S2x16640x2x128_d1

/-- The latent queries by batch, group, head. -/
def queries (q : FVec 𝕀 S33280x1024 .bf16) : FVec 𝕀 S2x16384x2x4x128 .f32 :=
  shapeCast S2x16384x2x4x128 (extractStridedSlice S32768x1024 ![0, 0] (extf .f32 q bitsLt_bf16_f32)
    slices_S33280x1024_S32768x1024_0_0) shapeCasts_S32768x1024_S2x16384x2x4x128

/-- The scores times the natural logarithm of two. -/
def scores (ks : FVec 𝕀 S2x16640x2x128 .f32) (qs : FVec 𝕀 S2x16384x2x4x128 .f32) : FVec 𝕀 S2x2x4x16384x16640 .f32 :=
  mulf (transpose S2x2x4x16384x16640 [0, 1, 4, 3, 2]
      (Host.dotGeneral dot_S2x16640x2x128_S2x16384x2x4x128_S2x2x16640x16384x4_3_4_1_13_02_02 none ks qs)
      transposes_S2x2x16640x16384x4_S2x2x4x16384x16640_0_1_4_3_2)
    (broadcastInDim S2x2x4x16384x16640 ![] bcast_S_S2x2x4x16384x16640 (Host.log (constant S_ .f32 0x40000000#32)))

/-- Their largest along the keys. -/
def top (x : FVec 𝕀 S2x2x4x16384x16640 .f32) : FVec 𝕀 S2x2x4x16384 .f32 :=
  maximumf (broadcastInDim S2x2x4x16384 ![] bcast_S_S2x2x4x16384 (constant S_ .f32 0xFF800000#32))
    (Host.reduce FloatOps.maximumf x (constant S_ .f32 0xFF800000#32) reducesTo_S2x2x4x16384x16640_S2x2x4x16384_d4 h_S_)

/-- A vector of rows, repeated along the keys. -/
def spread (x : FVec 𝕀 S2x2x4x16384 .f32) : FVec 𝕀 S2x2x4x16384x16640 .f32 :=
  broadcastInDim S2x2x4x16384x16640 ![0, 1, 2, 3, 4] bcast_S2x2x4x16384x1_S2x2x4x16384x16640_0_1_2_3_4
    (broadcastInDim S2x2x4x16384x1 ![0, 1, 2, 3] bcast_S2x2x4x16384_S2x2x4x16384x1_0_1_2_3 x)

/-- The exponentials of the shifted scores. -/
def expo (x : FVec 𝕀 S2x2x4x16384x16640 .f32) : FVec 𝕀 S2x2x4x16384x16640 .f32 := Host.exp (subf x (spread (top x)))

/-- Their sums along the keys. -/
def tot (x : FVec 𝕀 S2x2x4x16384x16640 .f32) : FVec 𝕀 S2x2x4x16384 .f32 :=
  Host.reduceAdd x (constant S_ .f32 0x00000000#32) reducesTo_S2x2x4x16384x16640_S2x2x4x16384_d4 h_S_

/-- The softmax. -/
def weights (x : FVec 𝕀 S2x2x4x16384x16640 .f32) : FVec 𝕀 S2x2x4x16384x16640 .f32 :=
  Host.divf (expo x) (spread (tot (expo x)))

/-- The weighted values, back in rows and lanes. -/
def mix (vs : FVec 𝕀 S2x16640x2x128 .f32) (p : FVec 𝕀 S2x2x4x16384x16640 .f32) : FVec 𝕀 S32768x1024 .bf16 :=
  truncf .bf16 (shapeCast S32768x1024 (transpose S2x16384x2x4x128 [0, 4, 1, 3, 2]
    (Host.dotGeneral dot_S2x16640x2x128_S2x2x4x16384x16640_S2x2x128x4x16384_1_4_3_23_02_01 none vs p)
    transposes_S2x2x128x4x16384_S2x16384x2x4x128_0_4_1_3_2) shapeCasts_S2x16384x2x4x128_S32768x1024) bitsLt_bf16_f32

variable (m : (ℓ : Loc nD τ sig) → Buf (Elt 𝕀) ℓ)

/-- The reference's result is these steps, one after another. -/
theorem res_eq (c : Dev nD) : Value.res_main_v34 m c
    = mix (keys (m ((c.tc : Thread nD τ).loc main_arg2)))
        (weights (scores (keys (m ((c.tc : Thread nD τ).loc main_arg1))) (queries (m ((c.tc : Thread nD τ).loc main_arg0))))) := rfl

theorem scores_at (ks : FVec 𝕀 S2x16640x2x128 .f32) (qs : FVec 𝕀 S2x16384x2x4x128 .f32) (b : Fin 2) (h : Fin 2) (g : Fin 4)
    (t : Fin 16384) (x : Fin 16640) :
    scores ks qs (ix5 b h g t x) = (∑ e : Fin 128, ks (ix4 b x h e) * qs (ix5 b t h g e)) * Ideal.log (Ideal.ofBits .f32 0x40000000#32) := by
  pointwise [scores]

/-- The ideal reading of the float pattern of negative infinity. -/
theorem negInf_at : (constant S_ .f32 0xFF800000#32 : FVec 𝕀 S_ .f32) ix0 = (⊥ : EReal) := by
  show Ideal.ieee 8 23 0xFF800000#32 = ⊥
  rw [Ideal.ieee]
  simp

/-- The largest along the last axis, not below a constant. -/
theorem rowTop {n0 n1 n2 n3 n4 : ℕ} (x : FVec 𝕀 ⟨5, ![n0, n1, n2, n3, n4]⟩ .f32) (i j : FVec 𝕀 S_ .f32) (hb) (hr) (hs) (b : Fin n0)
    (h : Fin n1) (g : Fin n2) (t : Fin n3) :
    maximumf (broadcastInDim ⟨4, ![n0, n1, n2, n3]⟩ ![] hb j)
      (Host.reduce (t := ⟨4, ![n0, n1, n2, n3]⟩) (axes := [4]) FloatOps.maximumf x i hr hs) (ix4 b h g t)
      = max (j ix0) (Finset.fold max (i ix0) (fun u : Fin n4 => x (ix5 b h g t u)) Finset.univ) := by
  have e : Shape.Idx.first hs = ix0 := funext fun a => a.elim0
  pointwise
  rw [e]

theorem top_at (x : FVec 𝕀 S2x2x4x16384x16640 .f32) (b : Fin 2) (h : Fin 2) (g : Fin 4) (t : Fin 16384) :
    top x (ix4 b h g t) = max ⊥ (Finset.fold max ⊥ (fun u : Fin 16640 => x (ix5 b h g t u)) Finset.univ) :=
  (rowTop x (constant S_ .f32 0xFF800000#32) (constant S_ .f32 0xFF800000#32) bcast_S_S2x2x4x16384
    reducesTo_S2x2x4x16384x16640_S2x2x4x16384_d4 h_S_ b h g t).trans (by rw [negInf_at])

theorem exp_sub_at {s : Shape} (x y : FVec 𝕀 s .f32) (i : s.Idx) : Host.exp (subf x y) i = Ideal.exp (x i - y i) := rfl

theorem div_at {s : Shape} (x y : FVec 𝕀 s .f32) (i : s.Idx) : Host.divf x y i = Ideal.div (x i) (y i) := rfl

theorem spread_at (x : FVec 𝕀 S2x2x4x16384 .f32) (b : Fin 2) (h : Fin 2) (g : Fin 4) (t : Fin 16384) (u : Fin 16640) :
    spread x (ix5 b h g t u) = x (ix4 b h g t) := by
  pointwise [spread]

theorem expo_at (x : FVec 𝕀 S2x2x4x16384x16640 .f32) (b : Fin 2) (h : Fin 2) (g : Fin 4) (t : Fin 16384) (u : Fin 16640) :
    expo x (ix5 b h g t u) = Ideal.exp (x (ix5 b h g t u) - top x (ix4 b h g t)) := by
  rw [expo, exp_sub_at, spread_at]

theorem tot_at (x : FVec 𝕀 S2x2x4x16384x16640 .f32) (b : Fin 2) (h : Fin 2) (g : Fin 4) (t : Fin 16384) :
    tot x (ix4 b h g t) = ∑ u : Fin 16640, x (ix5 b h g t u) := by
  pointwise [tot]

theorem weights_at (x : FVec 𝕀 S2x2x4x16384x16640 .f32) (b : Fin 2) (h : Fin 2) (g : Fin 4) (t : Fin 16384) (u : Fin 16640) :
    weights x (ix5 b h g t u) = Ideal.div (expo x (ix5 b h g t u)) (∑ u : Fin 16640, expo x (ix5 b h g t u)) := by
  rw [weights, div_at, spread_at, tot_at]

theorem mix_at (vs : FVec 𝕀 S2x16640x2x128 .f32) (p : FVec 𝕀 S2x2x4x16384x16640 .f32) (R : Fin 32768) (C : Fin 1024) :
    mix vs p (ix2 R C) = ∑ u : Fin 16640, vs (ix4 (batchOf R) u (groupOf C) (laneOf C))
      * p (ix5 (batchOf R) (groupOf C) ⟨C / 128 % 4, by omega⟩ ⟨R % 16384, by omega⟩ u) := by
  unfold batchOf groupOf laneOf
  pointwise [mix]

theorem keys_at (k : FVec 𝕀 S33280x256 .bf16) (R : Fin 32768) (u : Fin 16640) (C : Fin 1024) (e : Fin 128) :
    keys k (ix4 (batchOf R) u (groupOf C) e) = k (ix2 (keyRow (batchOf R) u) (kLane C e)) := by
  have hb : (batchOf R).val = R.val / 16384 := rfl
  have hg : (groupOf C).val = C.val / 512 := rfl
  pointwise [keys]
  by_cases hu : (u : ℕ) < 256
  · rw [dif_pos hu, keyRow, dif_pos hu]
    exact congrArg k (congrArg₂ ix2 (Fin.ext (by show 32768 + ((batchOf R).val * 256 + u.val) = 32768 + (batchOf R).val * 256 + u.val; omega)) rfl)
  · rw [dif_neg hu, keyRow, dif_neg hu]
    rfl

theorem queries_at (q : FVec 𝕀 S33280x1024 .bf16) (R : Fin 32768) (C : Fin 1024) (e : Fin 128) :
    queries q (ix5 (batchOf R) ⟨R % 16384, by omega⟩ (groupOf C) ⟨C / 128 % 4, by omega⟩ e) = q (ix2 (qRow R) (qLane C e)) := by
  pointwise [queries]
  refine congrArg q (congrArg₂ ix2 (Fin.ext ?_) (Fin.ext ?_))
  · show R.val / 16384 * 16384 + R.val % 16384 = R.val; omega
  · show C.val / 512 * 512 + C.val / 128 % 4 * 128 + e.val = C.val / 128 * 128 + e.val; omega

/-- The logarithm of two that the reference multiplies by. -/
theorem log_two : Ideal.log (Ideal.ofBits .f32 0x40000000#32) = ((Real.log 2 : ℝ) : EReal) := by
  have e : Ideal.ofBits .f32 0x40000000#32 = ((2 : ℝ) : EReal) := by
    show Ideal.ieee 8 23 0x40000000#32 = _
    rw [Ideal.ieee]
    simp
    rw [← EReal.coe_mul]
    norm_num
  rw [e]
  show (if (2 : ℝ) ≤ 0 then (⊥ : EReal) else ((Real.log 2 : ℝ) : EReal)) = _
  rw [if_neg (by norm_num)]

theorem scores_val (q : FVec 𝕀 S33280x1024 .bf16) (k : FVec 𝕀 S33280x256 .bf16) (R : Fin 32768) (C : Fin 1024) (s : Fin 16640 → ℝ)
    (hs : ∀ x, score q k R C x = (s x : EReal)) (u : Fin 16640) :
    scores (keys k) (queries q) (ix5 (batchOf R) (groupOf C) ⟨C / 128 % 4, by omega⟩ ⟨R % 16384, by omega⟩ u)
      = ((s u * Real.log 2 : ℝ) : EReal) := by
  rw [scores_at, log_two, EReal.coe_mul, ← hs]
  refine congrArg (· * ((Real.log 2 : ℝ) : EReal)) (Finset.sum_congr rfl fun e _ => ?_)
  rw [keys_at, queries_at]
  exact mul_comm _ _

/-- The reference's result at row `R`, lane `C`, when that row's scores are real. -/
theorem ref_at (q : FVec 𝕀 S33280x1024 .bf16) (k v : FVec 𝕀 S33280x256 .bf16) (R : Fin 32768) (C : Fin 1024) (s : Fin 16640 → ℝ)
    (hs : ∀ x, score q k R C x = (s x : EReal)) :
    mix (keys v) (weights (scores (keys k) (queries q))) (ix2 R C) = attn s (value v R C) := by
  rw [mix_at, attn]
  refine Eq.trans (Finset.sum_congr rfl fun u _ => ?_) (plain 0 s (value v R C)
    (M := top (scores (keys k) (queries q)) (ix4 (batchOf R) (groupOf C) ⟨C / 128 % 4, by omega⟩ ⟨R % 16384, by omega⟩)) ?_)
  · rw [keys_at, weights_at]
    simp only [expo_at, scores_val q k R C s hs]
    rfl
  · rw [top_at]
    simp only [scores_val q k R C s hs]

end Cert.ReferenceIdeal.Attn

end
-- ==== Proof.FlashCtxReference.lean ====
/- The context reference's result, element by element: the attention of `FlashCtxSpec.lean`. -/
module

public import proofs.«01_k».proof.Proof.RefValue
public import proofs.«01_k».proof.Proof.FlashCtxSpec
public import proofs.«01_k».proof.Proof.Gen.FlashCtxReferenceIdeal.Run

@[expose] public section

set_option maxRecDepth 256

noncomputable section

namespace Cert.FlashCtxReferenceIdeal.Attn

open Cert.FlashCtxReferenceIdeal Cert.FlashCtxReferenceIdeal.Gen Cert.Softmax Cert.Attention Idealize.ShloMosaic Idealize.ShloMosaic.TcCoe

local notation "𝕀" => Idealize.ShloMosaic.Ideal

/-- The context keys (or values) of both batches. -/
def keys (k : FVec 𝕀 S33280x256 .bf16) : FVec 𝕀 S2x256x2x128 .f32 :=
  shapeCast S2x256x2x128 (extf .f32 (extractStridedSlice S512x256 ![32768, 0] k slices_S33280x256_S512x256_32768_0)
    bitsLt_bf16_f32) shapeCasts_S512x256_S2x256x2x128

/-- The context queries by batch, group, head. -/
def queries (q : FVec 𝕀 S33280x1024 .bf16) : FVec 𝕀 S2x256x2x4x128 .f32 :=
  shapeCast S2x256x2x4x128 (extf .f32 (extractStridedSlice S512x1024 ![32768, 0] q slices_S33280x1024_S512x1024_32768_0)
    bitsLt_bf16_f32) shapeCasts_S512x1024_S2x256x2x4x128

/-- The scores times the natural logarithm of two. -/
def scores (ks : FVec 𝕀 S2x256x2x128 .f32) (qs : FVec 𝕀 S2x256x2x4x128 .f32) : FVec 𝕀 S2x2x4x256x256 .f32 :=
  mulf (transpose S2x2x4x256x256 [0, 1, 4, 3, 2]
      (Host.dotGeneral dot_S2x256x2x128_S2x256x2x4x128_S2x2x256x256x4_3_4_1_13_02_02 none ks qs)
      transposes_S2x2x256x256x4_S2x2x4x256x256_0_1_4_3_2)
    (broadcastInDim S2x2x4x256x256 ![] bcast_S_S2x2x4x256x256 (Host.log (constant S_ .f32 0x40000000#32)))

/-- Their largest along the keys. -/
def top (x : FVec 𝕀 S2x2x4x256x256 .f32) : FVec 𝕀 S2x2x4x256 .f32 :=
  maximumf (broadcastInDim S2x2x4x256 ![] bcast_S_S2x2x4x256 (constant S_ .f32 0xFF800000#32))
    (Host.reduce FloatOps.maximumf x (constant S_ .f32 0xFF800000#32) reducesTo_S2x2x4x256x256_S2x2x4x256_d4 h_S_)

/-- A vector of rows, repeated along the keys. -/
def spread (x : FVec 𝕀 S2x2x4x256 .f32) : FVec 𝕀 S2x2x4x256x256 .f32 :=
  broadcastInDim S2x2x4x256x256 ![0, 1, 2, 3, 4] bcast_S2x2x4x256x1_S2x2x4x256x256_0_1_2_3_4
    (broadcastInDim S2x2x4x256x1 ![0, 1, 2, 3] bcast_S2x2x4x256_S2x2x4x256x1_0_1_2_3 x)

/-- The exponentials of the shifted scores. -/
def expo (x : FVec 𝕀 S2x2x4x256x256 .f32) : FVec 𝕀 S2x2x4x256x256 .f32 := Host.exp (subf x (spread (top x)))

/-- Their sums along the keys. -/
def tot (x : FVec 𝕀 S2x2x4x256x256 .f32) : FVec 𝕀 S2x2x4x256 .f32 :=
  Host.reduceAdd x (constant S_ .f32 0x00000000#32) reducesTo_S2x2x4x256x256_S2x2x4x256_d4 h_S_

/-- The softmax. -/
def weights (x : FVec 𝕀 S2x2x4x256x256 .f32) : FVec 𝕀 S2x2x4x256x256 .f32 :=
  Host.divf (expo x) (spread (tot (expo x)))

/-- The weighted values, back in rows and lanes. -/
def mix (vs : FVec 𝕀 S2x256x2x128 .f32) (p : FVec 𝕀 S2x2x4x256x256 .f32) : FVec 𝕀 S512x1024 .bf16 :=
  truncf .bf16 (shapeCast S512x1024 (transpose S2x256x2x4x128 [0, 4, 1, 3, 2]
    (Host.dotGeneral dot_S2x256x2x128_S2x2x4x256x256_S2x2x128x4x256_1_4_3_23_02_01 none vs p)
    transposes_S2x2x128x4x256_S2x256x2x4x128_0_4_1_3_2) shapeCasts_S2x256x2x4x128_S512x1024) bitsLt_bf16_f32

variable (m : (ℓ : Loc nD τ sig) → Buf (Elt 𝕀) ℓ)

/-- The reference's result is these steps, one after another. -/
theorem res_eq (c : Dev nD) : Value.res_main_v28 m c
    = mix (keys (m ((c.tc : Thread nD τ).loc main_arg2)))
        (weights (scores (keys (m ((c.tc : Thread nD τ).loc main_arg1))) (queries (m ((c.tc : Thread nD τ).loc main_arg0))))) := rfl

theorem scores_at (ks : FVec 𝕀 S2x256x2x128 .f32) (qs : FVec 𝕀 S2x256x2x4x128 .f32) (b : Fin 2) (h : Fin 2) (g : Fin 4)
    (t : Fin 256) (x : Fin 256) :
    scores ks qs (ix5 b h g t x) = (∑ e : Fin 128, ks (ix4 b x h e) * qs (ix5 b t h g e)) * Ideal.log (Ideal.ofBits .f32 0x40000000#32) := by
  pointwise [scores]

theorem top_at (x : FVec 𝕀 S2x2x4x256x256 .f32) (b : Fin 2) (h : Fin 2) (g : Fin 4) (t : Fin 256) :
    top x (ix4 b h g t) = max ⊥ (Finset.fold max ⊥ (fun u : Fin 256 => x (ix5 b h g t u)) Finset.univ) :=
  (Cert.ReferenceIdeal.Attn.rowTop x (constant S_ .f32 0xFF800000#32) (constant S_ .f32 0xFF800000#32) bcast_S_S2x2x4x256
    reducesTo_S2x2x4x256x256_S2x2x4x256_d4 h_S_ b h g t).trans (by rw [Cert.ReferenceIdeal.Attn.negInf_at])

theorem spread_at (x : FVec 𝕀 S2x2x4x256 .f32) (b : Fin 2) (h : Fin 2) (g : Fin 4) (t : Fin 256) (u : Fin 256) :
    spread x (ix5 b h g t u) = x (ix4 b h g t) := by
  pointwise [spread]

theorem expo_at (x : FVec 𝕀 S2x2x4x256x256 .f32) (b : Fin 2) (h : Fin 2) (g : Fin 4) (t : Fin 256) (u : Fin 256) :
    expo x (ix5 b h g t u) = Ideal.exp (x (ix5 b h g t u) - top x (ix4 b h g t)) := by
  rw [expo, Cert.ReferenceIdeal.Attn.exp_sub_at, spread_at]

theorem tot_at (x : FVec 𝕀 S2x2x4x256x256 .f32) (b : Fin 2) (h : Fin 2) (g : Fin 4) (t : Fin 256) :
    tot x (ix4 b h g t) = ∑ u : Fin 256, x (ix5 b h g t u) := by
  pointwise [tot]

theorem weights_at (x : FVec 𝕀 S2x2x4x256x256 .f32) (b : Fin 2) (h : Fin 2) (g : Fin 4) (t : Fin 256) (u : Fin 256) :
    weights x (ix5 b h g t u) = Ideal.div (expo x (ix5 b h g t u)) (∑ u : Fin 256, expo x (ix5 b h g t u)) := by
  rw [weights, Cert.ReferenceIdeal.Attn.div_at, spread_at, tot_at]

theorem mix_at (vs : FVec 𝕀 S2x256x2x128 .f32) (p : FVec 𝕀 S2x2x4x256x256 .f32) (R : Fin 512) (C : Fin 1024) :
    mix vs p (ix2 R C) = ∑ u : Fin 256, vs (ix4 (Ctx.batchOf R) u (groupOf C) (laneOf C))
      * p (ix5 (Ctx.batchOf R) (groupOf C) ⟨C / 128 % 4, by omega⟩ ⟨R % 256, by omega⟩ u) := by
  unfold Ctx.batchOf groupOf laneOf
  pointwise [mix]

theorem keys_at (k : FVec 𝕀 S33280x256 .bf16) (R : Fin 512) (u : Fin 256) (C : Fin 1024) (e : Fin 128) :
    keys k (ix4 (Ctx.batchOf R) u (groupOf C) e) = k (ix2 (Ctx.rowOf (Ctx.keyOf (Ctx.batchOf R) u)) (kLane C e)) := by
  have hb : (Ctx.batchOf R).val = R.val / 256 := rfl
  have hg : (groupOf C).val = C.val / 512 := rfl
  pointwise [keys]
  refine congrArg k (congrArg₂ ix2 (Fin.ext ?_) rfl)
  rfl

theorem queries_at (q : FVec 𝕀 S33280x1024 .bf16) (R : Fin 512) (C : Fin 1024) (e : Fin 128) :
    queries q (ix5 (Ctx.batchOf R) ⟨R % 256, by omega⟩ (groupOf C) ⟨C / 128 % 4, by omega⟩ e) = q (ix2 (Ctx.rowOf R) (qLane C e)) := by
  pointwise [queries]
  refine congrArg q (congrArg₂ ix2 (Fin.ext ?_) (Fin.ext ?_))
  · show 32768 + (R.val / 256 * 256 + R.val % 256) = 32768 + R.val; omega
  · show C.val / 512 * 512 + C.val / 128 % 4 * 128 + e.val = C.val / 128 * 128 + e.val; omega

theorem scores_val (q : FVec 𝕀 S33280x1024 .bf16) (k : FVec 𝕀 S33280x256 .bf16) (R : Fin 512) (C : Fin 1024) (s : Fin 256 → ℝ)
    (hs : ∀ x, Ctx.score q k R C x = (s x : EReal)) (u : Fin 256) :
    scores (keys k) (queries q) (ix5 (Ctx.batchOf R) (groupOf C) ⟨C / 128 % 4, by omega⟩ ⟨R % 256, by omega⟩ u)
      = ((s u * Real.log 2 : ℝ) : EReal) := by
  rw [scores_at, Cert.ReferenceIdeal.Attn.log_two, EReal.coe_mul, ← hs]
  refine congrArg (· * ((Real.log 2 : ℝ) : EReal)) (Finset.sum_congr rfl fun e _ => ?_)
  rw [keys_at, queries_at]
  exact mul_comm _ _

/-- The reference's result at row `R`, lane `C`, when that row's scores are real. -/
theorem ref_at (q : FVec 𝕀 S33280x1024 .bf16) (k v : FVec 𝕀 S33280x256 .bf16) (R : Fin 512) (C : Fin 1024) (s : Fin 256 → ℝ)
    (hs : ∀ x, Ctx.score q k R C x = (s x : EReal)) :
    mix (keys v) (weights (scores (keys k) (queries q))) (ix2 R C) = Ctx.attn s (Ctx.value v R C) := by
  rw [mix_at, Ctx.attn]
  refine Eq.trans (Finset.sum_congr rfl fun u _ => ?_) (plain 0 s (Ctx.value v R C)
    (M := top (scores (keys k) (queries q)) (ix4 (Ctx.batchOf R) (groupOf C) ⟨C / 128 % 4, by omega⟩ ⟨R % 256, by omega⟩)) ?_)
  · rw [keys_at, weights_at]
    simp only [expo_at, scores_val q k R C s hs]
    rfl
  · rw [top_at]
    simp only [scores_val q k R C s hs]

end Cert.FlashCtxReferenceIdeal.Attn

end
-- ==== Proof.FlashCtxClaims.lean ====
/- The claims of the attention of the context rows. -/
module

public import proofs.«01_k».proof.Defs
public import proofs.«01_k».proof.Proof.FiniteCtx
public import proofs.«01_k».proof.Proof.FlashCtxValue
public import proofs.«01_k».proof.Proof.FlashCtxReference
public import proofs.«01_k».proof.Proof.Gen.FlashCtx.Frame
public import Idealize.ShloMosaic.Lib.Quiescent
public import Idealize.ShloMosaic.Adequacy
public import Idealize.ShloMosaic.Init

@[expose] public section

set_option maxRecDepth 16384

noncomputable section

namespace Cert.FlashCtxIdeal.Rows

open Idealize.ShloMosaic Idealize.SL.Sem Cert.Attention

/-- The reference leaves its arguments unchanged and its counters at zero (it declares none). -/
theorem frame_reference : Cert.quiescent_FlashCtxReferenceIdeal := fun m g _ =>
  (θ_run Cert.FlashCtxReferenceIdeal.defs _ _).mono
    (fun r h => ⟨fun c => (h c).2, sem_eq_zero_of_no_sems rfl _⟩) (Cert.FlashCtxReferenceIdeal.Value.run m g)

/-- At finite context queries and keys the call and its reference end with the same array. -/
theorem algebraic : Cert.algebraic_FlashCtxIdeal_FlashCtxReferenceIdeal_pre_finite_ctx := fun m g m' g' hpre agree => by
  have hs : ∀ c : Dev Cert.FlashCtxIdeal.nD, ∃ s : Fin 512 → Fin 1024 → Fin 256 → ℝ, ∀ R C x,
      Ctx.score (m ((c.tc : Thread Cert.FlashCtxIdeal.nD Cert.FlashCtxIdeal.τ).loc Cert.FlashCtxIdeal.main_arg0))
        (m ((c.tc : Thread Cert.FlashCtxIdeal.nD Cert.FlashCtxIdeal.τ).loc Cert.FlashCtxIdeal.main_arg1)) R C x
        = (s R C x : EReal) := fun c => by
    obtain ⟨hq, hk⟩ := Cert.Pre_finite_ctx.real_of_fn _ _ _ (hpre c)
    choose s hs using Ctx.score_real _ _ hq hk
    exact ⟨s, hs⟩
  choose s hs using hs
  refine ⟨fun c => fun y : Cert.FlashCtxIdeal.S512x1024.Idx => Ctx.attn (s c (y 0) (y 1))
    (Ctx.value (m ((c.tc : Thread Cert.FlashCtxIdeal.nD Cert.FlashCtxIdeal.τ).loc Cert.FlashCtxIdeal.main_arg2)) (y 0) (y 1)),
    (θ_run Cert.FlashCtxIdeal.defs _ _).mono
      (fun r h c => ⟨(h c).1.trans (final m c (s c) (hs c)), (h c).2⟩)
      (Cert.FlashCtxIdeal.Value.run_blocks m g),
    (θ_run Cert.FlashCtxReferenceIdeal.defs _ _).mono (fun r h c => ⟨(h c).1.trans ?_, (h c).2⟩)
      (Cert.FlashCtxReferenceIdeal.Value.run m' g')⟩
  refine (Cert.FlashCtxReferenceIdeal.Attn.res_eq m' c).trans ?_
  rw [(agree c).1, (agree c).2.1, (agree c).2.2]
  refine funext fun y => ?_
  refine (congrArg _ (eq_ix2 y)).trans ?_
  exact Cert.FlashCtxReferenceIdeal.Attn.ref_at _ _ _ (y 0) (y 1) (s c (y 0) (y 1)) (hs c (y 0) (y 1))

end Cert.FlashCtxIdeal.Rows

end
-- ==== Proof.KernelValue.lean ====
/- The kernel's result array: every element is the attention of `Spec.lean`. -/
module

public import proofs.«01_k».proof.Proof.RowState
public import proofs.«01_k».proof.Proof.Tile
public import proofs.«01_k».proof.Proof.Spec
public import proofs.«01_k».proof.Proof.Gen.KernelIdeal.Value

@[expose] public section

set_option maxRecDepth 16384

noncomputable section

namespace Cert.KernelIdeal.Attn

open Cert.KernelIdeal Cert.KernelIdeal.Gen Cert.Softmax Cert.Attention Idealize.ShloMosaic Idealize.ShloMosaic.TcCoe

local notation "𝕀" => Idealize.ShloMosaic.Ideal

theorem seenW_eq (s0 : Fin 256 → ℝ) (s : ℕ → Fin 1024 → ℝ) :
    ∀ n, seenW s0 s n = ∑ t, pow2 (s0 t) + ∑ j ∈ Finset.range n, ∑ t, pow2 (s j t)
  | 0 => by simp [seenW]
  | n + 1 => by rw [seenW, seenW_eq s0 s n, Finset.sum_range_succ, add_assoc]

theorem seenV_eq (s0 : Fin 256 → ℝ) (s : ℕ → Fin 1024 → ℝ) (v0 : Fin 256 → Fin 128 → EReal) (v : ℕ → Fin 1024 → Fin 128 → EReal)
    (d : Fin 128) :
    ∀ n, seenV s0 s v0 v d n
      = ∑ t, (pow2 (s0 t) : EReal) * v0 t d + ∑ j ∈ Finset.range n, ∑ t, (pow2 (s j t) : EReal) * v j t d
  | 0 => by simp [seenV]
  | n + 1 => by rw [seenV, seenV_eq s0 s v0 v d n, Finset.sum_range_succ, add_assoc]

/-- A row's quotient, as one sum over all keys. -/
theorem quot_total (q : FVec 𝕀 S1024x128 .bf16) (k v : Vec 𝕀 S256x128 .bf16) (x3 : Vec 𝕀 S1x1x16x128x1024 .bf16)
    (x4 : Vec 𝕀 S16384x128 .bf16) (i : Fin 1024) (d : Fin 128) (s : Fin 16640 → ℝ) (w : Fin 16640 → EReal)
    (h0 : ∀ t, ctxS q k (ix2 i t) = (s (ctxKey t) : EReal))
    (hs : ∀ n t, scoreRows q (ktile x3 n) (ix2 i t) = (s (latKey n t) : EReal))
    (hv0 : ∀ t, v (ix2 t d) = w (ctxKey t)) (hv : ∀ n t, vtile x4 n (ix2 t d) = w (latKey n t)) :
    quot q k v x3 x4 (ix2 i d) = attn s w := by
  rw [quot_at q k v x3 x4 i d _ _ h0 hs, seenW_eq, seenV_eq, attn, sum_keys (fun x => pow2 (s x)),
    sum_keys (fun x => (pow2 (s x) : EReal) * w x)]
  simp only [hv0, hv]

variable (m : (ℓ : Loc nD τ sig) → Buf (Elt 𝕀) ℓ)

/-- The windows' index maps, at every grid point. -/
theorem idx : ∀ t : Fin cfg0.N,
    win0_0.index t = ![(grid0.coords t 0).val * 64 + (grid0.coords t 2).val, (grid0.coords t 1).val]
    ∧ win0_1.index t = ![128 + (grid0.coords t 0).val, (grid0.coords t 1).val]
    ∧ win0_2.index t = ![128 + (grid0.coords t 0).val, (grid0.coords t 1).val]
    ∧ win0_3.index t = ![(grid0.coords t 0).val, (grid0.coords t 1).val, 0, 0, 0]
    ∧ win0_4.index t = ![(grid0.coords t 0).val, (grid0.coords t 1).val]
    ∧ win0_5.index t = ![(grid0.coords t 0).val * 64 + (grid0.coords t 2).val, (grid0.coords t 1).val] :=
  (by decide +kernel : ∀ t : Fin grid0.N, _)

/-- The query block, the context blocks and the tiles at coordinates of the arguments. -/
theorem blk0 (c : Dev nD) (t : Fin cfg0.N) (a : Fin 256) (b : Fin 512) (j : S33280x1024.Idx)
    (h0 : (j 0).val = ((grid0.coords t 0).val * 64 + (grid0.coords t 2).val) * 256 + a)
    (h1 : (j 1).val = (grid0.coords t 1).val * 512 + b) :
    iblk m c 0 t (ix2 a b) = m ((c : Thread nD τ).loc main_arg0) j := by
  blk_ext [iblk, V, idx t]

theorem blk1 (c : Dev nD) (t : Fin cfg0.N) (a : Fin 256) (b : Fin 128) (j : S33280x256.Idx)
    (h0 : (j 0).val = (128 + (grid0.coords t 0).val) * 256 + a) (h1 : (j 1).val = (grid0.coords t 1).val * 128 + b) :
    iblk m c 1 t (ix2 a b) = m ((c : Thread nD τ).loc main_arg1) j := by
  blk_ext [iblk, V, idx t]

theorem blk2 (c : Dev nD) (t : Fin cfg0.N) (a : Fin 256) (b : Fin 128) (j : S33280x256.Idx)
    (h0 : (j 0).val = (128 + (grid0.coords t 0).val) * 256 + a) (h1 : (j 1).val = (grid0.coords t 1).val * 128 + b) :
    iblk m c 2 t (ix2 a b) = m ((c : Thread nD τ).loc main_arg2) j := by
  blk_ext [iblk, V, idx t]

theorem blk3 (c : Dev nD) (t : Fin cfg0.N) (n : Fin 16) (e : Fin 128) (a : Fin 1024) (j : S33280x256.Idx)
    (h0 : (j 0).val = (grid0.coords t 0).val * 16384 + n * 1024 + a) (h1 : (j 1).val = (grid0.coords t 1).val * 128 + e) :
    iblk m c 3 t (ix5 0 0 n e a) = m ((c : Thread nD τ).loc main_arg1) j := by
  blk_simp [iblk, idx t]
  entry_read
  pointwise
  blk_ext [idx t]

theorem blk4 (c : Dev nD) (t : Fin cfg0.N) (a : Fin 16384) (b : Fin 128) (j : S33280x256.Idx)
    (h0 : (j 0).val = (grid0.coords t 0).val * 16384 + a) (h1 : (j 1).val = (grid0.coords t 1).val * 128 + b) :
    X0_4 m c t (ix2 a b) = m ((c : Thread nD τ).loc main_arg2) j := by
  unfold X0_4 Pipeline.Window.fill
  rw [dif_pos (moved0_4 t _)]
  blk_ext [iblk, V, idx t]

/-- The element point `t` computes at stacked row `i`, lane `d`, is the attention at the array position it is stored to. -/
theorem point (c : Dev nD) (t : Fin cfg0.N) (i : Fin 1024) (d : Fin 128) (R : Fin 32768) (C : Fin 1024)
    (hR : R.val = ((grid0.coords t 0).val * 64 + (grid0.coords t 2).val) * 256 + i % 256)
    (hC : C.val = (grid0.coords t 1).val * 512 + i / 256 * 128 + d) (s : Fin 16640 → ℝ)
    (hs : ∀ x, score (m ((c : Thread nD τ).loc main_arg0)) (m ((c : Thread nD τ).loc main_arg1)) R C x = (s x : EReal)) :
    quot (qRows (iblk m c 0 t)) (iblk m c 1 t) (iblk m c 2 t) (iblk m c 3 t) (X0_4 m c t) (ix2 i d)
      = attn s (value (m ((c : Thread nD τ).loc main_arg2)) R C) := by
  have b0 : (grid0.coords t 0).val < 2 := (grid0.coords t 0).isLt
  have b1 : (grid0.coords t 1).val < 2 := (grid0.coords t 1).isLt
  have b2 : (grid0.coords t 2).val < 64 := (grid0.coords t 2).isLt
  have bi := i.isLt
  have bd := d.isLt
  have hb : (batchOf R).val = (grid0.coords t 0).val := by show R.val / 16384 = _; omega
  have hq : ∀ e : Fin 128, qRows (iblk m c 0 t) (ix2 i e) = m ((c : Thread nD τ).loc main_arg0) (ix2 (qRow R) (qLane C e)) := fun e =>
    blk0 m c t _ _ _ (by show R.val = _ + i.val % 256; omega)
      (by show C.val / 128 * 128 + e.val = _ + (i.val / 256 * 128 + e.val); omega)
  refine quot_total _ _ _ _ _ i d s _ (fun x => ?_) (fun n x => ?_) (fun x => ?_) (fun n x => ?_)
  · rw [ctxS_at, ← hs]
    refine Finset.sum_congr rfl fun e _ => congrArg₂ (fun a b : EReal => a * b) (hq e) (blk1 m c t _ _ _ ?_ ?_)
    · exact (keyRow_ctx _ x).trans (by omega)
    · show C.val / 512 * 128 + e.val = _; omega
  · rw [scoreRows_at, ← hs]
    refine Finset.sum_congr rfl fun e _ => congrArg₂ (fun a b : EReal => a * b) (hq e) (blk3 m c t _ _ _ _ ?_ ?_)
    · refine (keyRow_lat _ n x).trans ?_
      show _ = _ + n % 16 * 1024 + x.val; omega
    · show C.val / 512 * 128 + e.val = _ + e.val; omega
  · refine blk2 m c t _ _ _ ?_ ?_
    · exact (keyRow_ctx _ x).trans (by omega)
    · show C.val / 512 * 128 + C.val % 128 = _; omega
  · refine blk4 m c t _ _ _ ?_ ?_
    · refine (keyRow_lat _ n x).trans ?_
      show _ = _ + (n % 16 * 1024 + x.val); omega
    · show C.val / 512 * 128 + C.val % 128 = _ + d.val; omega

/-- The unstacked tile, element by element. -/
theorem unstack_at (D : FVec 𝕀 S1024x128 .f32) (y : S256x512.Idx) (i : Fin 1024) (d : Fin 128)
    (hi : i.val = (y 1).val / 128 * 256 + (y 0).val) (hd : d.val = (y 1).val % 128) : unstack D y = D (ix2 i d) :=
  congrArg D (congrArg₂ ix2 (Fin.ext hi.symm) (Fin.ext hd.symm))

/-- The kernel's result array, when the scores are real. -/
theorem final (c : Dev nD) (s : Fin 32768 → Fin 1024 → Fin 16640 → ℝ)
    (hs : ∀ R C x, score (m ((c : Thread nD τ).loc main_arg0)) (m ((c : Thread nD τ).loc main_arg1)) R C x = (s R C x : EReal)) :
    (dats m 0 c).arrAt 5 cfg0.N
      = fun y : S32768x1024.Idx => attn (s (y 0) (y 1)) (value (m ((c : Thread nD τ).loc main_arg2)) (y 0) (y 1)) := by
  refine (dats m 0 c).arrAt_eq_of_covers 5 _ (by decide +kernel) fun t _ y => ?_
  blk_simp
  rw [after0_5, outsAt0, out_tile]
  have e0 : ((win0_5.blk t).view.emb y 0).val = ((grid0.coords t 0).val * 64 + (grid0.coords t 2).val) * 256 + (y 0).val := by
    blk_simp [idx t]
  have e1 : ((win0_5.blk t).view.emb y 1).val = (grid0.coords t 1).val * 512 + (y 1).val := by blk_simp [idx t]
  have y0 : (y 0).val < 256 := (y 0).isLt
  have y1 : (y 1).val < 512 := (y 1).isLt
  refine (unstack_at _ y ⟨(y 1).val / 128 * 256 + (y 0).val, by omega⟩ ⟨(y 1).val % 128, by omega⟩ rfl rfl).trans
    (point m c t _ _ _ _ ?_ ?_ _ (hs _ _))
  · show _ = _ + ((y 1).val / 128 * 256 + (y 0).val) % 256; omega
  · show _ = _ + ((y 1).val / 128 * 256 + (y 0).val) / 256 * 128 + (y 1).val % 128; omega

end Cert.KernelIdeal.Attn

end
-- ==== Proof.lean ====
/- The certificate's claim: the frames of the attention call and of its reference, and their equality as extended reals
   wherever the queries and keys are finite. The arithmetic is in Proof/: `Softmax.lean` (the running softmax),
   `Steps.lean`, `Tile.lean`, `RowState.lean` (the kernel's tile), `Spec.lean` (what both compute), `KernelValue.lean`,
   `RefValue.lean` (that they compute it), `Finite.lean` (the precondition). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.FinalNorm
public import proofs.«01_k».proof.Proof.Gen.FinalNorm.Frame
public import proofs.«01_k».proof.Proof.Gen.FinalNormIdeal
public import proofs.«01_k».proof.Proof.Gen.FinalNormIdeal.Frame
public import proofs.«01_k».proof.Proof.Gen.FinalNormIdeal.Value
public import proofs.«01_k».proof.Proof.Gen.FinalNormReferenceIdeal
public import proofs.«01_k».proof.Proof.Gen.FinalNormReferenceIdeal.Run
public import proofs.«01_k».proof.Proof.FinalNormClaims
public import proofs.«01_k».proof.Proof.Gen.ResidMatmul
public import proofs.«01_k».proof.Proof.Gen.ResidMatmul.Frame
public import proofs.«01_k».proof.Proof.Gen.ResidMatmulIdeal
public import proofs.«01_k».proof.Proof.Gen.ResidMatmulIdeal.Frame
public import proofs.«01_k».proof.Proof.Gen.ResidMatmulIdeal.Value
public import proofs.«01_k».proof.Proof.Gen.ResidMatmulReferenceIdeal
public import proofs.«01_k».proof.Proof.Gen.ResidMatmulReferenceIdeal.Run
public import proofs.«01_k».proof.Proof.ResidMatmulClaims
public import proofs.«01_k».proof.Proof.Gen.NormMatmul
public import proofs.«01_k».proof.Proof.Gen.NormMatmul.Frame
public import proofs.«01_k».proof.Proof.Gen.NormMatmulIdeal
public import proofs.«01_k».proof.Proof.Gen.NormMatmulIdeal.Frame
public import proofs.«01_k».proof.Proof.Gen.NormMatmulIdeal.Value
public import proofs.«01_k».proof.Proof.Gen.NormMatmulReferenceIdeal
public import proofs.«01_k».proof.Proof.Gen.NormMatmulReferenceIdeal.Run
public import proofs.«01_k».proof.Proof.NormMatmulClaims
public import proofs.«01_k».proof.Proof.Gen.ResidLast
public import proofs.«01_k».proof.Proof.Gen.ResidLast.Frame
public import proofs.«01_k».proof.Proof.Gen.ResidLastIdeal
public import proofs.«01_k».proof.Proof.Gen.ResidLastIdeal.Frame
public import proofs.«01_k».proof.Proof.Gen.ResidLastIdeal.Value
public import proofs.«01_k».proof.Proof.Gen.ResidLastReferenceIdeal
public import proofs.«01_k».proof.Proof.Gen.ResidLastReferenceIdeal.Run
public import proofs.«01_k».proof.Proof.Gen.NormNarrow
public import proofs.«01_k».proof.Proof.Gen.NormNarrow.Frame
public import proofs.«01_k».proof.Proof.Gen.NormNarrowIdeal
public import proofs.«01_k».proof.Proof.Gen.NormNarrowIdeal.Frame
public import proofs.«01_k».proof.Proof.Gen.NormNarrowIdeal.Value
public import proofs.«01_k».proof.Proof.Gen.NormNarrowReferenceIdeal
public import proofs.«01_k».proof.Proof.Gen.NormNarrowReferenceIdeal.Run
public import proofs.«01_k».proof.Proof.Gen.AttnQkv
public import proofs.«01_k».proof.Proof.Gen.AttnQkv.Frame
public import proofs.«01_k».proof.Proof.Gen.AttnQkvIdeal
public import proofs.«01_k».proof.Proof.Gen.AttnQkvIdeal.Frame
public import proofs.«01_k».proof.Proof.Gen.AttnQkvIdeal.Value
public import proofs.«01_k».proof.Proof.Gen.AttnQkvReferenceIdeal
public import proofs.«01_k».proof.Proof.Gen.AttnQkvReferenceIdeal.Run
public import proofs.«01_k».proof.Proof.ResidLastClaims
public import proofs.«01_k».proof.Proof.NormNarrowClaims
public import proofs.«01_k».proof.Proof.AttnQkvClaims
public import proofs.«01_k».proof.Proof.Gen.LruOut
public import proofs.«01_k».proof.Proof.Gen.LruOut.Frame
public import proofs.«01_k».proof.Proof.Gen.LruOutIdeal
public import proofs.«01_k».proof.Proof.Gen.LruOutIdeal.Frame
public import proofs.«01_k».proof.Proof.Gen.LruOutIdeal.Value
public import proofs.«01_k».proof.Proof.Gen.LruOutReferenceIdeal
public import proofs.«01_k».proof.Proof.Gen.LruOutReferenceIdeal.Run
public import proofs.«01_k».proof.Proof.LruOutClaims
public import proofs.«01_k».proof.Proof.Gen.S5Out
public import proofs.«01_k».proof.Proof.Gen.S5Out.Frame
public import proofs.«01_k».proof.Proof.Gen.S5OutIdeal
public import proofs.«01_k».proof.Proof.Gen.S5OutIdeal.Frame
public import proofs.«01_k».proof.Proof.Gen.S5OutIdeal.Value
public import proofs.«01_k».proof.Proof.Gen.S5OutReferenceIdeal
public import proofs.«01_k».proof.Proof.Gen.S5OutReferenceIdeal.Run
public import proofs.«01_k».proof.Proof.S5OutClaims
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.LruCoef
public import proofs.«01_k».proof.Proof.Gen.LruCoef.Frame
public import proofs.«01_k».proof.Proof.Gen.LruCoefIdeal
public import proofs.«01_k».proof.Proof.Gen.LruCoefIdeal.Frame
public import proofs.«01_k».proof.Proof.Gen.LruCoefIdeal.Value
public import proofs.«01_k».proof.Proof.Gen.LruCoefReferenceIdeal
public import proofs.«01_k».proof.Proof.Gen.LruCoefReferenceIdeal.Run
public import proofs.«01_k».proof.Proof.Gen.FlashCtx
public import proofs.«01_k».proof.Proof.Gen.FlashCtx.Frame
public import proofs.«01_k».proof.Proof.Gen.FlashCtxIdeal
public import proofs.«01_k».proof.Proof.Gen.FlashCtxIdeal.Frame
public import proofs.«01_k».proof.Proof.Gen.FlashCtxIdeal.Value
public import proofs.«01_k».proof.Proof.Gen.FlashCtxReferenceIdeal
public import proofs.«01_k».proof.Proof.Gen.FlashCtxReferenceIdeal.Run
public import proofs.«01_k».proof.Proof.ModulationClaims
public import proofs.«01_k».proof.Proof.LruCoefClaims
public import proofs.«01_k».proof.Proof.FlashCtxClaims
public import proofs.«01_k».proof.Proof.Finite
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Attention

/-- The reference leaves its arguments unchanged and its counters at zero (it declares none). -/
theorem frame_reference : Cert.quiescent_ReferenceIdeal := fun m g _ =>
  (θ_run Cert.ReferenceIdeal.defs _ _).mono
    (fun r h => ⟨fun c => (h c).2, sem_eq_zero_of_no_sems rfl _⟩) (Cert.ReferenceIdeal.Value.run m g)

/-- At finite queries and keys the attention call and its reference end with the same array. -/
theorem algebraic : Cert.algebraic_KernelIdeal_ReferenceIdeal_pre_finite := fun m g m' g' hpre agree => by
  have hs : ∀ c : Dev Cert.KernelIdeal.nD, ∃ s : Fin 32768 → Fin 1024 → Fin 16640 → ℝ, ∀ R C x,
      score (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) R C x
        = (s R C x : EReal) := fun c => by
    obtain ⟨hq, hk⟩ := Cert.Pre_finite.real_of_fn _ _ _ (hpre c)
    choose s hs using score_real _ _ hq hk
    exact ⟨s, hs⟩
  choose s hs using hs
  refine ⟨fun c => fun y : Cert.KernelIdeal.S32768x1024.Idx => attn (s c (y 0) (y 1))
    (value (m ((c.tc : Thread Cert.KernelIdeal.nD Cert.KernelIdeal.τ).loc Cert.KernelIdeal.main_arg2)) (y 0) (y 1)),
    (θ_run Cert.KernelIdeal.defs _ _).mono
      (fun r h c => ⟨(h c).1.trans (Cert.KernelIdeal.Attn.final m c (s c) (hs c)), (h c).2⟩)
      (Cert.KernelIdeal.Value.run_blocks m g),
    (θ_run Cert.ReferenceIdeal.defs _ _).mono (fun r h c => ⟨(h c).1.trans ?_, (h c).2⟩)
      (Cert.ReferenceIdeal.Value.run m' g')⟩
  refine (Cert.ReferenceIdeal.Attn.res_eq m' c).trans ?_
  rw [(agree c).1, (agree c).2.1, (agree c).2.2]
  refine funext fun y => ?_
  refine (congrArg _ (eq_ix2 y)).trans ?_
  exact Cert.ReferenceIdeal.Attn.ref_at _ _ _ (y 0) (y 1) (s c (y 0) (y 1)) (hs c (y 0) (y 1))

theorem claim : Cert.Claim :=
  ⟨Cert.Kernel.Gen.facts, Cert.KernelIdeal.Gen.facts, Cert.ReferenceIdeal.Gen.facts,
    Cert.FinalNorm.Gen.facts, Cert.FinalNormIdeal.Gen.facts, Cert.FinalNormReferenceIdeal.Gen.facts,
    Cert.ResidMatmul.Gen.facts, Cert.ResidMatmulIdeal.Gen.facts, Cert.ResidMatmulReferenceIdeal.Gen.facts,
    Cert.NormMatmul.Gen.facts, Cert.NormMatmulIdeal.Gen.facts, Cert.NormMatmulReferenceIdeal.Gen.facts,
    Cert.ResidLast.Gen.facts, Cert.ResidLastIdeal.Gen.facts, Cert.ResidLastReferenceIdeal.Gen.facts,
    Cert.NormNarrow.Gen.facts, Cert.NormNarrowIdeal.Gen.facts, Cert.NormNarrowReferenceIdeal.Gen.facts,
    Cert.AttnQkv.Gen.facts, Cert.AttnQkvIdeal.Gen.facts, Cert.AttnQkvReferenceIdeal.Gen.facts,
    Cert.LruOut.Gen.facts, Cert.LruOutIdeal.Gen.facts, Cert.LruOutReferenceIdeal.Gen.facts,
    Cert.S5Out.Gen.facts, Cert.S5OutIdeal.Gen.facts, Cert.S5OutReferenceIdeal.Gen.facts,
    Cert.Modulation.Gen.facts, Cert.ModulationIdeal.Gen.facts, Cert.ModulationReferenceIdeal.Gen.facts,
    Cert.LruCoef.Gen.facts, Cert.LruCoefIdeal.Gen.facts, Cert.LruCoefReferenceIdeal.Gen.facts,
    Cert.FlashCtx.Gen.facts, Cert.FlashCtxIdeal.Gen.facts, Cert.FlashCtxReferenceIdeal.Gen.facts,
    Cert.Pre_finite.facts, Cert.Pre_finite_ctx.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.FinalNorm.Gen.frame m g,
    fun m g _ => Cert.FinalNormIdeal.Gen.frame m g,
    Cert.FinalNormIdeal.Rows.frame_reference,
    fun m g _ => Cert.ResidMatmul.Gen.frame m g,
    fun m g _ => Cert.ResidMatmulIdeal.Gen.frame m g,
    Cert.ResidMatmulIdeal.Rows.frame_reference,
    fun m g _ => Cert.NormMatmul.Gen.frame m g,
    fun m g _ => Cert.NormMatmulIdeal.Gen.frame m g,
    Cert.NormMatmulIdeal.Rows.frame_reference,
    fun m g _ => Cert.ResidLast.Gen.frame m g,
    fun m g _ => Cert.ResidLastIdeal.Gen.frame m g,
    Cert.ResidLastIdeal.Rows.frame_reference,
    fun m g _ => Cert.NormNarrow.Gen.frame m g,
    fun m g _ => Cert.NormNarrowIdeal.Gen.frame m g,
    Cert.NormNarrowIdeal.Rows.frame_reference,
    fun m g _ => Cert.AttnQkv.Gen.frame m g,
    fun m g _ => Cert.AttnQkvIdeal.Gen.frame m g,
    Cert.AttnQkvIdeal.Rows.frame_reference,
    fun m g _ => Cert.LruOut.Gen.frame m g,
    fun m g _ => Cert.LruOutIdeal.Gen.frame m g,
    Cert.LruOutIdeal.Rows.frame_reference,
    fun m g _ => Cert.S5Out.Gen.frame m g,
    fun m g _ => Cert.S5OutIdeal.Gen.frame m g,
    Cert.S5OutIdeal.Rows.frame_reference,
    fun m g _ => Cert.Modulation.Gen.frame m g,
    fun m g _ => Cert.ModulationIdeal.Gen.frame m g,
    Cert.ModulationIdeal.Rows.frame_reference,
    fun m g _ => Cert.LruCoef.Gen.frame m g,
    fun m g _ => Cert.LruCoefIdeal.Gen.frame m g,
    Cert.LruCoefIdeal.Rows.frame_reference,
    fun m g _ => Cert.FlashCtx.Gen.frame m g,
    fun m g _ => Cert.FlashCtxIdeal.Gen.frame m g,
    fun m g _ => Cert.FlashCtxIdeal.Gen.frame m g,
    Cert.FlashCtxIdeal.Rows.frame_reference,
    fun m g _ => Cert.FlashCtxIdeal.Rows.frame_reference m g trivial,
    trivial,
    algebraic,
    trivial,
    Cert.FinalNormIdeal.Rows.algebraic,
    trivial,
    Cert.ResidMatmulIdeal.Rows.algebraic,
    trivial,
    Cert.NormMatmulIdeal.Rows.algebraic,
    trivial,
    Cert.ResidLastIdeal.Rows.algebraic,
    trivial,
    Cert.NormNarrowIdeal.Rows.algebraic,
    trivial,
    Cert.AttnQkvIdeal.Rows.algebraic,
    trivial,
    Cert.LruOutIdeal.Rows.algebraic,
    trivial,
    Cert.S5OutIdeal.Rows.algebraic,
    trivial,
    Cert.ModulationIdeal.Rows.algebraic,
    trivial,
    Cert.LruCoefIdeal.Rows.algebraic,
    trivial,
    Cert.FlashCtxIdeal.Rows.algebraic⟩

end Cert.Proof

end
